-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)) (v3 : (c : Dev Cert.Kernel2Ideal.nD) → Buf (Elt Ideal) ((c.tc : Thread Cert.Kernel2Ideal.nD Cert.Kernel2Ideal.τ).loc Cert.Kernel2Ideal.main_v28_3)) (v4 : (c : Dev Cert.Kernel2Ideal.nD) → Buf (Elt Ideal) ((c.tc : Thread Cert.Kernel2Ideal.nD Cert.Kernel2Ideal.τ).loc Cert.Kernel2Ideal.main_v28_4)) (v5 : (c : Dev Cert.Kernel2Ideal.nD) → Buf (Elt Ideal) ((c.tc : Thread Cert.Kernel2Ideal.nD Cert.Kernel2Ideal.τ).loc Cert.Kernel2Ideal.main_v28_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_v28_3) = v3 c
          ∧ r.2.mem ((c.tc : Thread Cert.Kernel2Ideal.nD Cert.Kernel2Ideal.τ).loc Cert.Kernel2Ideal.main_v28_4) = v4 c
          ∧ r.2.mem ((c.tc : Thread Cert.Kernel2Ideal.nD Cert.Kernel2Ideal.τ).loc Cert.Kernel2Ideal.main_v28_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v55) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_v57) = v4 c
          ∧ r.2.mem ((c.tc : Thread Cert.Reference2Ideal.nD Cert.Reference2Ideal.τ).loc Cert.Reference2Ideal.main_v58) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)) (v3 : (c : Dev Cert.Kernel4Ideal.nD) → Buf (Elt Ideal) ((c.tc : Thread Cert.Kernel4Ideal.nD Cert.Kernel4Ideal.τ).loc Cert.Kernel4Ideal.main_v28_3)) (v4 : (c : Dev Cert.Kernel4Ideal.nD) → Buf (Elt Ideal) ((c.tc : Thread Cert.Kernel4Ideal.nD Cert.Kernel4Ideal.τ).loc Cert.Kernel4Ideal.main_v28_4)) (v5 : (c : Dev Cert.Kernel4Ideal.nD) → Buf (Elt Ideal) ((c.tc : Thread Cert.Kernel4Ideal.nD Cert.Kernel4Ideal.τ).loc Cert.Kernel4Ideal.main_v28_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_v28_3) = v3 c
          ∧ r.2.mem ((c.tc : Thread Cert.Kernel4Ideal.nD Cert.Kernel4Ideal.τ).loc Cert.Kernel4Ideal.main_v28_4) = v4 c
          ∧ r.2.mem ((c.tc : Thread Cert.Kernel4Ideal.nD Cert.Kernel4Ideal.τ).loc Cert.Kernel4Ideal.main_v28_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_v56) = v3 c
          ∧ r.2.mem ((c.tc : Thread Cert.Reference4Ideal.nD Cert.Reference4Ideal.τ).loc Cert.Reference4Ideal.main_v57) = v4 c
          ∧ r.2.mem ((c.tc : Thread Cert.Reference4Ideal.nD Cert.Reference4Ideal.τ).loc Cert.Reference4Ideal.main_v58) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "rootcube" .bf16 0x3D12#16 ((80338380498831 / 2251799813685248 : ℝ) : EReal)
  ∧ IdealRules.named_const.Statement Cert.Kernel5Ideal.κ "root" .bf16 0x3F4C#16 ((6693141 / 8388608 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16x2048x4x2x64 : Shape := ⟨5, ![16, 2048, 4, 2, 64]⟩
abbrev S16x2048x4x128 : Shape := ⟨4, ![16, 2048, 4, 128]⟩
abbrev S32x4 : Shape := ⟨2, ![32, 4]⟩
abbrev S64 : Shape := ⟨1, ![64]⟩
abbrev S128 : Shape := ⟨1, ![128]⟩
abbrev S_ : Shape := ⟨0, ![]⟩

class Facts : Prop where
  bcast_S_S16x2048x4x2x64 : S_.BroadcastsInDim S16x2048x4x2x64 (![] : Fin 0 → Fin S16x2048x4x2x64.rank)
  reducesTo_S16x2048x4x2x64_S_d0_1_2_3_4 : S16x2048x4x2x64.ReducesTo [0, 1, 2, 3, 4] S_
  h_S_ : 0 < S_.numel
  bcast_S_S16x2048x4x128 : S_.BroadcastsInDim S16x2048x4x128 (![] : Fin 0 → Fin S16x2048x4x128.rank)
  reducesTo_S16x2048x4x128_S_d0_1_2_3 : S16x2048x4x128.ReducesTo [0, 1, 2, 3] S_
  bcast_S_S32x4 : S_.BroadcastsInDim S32x4 (![] : Fin 0 → Fin S32x4.rank)
  reducesTo_S32x4_S_d0_1 : S32x4.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S64 .f32) (main_arg7 : FVec F S64 .f32) (main_v13 : IVec S_ 1) (main_v16 : IVec S32x4 1) : IVec S_ 1 :=
  let main_c_5 : IVec S_ 1 := constantI S_ 1 1#1
  let main_v17 : IVec S_ 1 := (fun x v => Host.reduce IntOp.andi x v reducesTo_S32x4_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S16x2048x4x2x64 .f32) (main_arg1 : FVec F S16x2048x4x2x64 .f32) (main_arg2 : FVec F S16x2048x4x128 .f32) (main_arg3 : FVec F S32x4 .f32) (main_arg4 : FVec F S64 .f32) (main_arg5 : FVec F S64 .f32) (main_arg6 : FVec F S64 .f32) (main_arg7 : FVec F S64 .f32) (main_arg8 : FVec F S128 .f32) : IVec S_ 1 :=
  let main_v0 : FVec F S16x2048x4x2x64 .f32 := Host.absf main_arg0
  let main_cst : FVec F S_ .f32 := constant S_ .f32 0x7F800000#32
  let main_v1 : FVec F S16x2048x4x2x64 .f32 := broadcastInDim S16x2048x4x2x64 ![] bcast_S_S16x2048x4x2x64 main_cst
  let main_v2 : IVec S16x2048x4x2x64 1 := cmpf .olt main_v0 main_v1
  let main_c : IVec S_ 1 := constantI S_ 1 1#1
  let main_v3 : IVec S_ 1 := (fun x v => Host.reduce IntOp.andi x v reducesTo_S16x2048x4x2x64_S_d0_1_2_3_4 h_S_) main_v2 main_c
  let main_v4 : FVec F S16x2048x4x2x64 .f32 := Host.absf main_arg1
  let main_cst_0 : FVec F S_ .f32 := constant S_ .f32 0x7F800000#32
  let main_v5 : FVec F S16x2048x4x2x64 .f32 := broadcastInDim S16x2048x4x2x64 ![] bcast_S_S16x2048x4x2x64 main_cst_0
  let main_v6 : IVec S16x2048x4x2x64 1 := cmpf .olt main_v4 main_v5
  let main_c_1 : IVec S_ 1 := constantI S_ 1 1#1
  let main_v7 : IVec S_ 1 := (fun x v => Host.reduce IntOp.andi x v reducesTo_S16x2048x4x2x64_S_d0_1_2_3_4 h_S_) main_v6 main_c_1
  let main_v8 : IVec S_ 1 := andi main_v3 main_v7
  let main_v9 : FVec F S16x2048x4x128 .f32 := Host.absf main_arg2
  let main_cst_2 : FVec F S_ .f32 := constant S_ .f32 0x7F800000#32
  let main_v10 : FVec F S16x2048x4x128 .f32 := broadcastInDim S16x2048x4x128 ![] bcast_S_S16x2048x4x128 main_cst_2
  let main_v11 : IVec S16x2048x4x128 1 := cmpf .olt main_v9 main_v10
  let main_c_3 : IVec S_ 1 := constantI S_ 1 1#1
  let main_v12 : IVec S_ 1 := (fun x v => Host.reduce IntOp.andi x v reducesTo_S16x2048x4x128_S_d0_1_2_3 h_S_) main_v11 main_c_3
  let main_v13 : IVec S_ 1 := andi main_v8 main_v12
  let main_v14 : FVec F S32x4 .f32 := Host.absf main_arg3
  let main_cst_4 : FVec F S_ .f32 := constant S_ .f32 0x7F800000#32
  let main_v15 : FVec F S32x4 .f32 := broadcastInDim S32x4 ![] bcast_S_S32x4 main_cst_4
  let main_v16 : IVec S32x4 1 := cmpf .olt main_v14 main_v15
  fn_part1 (F := F) main_arg4 main_arg5 main_arg6 main_arg7 main_v13 main_v16
-- ==== Pre_finite2.lean ====
abbrev S16x2048x1024 : Shape := ⟨3, ![16, 2048, 1024]⟩
abbrev S1024 : Shape := ⟨1, ![1024]⟩
abbrev S1024x3592 : Shape := ⟨2, ![1024, 3592]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3592 : S_.BroadcastsInDim S1024x3592 (![] : Fin 0 → Fin S1024x3592.rank)
  reducesTo_S1024x3592_S_d0_1 : S1024x3592.ReducesTo [0, 1] S_

variable [Facts]

def fn {F : FTy → Type} [FloatOps F] (main_arg0 : FVec F S16x2048x1024 .f32) (main_arg1 : FVec F S1024 .f32) (main_arg2 : FVec F S1024x3592 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3592 .f32 := Host.absf main_arg2
  let main_cst_0 : FVec F S_ .f32 := constant S_ .f32 0x7F800000#32
  let main_v5 : FVec F S1024x3592 .f32 := broadcastInDim S1024x3592 ![] bcast_S_S1024x3592 main_cst_0
  let main_v6 : IVec S1024x3592 1 := cmpf .olt main_v4 main_v5
  let main_c_1 : IVec S_ 1 := constantI S_ 1 1#1
  let main_v7 : IVec S_ 1 := (fun x v => Host.reduce IntOp.andi x v reducesTo_S1024x3592_S_d0_1 h_S_) main_v6 main_c_1
  let main_v8 : IVec S_ 1 := andi main_v3 main_v7
  main_v8
-- ==== Pre_finite4.lean ====
abbrev S32x4x1024 : Shape := ⟨3, ![32, 4, 1024]⟩
abbrev S1024 : Shape := ⟨1, ![1024]⟩
abbrev S1024x3592 : Shape := ⟨2, ![1024, 3592]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3592 : S_.BroadcastsInDim S1024x3592 (![] : Fin 0 → Fin S1024x3592.rank)
  reducesTo_S1024x3592_S_d0_1 : S1024x3592.ReducesTo [0, 1] S_

variable [Facts]

def fn {F : FTy → Type} [FloatOps F] (main_arg0 : FVec F S32x4x1024 .f32) (main_arg1 : FVec F S1024 .f32) (main_arg2 : FVec F S1024x3592 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3592 .f32 := Host.absf main_arg2
  let main_cst_0 : FVec F S_ .f32 := constant S_ .f32 0x7F800000#32
  let main_v5 : FVec F S1024x3592 .f32 := broadcastInDim S1024x3592 ![] bcast_S_S1024x3592 main_cst_0
  let main_v6 : IVec S1024x3592 1 := cmpf .olt main_v4 main_v5
  let main_c_1 : IVec S_ 1 := constantI S_ 1 1#1
  let main_v7 : IVec S_ 1 := (fun x v => Host.reduce IntOp.andi x v reducesTo_S1024x3592_S_d0_1 h_S_) main_v6 main_c_1
  let main_v8 : IVec S_ 1 := andi main_v3 main_v7
  main_v8
-- ==== Kernel.lean ====
abbrev S16x2048x4x2x64 : Shape := ⟨5, ![16, 2048, 4, 2, 64]⟩
abbrev S16x2048x4x128 : Shape := ⟨4, ![16, 2048, 4, 128]⟩
abbrev S32x4 : Shape := ⟨2, ![32, 4]⟩
abbrev S64 : Shape := ⟨1, ![64]⟩
abbrev S128 : Shape := ⟨1, ![128]⟩
abbrev S1x64 : Shape := ⟨2, ![1, 64]⟩
abbrev S4x64 : Shape := ⟨2, ![4, 64]⟩
abbrev S32768x512 : Shape := ⟨2, ![32768, 512]⟩
abbrev S_ : Shape := ⟨0, ![]⟩
abbrev S1x128 : Shape := ⟨2, ![1, 128]⟩
abbrev S512x128 : Shape := ⟨2, ![512, 128]⟩
abbrev S2048x128 : Shape := ⟨2, ![2048, 128]⟩
abbrev S2x512x512 : Shape := ⟨3, ![2, 512, 512]⟩
abbrev S512x512 : Shape := ⟨2, ![512, 512]⟩
abbrev S1x1 : Shape := ⟨2, ![1, 1]⟩
abbrev S1x512x512 : Shape := ⟨3, ![1, 512, 512]⟩
abbrev S1024x128 : Shape := ⟨2, ![1024, 128]⟩
abbrev S512x1 : Shape := ⟨2, ![512, 1]⟩
abbrev S1024x512 : Shape := ⟨2, ![1024, 512]⟩
abbrev S512 : Shape := ⟨1, ![512]⟩
abbrev S1 : Shape := ⟨1, ![1]⟩

abbrev nBuf : Space → Nat
  | .hbm => 22
  | .vmem => 13
  | .smem => 1
  | _ => 0

abbrev bufTy : (tb : Table) → Fin (tcTables nBuf tb) → BufTy
  | .hbm, ⟨0, _⟩ => ⟨S16x2048x4x2x64, .f32⟩
  | .hbm, ⟨1, _⟩ => ⟨S16x2048x4x2x64, .f32⟩
  | .hbm, ⟨2, _⟩ => ⟨S16x2048x4x128, .f32⟩
  | .hbm, ⟨3, _⟩ => ⟨S32x4, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S4x64, .f32⟩
  | .hbm, ⟨14, _⟩ => ⟨S32768x512, .f32⟩
  | .hbm, ⟨15, _⟩ => ⟨S_, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S1x128, .f32⟩
  | .hbm, ⟨21, _⟩ => ⟨S32768x512, .bf16⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S4x64, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S2x512x512, .f32⟩
  | .local _ .vmem, ⟨11, _⟩ => ⟨S2048x128, .bf16⟩
  | .local _ .vmem, ⟨12, _⟩ => ⟨S2048x128, .bf16⟩
  | .local _ .smem, ⟨0, _⟩ => ⟨S32x4, .f32⟩
  | _, _ => ⟨S16x2048x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 16, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (i : grid0.Coords) : Fin 2 → Nat :=
  let c31_58 : Index := 31#32
  let arg0 : BitVec 32 := BitVec.ofNat 32 (i 0).val
  let v190 : Index := Scalar.indexCast arg0
  ![31, v190.toNat]
def k0_off2 (i : grid0.Coords) : Fin 2 → Nat :=
  let c30 : Index := 30#32
  let arg0 : BitVec 32 := BitVec.ofNat 32 (i 0).val
  let v194 : Index := Scalar.indexCast arg0
  ![30, v194.toNat]
def k0_off3 (i : grid0.Coords) : Fin 2 → Nat :=
  let c29 : Index := 29#32
  let arg0 : BitVec 32 := BitVec.ofNat 32 (i 0).val
  let v201 : Index := Scalar.indexCast arg0
  ![29, v201.toNat]
def k0_off4 (i : grid0.Coords) : Fin 2 → Nat :=
  let c28 : Index := 28#32
  let arg0 : BitVec 32 := BitVec.ofNat 32 (i 0).val
  let v207 : Index := Scalar.indexCast arg0
  ![28, v207.toNat]
def k0_off5 (i : grid0.Coords) : Fin 2 → Nat :=
  let c27 : Index := 27#32
  let arg0 : BitVec 32 := BitVec.ofNat 32 (i 0).val
  let v213 : Index := Scalar.indexCast arg0
  ![27, v213.toNat]
def k0_off6 (i : grid0.Coords) : Fin 2 → Nat :=
  let c26 : Index := 26#32
  let arg0 : BitVec 32 := BitVec.ofNat 32 (i 0).val
  let v219 : Index := Scalar.indexCast arg0
  ![26, v219.toNat]
def k0_off7 (i : grid0.Coords) : Fin 2 → Nat :=
  let c25 : Index := 25#32
  let arg0 : BitVec 32 := BitVec.ofNat 32 (i 0).val
  let v225 : Index := Scalar.indexCast arg0
  ![25, v225.toNat]
def k0_off8 (i : grid0.Coords) : Fin 2 → Nat :=
  let c24 : Index := 24#32
  let arg0 : BitVec 32 := BitVec.ofNat 32 (i 0).val
  let v231 : Index := Scalar.indexCast arg0
  ![24, v231.toNat]
def k0_off9 (i : grid0.Coords) : Fin 2 → Nat :=
  let c23 : Index := 23#32
  let arg0 : BitVec 32 := BitVec.ofNat 32 (i 0).val
  let v237 : Index := Scalar.indexCast arg0
  ![23, v237.toNat]
def k0_off10 (i : grid0.Coords) : Fin 2 → Nat :=
  let c22 : Index := 22#32
  let arg0 : BitVec 32 := BitVec.ofNat 32 (i 0).val
  let v243 : Index := Scalar.indexCast arg0
  ![22, v243.toNat]
def k0_off11 (i : grid0.Coords) : Fin 2 → Nat :=
  let c21 : Index := 21#32
  let arg0 : BitVec 32 := BitVec.ofNat 32 (i 0).val
  let v249 : Index := Scalar.indexCast arg0
  ![21, v249.toNat]
def k0_off12 (i : grid0.Coords) : Fin 2 → Nat :=
  let c20 : Index := 20#32
  let arg0 : BitVec 32 := BitVec.ofNat 32 (i 0).val
  let v255 : Index := Scalar.indexCast arg0
  ![20, v255.toNat]
def k0_off13 (i : grid0.Coords) : Fin 2 → Nat :=
  let c19 : Index := 19#32
  let arg0 : BitVec 32 := BitVec.ofNat 32 (i 0).val
  let v261 : Index := Scalar.indexCast arg0
  ![19, v261.toNat]
def k0_off14 (i : grid0.Coords) : Fin 2 → Nat :=
  let c18 : Index := 18#32
  let arg0 : BitVec 32 := BitVec.ofNat 32 (i 0).val
  let v267 : Index := Scalar.indexCast arg0
  ![18, v267.toNat]
def k0_off15 (i : grid0.Coords) : Fin 2 → Nat :=
  let c17 : Index := 17#32
  let arg0 : BitVec 32 := BitVec.ofNat 32 (i 0).val
  let v273 : Index := Scalar.indexCast arg0
  ![17, v273.toNat]
def k0_off16 (i : grid0.Coords) : Fin 2 → Nat :=
  let c16 : Index := 16#32
  let arg0 : BitVec 32 := BitVec.ofNat 32 (i 0).val
  let v279 : Index := Scalar.indexCast arg0
  ![16, v279.toNat]
def k0_off17 (i : grid0.Coords) : Fin 2 → Nat :=
  let c15 : Index := 15#32
  let arg0 : BitVec 32 := BitVec.ofNat 32 (i 0).val
  let v285 : Index := Scalar.indexCast arg0
  ![15, v285.toNat]
def k0_off18 (i : grid0.Coords) : Fin 2 → Nat :=
  let c14 : Index := 14#32
  let arg0 : BitVec 32 := BitVec.ofNat 32 (i 0).val
  let v291 : Index := Scalar.indexCast arg0
  ![14, v291.toNat]
def k0_off19 (i : grid0.Coords) : Fin 2 → Nat :=
  let c13 : Index := 13#32
  let arg0 : BitVec 32 := BitVec.ofNat 32 (i 0).val
  let v297 : Index := Scalar.indexCast arg0
  ![13, v297.toNat]
def k0_off20 (i : grid0.Coords) : Fin 2 → Nat :=
  let c12 : Index := 12#32
  let arg0 : BitVec 32 := BitVec.ofNat 32 (i 0).val
  let v303 : Index := Scalar.indexCast arg0
  ![12, v303.toNat]
def k0_off21 (i : grid0.Coords) : Fin 2 → Nat :=
  let c11 : Index := 11#32
  let arg0 : BitVec 32 := BitVec.ofNat 32 (i 0).val
  let v309 : Index := Scalar.indexCast arg0
  ![11, v309.toNat]
def k0_off22 (i : grid0.Coords) : Fin 2 → Nat :=
  let c10 : Index := 10#32
  let arg0 : BitVec 32 := BitVec.ofNat 32 (i 0).val
  let v315 : Index := Scalar.indexCast arg0
  ![10, v315.toNat]
def k0_off23 (i : grid0.Coords) : Fin 2 → Nat :=
  let c9 : Index := 9#32
  let arg0 : BitVec 32 := BitVec.ofNat 32 (i 0).val
  let v321 : Index := Scalar.indexCast arg0
  ![9, v321.toNat]
def k0_off24 (i : grid0.Coords) : Fin 2 → Nat :=
  let c8 : Index := 8#32
  let arg0 : BitVec 32 := BitVec.ofNat 32 (i 0).val
  let v327 : Index := Scalar.indexCast arg0
  ![8, v327.toNat]
def k0_off25 (i : grid0.Coords) : Fin 2 → Nat :=
  let c7 : Index := 7#32
  let arg0 : BitVec 32 := BitVec.ofNat 32 (i 0).val
  let v333 : Index := Scalar.indexCast arg0
  ![7, v333.toNat]
def k0_off26 (i : grid0.Coords) : Fin 2 → Nat :=
  let c6 : Index := 6#32
  let arg0 : BitVec 32 := BitVec.ofNat 32 (i 0).val
  let v339 : Index := Scalar.indexCast arg0
  ![6, v339.toNat]
def k0_off27 (i : grid0.Coords) : Fin 2 → Nat :=
  let c5 : Index := 5#32
  let arg0 : BitVec 32 := BitVec.ofNat 32 (i 0).val
  let v345 : Index := Scalar.indexCast arg0
  ![5, v345.toNat]
def k0_off28 (i : grid0.Coords) : Fin 2 → Nat :=
  let c4 : Index := 4#32
  let arg0 : BitVec 32 := BitVec.ofNat 32 (i 0).val
  let v351 : Index := Scalar.indexCast arg0
  ![4, v351.toNat]
def k0_off29 (i : grid0.Coords) : Fin 2 → Nat :=
  let c3 : Index := 3#32
  let arg0 : BitVec 32 := BitVec.ofNat 32 (i 0).val
  let v357 : Index := Scalar.indexCast arg0
  ![3, v357.toNat]
def k0_off30 (i : grid0.Coords) : Fin 2 → Nat :=
  let c2 : Index := 2#32
  let arg0 : BitVec 32 := BitVec.ofNat 32 (i 0).val
  let v363 : Index := Scalar.indexCast arg0
  ![2, v363.toNat]
def k0_off31 (i : grid0.Coords) : Fin 2 → Nat :=
  let c1_59 : Index := 1#32
  let arg0 : BitVec 32 := BitVec.ofNat 32 (i 0).val
  let v369 : Index := Scalar.indexCast arg0
  ![1, v369.toNat]
def k0_off32 (i : grid0.Coords) : Fin 2 → Nat :=
  let c0_61 : Index := 0#32
  let arg0 : BitVec 32 := BitVec.ofNat 32 (i 0).val
  let v375 : Index := Scalar.indexCast arg0
  ![0, v375.toNat]
def k0_off33 (i : grid0.Coords) : Fin 2 → Nat :=
  let c31 : Index := 31#32
  let arg0 : BitVec 32 := BitVec.ofNat 32 (i 0).val
  let v21 : Index := Scalar.indexCast arg0
  ![31, v21.toNat]
def k0_mult1 (i : grid0.Coords) : BitVec 32 :=
  let arg2 : BitVec 32 := BitVec.ofNat 32 (i 2).val
  let c512_i32 : BitVec 32 := 512#32
  let v28 : BitVec 32 := Scalar.muli arg2 c512_i32
  v28
def k0_off34 (i : grid0.Coords) : Fin 2 → Nat :=
  let arg2 : BitVec 32 := BitVec.ofNat 32 (i 2).val
  let c512_i32 : BitVec 32 := 512#32
  let v28 : BitVec 32 := Scalar.muli arg2 c512_i32
  let v29 : BitVec 32 := v28
  let v30 : Index := Scalar.indexCast v29
  let c0_13 : Index := 0#32
  ![v30.toNat, 0]
def k0_mult2 (i : grid0.Coords) : BitVec 32 :=
  let arg2 : BitVec 32 := BitVec.ofNat 32 (i 2).val
  let c1_i32 : BitVec 32 := 1#32
  let v75 : BitVec 32 := Scalar.subi arg2 c1_i32
  let c0_i32_21 : BitVec 32 := 0#32
  let v76 : BitVec 32 := Scalar.maxsi v75 c0_i32_21
  let c512_i32_27 : BitVec 32 := 512#32
  let v83 : BitVec 32 := Scalar.muli v76 c512_i32_27
  v83
def k0_off35 (i : grid0.Coords) : Fin 2 → Nat :=
  let arg2 : BitVec 32 := BitVec.ofNat 32 (i 2).val
  let c1_i32 : BitVec 32 := 1#32
  let v75 : BitVec 32 := Scalar.subi arg2 c1_i32
  let c0_i32_21 : BitVec 32 := 0#32
  let v76 : BitVec 32 := Scalar.maxsi v75 c0_i32_21
  let c512_i32_27 : BitVec 32 := 512#32
  let v83 : BitVec 32 := Scalar.muli v76 c512_i32_27
  let v84 : BitVec 32 := v83
  let v85 : Index := Scalar.indexCast v84
  let c0_28 : Index := 0#32
  ![v85.toNat, 0]
@[reducible] def k0_t1_loop (i : grid0.Coords) : Scf.Loop 32 :=
  let c0_i32_38 : BitVec 32 := 0#32
  let arg2 : BitVec 32 := BitVec.ofNat 32 (i 2).val
  let c1_i32_36 : BitVec 32 := 1#32
  let v130 : BitVec 32 := Scalar.subi arg2 c1_i32_36
  let c0_i32_37 : BitVec 32 := 0#32
  let v131 : BitVec 32 := Scalar.maxsi v130 c0_i32_37
  let v132 : BitVec 32 := Scalar.subi v131 c0_i32_38
  let c1_i32_39 : BitVec 32 := 1#32
  let v134 : BitVec 32 := Scalar.divsi v132 c1_i32_39
  let v135 : BitVec 32 := Scalar.muli v134 c1_i32_39
  let v136 : BitVec 32 := Scalar.addi c0_i32_38 v135
  let c1_i32_40 : BitVec 32 := 1#32
  ⟨c0_i32_38, v136, c1_i32_40⟩
def k0_mult3 (i : grid0.Coords) (k0_t1 : Fin (k0_t1_loop i).trips) : BitVec 32 :=
  let c0_i32_38 : BitVec 32 := 0#32
  let c1_i32_40 : BitVec 32 := 1#32
  let arg13 : BitVec 32 := Scf.iv c0_i32_38 c1_i32_40 k0_t1
  let c512_i32_57 : BitVec 32 := 512#32
  let v185 : BitVec 32 := Scalar.muli arg13 c512_i32_57
  v185
def k0_off36 (i : grid0.Coords) (k0_t1 : Fin (k0_t1_loop i).trips) : Fin 2 → Nat :=
  let c0_i32_38 : BitVec 32 := 0#32
  let c1_i32_40 : BitVec 32 := 1#32
  let arg13 : BitVec 32 := Scf.iv c0_i32_38 c1_i32_40 k0_t1
  let c512_i32_57 : BitVec 32 := 512#32
  let v185 : BitVec 32 := Scalar.muli arg13 c512_i32_57
  let v186 : BitVec 32 := v185
  let v187 : Index := Scalar.indexCast v186
  let c0_58 : Index := 0#32
  ![v187.toNat, 0]
@[reducible] def k0_t2_loop (i : grid0.Coords) : Scf.Loop 32 :=
  let c0_i32_38 : BitVec 32 := 0#32
  let arg2 : BitVec 32 := BitVec.ofNat 32 (i 2).val
  let c1_i32_36 : BitVec 32 := 1#32
  let v130 : BitVec 32 := Scalar.subi arg2 c1_i32_36
  let c0_i32_37 : BitVec 32 := 0#32
  let v131 : BitVec 32 := Scalar.maxsi v130 c0_i32_37
  let v132 : BitVec 32 := Scalar.subi v131 c0_i32_38
  let c1_i32_39 : BitVec 32 := 1#32
  let v134 : BitVec 32 := Scalar.divsi v132 c1_i32_39
  let v135 : BitVec 32 := Scalar.muli v134 c1_i32_39
  let v136 : BitVec 32 := Scalar.addi c0_i32_38 v135
  let v133 : BitVec 32 := Scalar.addi c0_i32_38 v132
  let c1_i32_41 : BitVec 32 := 1#32
  ⟨v136, v133, c1_i32_41⟩
def k0_mult4 (i : grid0.Coords) (k0_t2 : Fin (k0_t2_loop i).trips) : BitVec 32 :=
  let c0_i32_38 : BitVec 32 := 0#32
  let arg2 : BitVec 32 := BitVec.ofNat 32 (i 2).val
  let c1_i32_36 : BitVec 32 := 1#32
  let v130 : BitVec 32 := Scalar.subi arg2 c1_i32_36
  let c0_i32_37 : BitVec 32 := 0#32
  let v131 : BitVec 32 := Scalar.maxsi v130 c0_i32_37
  let v132 : BitVec 32 := Scalar.subi v131 c0_i32_38
  let c1_i32_39 : BitVec 32 := 1#32
  let v134 : BitVec 32 := Scalar.divsi v132 c1_i32_39
  let v135 : BitVec 32 := Scalar.muli v134 c1_i32_39
  let v136 : BitVec 32 := Scalar.addi c0_i32_38 v135
  let c1_i32_41 : BitVec 32 := 1#32
  let arg13 : BitVec 32 := Scf.iv v136 c1_i32_41 k0_t2
  let c512_i32_57 : BitVec 32 := 512#32
  let v185 : BitVec 32 := Scalar.muli arg13 c512_i32_57
  v185
def k0_off37 (i : grid0.Coords) (k0_t2 : Fin (k0_t2_loop i).trips) : Fin 2 → Nat :=
  let c0_i32_38 : BitVec 32 := 0#32
  let arg2 : BitVec 32 := BitVec.ofNat 32 (i 2).val
  let c1_i32_36 : BitVec 32 := 1#32
  let v130 : BitVec 32 := Scalar.subi arg2 c1_i32_36
  let c0_i32_37 : BitVec 32 := 0#32
  let v131 : BitVec 32 := Scalar.maxsi v130 c0_i32_37
  let v132 : BitVec 32 := Scalar.subi v131 c0_i32_38
  let c1_i32_39 : BitVec 32 := 1#32
  let v134 : BitVec 32 := Scalar.divsi v132 c1_i32_39
  let v135 : BitVec 32 := Scalar.muli v134 c1_i32_39
  let v136 : BitVec 32 := Scalar.addi c0_i32_38 v135
  let c1_i32_41 : BitVec 32 := 1#32
  let arg13 : BitVec 32 := Scf.iv v136 c1_i32_41 k0_t2
  let c512_i32_57 : BitVec 32 := 512#32
  let v185 : BitVec 32 := Scalar.muli arg13 c512_i32_57
  let v186 : BitVec 32 := v185
  let v187 : Index := Scalar.indexCast v186
  let c0_58 : Index := 0#32
  ![v187.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

abbrev stage0_0 : Fin 1 → Memref sig .tc .smem S32x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x2048x4x2x64 : Shape := ⟨5, ![16, 2048, 4, 2, 64]⟩
abbrev S16x2048x4x128 : Shape := ⟨4, ![16, 2048, 4, 128]⟩
abbrev S32x4 : Shape := ⟨2, ![32, 4]⟩
abbrev S64 : Shape := ⟨1, ![64]⟩
abbrev S128 : Shape := ⟨1, ![128]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x4 : Shape := ⟨3, ![2048, 2048, 4]⟩
abbrev S4x2048x2048 : Shape := ⟨3, ![4, 2048, 2048]⟩
abbrev S16x2x4x2048x2048 : Shape := ⟨5, ![16, 2, 4, 2048, 2048]⟩
abbrev S1x1x4x2048x2048 : Shape := ⟨5, ![1, 1, 4, 2048, 2048]⟩
abbrev S16x2x4x2048 : Shape := ⟨4, ![16, 2, 4, 2048]⟩
abbrev S16x2x4x2048x1 : Shape := ⟨5, ![16, 2, 4, 2048, 1]⟩
abbrev S16x1x4x2048x2048 : Shape := ⟨5, ![16, 1, 4, 2048, 2048]⟩
abbrev S16x4x2048x2048 : Shape := ⟨4, ![16, 4, 2048, 2048]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S32768x512 : Shape := ⟨2, ![32768, 512]⟩

abbrev nBuf : Space → Nat
  | .hbm => 123
  | .vmem => 0
  | .smem => 0
  | _ => 0

abbrev bufTy : (tb : Table) → Fin (tcTables nBuf tb) → BufTy
  | .hbm, ⟨0, _⟩ => ⟨S16x2048x4x2x64, .f32⟩
  | .hbm, ⟨1, _⟩ => ⟨S16x2048x4x2x64, .f32⟩
  | .hbm, ⟨2, _⟩ => ⟨S16x2048x4x128, .f32⟩
  | .hbm, ⟨3, _⟩ => ⟨S32x4, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S2048, .i32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048x1, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .i32⟩
  | .hbm, ⟨44, _⟩ => ⟨S_, .i32⟩
  | .hbm, ⟨45, _⟩ => ⟨S2048x2048, .i32⟩
  | .hbm, ⟨46, _⟩ => ⟨S2048x2048, .i32⟩
  | .hbm, ⟨47, _⟩ => ⟨S_, .i32⟩
  | .hbm, ⟨48, _⟩ => ⟨S2048x2048, .i32⟩
  | .hbm, ⟨49, _⟩ => ⟨S2048x2048, .i32⟩
  | .hbm, ⟨50, _⟩ => ⟨S_, .i32⟩
  | .hbm, ⟨51, _⟩ => ⟨S2048x2048, .i32⟩
  | .hbm, ⟨52, _⟩ => ⟨S2048x2048, .i1⟩
  | .hbm, ⟨53, _⟩ => ⟨S2048x2048, .i32⟩
  | .hbm, ⟨54, _⟩ => ⟨S_, .i32⟩
  | .hbm, ⟨55, _⟩ => ⟨S2048x2048, .i32⟩
  | .hbm, ⟨56, _⟩ => ⟨S2048x2048, .i1⟩
  | .hbm, ⟨57, _⟩ => ⟨S_, .i32⟩
  | .hbm, ⟨58, _⟩ => ⟨S2048x2048, .i32⟩
  | .hbm, ⟨59, _⟩ => ⟨S2048x2048, .i32⟩
  | .hbm, ⟨60, _⟩ => ⟨S2048x2048, .i32⟩
  | .hbm, ⟨61, _⟩ => ⟨S2048x2048x1, .i32⟩
  | .hbm, ⟨62, _⟩ => ⟨S2048x2048x4, .f32⟩
  | .hbm, ⟨63, _⟩ => ⟨S4x2048x2048, .f32⟩
  | .hbm, ⟨64, _⟩ => ⟨S16x2x4x2048x2048, .f32⟩
  | .hbm, ⟨65, _⟩ => ⟨S_, .f32⟩
  | .hbm, ⟨66, _⟩ => ⟨S16x2x4x2048x2048, .f32⟩
  | .hbm, ⟨67, _⟩ => ⟨S16x2x4x2048x2048, .f32⟩
  | .hbm, ⟨68, _⟩ => ⟨S_, .i32⟩
  | .hbm, ⟨69, _⟩ => ⟨S2048x2048, .i32⟩
  | .hbm, ⟨70, _⟩ => ⟨S2048x2048, .i1⟩
  | .hbm, ⟨71, _⟩ => ⟨S1x1x4x2048x2048, .f32⟩
  | .hbm, ⟨72, _⟩ => ⟨S16x2x4x2048x2048, .f32⟩
  | .hbm, ⟨73, _⟩ => ⟨S16x2x4x2048x2048, .f32⟩
  | .hbm, ⟨74, _⟩ => ⟨S_, .f32⟩
  | .hbm, ⟨75, _⟩ => ⟨S_, .f32⟩
  | .hbm, ⟨76, _⟩ => ⟨S16x2x4x2048x2048, .i1⟩
  | .hbm, ⟨77, _⟩ => ⟨S16x2x4x2048x2048, .f32⟩
  | .hbm, ⟨78, _⟩ => ⟨S16x2x4x2048x2048, .f32⟩
  | .hbm, ⟨79, _⟩ => ⟨S_, .f32⟩
  | .hbm, ⟨80, _⟩ => ⟨S16x2x4x2048, .f32⟩
  | .hbm, ⟨81, _⟩ => ⟨S_, .f32⟩
  | .hbm, ⟨82, _⟩ => ⟨S16x2x4x2048, .f32⟩
  | .hbm, ⟨83, _⟩ => ⟨S16x2x4x2048, .f32⟩
  | .hbm, ⟨84, _⟩ => ⟨S16x2x4x2048x1, .f32⟩
  | .hbm, ⟨85, _⟩ => ⟨S16x2x4x2048x2048, .f32⟩
  | .hbm, ⟨86, _⟩ => ⟨S16x2x4x2048x2048, .f32⟩
  | .hbm, ⟨87, _⟩ => ⟨S16x2x4x2048x2048, .f32⟩
  | .hbm, ⟨88, _⟩ => ⟨S_, .f32⟩
  | .hbm, ⟨89, _⟩ => ⟨S16x2x4x2048, .f32⟩
  | .hbm, ⟨90, _⟩ => ⟨S16x2x4x2048x1, .f32⟩
  | .hbm, ⟨91, _⟩ => ⟨S16x2x4x2048x2048, .f32⟩
  | .hbm, ⟨92, _⟩ => ⟨S16x2x4x2048x2048, .f32⟩
  | .hbm, ⟨93, _⟩ => ⟨S16x1x4x2048x2048, .f32⟩
  | .hbm, ⟨94, _⟩ => ⟨S16x4x2048x2048, .f32⟩
  | .hbm, ⟨95, _⟩ => ⟨S16x1x4x2048x2048, .f32⟩
  | .hbm, ⟨96, _⟩ => ⟨S16x4x2048x2048, .f32⟩
  | .hbm, ⟨97, _⟩ => ⟨S16x4x2048x2048, .f32⟩
  | .hbm, ⟨98, _⟩ => ⟨S16x4x2048x2048, .f32⟩
  | .hbm, ⟨99, _⟩ => ⟨S16x4x2048x2048, .f32⟩
  | .hbm, ⟨100, _⟩ => ⟨S16x4x128x2048, .f32⟩
  | .hbm, ⟨101, _⟩ => ⟨S16x2048x4x128, .f32⟩
  | .hbm, ⟨102, _⟩ => ⟨S16x2048x4x128, .f32⟩
  | .hbm, ⟨103, _⟩ => ⟨S_, .f32⟩
  | .hbm, ⟨104, _⟩ => ⟨S16x2048x4, .f32⟩
  | .hbm, ⟨105, _⟩ => ⟨S16x2048x4x1, .f32⟩
  | .hbm, ⟨106, _⟩ => ⟨S_, .f32⟩
  | .hbm, ⟨107, _⟩ => ⟨S16x2048x4x1, .f32⟩
  | .hbm, ⟨108, _⟩ => ⟨S16x2048x4x1, .f32⟩
  | .hbm, ⟨109, _⟩ => ⟨S_, .f32⟩
  | .hbm, ⟨110, _⟩ => ⟨S16x2048x4x1, .f32⟩
  | .hbm, ⟨111, _⟩ => ⟨S16x2048x4x1, .f32⟩
  | .hbm, ⟨112, _⟩ => ⟨S16x2048x4x1, .f32⟩
  | .hbm, ⟨113, _⟩ => ⟨S16x2048x4x128, .f32⟩
  | .hbm, ⟨114, _⟩ => ⟨S16x2048x4x128, .f32⟩
  | .hbm, ⟨115, _⟩ => ⟨S1x1x1x128, .f32⟩
  | .hbm, ⟨116, _⟩ => ⟨S16x2048x4x128, .f32⟩
  | .hbm, ⟨117, _⟩ => ⟨S16x2048x4x128, .f32⟩
  | .hbm, ⟨118, _⟩ => ⟨S_, .f32⟩
  | .hbm, ⟨119, _⟩ => ⟨S16x2048x4x128, .f32⟩
  | .hbm, ⟨120, _⟩ => ⟨S16x2048x4x128, .f32⟩
  | .hbm, ⟨121, _⟩ => ⟨S32768x512, .f32⟩
  | .hbm, ⟨122, _⟩ => ⟨S32768x512, .bf16⟩
  | _, _ => ⟨S16x2048x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_c_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_c_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_cst_15 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_16 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_17 : Ref sig .tc := ⟨.hbm, 103, rfl⟩
abbrev main_v72 : Ref sig .tc := ⟨.hbm, 104, rfl⟩
abbrev main_v73 : Ref sig .tc := ⟨.hbm, 105, rfl⟩
abbrev main_cst_18 : Ref sig .tc := ⟨.hbm, 106, rfl⟩
abbrev main_v74 : Ref sig .tc := ⟨.hbm, 107, rfl⟩
abbrev main_v75 : Ref sig .tc := ⟨.hbm, 108, rfl⟩
abbrev main_cst_19 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_20 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x3592 : Shape := ⟨2, ![1024, 3592]⟩
abbrev S64 : Shape := ⟨1, ![64]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S32768x1024 : Shape := ⟨2, ![32768, 1024]⟩
abbrev S1x1024 : Shape := ⟨2, ![1, 1024]⟩
abbrev S1024x1024 : Shape := ⟨2, ![1024, 1024]⟩
abbrev S1024x512 : Shape := ⟨2, ![1024, 512]⟩
abbrev S1024x1536 : Shape := ⟨2, ![1024, 1536]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x512 : Shape := ⟨2, ![512, 512]⟩
abbrev S32768x512 : Shape := ⟨2, ![32768, 512]⟩
abbrev S32768x1536 : Shape := ⟨2, ![32768, 1536]⟩
abbrev S32768x128 : Shape := ⟨2, ![32768, 128]⟩
abbrev S512x1024 : Shape := ⟨2, ![512, 1024]⟩
abbrev S512x1536 : Shape := ⟨2, ![512, 1536]⟩
abbrev S512x128 : Shape := ⟨2, ![512, 128]⟩
abbrev S512x1 : Shape := ⟨2, ![512, 1]⟩

abbrev nBuf : Space → Nat
  | .hbm => 47
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3592, .f32⟩
  | .hbm, ⟨3, _⟩ => ⟨S64, .f32⟩
  | .hbm, ⟨4, _⟩ => ⟨S64, .f32⟩
  | .hbm, ⟨5, _⟩ => ⟨S1024x3592, .bf16⟩
  | .hbm, ⟨6, _⟩ => ⟨S_, .bf16⟩
  | .hbm, ⟨7, _⟩ => ⟨S1024x128, .bf16⟩
  | .hbm, ⟨8, _⟩ => ⟨S1024x8, .bf16⟩
  | .hbm, ⟨9, _⟩ => ⟨S_, .i32⟩
  | .hbm, ⟨10, _⟩ => ⟨S1, .i32⟩
  | .hbm, ⟨11, _⟩ => ⟨S1024x128, .bf16⟩
  | .hbm, ⟨12, _⟩ => ⟨S32768x1024, .f32⟩
  | .hbm, ⟨13, _⟩ => ⟨S1x1024, .f32⟩
  | .hbm, ⟨14, _⟩ => ⟨S1024x1024, .bf16⟩
  | .hbm, ⟨15, _⟩ => ⟨S1024x512, .bf16⟩
  | .hbm, ⟨16, _⟩ => ⟨S1024x1536, .bf16⟩
  | .hbm, ⟨17, _⟩ => ⟨S1024x512, .bf16⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S1x512, .f32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x1536, .f32⟩
  | .hbm, ⟨45, _⟩ => ⟨S32768x512, .f32⟩
  | .hbm, ⟨46, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S1024x1536, .bf16⟩
  | .local _ .vmem, ⟨6, _⟩ => ⟨S1024x512, .bf16⟩
  | .local _ .vmem, ⟨7, _⟩ => ⟨S1024x128, .bf16⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x1536, .f32⟩
  | .local _ .vmem, ⟨18, _⟩ => ⟨S512x1536, .f32⟩
  | .local _ .vmem, ⟨19, _⟩ => ⟨S512x512, .f32⟩
  | .local _ .vmem, ⟨20, _⟩ => ⟨S512x512, .f32⟩
  | .local _ .vmem, ⟨21, _⟩ => ⟨S512x128, .f32⟩
  | .local _ .vmem, ⟨22, _⟩ => ⟨S512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev main_v28_4 : Ref sig .tc := ⟨.hbm, 45, rfl⟩
abbrev main_v28_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
abbrev S16x2048x1024 : Shape := ⟨3, ![16, 2048, 1024]⟩
abbrev S1024 : Shape := ⟨1, ![1024]⟩
abbrev S1024x3592 : Shape := ⟨2, ![1024, 3592]⟩
abbrev S64 : Shape := ⟨1, ![64]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S32768x1024 : Shape := ⟨2, ![32768, 1024]⟩
abbrev S1x1024 : Shape := ⟨2, ![1, 1024]⟩
abbrev S1024x1024 : Shape := ⟨2, ![1024, 1024]⟩
abbrev S1024x512 : Shape := ⟨2, ![1024, 512]⟩
abbrev S1024x1536 : Shape := ⟨2, ![1024, 1536]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x512 : Shape := ⟨2, ![512, 512]⟩
abbrev S32768x512 : Shape := ⟨2, ![32768, 512]⟩
abbrev S32768x1536 : Shape := ⟨2, ![32768, 1536]⟩
abbrev S32768x128 : Shape := ⟨2, ![32768, 128]⟩
abbrev S512x1024 : Shape := ⟨2, ![512, 1024]⟩
abbrev S512x1536 : Shape := ⟨2, ![512, 1536]⟩
abbrev S512x128 : Shape := ⟨2, ![512, 128]⟩
abbrev S512x1 : Shape := ⟨2, ![512, 1]⟩

abbrev nBuf : Space → Nat
  | .hbm => 47
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3592, .f32⟩
  | .hbm, ⟨3, _⟩ => ⟨S64, .f32⟩
  | .hbm, ⟨4, _⟩ => ⟨S64, .f32⟩
  | .hbm, ⟨5, _⟩ => ⟨S1024x3592, .bf16⟩
  | .hbm, ⟨6, _⟩ => ⟨S_, .bf16⟩
  | .hbm, ⟨7, _⟩ => ⟨S1024x128, .bf16⟩
  | .hbm, ⟨8, _⟩ => ⟨S1024x8, .bf16⟩
  | .hbm, ⟨9, _⟩ => ⟨S_, .i32⟩
  | .hbm, ⟨10, _⟩ => ⟨S1, .i32⟩
  | .hbm, ⟨11, _⟩ => ⟨S1024x128, .bf16⟩
  | .hbm, ⟨12, _⟩ => ⟨S32768x1024, .f32⟩
  | .hbm, ⟨13, _⟩ => ⟨S1x1024, .f32⟩
  | .hbm, ⟨14, _⟩ => ⟨S1024x1024, .bf16⟩
  | .hbm, ⟨15, _⟩ => ⟨S1024x512, .bf16⟩
  | .hbm, ⟨16, _⟩ => ⟨S1024x1536, .bf16⟩
  | .hbm, ⟨17, _⟩ => ⟨S1024x512, .bf16⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S1x512, .f32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x1536, .f32⟩
  | .hbm, ⟨45, _⟩ => ⟨S32768x512, .f32⟩
  | .hbm, ⟨46, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S1024x1536, .bf16⟩
  | .local _ .vmem, ⟨6, _⟩ => ⟨S1024x512, .bf16⟩
  | .local _ .vmem, ⟨7, _⟩ => ⟨S1024x128, .bf16⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x1536, .f32⟩
  | .local _ .vmem, ⟨18, _⟩ => ⟨S512x1536, .f32⟩
  | .local _ .vmem, ⟨19, _⟩ => ⟨S512x512, .f32⟩
  | .local _ .vmem, ⟨20, _⟩ => ⟨S512x512, .f32⟩
  | .local _ .vmem, ⟨21, _⟩ => ⟨S512x128, .f32⟩
  | .local _ .vmem, ⟨22, _⟩ => ⟨S512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev main_v28_4 : Ref sig .tc := ⟨.hbm, 45, rfl⟩
abbrev main_v28_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16x2048x1024 : Shape := ⟨3, ![16, 2048, 1024]⟩
abbrev S1024 : Shape := ⟨1, ![1024]⟩
abbrev S1024x3592 : Shape := ⟨2, ![1024, 3592]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3592 : Shape := ⟨3, ![16, 2048, 3592]⟩
abbrev S16x2048x512 : Shape := ⟨3, ![16, 2048, 512]⟩
abbrev S16x2048x1536 : Shape := ⟨3, ![16, 2048, 1536]⟩
abbrev S16x2048x4 : Shape := ⟨3, ![16, 2048, 4]⟩
abbrev S16x2048x4x2x64 : Shape := ⟨5, ![16, 2048, 4, 2, 64]⟩
abbrev S16x2048x4x2 : Shape := ⟨4, ![16, 2048, 4, 2]⟩
abbrev S16x2048x4x2x1 : Shape := ⟨5, ![16, 2048, 4, 2, 1]⟩
abbrev S1x1x1x1x64 : Shape := ⟨5, ![1, 1, 1, 1, 64]⟩
abbrev S16x2048x120 : Shape := ⟨3, ![16, 2048, 120]⟩
abbrev S16x2048x128 : Shape := ⟨3, ![16, 2048, 128]⟩
abbrev S32768x512 : Shape := ⟨2, ![32768, 512]⟩
abbrev S32768x1536 : Shape := ⟨2, ![32768, 1536]⟩
abbrev S32768x128 : Shape := ⟨2, ![32768, 128]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3592, .f32⟩
  | .hbm, ⟨3, _⟩ => ⟨S64, .f32⟩
  | .hbm, ⟨4, _⟩ => ⟨S64, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x3592, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S16x2048x1536, .f32⟩
  | .hbm, ⟨26, _⟩ => ⟨S16x2048x512, .f32⟩
  | .hbm, ⟨27, _⟩ => ⟨S16x2048x4, .f32⟩
  | .hbm, ⟨28, _⟩ => ⟨S16x2048x4, .f32⟩
  | .hbm, ⟨29, _⟩ => ⟨S16x2048x4x2x64, .f32⟩
  | .hbm, ⟨30, _⟩ => ⟨S16x2048x4x2x64, .f32⟩
  | .hbm, ⟨31, _⟩ => ⟨S_, .f32⟩
  | .hbm, ⟨32, _⟩ => ⟨S16x2048x4x2, .f32⟩
  | .hbm, ⟨33, _⟩ => ⟨S16x2048x4x2x1, .f32⟩
  | .hbm, ⟨34, _⟩ => ⟨S_, .f32⟩
  | .hbm, ⟨35, _⟩ => ⟨S16x2048x4x2x1, .f32⟩
  | .hbm, ⟨36, _⟩ => ⟨S16x2048x4x2x1, .f32⟩
  | .hbm, ⟨37, _⟩ => ⟨S_, .f32⟩
  | .hbm, ⟨38, _⟩ => ⟨S16x2048x4x2x1, .f32⟩
  | .hbm, ⟨39, _⟩ => ⟨S16x2048x4x2x1, .f32⟩
  | .hbm, ⟨40, _⟩ => ⟨S16x2048x4x2x1, .f32⟩
  | .hbm, ⟨41, _⟩ => ⟨S16x2048x4x2x64, .f32⟩
  | .hbm, ⟨42, _⟩ => ⟨S16x2048x4x2x64, .f32⟩
  | .hbm, ⟨43, _⟩ => ⟨S1x1x1x1x64, .f32⟩
  | .hbm, ⟨44, _⟩ => ⟨S16x2048x4x2x64, .f32⟩
  | .hbm, ⟨45, _⟩ => ⟨S16x2048x4x2x64, .f32⟩
  | .hbm, ⟨46, _⟩ => ⟨S_, .f32⟩
  | .hbm, ⟨47, _⟩ => ⟨S16x2048x4x2x64, .f32⟩
  | .hbm, ⟨48, _⟩ => ⟨S16x2048x4x2x64, .f32⟩
  | .hbm, ⟨49, _⟩ => ⟨S16x2048x4x2x64, .f32⟩
  | .hbm, ⟨50, _⟩ => ⟨S16x2048x4x2x64, .f32⟩
  | .hbm, ⟨51, _⟩ => ⟨S_, .f32⟩
  | .hbm, ⟨52, _⟩ => ⟨S16x2048x4x2, .f32⟩
  | .hbm, ⟨53, _⟩ => ⟨S16x2048x4x2x1, .f32⟩
  | .hbm, ⟨54, _⟩ => ⟨S_, .f32⟩
  | .hbm, ⟨55, _⟩ => ⟨S16x2048x4x2x1, .f32⟩
  | .hbm, ⟨56, _⟩ => ⟨S16x2048x4x2x1, .f32⟩
  | .hbm, ⟨57, _⟩ => ⟨S_, .f32⟩
  | .hbm, ⟨58, _⟩ => ⟨S16x2048x4x2x1, .f32⟩
  | .hbm, ⟨59, _⟩ => ⟨S16x2048x4x2x1, .f32⟩
  | .hbm, ⟨60, _⟩ => ⟨S16x2048x4x2x1, .f32⟩
  | .hbm, ⟨61, _⟩ => ⟨S16x2048x4x2x64, .f32⟩
  | .hbm, ⟨62, _⟩ => ⟨S16x2048x4x2x64, .f32⟩
  | .hbm, ⟨63, _⟩ => ⟨S1x1x1x1x64, .f32⟩
  | .hbm, ⟨64, _⟩ => ⟨S16x2048x4x2x64, .f32⟩
  | .hbm, ⟨65, _⟩ => ⟨S16x2048x4x2x64, .f32⟩
  | .hbm, ⟨66, _⟩ => ⟨S_, .f32⟩
  | .hbm, ⟨67, _⟩ => ⟨S16x2048x120, .f32⟩
  | .hbm, ⟨68, _⟩ => ⟨S16x2048x128, .f32⟩
  | .hbm, ⟨69, _⟩ => ⟨S32768x512, .f32⟩
  | .hbm, ⟨70, _⟩ => ⟨S32768x512, .f32⟩
  | .hbm, ⟨71, _⟩ => ⟨S32768x512, .f32⟩
  | .hbm, ⟨72, _⟩ => ⟨S32768x1536, .f32⟩
  | .hbm, ⟨73, _⟩ => ⟨S32768x512, .f32⟩
  | .hbm, ⟨74, _⟩ => ⟨S32768x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S16x128x128 : Shape := ⟨3, ![16, 128, 128]⟩
abbrev S1024x32768 : Shape := ⟨2, ![1024, 32768]⟩
abbrev S16x128x32768 : Shape := ⟨3, ![16, 128, 32768]⟩
abbrev S512x512 : Shape := ⟨2, ![512, 512]⟩
abbrev S1024x512 : Shape := ⟨2, ![1024, 512]⟩
abbrev S16x128x512 : Shape := ⟨3, ![16, 128, 512]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 20
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S1024x1024, .bf16⟩
  | .hbm, ⟨8, _⟩ => ⟨S32768x1024, .f32⟩
  | .hbm, ⟨9, _⟩ => ⟨S32768x512, .bf16⟩
  | .hbm, ⟨10, _⟩ => ⟨S32768x512, .bf16⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S1024x2048, .bf16⟩
  | .hbm, ⟨15, _⟩ => ⟨S16x128x128, .f32⟩
  | .hbm, ⟨16, _⟩ => ⟨S16x128x128, .bf16⟩
  | .hbm, ⟨17, _⟩ => ⟨S32768x1024, .f32⟩
  | .hbm, ⟨18, _⟩ => ⟨S1024x32768, .bf16⟩
  | .hbm, ⟨19, _⟩ => ⟨S16x128x32768, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2048, .bf16⟩
  | .local _ .vmem, ⟨10, _⟩ => ⟨S16x128x128, .bf16⟩
  | .local _ .vmem, ⟨11, _⟩ => ⟨S512x1024, .f32⟩
  | .local _ .vmem, ⟨12, _⟩ => ⟨S512x1024, .f32⟩
  | .local _ .vmem, ⟨13, _⟩ => ⟨S1024x512, .bf16⟩
  | .local _ .vmem, ⟨14, _⟩ => ⟨S1024x512, .bf16⟩
  | .local _ .vmem, ⟨15, _⟩ => ⟨S16x128x512, .f32⟩
  | .local _ .vmem, ⟨16, _⟩ => ⟨S16x128x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel3Ideal.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S16x128x128 : Shape := ⟨3, ![16, 128, 128]⟩
abbrev S1024x32768 : Shape := ⟨2, ![1024, 32768]⟩
abbrev S16x128x32768 : Shape := ⟨3, ![16, 128, 32768]⟩
abbrev S512x512 : Shape := ⟨2, ![512, 512]⟩
abbrev S1024x512 : Shape := ⟨2, ![1024, 512]⟩
abbrev S16x128x512 : Shape := ⟨3, ![16, 128, 512]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 20
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S1024x1024, .bf16⟩
  | .hbm, ⟨8, _⟩ => ⟨S32768x1024, .f32⟩
  | .hbm, ⟨9, _⟩ => ⟨S32768x512, .bf16⟩
  | .hbm, ⟨10, _⟩ => ⟨S32768x512, .bf16⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S1024x2048, .bf16⟩
  | .hbm, ⟨15, _⟩ => ⟨S16x128x128, .f32⟩
  | .hbm, ⟨16, _⟩ => ⟨S16x128x128, .bf16⟩
  | .hbm, ⟨17, _⟩ => ⟨S32768x1024, .f32⟩
  | .hbm, ⟨18, _⟩ => ⟨S1024x32768, .bf16⟩
  | .hbm, ⟨19, _⟩ => ⟨S16x128x32768, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2048, .bf16⟩
  | .local _ .vmem, ⟨10, _⟩ => ⟨S16x128x128, .bf16⟩
  | .local _ .vmem, ⟨11, _⟩ => ⟨S512x1024, .f32⟩
  | .local _ .vmem, ⟨12, _⟩ => ⟨S512x1024, .f32⟩
  | .local _ .vmem, ⟨13, _⟩ => ⟨S1024x512, .bf16⟩
  | .local _ .vmem, ⟨14, _⟩ => ⟨S1024x512, .bf16⟩
  | .local _ .vmem, ⟨15, _⟩ => ⟨S16x128x512, .f32⟩
  | .local _ .vmem, ⟨16, _⟩ => ⟨S16x128x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩
abbrev S32768x2048 : Shape := ⟨2, ![32768, 2048]⟩
abbrev S32768x8x2x128 : Shape := ⟨4, ![32768, 8, 2, 128]⟩
abbrev S8x2x128x32768 : Shape := ⟨4, ![8, 2, 128, 32768]⟩
abbrev S16x128x32768 : Shape := ⟨3, ![16, 128, 32768]⟩
abbrev S1024x32768 : Shape := ⟨2, ![1024, 32768]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S16x2048x1024, .bf16⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S32768x1024, .f32⟩
  | .hbm, ⟨28, _⟩ => ⟨S32768x2048, .f32⟩
  | .hbm, ⟨29, _⟩ => ⟨S32768x8x2x128, .f32⟩
  | .hbm, ⟨30, _⟩ => ⟨S8x2x128x32768, .f32⟩
  | .hbm, ⟨31, _⟩ => ⟨S32768x8x2x128, .f32⟩
  | .hbm, ⟨32, _⟩ => ⟨S8x2x128x32768, .f32⟩
  | .hbm, ⟨33, _⟩ => ⟨S16x128x32768, .f32⟩
  | .hbm, ⟨34, _⟩ => ⟨S32768x1024, .f32⟩
  | .hbm, ⟨35, _⟩ => ⟨S1024x32768, .f32⟩
  | .hbm, ⟨36, _⟩ => ⟨S1024x32768, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel4.lean ====
abbrev S32x4x1024 : Shape := ⟨3, ![32, 4, 1024]⟩
abbrev S1024 : Shape := ⟨1, ![1024]⟩
abbrev S1024x3592 : Shape := ⟨2, ![1024, 3592]⟩
abbrev S64 : Shape := ⟨1, ![64]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S128x1024 : Shape := ⟨2, ![128, 1024]⟩
abbrev S1x1024 : Shape := ⟨2, ![1, 1024]⟩
abbrev S1024x1024 : Shape := ⟨2, ![1024, 1024]⟩
abbrev S1024x512 : Shape := ⟨2, ![1024, 512]⟩
abbrev S1024x1536 : Shape := ⟨2, ![1024, 1536]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x512 : Shape := ⟨2, ![512, 512]⟩
abbrev S128x512 : Shape := ⟨2, ![128, 512]⟩
abbrev S128x1536 : Shape := ⟨2, ![128, 1536]⟩
abbrev S128x128 : Shape := ⟨2, ![128, 128]⟩
abbrev S128 : Shape := ⟨1, ![128]⟩
abbrev S128x1 : Shape := ⟨2, ![128, 1]⟩

abbrev nBuf : Space → Nat
  | .hbm => 47
  | .vmem => 16
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3592, .f32⟩
  | .hbm, ⟨3, _⟩ => ⟨S64, .f32⟩
  | .hbm, ⟨4, _⟩ => ⟨S64, .f32⟩
  | .hbm, ⟨5, _⟩ => ⟨S1024x3592, .bf16⟩
  | .hbm, ⟨6, _⟩ => ⟨S_, .bf16⟩
  | .hbm, ⟨7, _⟩ => ⟨S1024x128, .bf16⟩
  | .hbm, ⟨8, _⟩ => ⟨S1024x8, .bf16⟩
  | .hbm, ⟨9, _⟩ => ⟨S_, .i32⟩
  | .hbm, ⟨10, _⟩ => ⟨S1, .i32⟩
  | .hbm, ⟨11, _⟩ => ⟨S1024x128, .bf16⟩
  | .hbm, ⟨12, _⟩ => ⟨S128x1024, .f32⟩
  | .hbm, ⟨13, _⟩ => ⟨S1x1024, .f32⟩
  | .hbm, ⟨14, _⟩ => ⟨S1024x1024, .bf16⟩
  | .hbm, ⟨15, _⟩ => ⟨S1024x512, .bf16⟩
  | .hbm, ⟨16, _⟩ => ⟨S1024x1536, .bf16⟩
  | .hbm, ⟨17, _⟩ => ⟨S1024x512, .bf16⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S1x512, .f32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S128x512, .f32⟩
  | .hbm, ⟨42, _⟩ => ⟨S128x512, .f32⟩
  | .hbm, ⟨43, _⟩ => ⟨S128x512, .f32⟩
  | .hbm, ⟨44, _⟩ => ⟨S128x1536, .f32⟩
  | .hbm, ⟨45, _⟩ => ⟨S128x512, .f32⟩
  | .hbm, ⟨46, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x512, .bf16⟩
  | .local _ .vmem, ⟨4, _⟩ => ⟨S1024x1536, .bf16⟩
  | .local _ .vmem, ⟨5, _⟩ => ⟨S1024x512, .bf16⟩
  | .local _ .vmem, ⟨6, _⟩ => ⟨S1024x128, .bf16⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x1536, .f32⟩
  | .local _ .vmem, ⟨14, _⟩ => ⟨S128x512, .f32⟩
  | .local _ .vmem, ⟨15, _⟩ => ⟨S128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev main_v28_4 : Ref sig .tc := ⟨.hbm, 45, rfl⟩
abbrev main_v28_5 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference4Ideal.lean ====
abbrev S32x4x1024 : Shape := ⟨3, ![32, 4, 1024]⟩
abbrev S1024 : Shape := ⟨1, ![1024]⟩
abbrev S1024x3592 : Shape := ⟨2, ![1024, 3592]⟩
abbrev S64 : Shape := ⟨1, ![64]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x3592 : Shape := ⟨3, ![32, 4, 3592]⟩
abbrev S32x4x512 : Shape := ⟨3, ![32, 4, 512]⟩
abbrev S32x4x1536 : Shape := ⟨3, ![32, 4, 1536]⟩
abbrev S32x4x4 : Shape := ⟨3, ![32, 4, 4]⟩
abbrev S32x4x4x2x64 : Shape := ⟨5, ![32, 4, 4, 2, 64]⟩
abbrev S32x4x4x2 : Shape := ⟨4, ![32, 4, 4, 2]⟩
abbrev S32x4x4x2x1 : Shape := ⟨5, ![32, 4, 4, 2, 1]⟩
abbrev S1x1x1x1x64 : Shape := ⟨5, ![1, 1, 1, 1, 64]⟩
abbrev S32x4x120 : Shape := ⟨3, ![32, 4, 120]⟩
abbrev S32x4x128 : Shape := ⟨3, ![32, 4, 128]⟩
abbrev S128x512 : Shape := ⟨2, ![128, 512]⟩
abbrev S128x1536 : Shape := ⟨2, ![128, 1536]⟩
abbrev S128x128 : Shape := ⟨2, ![128, 128]⟩

abbrev nBuf : Space → Nat
  | .hbm => 75
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3592, .f32⟩
  | .hbm, ⟨3, _⟩ => ⟨S64, .f32⟩
  | .hbm, ⟨4, _⟩ => ⟨S64, .f32⟩
  | .hbm, ⟨5, _⟩ => ⟨S32x4x1024, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S32x4x1024, .f32⟩
  | .hbm, ⟨20, _⟩ => ⟨S32x4x1024, .f32⟩
  | .hbm, ⟨21, _⟩ => ⟨S32x4x3592, .f32⟩
  | .hbm, ⟨22, _⟩ => ⟨S32x4x512, .f32⟩
  | .hbm, ⟨23, _⟩ => ⟨S32x4x512, .f32⟩
  | .hbm, ⟨24, _⟩ => ⟨S32x4x512, .f32⟩
  | .hbm, ⟨25, _⟩ => ⟨S32x4x1536, .f32⟩
  | .hbm, ⟨26, _⟩ => ⟨S32x4x512, .f32⟩
  | .hbm, ⟨27, _⟩ => ⟨S32x4x4, .f32⟩
  | .hbm, ⟨28, _⟩ => ⟨S32x4x4, .f32⟩
  | .hbm, ⟨29, _⟩ => ⟨S32x4x4x2x64, .f32⟩
  | .hbm, ⟨30, _⟩ => ⟨S32x4x4x2x64, .f32⟩
  | .hbm, ⟨31, _⟩ => ⟨S_, .f32⟩
  | .hbm, ⟨32, _⟩ => ⟨S32x4x4x2, .f32⟩
  | .hbm, ⟨33, _⟩ => ⟨S32x4x4x2x1, .f32⟩
  | .hbm, ⟨34, _⟩ => ⟨S_, .f32⟩
  | .hbm, ⟨35, _⟩ => ⟨S32x4x4x2x1, .f32⟩
  | .hbm, ⟨36, _⟩ => ⟨S32x4x4x2x1, .f32⟩
  | .hbm, ⟨37, _⟩ => ⟨S_, .f32⟩
  | .hbm, ⟨38, _⟩ => ⟨S32x4x4x2x1, .f32⟩
  | .hbm, ⟨39, _⟩ => ⟨S32x4x4x2x1, .f32⟩
  | .hbm, ⟨40, _⟩ => ⟨S32x4x4x2x1, .f32⟩
  | .hbm, ⟨41, _⟩ => ⟨S32x4x4x2x64, .f32⟩
  | .hbm, ⟨42, _⟩ => ⟨S32x4x4x2x64, .f32⟩
  | .hbm, ⟨43, _⟩ => ⟨S1x1x1x1x64, .f32⟩
  | .hbm, ⟨44, _⟩ => ⟨S32x4x4x2x64, .f32⟩
  | .hbm, ⟨45, _⟩ => ⟨S32x4x4x2x64, .f32⟩
  | .hbm, ⟨46, _⟩ => ⟨S_, .f32⟩
  | .hbm, ⟨47, _⟩ => ⟨S32x4x4x2x64, .f32⟩
  | .hbm, ⟨48, _⟩ => ⟨S32x4x4x2x64, .f32⟩
  | .hbm, ⟨49, _⟩ => ⟨S32x4x4x2x64, .f32⟩
  | .hbm, ⟨50, _⟩ => ⟨S32x4x4x2x64, .f32⟩
  | .hbm, ⟨51, _⟩ => ⟨S_, .f32⟩
  | .hbm, ⟨52, _⟩ => ⟨S32x4x4x2, .f32⟩
  | .hbm, ⟨53, _⟩ => ⟨S32x4x4x2x1, .f32⟩
  | .hbm, ⟨54, _⟩ => ⟨S_, .f32⟩
  | .hbm, ⟨55, _⟩ => ⟨S32x4x4x2x1, .f32⟩
  | .hbm, ⟨56, _⟩ => ⟨S32x4x4x2x1, .f32⟩
  | .hbm, ⟨57, _⟩ => ⟨S_, .f32⟩
  | .hbm, ⟨58, _⟩ => ⟨S32x4x4x2x1, .f32⟩
  | .hbm, ⟨59, _⟩ => ⟨S32x4x4x2x1, .f32⟩
  | .hbm, ⟨60, _⟩ => ⟨S32x4x4x2x1, .f32⟩
  | .hbm, ⟨61, _⟩ => ⟨S32x4x4x2x64, .f32⟩
  | .hbm, ⟨62, _⟩ => ⟨S32x4x4x2x64, .f32⟩
  | .hbm, ⟨63, _⟩ => ⟨S1x1x1x1x64, .f32⟩
  | .hbm, ⟨64, _⟩ => ⟨S32x4x4x2x64, .f32⟩
  | .hbm, ⟨65, _⟩ => ⟨S32x4x4x2x64, .f32⟩
  | .hbm, ⟨66, _⟩ => ⟨S_, .f32⟩
  | .hbm, ⟨67, _⟩ => ⟨S32x4x120, .f32⟩
  | .hbm, ⟨68, _⟩ => ⟨S32x4x128, .f32⟩
  | .hbm, ⟨69, _⟩ => ⟨S128x512, .f32⟩
  | .hbm, ⟨70, _⟩ => ⟨S128x512, .f32⟩
  | .hbm, ⟨71, _⟩ => ⟨S128x512, .f32⟩
  | .hbm, ⟨72, _⟩ => ⟨S128x1536, .f32⟩
  | .hbm, ⟨73, _⟩ => ⟨S128x512, .f32⟩
  | .hbm, ⟨74, _⟩ => ⟨S128x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel5.lean ====
abbrev S1024x128 : Shape := ⟨2, ![1024, 128]⟩
abbrev S8x128x128 : Shape := ⟨3, ![8, 128, 128]⟩
abbrev S8x64x128 : Shape := ⟨3, ![8, 64, 128]⟩
abbrev S16384x1024 : Shape := ⟨2, ![16384, 1024]⟩
abbrev S128x1024 : Shape := ⟨2, ![128, 1024]⟩
abbrev S1024x16384 : Shape := ⟨2, ![1024, 16384]⟩
abbrev S8x8x128 : Shape := ⟨3, ![8, 8, 128]⟩
abbrev S1024x1024 : Shape := ⟨2, ![1024, 1024]⟩
abbrev S16x128 : Shape := ⟨2, ![16, 128]⟩
abbrev S1x1x128 : Shape := ⟨3, ![1, 1, 128]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 12
  | .vmem => 16
  | .smem => 0
  | _ => 0

abbrev bufTy : (tb : Table) → Fin (tcTables nBuf tb) → BufTy
  | .hbm, ⟨0, _⟩ => ⟨S1024x128, .bf16⟩
  | .hbm, ⟨1, _⟩ => ⟨S8x128x128, .i32⟩
  | .hbm, ⟨2, _⟩ => ⟨S8x128x128, .i32⟩
  | .hbm, ⟨3, _⟩ => ⟨S8x64x128, .i32⟩
  | .hbm, ⟨4, _⟩ => ⟨S8x64x128, .i32⟩
  | .hbm, ⟨5, _⟩ => ⟨S16384x1024, .f32⟩
  | .hbm, ⟨6, _⟩ => ⟨S16384x1024, .f32⟩
  | .hbm, ⟨7, _⟩ => ⟨S128x1024, .f32⟩
  | .hbm, ⟨8, _⟩ => ⟨S16384x1024, .bf16⟩
  | .hbm, ⟨9, _⟩ => ⟨S1024x16384, .f32⟩
  | .hbm, ⟨10, _⟩ => ⟨S1024x16384, .bf16⟩
  | .hbm, ⟨11, _⟩ => ⟨S128x1024, .f32⟩
  | .local _ .vmem, ⟨0, _⟩ => ⟨S1024x128, .bf16⟩
  | .local _ .vmem, ⟨1, _⟩ => ⟨S8x8x128, .i32⟩
  | .local _ .vmem, ⟨2, _⟩ => ⟨S8x8x128, .i32⟩
  | .local _ .vmem, ⟨3, _⟩ => ⟨S8x8x128, .i32⟩
  | .local _ .vmem, ⟨4, _⟩ => ⟨S8x8x128, .i32⟩
  | .local _ .vmem, ⟨5, _⟩ => ⟨S8x64x128, .i32⟩
  | .local _ .vmem, ⟨6, _⟩ => ⟨S8x64x128, .i32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S128x1024, .f32⟩
  | .local _ .vmem, ⟨12, _⟩ => ⟨S128x1024, .f32⟩
  | .local _ .vmem, ⟨13, _⟩ => ⟨S1024x128, .f32⟩
  | .local _ .vmem, ⟨14, _⟩ => ⟨S1024x128, .f32⟩
  | .local _ .vmem, ⟨15, _⟩ => ⟨S1024x128, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v7451 : BitVec 1 := Scalar.cmpi .eq arg1 c15_i32
  let v7452 : BitVec 32 := Scalar.extui v7451
  let c0_i32_4429 : BitVec 32 := 0#32
  let v7453 : BitVec 1 := Scalar.cmpi .ne v7452 c0_i32_4429
  v7453

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S8x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x64x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x64x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Kernel5Ideal.lean ====
variable {F : FTy → Type} [FloatOps F] [Named F]
def κ : String → Option EReal := fun
  | "root" => some ((6693141 / 8388608 : ℝ) : EReal)
  | "rootcube" => some ((80338380498831 / 2251799813685248 : ℝ) : EReal)
  | _ => none
-- ==== Reference5Ideal.lean ====
abbrev S1024x128 : Shape := ⟨2, ![1024, 128]⟩
abbrev S8x128x128 : Shape := ⟨3, ![8, 128, 128]⟩
abbrev S8x64x128 : Shape := ⟨3, ![8, 64, 128]⟩
abbrev S16384x1024 : Shape := ⟨2, ![16384, 1024]⟩
abbrev S128x1024 : Shape := ⟨2, ![128, 1024]⟩
abbrev S8x128x128x2 : Shape := ⟨4, ![8, 128, 128, 2]⟩
abbrev S8x64x128x2 : Shape := ⟨4, ![8, 64, 128, 2]⟩
abbrev S8x1x64x128x2 : Shape := ⟨5, ![8, 1, 64, 128, 2]⟩
abbrev S8x128x1x128x2 : Shape := ⟨5, ![8, 128, 1, 128, 2]⟩
abbrev S8x128x64x128x2 : Shape := ⟨5, ![8, 128, 64, 128, 2]⟩
abbrev S_ : Shape := ⟨0, ![]⟩
abbrev S128x64x128x2 : Shape := ⟨4, ![128, 64, 128, 2]⟩
abbrev S128x128x64x2 : Shape := ⟨4, ![128, 128, 64, 2]⟩
abbrev S128x16384 : Shape := ⟨2, ![128, 16384]⟩
abbrev S1024x16384 : Shape := ⟨2, ![1024, 16384]⟩

abbrev nBuf : Space → Nat
  | .hbm => 58
  | .vmem => 0
  | .smem => 0
  | _ => 0

abbrev bufTy : (tb : Table) → Fin (tcTables nBuf tb) → BufTy
  | .hbm, ⟨0, _⟩ => ⟨S1024x128, .bf16⟩
  | .hbm, ⟨1, _⟩ => ⟨S8x128x128, .i32⟩
  | .hbm, ⟨2, _⟩ => ⟨S8x128x128, .i32⟩
  | .hbm, ⟨3, _⟩ => ⟨S8x64x128, .i32⟩
  | .hbm, ⟨4, _⟩ => ⟨S8x64x128, .i32⟩
  | .hbm, ⟨5, _⟩ => ⟨S16384x1024, .f32⟩
  | .hbm, ⟨6, _⟩ => ⟨S16384x1024, .f32⟩
  | .hbm, ⟨7, _⟩ => ⟨S128x1024, .f32⟩
  | .hbm, ⟨8, _⟩ => ⟨S8x128x128x2, .bf16⟩
  | .hbm, ⟨9, _⟩ => ⟨S8x128x128x2, .f32⟩
  | .hbm, ⟨10, _⟩ => ⟨S8x128x128x2, .bf16⟩
  | .hbm, ⟨11, _⟩ => ⟨S8x128x128x2, .f32⟩
  | .hbm, ⟨12, _⟩ => ⟨S8x64x128x2, .bf16⟩
  | .hbm, ⟨13, _⟩ => ⟨S8x64x128x2, .f32⟩
  | .hbm, ⟨14, _⟩ => ⟨S8x64x128x2, .bf16⟩
  | .hbm, ⟨15, _⟩ => ⟨S8x64x128x2, .f32⟩
  | .hbm, ⟨16, _⟩ => ⟨S8x1x64x128x2, .f32⟩
  | .hbm, ⟨17, _⟩ => ⟨S8x128x1x128x2, .f32⟩
  | .hbm, ⟨18, _⟩ => ⟨S8x128x64x128x2, .f32⟩
  | .hbm, ⟨19, _⟩ => ⟨S8x128x64x128x2, .f32⟩
  | .hbm, ⟨20, _⟩ => ⟨S8x128x64x128x2, .i1⟩
  | .hbm, ⟨21, _⟩ => ⟨S8x128x1x128x2, .f32⟩
  | .hbm, ⟨22, _⟩ => ⟨S8x1x64x128x2, .f32⟩
  | .hbm, ⟨23, _⟩ => ⟨S8x128x64x128x2, .f32⟩
  | .hbm, ⟨24, _⟩ => ⟨S8x128x64x128x2, .f32⟩
  | .hbm, ⟨25, _⟩ => ⟨S8x128x64x128x2, .f32⟩
  | .hbm, ⟨26, _⟩ => ⟨S_, .f32⟩
  | .hbm, ⟨27, _⟩ => ⟨S_, .f32⟩
  | .hbm, ⟨28, _⟩ => ⟨S8x128x64x128x2, .f32⟩
  | .hbm, ⟨29, _⟩ => ⟨S8x128x64x128x2, .f32⟩
  | .hbm, ⟨30, _⟩ => ⟨S_, .f32⟩
  | .hbm, ⟨31, _⟩ => ⟨S128x64x128x2, .f32⟩
  | .hbm, ⟨32, _⟩ => ⟨S128x128x64x2, .f32⟩
  | .hbm, ⟨33, _⟩ => ⟨S128x16384, .f32⟩
  | .hbm, ⟨34, _⟩ => ⟨S128x1024, .bf16⟩
  | .hbm, ⟨35, _⟩ => ⟨S128x1024, .f32⟩
  | .hbm, ⟨36, _⟩ => ⟨S1024x16384, .f32⟩
  | .hbm, ⟨37, _⟩ => ⟨S128x16384, .f32⟩
  | .hbm, ⟨38, _⟩ => ⟨S128x16384, .f32⟩
  | .hbm, ⟨39, _⟩ => ⟨S128x16384, .f32⟩
  | .hbm, ⟨40, _⟩ => ⟨S_, .f32⟩
  | .hbm, ⟨41, _⟩ => ⟨S128x16384, .f32⟩
  | .hbm, ⟨42, _⟩ => ⟨S128x16384, .f32⟩
  | .hbm, ⟨43, _⟩ => ⟨S128x16384, .f32⟩
  | .hbm, ⟨44, _⟩ => ⟨S_, .f32⟩
  | .hbm, ⟨45, _⟩ => ⟨S128x16384, .f32⟩
  | .hbm, ⟨46, _⟩ => ⟨S128x16384, .f32⟩
  | .hbm, ⟨47, _⟩ => ⟨S128x16384, .f32⟩
  | .hbm, ⟨48, _⟩ => ⟨S_, .f32⟩
  | .hbm, ⟨49, _⟩ => ⟨S128x16384, .f32⟩
  | .hbm, ⟨50, _⟩ => ⟨S128x16384, .f32⟩
  | .hbm, ⟨51, _⟩ => ⟨S_, .f32⟩
  | .hbm, ⟨52, _⟩ => ⟨S128x16384, .f32⟩
  | .hbm, ⟨53, _⟩ => ⟨S128x16384, .f32⟩
  | .hbm, ⟨54, _⟩ => ⟨S128x16384, .f32⟩
  | .hbm, ⟨55, _⟩ => ⟨S128x16384, .f32⟩
  | .hbm, ⟨56, _⟩ => ⟨S128x1024, .f32⟩
  | .hbm, ⟨57, _⟩ => ⟨S128x1024, .f32⟩
  | _, _ => ⟨S1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel6.lean ====
abbrev S32x4x1024 : Shape := ⟨3, ![32, 4, 1024]⟩
abbrev S32x4x512 : Shape := ⟨3, ![32, 4, 512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S128x1024 : Shape := ⟨2, ![128, 1024]⟩
abbrev S128x512 : Shape := ⟨2, ![128, 512]⟩
abbrev S512x1024 : Shape := ⟨2, ![512, 1024]⟩
abbrev S1x1024 : Shape := ⟨2, ![1, 1024]⟩
abbrev S16x128x128 : Shape := ⟨3, ![16, 128, 128]⟩
abbrev S1024x128 : Shape := ⟨2, ![1024, 128]⟩
abbrev S128 : Shape := ⟨1, ![128]⟩
abbrev S128x1 : Shape := ⟨2, ![128, 1]⟩
abbrev S128x2048 : Shape := ⟨2, ![128, 2048]⟩
abbrev S1x128x128 : Shape := ⟨3, ![1, 128, 128]⟩
abbrev S128x128 : Shape := ⟨2, ![128, 128]⟩

abbrev nBuf : Space → Nat
  | .hbm => 20
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x512, .bf16⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S1024x1024, .bf16⟩
  | .hbm, ⟨8, _⟩ => ⟨S128x1024, .f32⟩
  | .hbm, ⟨9, _⟩ => ⟨S128x512, .f32⟩
  | .hbm, ⟨10, _⟩ => ⟨S128x512, .bf16⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S1024x2048, .bf16⟩
  | .hbm, ⟨15, _⟩ => ⟨S16x128x128, .f32⟩
  | .hbm, ⟨16, _⟩ => ⟨S16x128x128, .bf16⟩
  | .hbm, ⟨17, _⟩ => ⟨S128x1024, .f32⟩
  | .hbm, ⟨18, _⟩ => ⟨S1024x128, .bf16⟩
  | .hbm, ⟨19, _⟩ => ⟨S16x128x128, .f32⟩
  | .local _ .vmem, ⟨0, _⟩ => ⟨S128x1024, .f32⟩
  | .local _ .vmem, ⟨1, _⟩ => ⟨S128x512, .f32⟩
  | .local _ .vmem, ⟨2, _⟩ => ⟨S128x512, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1024x2048, .bf16⟩
  | .local _ .vmem, ⟨7, _⟩ => ⟨S16x128x128, .bf16⟩
  | .local _ .vmem, ⟨8, _⟩ => ⟨S128x1024, .f32⟩
  | .local _ .vmem, ⟨9, _⟩ => ⟨S1024x128, .bf16⟩
  | .local _ .vmem, ⟨10, _⟩ => ⟨S16x128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S16x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference6Ideal.lean ====
abbrev S32x4x1024 : Shape := ⟨3, ![32, 4, 1024]⟩
abbrev S32x4x512 : Shape := ⟨3, ![32, 4, 512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S128x1024 : Shape := ⟨2, ![128, 1024]⟩
abbrev S128x2048 : Shape := ⟨2, ![128, 2048]⟩
abbrev S128x8x2x128 : Shape := ⟨4, ![128, 8, 2, 128]⟩
abbrev S16x128x128 : Shape := ⟨3, ![16, 128, 128]⟩
abbrev S1024x128 : Shape := ⟨2, ![1024, 128]⟩

abbrev nBuf : Space → Nat
  | .hbm => 37
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x512, .bf16⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S32x4x512, .f32⟩
  | .hbm, ⟨8, _⟩ => ⟨S32x4x1024, .f32⟩
  | .hbm, ⟨9, _⟩ => ⟨S32x4x1024, .f32⟩
  | .hbm, ⟨10, _⟩ => ⟨S32x4x1024, .f32⟩
  | .hbm, ⟨11, _⟩ => ⟨S32x4x1024, .f32⟩
  | .hbm, ⟨12, _⟩ => ⟨S_, .f32⟩
  | .hbm, ⟨13, _⟩ => ⟨S32x4, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S_, .f32⟩
  | .hbm, ⟨19, _⟩ => ⟨S32x4x1, .f32⟩
  | .hbm, ⟨20, _⟩ => ⟨S32x4x1, .f32⟩
  | .hbm, ⟨21, _⟩ => ⟨S32x4x1, .f32⟩
  | .hbm, ⟨22, _⟩ => ⟨S32x4x1024, .f32⟩
  | .hbm, ⟨23, _⟩ => ⟨S32x4x1024, .f32⟩
  | .hbm, ⟨24, _⟩ => ⟨S1x1x1024, .f32⟩
  | .hbm, ⟨25, _⟩ => ⟨S32x4x1024, .f32⟩
  | .hbm, ⟨26, _⟩ => ⟨S32x4x1024, .f32⟩
  | .hbm, ⟨27, _⟩ => ⟨S128x1024, .f32⟩
  | .hbm, ⟨28, _⟩ => ⟨S128x2048, .f32⟩
  | .hbm, ⟨29, _⟩ => ⟨S128x8x2x128, .f32⟩
  | .hbm, ⟨30, _⟩ => ⟨S8x2x128x128, .f32⟩
  | .hbm, ⟨31, _⟩ => ⟨S128x8x2x128, .f32⟩
  | .hbm, ⟨32, _⟩ => ⟨S8x2x128x128, .f32⟩
  | .hbm, ⟨33, _⟩ => ⟨S16x128x128, .f32⟩
  | .hbm, ⟨34, _⟩ => ⟨S128x1024, .f32⟩
  | .hbm, ⟨35, _⟩ => ⟨S1024x128, .f32⟩
  | .hbm, ⟨36, _⟩ => ⟨S1024x128, .bf16⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.FloatFrame.lean ====
module

public import proofs.«01_k».proof.Proof.FloatRun
public import proofs.«01_k».proof.Defs
public import Idealize.ShloMosaic.Init

@[expose] public section

noncomputable section

namespace Cert.Proof

open Idealize.ShloMosaic Idealize.SL.Sem

/-- The kernel runs on machine floats, its arguments and counters as at the start. -/
theorem frame_kernel : Cert.quiescent_Kernel := fun m ρ _ =>
  θ_run_and
    (Cert.Kernel.Gen.frame_of m ρ (Cert.Kernel.Body.dats m) (Cert.Kernel.Body.A_eq m)
      ((θ_run Cert.Kernel.defs _ _).mono (fun _ h => h.1) (Cert.Kernel.Body.run_all m ρ)))
    ((θ_run Cert.Kernel.defs _ _).mono (fun _ h => h.2) (Cert.Kernel.Body.run_all m ρ))

end Cert.Proof

end
-- ==== Proof.Split.lean ====
module

public import proofs.«01_k».proof.Proof.Gen.KernelIdeal.Frame
public import proofs.«01_k».proof.Proof.Gen.KernelIdeal.Loops
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The rebuilding of the two bias tiles, which the kernel does where `k0_cond1` holds. -/
def biasBlk (i : grid0.Coords) (arg0 : BitVec 32) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) (k0_h1 : k0_cond1 i = 1#1) :
    Prog (TpuEff nD τ sig (Elt F) Λ₀ .tc) PUnit := do
  let ⟨v185, v186, v189, v228, v229⟩ : Σ' (v185 : IVec S512x512 32) (v186 : IVec S512x512 32) (v189 : IVec S512x512 32) (v228 : FVec F S512x512 .f32), IVec S512x512 32 ← k0_part1 i arg3 harg3 arg4 harg4 arg5 harg5 arg6 harg6 arg7 harg7 arg8 harg8 arg9 harg9 arg10 harg10 arg11 harg11 arg12 harg12 arg0 k0_h1
  let ⟨v270, v272, v274⟩ : Σ' (v270 : FVec F S512x512 .f32) (v272 : IVec S512x512 1), Elt F .f32 ← k0_part2 i arg3 harg3 arg4 harg4 arg5 harg5 arg6 harg6 arg7 harg7 arg8 harg8 arg9 harg9 arg10 harg10 arg11 harg11 arg12 harg12 arg0 k0_h1 v189 v228 v229
  let ⟨v318, v319⟩ : Σ' (v318 : FVec F S512x512 .f32), IVec S512x512 32 ← k0_part3 i arg3 harg3 arg4 harg4 arg5 harg5 arg6 harg6 arg7 harg7 arg8 harg8 arg9 harg9 arg10 harg10 arg11 harg11 arg12 harg12 arg0 k0_h1 v189 v270 v272 v274
  let ⟨v360, v362, v364⟩ : Σ' (v360 : FVec F S512x512 .f32) (v362 : IVec S512x512 1), Elt F .f32 ← k0_part4 i arg3 harg3 arg4 harg4 arg5 harg5 arg6 harg6 arg7 harg7 arg8 harg8 arg9 harg9 arg10 harg10 arg11 harg11 arg12 harg12 arg0 k0_h1 v189 v318 v319
  let ⟨v388, v403, v405⟩ : Σ' (v388 : IVec S512x512 32) (v403 : FVec F S512x512 .f32), IVec S512x512 1 ← k0_part5 i arg3 harg3 arg4 harg4 arg5 harg5 arg6 harg6 arg7 harg7 arg8 harg8 arg9 harg9 arg10 harg10 arg11 harg11 arg12 harg12 arg0 k0_h1 v185 v186 v189 v360 v362 v364
  let ⟨v451, c31_i32_89⟩ : Σ' (v451 : FVec F S512x512 .f32), BitVec 32 ← k0_part6 i arg3 harg3 arg4 harg4 arg5 harg5 arg6 harg6 arg7 harg7 arg8 harg8 arg9 harg9 arg10 harg10 arg11 harg11 arg12 harg12 arg0 k0_h1 v388 v403 v405
  let ⟨v493, v495⟩ : Σ' (v493 : FVec F S512x512 .f32), IVec S512x512 1 ← k0_part7 i arg3 harg3 arg4 harg4 arg5 harg5 arg6 harg6 arg7 harg7 arg8 harg8 arg9 harg9 arg10 harg10 arg11 harg11 arg12 harg12 arg0 k0_h1 v388 v451 c31_i32_89
  let ⟨v541, c6_i32_119⟩ : Σ' (v541 : FVec F S512x512 .f32), BitVec 32 ← k0_part8 i arg3 harg3 arg4 harg4 arg5 harg5 arg6 harg6 arg7 harg7 arg8 harg8 arg9 harg9 arg10 harg10 arg11 harg11 arg12 harg12 arg0 k0_h1 v388 v493 v495
  k0_part9 i arg3 harg3 arg4 harg4 arg5 harg5 arg6 harg6 arg7 harg7 arg8 harg8 arg9 harg9 arg10 harg10 arg11 harg11 arg12 harg12 arg0 k0_h1 v388 v541 c6_i32_119
  pure ⟨⟩

/-- The copying of the key and value blocks, which the kernel does at the first query block of a sequence. -/
def copyBlk (i : grid0.Coords) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) :
    Prog (TpuEff nD τ sig (Elt F) Λ₀ .tc) PUnit := do
  let v185 : Vec F S2048x128 .f32 ← Prog.lift (.load arg5 (Rect.unit (s := S2048x128) ![0, 0] S2048x128.size inb_S2048x128_S2048x128_0_0).toLoadRect (View.loadsAt_vmem h_S2048x128))
  let v188 : Vec F S2048x128 .bf16 ← Prog.lift (.load arg11 (Rect.unit (s := S2048x128) ![0, 0] S2048x128.size inb_S2048x128_S2048x128_0_0).toLoadRect (View.loadsAt_vmem h_S2048x128))
  Prog.lift (.store arg11 (Rect.unit (s := S2048x128) ![0, 0] S2048x128.size inb_S2048x128_S2048x128_0_0) (k0_pay20 v185) Finset.univ (View.stores_vmem h_S2048x128 (harg11.storeExact_slice rfl _ packedbf16_S2048x128_S2048x128_0_0) (fun _ => rfl)) (.inl rfl))
  let v191 : Vec F S2048x128 .f32 ← Prog.lift (.load arg6 (Rect.unit (s := S2048x128) ![0, 0] S2048x128.size inb_S2048x128_S2048x128_0_0).toLoadRect (View.loadsAt_vmem h_S2048x128))
  let v194 : Vec F S2048x128 .bf16 ← Prog.lift (.load arg12 (Rect.unit (s := S2048x128) ![0, 0] S2048x128.size inb_S2048x128_S2048x128_0_0).toLoadRect (View.loadsAt_vmem h_S2048x128))
  Prog.lift (.store arg12 (Rect.unit (s := S2048x128) ![0, 0] S2048x128.size inb_S2048x128_S2048x128_0_0) (k0_pay21 v191) Finset.univ (View.stores_vmem h_S2048x128 (harg12.storeExact_slice rfl _ packedbf16_S2048x128_S2048x128_0_0) (fun _ => rfl)) (.inl rfl))
  pure ⟨⟩

/-- What the first part does after the two conditionals. -/
def restBlk (i : grid0.Coords) (arg2 : BitVec 32) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) :
    Prog (TpuEff nD τ sig (Elt F) Λ₀ .tc) ((Σ' (arg2 : BitVec 32) (v20 : FVec F S1024x128 .bf16) (v22 : Elt F .f32) (v23 : FVec F S512x1 .f32) (v24 : FVec F S512x1 .f32) (v25 : FVec F S512x128 .f32) (v27 : FVec F S512x512 .f32) (v31 : Vec F S512x128 .bf16), Vec F S512x128 .bf16)) := do
  let v8 : Vec F S512x128 .f32 ← Prog.lift (.load arg4 (Rect.unit (s := S512x128) ![0, 0] S512x128.size inb_S512x128_S512x128_0_0).toLoadRect (View.loadsAt_vmem h_S512x128))
  let v22 : Elt F .f32 ← smemLoad arg3 (Rect.unit (s := S32x4) (k0_off33 i) S1x1.size (k0_off33_inb i)) numel1_S1x1 rfl
  let v26 : Vec F S1x512x512 .f32 ← Prog.lift (.load arg10 (Rect.unit (s := S2x512x512) ![0, 0, 0] S1x512x512.size inb_S2x512x512_S1x512x512_0_0_0).toLoadRect (View.loadsAt_vmem h_S1x512x512))
  let v31 : Vec F S512x128 .bf16 ← Prog.lift (.load arg11 (Rect.unit (s := S2048x128) (k0_off34 i) S512x128.size (k0_off34_inb i)).toLoadRect (View.loadsAt_vmem h_S512x128))
  let v33 : Vec F S512x128 .bf16 ← Prog.lift (.load arg12 (Rect.unit (s := S2048x128) (k0_off34 i) S512x128.size (k0_off34_inb i)).toLoadRect (View.loadsAt_vmem h_S512x128))
  pure ⟨arg2, k0_pay22 v8, v22, k0_pay23 (F := F), k0_pay24 (F := F), k0_pay25 (F := F), k0_pay26 v26, v31, v33⟩

/-- The condition of the copying. -/
abbrev copyCond (i : grid0.Coords) : Prop := (Scalar.cmpi .ne (Scalar.extui (Scalar.cmpi .eq (BitVec.ofNat 32 (i 2).val) 0#32)) 0#32) = 1#1

set_option maxRecDepth 65536 in
/-- The first part is its two conditionals one after the other, then the rest. -/
theorem part10_split (i : grid0.Coords) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) :
    k0_part10 (F := F) i arg3 harg3 arg4 harg4 arg5 harg5 arg6 harg6 arg7 harg7 arg8 harg8 arg9 harg9 arg10 harg10 arg11 harg11 arg12 harg12 =
      ((if h : k0_cond1 i = 1#1 then biasBlk i (BitVec.ofNat 32 (i 0).val) arg3 harg3 arg4 harg4 arg5 harg5 arg6 harg6 arg7 harg7 arg8 harg8 arg9 harg9 arg10 harg10 arg11 harg11 arg12 harg12 h else pure ⟨⟩) >>= fun _ =>
        (if copyCond i then copyBlk i arg3 harg3 arg4 harg4 arg5 harg5 arg6 harg6 arg7 harg7 arg8 harg8 arg9 harg9 arg10 harg10 arg11 harg11 arg12 harg12 else pure ⟨⟩) >>= fun _ => restBlk i (BitVec.ofNat 32 (i 2).val) arg3 harg3 arg4 harg4 arg5 harg5 arg6 harg6 arg7 harg7 arg8 harg8 arg9 harg9 arg10 harg10 arg11 harg11 arg12 harg12) := by
  rw [k0_part10_eq_skeleton]
  unfold k0_part10_skel biasBlk copyBlk restBlk
  by_cases h1 : k0_cond1 i = 1#1 <;> by_cases h2 : copyCond i
  · rw [dif_pos h1, dif_pos h1, dif_pos h2, if_pos h2]; rfl
  · rw [dif_pos h1, dif_pos h1, dif_neg h2, if_neg h2]; rfl
  · rw [dif_neg h1, dif_neg h1, dif_pos h2, if_pos h2]; rfl
  · rw [dif_neg h1, dif_neg h1, dif_neg h2, if_neg h2]; rfl

/-- The body after its two conditionals: the attention of one query block, from the carried tiles. -/
def tailBlk (i : grid0.Coords) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) :
    Prog (TpuEff nD τ sig (Elt F) Λ₀ .tc) PUnit := do
  let ⟨arg2, v20, v22, v23, v24, v25, v27, v31, v33⟩ : Σ' (arg2 : BitVec 32) (v20 : FVec F S1024x128 .bf16) (v22 : Elt F .f32) (v23 : FVec F S512x1 .f32) (v24 : FVec F S512x1 .f32) (v25 : FVec F S512x128 .f32) (v27 : FVec F S512x512 .f32) (v31 : Vec F S512x128 .bf16), Vec F S512x128 .bf16 ← restBlk i (BitVec.ofNat 32 (i 2).val) arg3 harg3 arg4 harg4 arg5 harg5 arg6 harg6 arg7 harg7 arg8 harg8 arg9 harg9 arg10 harg10 arg11 harg11 arg12 harg12
  let ⟨v39, v48, v54, v63, v70, v74, v76, v78, v79, cst_25, cst_26⟩ : Σ' (v39 : FVec F S512x1 .f32) (v48 : FVec F S512x1 .f32) (v54 : FVec F S512x1 .f32) (v63 : FVec F S512x1 .f32) (v70 : FVec F S512x128 .f32) (v74 : FVec F S512x128 .f32) (v76 : BitVec 32) (v78 : FVec F S512x512 .f32) (v79 : BitVec 1) (cst_25 : F .f32), F .f32 ← k0_part11 i arg3 harg3 arg4 harg4 arg5 harg5 arg6 harg6 arg7 harg7 arg8 harg8 arg9 harg9 arg10 harg10 arg11 harg11 arg12 harg12 arg2 v20 v23 v24 v25 v27 v31 v33
  let ⟨v94, v103, v109, v118, v125, v129, c1_i32_36⟩ : Σ' (v94 : FVec F S512x1 .f32) (v103 : FVec F S512x1 .f32) (v109 : FVec F S512x1 .f32) (v118 : FVec F S512x1 .f32) (v125 : FVec F S512x128 .f32) (v129 : FVec F S512x128 .f32), BitVec 32 ← k0_part12 i arg3 harg3 arg4 harg4 arg5 harg5 arg6 harg6 arg7 harg7 arg8 harg8 arg9 harg9 arg10 harg10 arg11 harg11 arg12 harg12 v20 v39 v48 v54 v63 v70 v74 v76 v78 v79 cst_25 cst_26
  let ⟨v166, v174⟩ : Σ' (v166 : FVec F S512x128 .f32), FVec F S512x1 .f32 ← k0_part13 i arg3 harg3 arg4 harg4 arg5 harg5 arg6 harg6 arg7 harg7 arg8 harg8 arg9 harg9 arg10 harg10 arg11 harg11 arg12 harg12 arg2 v20 v22 v94 v103 v109 v118 v125 v129 c1_i32_36
  let v177 : Vec F S1x128 .f32 ← Prog.lift (.load arg8 (Rect.unit (s := S1x128) ![0, 0] S1x128.size inb_S1x128_S1x128_0_0).toLoadRect (View.loadsAt_vmem h_S1x128))
  let v184 : Vec F S512x128 .bf16 ← Prog.lift (.load arg9 (Rect.unit (s := S512x128) ![0, 0] S512x128.size inb_S512x128_S512x128_0_0).toLoadRect (View.loadsAt_vmem h_S512x128))
  Prog.lift (.store arg9 (Rect.unit (s := S512x128) ![0, 0] S512x128.size inb_S512x128_S512x128_0_0) (k0_pay1 v166 v174 v177) Finset.univ (View.stores_vmem h_S512x128 (harg9.storeExact_slice rfl _ packedbf16_S512x128_S512x128_0_0) (fun _ => rfl)) (.inl rfl))
  pure ⟨⟩

set_option maxRecDepth 65536 in
/-- The body is its two conditionals one after the other, then the attention of the block. -/
theorem body_split (i : grid0.Coords) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) :
    cc0__attn_prompt_kernel (F := F) i arg3 harg3 arg4 harg4 arg5 harg5 arg6 harg6 arg7 harg7 arg8 harg8 arg9 harg9 arg10 harg10 arg11 harg11 arg12 harg12 =
      ((if h : k0_cond1 i = 1#1 then biasBlk i (BitVec.ofNat 32 (i 0).val) arg3 harg3 arg4 harg4 arg5 harg5 arg6 harg6 arg7 harg7 arg8 harg8 arg9 harg9 arg10 harg10 arg11 harg11 arg12 harg12 h else pure ⟨⟩) >>= fun _ =>
        (if copyCond i then copyBlk i arg3 harg3 arg4 harg4 arg5 harg5 arg6 harg6 arg7 harg7 arg8 harg8 arg9 harg9 arg10 harg10 arg11 harg11 arg12 harg12 else pure ⟨⟩) >>= fun _ => tailBlk i arg3 harg3 arg4 harg4 arg5 harg5 arg6 harg6 arg7 harg7 arg8 harg8 arg9 harg9 arg10 harg10 arg11 harg11 arg12 harg12) := by
  rw [cc0__attn_prompt_kernel_eq_skeleton]
  unfold cc0__attn_prompt_kernel_skel tailBlk
  rw [part10_split]
  refine (Prog.bind_assoc _ _ _).trans ?_
  exact congrArg (Prog.bind _) (funext fun _ => Prog.bind_assoc _ _ _)

end Cert.KernelIdeal.Body

end
-- ==== Proof.BiasRun.lean ====
module

public import proofs.«01_k».proof.Proof.Split
public import proofs.«01_k».proof.Proof.Gen.KernelIdeal.Loops
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the rebuilding stores, with its run: the table is read, the tiles' contents are the listed pieces. -/
def biasRun (c : Dev nD) (i : grid0.Coords) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) (h : k0_cond1 i = 1#1) (x0 : Vec F S32x4 .f32) :
    { L : List (View.Piece (Elt F) S2x512x512 .f32) //
      ∀ (E : Set ℕ) (K : PUnit → sProp 𝕄),
        iprop(owns (c : Thread nD τ) arg3 fullShare x0 ∗ (∃ d, owns (c : Thread nD τ) arg10 fullShare d)
            ∗ (iprop(owns (c : Thread nD τ) arg3 fullShare x0 ∗ (∃ f, arg10.view.loc (c : Thread nD τ) ↦[arg10.view.set]{fullShare} arg10.view.writes (Elt F) f L)) -∗ K ⟨⟩))
          ⊢ wp frame (wpE (defs₀ (F := F)) Variants.none c none) E (biasBlk i (BitVec.ofNat 32 (i 0).val) arg3 harg3 arg4 harg4 arg5 harg5 arg6 harg6 arg7 harg7 arg8 harg8 arg9 harg9 arg10 harg10 arg11 harg11 arg12 harg12 h) K } := by
  refine ⟨?_, fun E K => ?run⟩
  case run =>
    unfold biasBlk
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%ds0, %fs0, -, HS0⟩, Hk⟩
    obtain rfl := harg3.eq_unread hf0
    sl_exec
    sl_step
    iapply Hk
    isplitl [H0]
    · iexists _; isplitr; · ipureintro; exact harg3.read_unread _
      iexact H0
    iexists _; iexact HS0

/-- What the copying stores, with its run. -/
def copyRun (c : Dev nD) (i : grid0.Coords) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) (x2 x3 : Vec F S2048x128 .f32) :
    Σ' (LS1 : List (View.Piece (Elt F) S2048x128 .bf16)), { LS2 : List (View.Piece (Elt F) S2048x128 .bf16) //
      ∀ (E : Set ℕ) (K : PUnit → sProp 𝕄),
        iprop(owns (c : Thread nD τ) arg5 fullShare x2 ∗ owns (c : Thread nD τ) arg6 fullShare x3 ∗ (∃ d, owns (c : Thread nD τ) arg11 fullShare d) ∗ (∃ d, owns (c : Thread nD τ) arg12 fullShare d)
            ∗ (iprop(owns (c : Thread nD τ) arg5 fullShare x2 ∗ owns (c : Thread nD τ) arg6 fullShare x3 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (copyBlk i arg3 harg3 arg4 harg4 arg5 harg5 arg6 harg6 arg7 harg7 arg8 harg8 arg9 harg9 arg10 harg10 arg11 harg11 arg12 harg12) K } := by
  refine ⟨?_, ?_, fun E K => ?run⟩
  case run =>
    unfold copyBlk
    unfold owns
    iintro ⟨⟨%f2, %hf2, H2⟩, ⟨%f3, %hf3, H3⟩, ⟨%ds1, %fs1, -, HS1⟩, ⟨%ds2, %fs2, -, HS2⟩, Hk⟩
    obtain rfl := harg5.eq_unread hf2; obtain rfl := harg6.eq_unread hf3
    sl_exec
    sl_step
    iapply Hk
    isplitl [H2]
    · iexists _; isplitr; · ipureintro; exact harg5.read_unread _
      iexact H2
    isplitl [H3]
    · iexists _; isplitr; · ipureintro; exact harg6.read_unread _
      iexact H3
    isplitl [HS1]; · iexists _; iexact HS1
    iexists _; iexact HS2

end Cert.KernelIdeal.Body

end
-- ==== Proof.TailRun.lean ====
module

public import proofs.«01_k».proof.Proof.Split
public import proofs.«01_k».proof.Proof.Gen.KernelIdeal.Loops
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- What the attention of one block stores, with its run from the tiles' contents. -/
def tailRun (c : Dev nD) (i : grid0.Coords) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) (x0 : Vec F S32x4 .f32) (x1 : Vec F S512x128 .f32)
    (x4 : Vec F S4x64 .f32) (x5 : Vec F S1x128 .f32) (y0 : Vec F S2x512x512 .f32) (y1 y2 : Vec F S2048x128 .bf16) :
    { L : List (View.Piece (Elt F) S512x128 .bf16) //
      ∀ (E : Set ℕ) (K : PUnit → sProp 𝕄),
        iprop(owns (c : Thread nD τ) arg3 fullShare x0 ∗ owns (c : Thread nD τ) arg4 fullShare x1 ∗ owns (c : Thread nD τ) arg7 fullShare x4 ∗ owns (c : Thread nD τ) arg8 fullShare x5 ∗ (∃ d, owns (c : Thread nD τ) arg9 fullShare d) ∗ owns (c : Thread nD τ) arg10 fullShare y0 ∗ owns (c : Thread nD τ) arg11 fullShare y1 ∗ owns (c : Thread nD τ) arg12 fullShare y2
            ∗ (iprop(owns (c : Thread nD τ) arg3 fullShare x0 ∗ owns (c : Thread nD τ) arg4 fullShare x1 ∗ owns (c : Thread nD τ) arg7 fullShare x4 ∗ owns (c : Thread nD τ) arg8 fullShare x5 ∗ owns (c : Thread nD τ) arg10 fullShare y0 ∗ owns (c : Thread nD τ) arg11 fullShare y1 ∗ owns (c : Thread nD τ) arg12 fullShare y2 ∗ (∃ f, arg9.view.loc (c : Thread nD τ) ↦[arg9.view.set]{fullShare} arg9.view.writes (Elt F) f L)) -∗ K ⟨⟩))
          ⊢ wp frame (wpE (defs₀ (F := F)) Variants.none c none) E (tailBlk i arg3 harg3 arg4 harg4 arg5 harg5 arg6 harg6 arg7 harg7 arg8 harg8 arg9 harg9 arg10 harg10 arg11 harg11 arg12 harg12) K } := by
  refine ⟨?_, fun E K => ?run⟩
  case run =>
    unfold tailBlk restBlk
    simp only [k0_part11_eq_skeleton, k0_part12_eq_skeleton, k0_part13_eq_skeleton]
    unfold owns
    iintro ⟨⟨%f0, %hf0, H0⟩, ⟨%f1, %hf1, H1⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg7.eq_unread hf4; obtain rfl := harg8.eq_unread hf5
    obtain rfl := harg10.eq_unread hfs0; obtain rfl := harg11.eq_unread hfs1; obtain rfl := harg12.eq_unread hfs2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg10.read_unread _
      iexact HS0
    isplitl [HS1]
    · iexists _; isplitr; · ipureintro; exact harg11.read_unread _
      iexact HS1
    isplitl [HS2]
    · iexists _; isplitr; · ipureintro; exact harg12.read_unread _
      iexact HS2
    iexists _; iexact H6

end Cert.KernelIdeal.Body

end
-- ==== Proof.Run.lean ====
module

public import proofs.«01_k».proof.Proof.BiasRun
public import proofs.«01_k».proof.Proof.TailRun
public import proofs.«01_k».proof.Proof.Gen.KernelIdeal.Points
public import proofs.«01_k».proof.Proof.Gen.KernelIdeal.Launch
public import Idealize.ShloMosaic.Lib.Pipeline.FrameBody
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points -/

/-- The coordinates of point `t`: head pair, sequence, query block. -/
theorem co0 (t : Fin cfg0.N) : (grid0.coords t 0).val = t.val / 64 % 4 := Pipeline.Grid.coords_val t 0 (by decide) rfl
theorem co1 (t : Fin cfg0.N) : (grid0.coords t 1).val = t.val / 4 % 16 := Pipeline.Grid.coords_val t 1 (by decide) rfl
theorem co2 (t : Fin cfg0.N) : (grid0.coords t 2).val = t.val % 4 := by
  have h : (grid0.coords t 2).val = t.val / 1 % 4 := Pipeline.Grid.coords_val t 2 (by decide) rfl
  rwa [Nat.div_one] at h

/-- The tiles are rebuilt at the first point of a head pair, -/
theorem bias_iff (t : Fin cfg0.N) : k0_cond1 (grid0.coords t) = 1#1 ↔ t.val % 64 = 0 := by
  have ht : t.val < 256 := Nat.lt_of_lt_of_eq t.isLt N_0
  have e0 := co0 t
  have e1 := co1 t
  have e2 := co2 t
  simp only [k0_cond1, e0, e1, e2]
  word_cmp

/-- and the blocks copied at the first point of a sequence. -/
theorem copy_iff (t : Fin cfg0.N) : copyCond (grid0.coords t) ↔ t.val % 4 = 0 := by
  have ht : t.val < 256 := Nat.lt_of_lt_of_eq t.isLt N_0
  have e2 := co2 t
  simp only [copyCond, e2]
  word_cmp

/-- The first point of `t`'s head pair, -/
def pt64 (t : Fin cfg0.N) : Fin cfg0.N := ⟨t.val / 64 * 64, lt_of_le_of_lt (Nat.div_mul_le_self _ _) t.isLt⟩
/-- and of its sequence. -/
def pt4 (t : Fin cfg0.N) : Fin cfg0.N := ⟨t.val / 4 * 4, lt_of_le_of_lt (Nat.div_mul_le_self _ _) t.isLt⟩

theorem pt64_mod (t : Fin cfg0.N) : (pt64 t).val % 64 = 0 := Nat.mul_mod_left _ _
theorem pt64_of (t : Fin cfg0.N) (h : t.val % 64 = 0) : pt64 t = t := Fin.ext (Nat.div_mul_cancel (Nat.dvd_of_mod_eq_zero h))
theorem pt4_of (t : Fin cfg0.N) (h : t.val % 4 = 0) : pt4 t = t := Fin.ext (Nat.div_mul_cancel (Nat.dvd_of_mod_eq_zero h))

/-! ## The buffers -/

abbrev st0 (t : Fin cfg0.N) : Memref sig .tc .smem S32x4 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S512x128 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S2048x128 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S2048x128 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S4x64 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S1x128 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S512x128 .bf16 := win0_6.stage (cfg0.slots t 6)
abbrev hst6 (t : Fin cfg0.N) : (st6 t).IsWhole := hstage0_6 ((cfg0.slots t 6).cast nbuf0_6)
abbrev sc0 : Memref sig .tc .vmem S2x512x512 .f32 := Memref.whole cc0_scratch0
abbrev sc1 : Memref sig .tc .vmem S2048x128 .bf16 := Memref.whole cc0_scratch1
abbrev sc2 : Memref sig .tc .vmem S2048x128 .bf16 := Memref.whole cc0_scratch2

/-- The rest of the launch's resources, with the carried scratch named. -/
theorem launch_rest (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## What the tiles and the result hold -/

/-- The rebuilding's pieces at the first point of a head pair. -/
def biasPieces (c : Dev nD) (t : Fin cfg0.N) (x0 : Vec F S32x4 .f32) (h : k0_cond1 (grid0.coords t) = 1#1) :=
  biasRun c (grid0.coords t) (st0 t) (hst0 t) (st1 t) (hst1 t) (st2 t) (hst2 t) (st3 t) (hst3 t) (st4 t) (hst4 t) (st5 t) (hst5 t) (st6 t) (hst6 t) sc0 (Memref.isWhole_whole _) sc1 (Memref.isWhole_whole _) sc2 (Memref.isWhole_whole _) h x0

/-- The two bias tiles as the first point of a head pair builds them. -/
def biasOf (c : Dev nD) (s : Fin cfg0.N) : Vec F S2x512x512 .f32 :=
  if h : k0_cond1 (grid0.coords s) = 1#1 then View.canon (biasPieces c s (iblk m c 0 s) h).1 else View.canon []

/-- The two bias tiles while point `t` runs. -/
def biasAt (c : Dev nD) (t : Fin cfg0.N) : Vec F S2x512x512 .f32 := biasOf m c (pt64 t)

/-- The copying's pieces at point `t`. -/
def copyPieces (c : Dev nD) (t : Fin cfg0.N) (x2 x3 : Vec F S2048x128 .f32) :=
  copyRun c (grid0.coords t) (st0 t) (hst0 t) (st1 t) (hst1 t) (st2 t) (hst2 t) (st3 t) (hst3 t) (st4 t) (hst4 t) (st5 t) (hst5 t) (st6 t) (hst6 t) sc0 (Memref.isWhole_whole _) sc1 (Memref.isWhole_whole _) sc2 (Memref.isWhole_whole _) x2 x3

/-- The keys as the first point of a sequence copies them, -/
def keyOf (c : Dev nD) (s : Fin cfg0.N) : Vec F S2048x128 .bf16 := View.canon (copyPieces c s (iblk m c 2 s) (iblk m c 3 s)).1
/-- and the values. -/
def valOf (c : Dev nD) (s : Fin cfg0.N) : Vec F S2048x128 .bf16 := View.canon (copyPieces c s (iblk m c 2 s) (iblk m c 3 s)).2.1
/-- The keys while point `t` runs, -/
def keyAt (c : Dev nD) (t : Fin cfg0.N) : Vec F S2048x128 .bf16 := keyOf m c (pt4 t)
/-- and the values. -/
def valAt (c : Dev nD) (t : Fin cfg0.N) : Vec F S2048x128 .bf16 := valOf m c (pt4 t)

/-- The attention's pieces at point `t`. -/
def tailPieces (c : Dev nD) (t : Fin cfg0.N) (x0 : Vec F S32x4 .f32) (x1 : Vec F S512x128 .f32)
    (x4 : Vec F S4x64 .f32) (x5 : Vec F S1x128 .f32) (y0 : Vec F S2x512x512 .f32) (y1 y2 : Vec F S2048x128 .bf16) :=
  tailRun c (grid0.coords t) (st0 t) (hst0 t) (st1 t) (hst1 t) (st2 t) (hst2 t) (st3 t) (hst3 t) (st4 t) (hst4 t) (st5 t) (hst5 t) (st6 t) (hst6 t) sc0 (Memref.isWhole_whole _) sc1 (Memref.isWhole_whole _) sc2 (Memref.isWhole_whole _) x0 x1 x4 x5 y0 y1 y2

/-- What point `t` leaves in the result's block. -/
def outAt (c : Dev nD) (t : Fin cfg0.N) : Vec F S512x128 .bf16 :=
  View.canon (tailPieces c t (iblk m c 0 t) (iblk m c 1 t) (iblk m c 4 t) (iblk m c 5 t) (biasAt m c t) (keyAt m c t) (valAt m c t)).1

theorem bias_cover (c : Dev nD) (t : Fin cfg0.N) (x0) (h) (y : S2x512x512.Idx) :
    ∃ pc ∈ (biasPieces (F := F) c t x0 h).1, y ∈ pc.1.set :=
  View.cover_of_tiledL (biasPieces c t x0 h).1 S1x512x512.size (by sl_kernel_rfl) y
theorem key_cover (c : Dev nD) (t : Fin cfg0.N) (x2 x3) (y : S2048x128.Idx) :
    ∃ pc ∈ (copyPieces (F := F) c t x2 x3).1, y ∈ pc.1.set :=
  View.cover_of_tiledL (copyPieces c t x2 x3).1 S2048x128.size (by sl_kernel_rfl) y
theorem val_cover (c : Dev nD) (t : Fin cfg0.N) (x2 x3) (y : S2048x128.Idx) :
    ∃ pc ∈ (copyPieces (F := F) c t x2 x3).2.1, y ∈ pc.1.set :=
  View.cover_of_tiledL (copyPieces c t x2 x3).2.1 S2048x128.size (by sl_kernel_rfl) y
theorem out_cover (c : Dev nD) (t : Fin cfg0.N) (x0 x1 x4 x5 y0 y1 y2) (y : S512x128.Idx) :
    ∃ pc ∈ (tailPieces (F := F) c t x0 x1 x4 x5 y0 y1 y2).1, y ∈ pc.1.set :=
  View.cover_of_tiledL (tailPieces c t x0 x1 x4 x5 y0 y1 y2).1 S512x128.size (by sl_kernel_rfl) y

theorem biasAt_first (c : Dev nD) (t : Fin cfg0.N) (h : k0_cond1 (grid0.coords t) = 1#1) :
    biasAt m c t = View.canon (biasPieces c t (iblk m c 0 t) h).1 := by
  have e1 : pt64 t = t := pt64_of t ((bias_iff t).mp h)
  unfold biasAt biasOf; rw [e1, dif_pos h]
theorem keyAt_first (c : Dev nD) (t : Fin cfg0.N) (h : t.val % 4 = 0) :
    keyAt m c t = View.canon (copyPieces c t (iblk m c 2 t) (iblk m c 3 t)).1 := by
  unfold keyAt; rw [pt4_of t h]; rfl
theorem valAt_first (c : Dev nD) (t : Fin cfg0.N) (h : t.val % 4 = 0) :
    valAt m c t = View.canon (copyPieces c t (iblk m c 2 t) (iblk m c 3 t)).2.1 := by
  unfold valAt; rw [pt4_of t h]; rfl
theorem biasAt_step (c : Dev nD) (s t : Fin cfg0.N) (hs : t.val = s.val + 1) (h : ¬ t.val % 64 = 0) : biasAt m c s = biasAt m c t := by
  have e : pt64 s = pt64 t := Fin.ext (by show s.val / 64 * 64 = t.val / 64 * 64; omega)
  exact congrArg (biasOf m c) e
theorem keyAt_step (c : Dev nD) (s t : Fin cfg0.N) (hs : t.val = s.val + 1) (h : ¬ t.val % 4 = 0) : keyAt m c s = keyAt m c t := by
  have e : pt4 s = pt4 t := Fin.ext (by show s.val / 4 * 4 = t.val / 4 * 4; omega)
  exact congrArg (keyOf m c) e
theorem valAt_step (c : Dev nD) (s t : Fin cfg0.N) (hs : t.val = s.val + 1) (h : ¬ t.val % 4 = 0) : valAt m c s = valAt m c t := by
  have e : pt4 s = pt4 t := Fin.ext (by show s.val / 4 * 4 = t.val / 4 * 4; omega)
  exact congrArg (valOf m c) e

attribute [local irreducible] biasPieces copyPieces tailPieces biasAt keyAt valAt biasOf keyOf valOf

/-! ## The three stages of the body at a point -/

/-- The first conditional leaves the point's bias tiles. -/
theorem bias_stage (c : Dev nD) (t : Fin cfg0.N) (y0 : Vec F S2x512x512 .f32) (hy : ¬ t.val % 64 = 0 → y0 = biasAt m c t)
    (E : Set ℕ) (K : PUnit → sProp 𝕄) :
    iprop(owns (c : Thread nD τ) (st0 t) fullShare (iblk m c 0 t) ∗ owns (c : Thread nD τ) sc0 fullShare y0
        ∗ (iprop(owns (c : Thread nD τ) (st0 t) fullShare (iblk m c 0 t) ∗ owns (c : Thread nD τ) sc0 fullShare (biasAt m c t)) -∗ K ⟨⟩))
      ⊢ wp frame (wpE (defs₀ (F := F)) Variants.none c none) E
          (if h : k0_cond1 (grid0.coords t) = 1#1 then biasBlk (grid0.coords t) (BitVec.ofNat 32 (grid0.coords t 0).val) (st0 t) (hst0 t) (st1 t) (hst1 t) (st2 t) (hst2 t) (st3 t) (hst3 t) (st4 t) (hst4 t) (st5 t) (hst5 t) (st6 t) (hst6 t) sc0 (Memref.isWhole_whole _) sc1 (Memref.isWhole_whole _) sc2 (Memref.isWhole_whole _) h else pure ⟨⟩) K := by
  by_cases h : k0_cond1 (grid0.coords t) = 1#1
  · rw [dif_pos h]
    rw [biasAt_first m c t h]
    iintro ⟨H0, HS, Hk⟩
    iapply ((biasPieces c t (iblk m c 0 t) h).2 E K)
    isplitl [H0]; · iexact H0
    isplitl [HS]; · iexists _; iexact HS
    iintro ⟨H0, ⟨%f, HS⟩⟩
    iapply Hk
    isplitl [H0]; · iexact H0
    unfold owns; iexists _; isplitr
    swap; · iexact HS
    ipureintro; exact View.read_writes_eq_canon _ _ _ (bias_cover (F := F) c t _ h)
  · rw [dif_neg h, hy (fun h' => h ((bias_iff t).mpr h'))]
    iintro ⟨H0, HS, Hk⟩
    sl_step
    iapply Hk
    isplitl [H0]; · iexact H0
    iexact HS

/-- The second leaves the point's keys and values. -/
theorem copy_stage (c : Dev nD) (t : Fin cfg0.N) (y1 y2 : Vec F S2048x128 .bf16)
    (h1 : ¬ t.val % 4 = 0 → y1 = keyAt m c t) (h2 : ¬ t.val % 4 = 0 → y2 = valAt m c t)
    (E : Set ℕ) (K : PUnit → sProp 𝕄) :
    iprop(owns (c : Thread nD τ) (st2 t) fullShare (iblk m c 2 t) ∗ owns (c : Thread nD τ) (st3 t) fullShare (iblk m c 3 t)
        ∗ owns (c : Thread nD τ) sc1 fullShare y1 ∗ owns (c : Thread nD τ) sc2 fullShare y2
        ∗ (iprop(owns (c : Thread nD τ) (st2 t) fullShare (iblk m c 2 t) ∗ owns (c : Thread nD τ) (st3 t) fullShare (iblk m c 3 t)
            ∗ owns (c : Thread nD τ) sc1 fullShare (keyAt m c t) ∗ owns (c : Thread nD τ) sc2 fullShare (valAt m c t)) -∗ K ⟨⟩))
      ⊢ wp frame (wpE (defs₀ (F := F)) Variants.none c none) E
          (if copyCond (grid0.coords t) then copyBlk (grid0.coords t) (st0 t) (hst0 t) (st1 t) (hst1 t) (st2 t) (hst2 t) (st3 t) (hst3 t) (st4 t) (hst4 t) (st5 t) (hst5 t) (st6 t) (hst6 t) sc0 (Memref.isWhole_whole _) sc1 (Memref.isWhole_whole _) sc2 (Memref.isWhole_whole _) else pure ⟨⟩) K := by
  by_cases h : copyCond (grid0.coords t)
  · rw [if_pos h]
    rw [keyAt_first m c t ((copy_iff t).mp h), valAt_first m c t ((copy_iff t).mp h)]
    iintro ⟨H2, H3, HS1, HS2, Hk⟩
    iapply ((copyPieces c t (iblk m c 2 t) (iblk m c 3 t)).2.2 E K)
    isplitl [H2]; · iexact H2
    isplitl [H3]; · iexact H3
    isplitl [HS1]; · iexists _; iexact HS1
    isplitl [HS2]; · iexists _; iexact HS2
    iintro ⟨H2, H3, ⟨%f1, HS1⟩, ⟨%f2, HS2⟩⟩
    iapply Hk
    isplitl [H2]; · iexact H2
    isplitl [H3]; · iexact H3
    isplitl [HS1]
    · unfold owns; iexists _; isplitr
      swap; · iexact HS1
      ipureintro; exact View.read_writes_eq_canon _ _ _ (key_cover (F := F) c t _ _)
    unfold owns; iexists _; isplitr
    swap; · iexact HS2
    ipureintro; exact View.read_writes_eq_canon _ _ _ (val_cover (F := F) c t _ _)
  · rw [if_neg h, h1 (fun h' => h ((copy_iff t).mpr h')), h2 (fun h' => h ((copy_iff t).mpr h'))]
    iintro ⟨H2, H3, HS1, HS2, Hk⟩
    sl_step
    iapply Hk
    isplitl [H2]; · iexact H2
    isplitl [H3]; · iexact H3
    isplitl [HS1]; · iexact HS1
    iexact HS2

/-- The rest leaves the point's block of the result. -/
theorem tail_stage (c : Dev nD) (t : Fin cfg0.N) (E : Set ℕ) (K : PUnit → sProp 𝕄) :
    iprop(owns (c : Thread nD τ) (st0 t) fullShare (iblk m c 0 t) ∗ owns (c : Thread nD τ) (st1 t) fullShare (iblk m c 1 t)
        ∗ owns (c : Thread nD τ) (st4 t) fullShare (iblk m c 4 t) ∗ owns (c : Thread nD τ) (st5 t) fullShare (iblk m c 5 t)
        ∗ (∃ d, owns (c : Thread nD τ) (st6 t) fullShare d)
        ∗ owns (c : Thread nD τ) sc0 fullShare (biasAt m c t) ∗ owns (c : Thread nD τ) sc1 fullShare (keyAt m c t) ∗ owns (c : Thread nD τ) sc2 fullShare (valAt m c t)
        ∗ (iprop(owns (c : Thread nD τ) (st0 t) fullShare (iblk m c 0 t) ∗ owns (c : Thread nD τ) (st1 t) fullShare (iblk m c 1 t)
            ∗ owns (c : Thread nD τ) (st4 t) fullShare (iblk m c 4 t) ∗ owns (c : Thread nD τ) (st5 t) fullShare (iblk m c 5 t)
            ∗ owns (c : Thread nD τ) (st6 t) fullShare (outAt m c t)
            ∗ owns (c : Thread nD τ) sc0 fullShare (biasAt m c t) ∗ owns (c : Thread nD τ) sc1 fullShare (keyAt m c t) ∗ owns (c : Thread nD τ) sc2 fullShare (valAt m c t)) -∗ K ⟨⟩))
      ⊢ wp frame (wpE (defs₀ (F := F)) Variants.none c none) E (tailBlk (grid0.coords t) (st0 t) (hst0 t) (st1 t) (hst1 t) (st2 t) (hst2 t) (st3 t) (hst3 t) (st4 t) (hst4 t) (st5 t) (hst5 t) (st6 t) (hst6 t) sc0 (Memref.isWhole_whole _) sc1 (Memref.isWhole_whole _) sc2 (Memref.isWhole_whole _)) K := by
  iintro ⟨H0, H1, H4, H5, H6, HS0, HS1, HS2, Hk⟩
  iapply ((tailPieces c t (iblk m c 0 t) (iblk m c 1 t) (iblk m c 4 t) (iblk m c 5 t) (biasAt m c t) (keyAt m c t) (valAt m c t)).2 E K)
  isplitl [H0]; · iexact H0
  isplitl [H1]; · iexact H1
  isplitl [H4]; · iexact H4
  isplitl [H5]; · iexact H5
  isplitl [H6]; · iexact H6
  isplitl [HS0]; · iexact HS0
  isplitl [HS1]; · iexact HS1
  isplitl [HS2]; · iexact HS2
  iintro ⟨H0, H1, H4, H5, HS0, HS1, HS2, ⟨%f, H6⟩⟩
  iapply Hk
  isplitl [H0]; · iexact H0
  isplitl [H1]; · iexact H1
  isplitl [H4]; · iexact H4
  isplitl [H5]; · iexact H5
  isplitl [H6]
  · unfold owns; iexists _; isplitr
    swap; · iexact H6
    ipureintro; exact View.read_writes_eq_canon _ _ _ (out_cover (F := F) c t _ _ _ _ _ _ _)
  isplitl [HS0]; · iexact HS0
  isplitl [HS1]; · iexact HS1
  iexact HS2

/-! ## The invariant and the proof data -/

/-- Between points: the tiles as the point before left them. -/
def Carry (c : Dev nD) : (n : ℕ) → n ≤ cfg0.N → sProp 𝕄
  | 0, _ => Pipeline.ΦA spec0 c
  | n + 1, hn => iprop(iprop(owns (c : Thread nD τ) sc0 fullShare (biasAt m c ⟨n, hn⟩) ∗ owns (c : Thread nD τ) sc1 fullShare (keyAt m c ⟨n, hn⟩)
      ∗ owns (c : Thread nD τ) sc2 fullShare (valAt m c ⟨n, hn⟩)) ∗ (∃ r, prngReg c r))

/-- Before point `t` the tiles hold the point's contents unless it rewrites them. -/
theorem carry_pre (c : Dev nD) (t : Fin cfg0.N) :
    Carry m c t.val (Nat.le_of_lt t.isLt) ⊢ iprop(∃ (y0 : Vec F S2x512x512 .f32) (y1 : Vec F S2048x128 .bf16) (y2 : Vec F S2048x128 .bf16), owns (c : Thread nD τ) sc0 fullShare y0 ∗ owns (c : Thread nD τ) sc1 fullShare y1
      ∗ owns (c : Thread nD τ) sc2 fullShare y2 ∗ (∃ r, prngReg c r)
      ∗ ⌜(¬ t.val % 64 = 0 → y0 = biasAt m c t) ∧ (¬ t.val % 4 = 0 → y1 = keyAt m c t) ∧ (¬ t.val % 4 = 0 → y2 = valAt m c t)⌝) := by
  obtain ⟨n, hn⟩ := t
  cases n with
  | zero =>
    show Pipeline.ΦA spec0 c ⊢ _
    rw [launch_rest]
    iintro ⟨⟨⟨%y0, HS0⟩, ⟨%y1, HS1⟩, ⟨%y2, HS2⟩⟩, Hg⟩
    iexists y0, y1, y2
    isplitl [HS0]; · iexact HS0
    isplitl [HS1]; · iexact HS1
    isplitl [HS2]; · iexact HS2
    isplitl [Hg]; · iexact Hg
    ipureintro
    exact ⟨fun h => absurd rfl h, fun h => absurd rfl h, fun h => absurd rfl h⟩
  | succ n =>
    show iprop(iprop(_ ∗ _ ∗ _) ∗ _) ⊢ _
    iintro ⟨⟨HS0, HS1, HS2⟩, Hg⟩
    iexists _, _, _
    isplitl [HS0]; · iexact HS0
    isplitl [HS1]; · iexact HS1
    isplitl [HS2]; · iexact HS2
    isplitl [Hg]; · iexact Hg
    ipureintro
    exact ⟨fun h => biasAt_step m c _ _ rfl h, fun h => keyAt_step m c _ _ rfl h, fun h => valAt_step m c _ _ rfl h⟩

/-- The proof data: the inputs' buffers at their blocks, the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Carry m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carry_cast (c : Dev nD) (t : Fin cfg0.N) :
    (dats m 0 c).Φ t.castSucc = Carry m c t.val (Nat.le_of_lt t.isLt) := by
  dsimp only [dats]; exact Pipeline.Dat.Φ_castSucc (Carry m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- and what it returns. -/
def post (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

/-- The body at any point, stage by stage. -/
theorem body_ok (c : Dev nD) (t : Fin cfg0.N) :
    pre m c t ⊢ wp frame (wpE (defs₀ (F := F)) Variants.none c none) Set.univ (bodyAt0 t) (fun _ => post m c t) := by
  unfold pre post bodyAt0
  rw [body_split, wp_bind]
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = iprop(iprop(owns (c : Thread nD τ) sc0 fullShare (biasAt m c t) ∗ owns (c : Thread nD τ) sc1 fullShare (keyAt m c t)
      ∗ owns (c : Thread nD τ) sc2 fullShare (valAt m c t)) ∗ (∃ r, prngReg c r)) from rfl, carry_cast]
  iintro ⟨HΦ, Ho, ⟨%d0, H0⟩, ⟨%d1, H1⟩, ⟨%d2, H2⟩, ⟨%d3, H3⟩, ⟨%d4, H4⟩, ⟨%d5, H5⟩, ⟨%d6, H6⟩⟩
  icases (carry_pre m c t) $$ HΦ with ⟨%y0, %y1, %y2, HS0, HS1, HS2, Hg, %hy⟩
  iapply (bias_stage m c t y0 hy.1 Set.univ _)
  isplitl [H0]; · iexact H0
  isplitl [HS0]; · iexact HS0
  iintro ⟨H0, HS0⟩
  rw [wp_bind]
  iapply (copy_stage m c t y1 y2 hy.2.1 hy.2.2 Set.univ _)
  isplitl [H2]; · iexact H2
  isplitl [H3]; · iexact H3
  isplitl [HS1]; · iexact HS1
  isplitl [HS2]; · iexact HS2
  iintro ⟨H2, H3, HS1, HS2⟩
  iapply (tail_stage m c t Set.univ _)
  isplitl [H0]; · iexact H0
  isplitl [H1]; · iexact H1
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_ok m c t) rfl .rfl fun _ => .rfl

theorem carry_in (c : Dev nD) : Pipeline.ΦA spec0 c ⊢ (dats m 0 c).Φ 0 := by
  rw [show (dats m 0 c).Φ 0 = Pipeline.ΦA spec0 c from rfl]

theorem carry_out (c : Dev nD) : (dats m 0 c).Φ (Fin.last cfg0.N) ⊢ Pipeline.ΦA spec0 c := by
  have hN : cfg0.N = 255 + 1 := N_0
  rw [show (dats m 0 c).Φ (Fin.last cfg0.N) = Carry m c cfg0.N le_rfl from rfl, launch_rest]
  have key : ∀ (n : ℕ) (h : n ≤ cfg0.N), n = 255 + 1 → Carry m c n h ⊢ iprop(iprop((∃ d, owns (c : Thread nD τ) sc0 fullShare d) ∗ (∃ d, owns (c : Thread nD τ) sc1 fullShare d) ∗ (∃ d, owns (c : Thread nD τ) sc2 fullShare d)) ∗ (∃ r, prngReg c r)) := by
    intro n h e
    subst e
    show iprop(iprop(_ ∗ _ ∗ _) ∗ _) ⊢ _
    iintro ⟨⟨HS0, HS1, HS2⟩, Hg⟩
    isplitl [HS0 HS1 HS2]
    · isplitl [HS0]
      · iexists _; iexact HS0
      isplitl [HS1]
      · iexists _; iexact HS1
      iexists _; iexact HS2
    iexact Hg
  exact key _ _ hN

/-! ## The run -/

set_option backward.isDefEq.respectTransparency.types false in
/-- The launch: the arrays end at the proof data's, every counter at zero. -/
theorem run_all : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := carry_in m) (hout := carry_out m)

end Cert.KernelIdeal.Body

end
-- ==== Proof.Frames.lean ====
module

public import proofs.«01_k».proof.Proof.Run
public import proofs.«01_k».proof.Proof.Gen.ReferenceIdeal.Run
public import proofs.«01_k».proof.Defs
public import Idealize.ShloMosaic.Init

@[expose] public section

noncomputable section

namespace Cert.Proof

open Idealize.ShloMosaic Idealize.SL.Sem

/-! # The exact programs' frames -/

instance : Cert.Pre_finite.Facts where
  bcast_S_S16x2048x4x2x64 := by decide +kernel
  reducesTo_S16x2048x4x2x64_S_d0_1_2_3_4 := by decide +kernel
  h_S_ := by decide +kernel
  bcast_S_S16x2048x4x128 := by decide +kernel
  reducesTo_S16x2048x4x128_S_d0_1_2_3 := by decide +kernel
  bcast_S_S32x4 := by decide +kernel
  reducesTo_S32x4_S_d0_1 := by decide +kernel
  bcast_S_S64 := by decide +kernel
  reducesTo_S64_S_d0 := by decide +kernel

/-- The kernel's exact twin runs, its arguments and counters as at the start. -/
theorem frame_ideal : Cert.quiescent_KernelIdeal := fun m ρ _ =>
  θ_run_and
    (Cert.KernelIdeal.Gen.frame_of m ρ (Cert.KernelIdeal.Body.dats m) (Cert.KernelIdeal.Body.A_eq m)
      ((θ_run Cert.KernelIdeal.defs _ _).mono (fun _ h => h.1) (Cert.KernelIdeal.Body.run_all m ρ)))
    ((θ_run Cert.KernelIdeal.defs _ _).mono (fun _ h => h.2) (Cert.KernelIdeal.Body.run_all m ρ))

/-- The reference runs, its arguments as at the start; it has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The named constant: the mask is negative infinity. -/
theorem preserves : Cert.preserves_Kernel_KernelIdeal :=
  IdealRules.named_const.statement Cert.KernelIdeal.κ "mask" .f32 0xF149F2CA#32 ⊥ rfl

end Cert.Proof

end
-- ==== Proof.Step.lean ====
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

/-! ## One key block, as operations on whole tiles -/

/-- The scores of both maps against one key block. -/
def bothScores (q : FVec Ideal S1024x128 .bf16) (kb : FVec Ideal S512x128 .bf16) : FVec Ideal S1024x512 .f32 :=
  matmul dot_S1024x128_S512x128_S1024x512_1_1_0_0_n_n none q kb (constant S1024x512 .f32 0x00000000#32)
/-- The first map's scores with the bias, -/
def score1 (q : FVec Ideal S1024x128 .bf16) (kb : FVec Ideal S512x128 .bf16) (bias : FVec Ideal S512x512 .f32) : FVec Ideal S512x512 .f32 :=
  addf (extractStridedSlice S512x512 ![0, 0] (bothScores q kb) slices_S1024x512_o0_0_S512x512) bias
/-- and the second's. -/
def score2 (q : FVec Ideal S1024x128 .bf16) (kb : FVec Ideal S512x128 .bf16) (bias : FVec Ideal S512x512 .f32) : FVec Ideal S512x512 .f32 :=
  addf (extractStridedSlice S512x512 ![512, 0] (bothScores q kb) slices_S1024x512_o512_0_S512x512) bias
/-- The running maximum after the block. -/
def newMax (s : FVec Ideal S512x512 .f32) (mx : FVec Ideal S512x1 .f32) : FVec Ideal S512x1 .f32 :=
  maximumf mx (shapeCast S512x1 (multiReduction .maximumf [1] S512 s 0xFF800000#32 reduces_S512x512_S512 (.inl rfl) rfl) shapeCasts_S512_S512x1)
/-- The factor that rescales what was summed before. -/
def rescale (s : FVec Ideal S512x512 .f32) (mx : FVec Ideal S512x1 .f32) : FVec Ideal S512x1 .f32 := exp (subf mx (newMax s mx))
/-- The block's weights. -/
def weights (s : FVec Ideal S512x512 .f32) (mx : FVec Ideal S512x1 .f32) : FVec Ideal S512x512 .f32 := exp (subf s (broadcastTo S512x512 (newMax s mx) broadcasts_S512x1_S512x512))
/-- The running sum after the block. -/
def newSum (s : FVec Ideal S512x512 .f32) (mx l : FVec Ideal S512x1 .f32) : FVec Ideal S512x1 .f32 :=
  addf (mulf (rescale s mx) l) (shapeCast S512x1 (multiReduction .add [1] S512 (weights s mx) 0x00000000#32 reduces_S512x512_S512 (.inl rfl) rfl) shapeCasts_S512_S512x1)
/-- Both maps' weights against the block's values. -/
def bothValues (s1 s2 : FVec Ideal S512x512 .f32) (m1 m2 : FVec Ideal S512x1 .f32) (vb : FVec Ideal S512x128 .bf16) : FVec Ideal S1024x128 .f32 :=
  matmul dot_S1024x512_S512x128_S1024x128_1_0_0_1_n_n none
    (concatenate S1024x512 0 [⟨S512x512, truncf .bf16 (weights s1 m1) bitsLt_bf16_f32⟩, ⟨S512x512, truncf .bf16 (weights s2 m2) bitsLt_bf16_f32⟩] concatenates_S512x512_S512x512_S1024x512_d0)
    vb (constant S1024x128 .f32 0x00000000#32)
/-- The first map's accumulator after the block, -/
def newAcc1 (s1 s2 : FVec Ideal S512x512 .f32) (m1 m2 : FVec Ideal S512x1 .f32) (a : FVec Ideal S512x128 .f32) (vb : FVec Ideal S512x128 .bf16) : FVec Ideal S512x128 .f32 :=
  addf (mulf (broadcastTo S512x128 (rescale s1 m1) broadcasts_S512x1_S512x128) a)
    (extractStridedSlice S512x128 ![0, 0] (bothValues s1 s2 m1 m2 vb) slices_S1024x128_o0_0_S512x128)
/-- and the second's. -/
def newAcc2 (s1 s2 : FVec Ideal S512x512 .f32) (m1 m2 : FVec Ideal S512x1 .f32) (a : FVec Ideal S512x128 .f32) (vb : FVec Ideal S512x128 .bf16) : FVec Ideal S512x128 .f32 :=
  addf (mulf (broadcastTo S512x128 (rescale s2 m2) broadcasts_S512x1_S512x128) a)
    (extractStridedSlice S512x128 ![512, 0] (bothValues s1 s2 m1 m2 vb) slices_S1024x128_o512_0_S512x128)

/-! ## The printed values are these -/

variable (q : FVec Ideal S1024x128 .bf16) (b : FVec Ideal S512x512 .f32) (kb vb : FVec Ideal S512x128 .bf16) (m1 l1 m2 l2 : FVec Ideal S512x1 .f32) (a1 a2 : FVec Ideal S512x128 .f32)

theorem diag_m1 : k0_pay29 q m1 b kb = newMax (score1 q kb b) m1 := rfl
theorem diag_l1 : k0_pay32 q m1 l1 b kb = newSum (score1 q kb b) m1 l1 := rfl
theorem diag_m2 : k0_pay34 q m1 b kb = newMax (score2 q kb b) m1 := rfl
theorem diag_l2 : k0_pay37 q m1 l1 b kb = newSum (score2 q kb b) m1 l1 := rfl
theorem diag_a1 : k0_pay39 q m1 a1 b kb vb = newAcc1 (score1 q kb b) (score2 q kb b) m1 m1 a1 vb := rfl
theorem diag_a2 : k0_pay40 q m1 a1 b kb vb = newAcc2 (score1 q kb b) (score2 q kb b) m1 m1 a1 vb := rfl

variable (x : BitVec 1) (c0 c1 : Ideal .f32)
theorem near_m1 : k0_pay45 q m1 b x c0 c1 kb = newMax (score1 q kb (k0_pay42 b x c0 c1)) m1 := rfl
theorem near_l1 : k0_pay48 q m1 l1 b x c0 c1 kb = newSum (score1 q kb (k0_pay42 b x c0 c1)) m1 l1 := rfl
theorem near_m2 : k0_pay50 q m2 b x c0 c1 kb = newMax (score2 q kb (k0_pay42 b x c0 c1)) m2 := rfl
theorem near_l2 : k0_pay53 q m2 l2 b x c0 c1 kb = newSum (score2 q kb (k0_pay42 b x c0 c1)) m2 l2 := rfl
theorem near_a1 : k0_pay55 q m1 m2 a1 b x c0 c1 kb vb
    = newAcc1 (score1 q kb (k0_pay42 b x c0 c1)) (score2 q kb (k0_pay42 b x c0 c1)) m1 m2 a1 vb := rfl
theorem near_a2 : k0_pay56 q m1 m2 a2 b x c0 c1 kb vb
    = newAcc2 (score1 q kb (k0_pay42 b x c0 c1)) (score2 q kb (k0_pay42 b x c0 c1)) m1 m2 a2 vb := rfl

theorem far_m1 : k0_pay59 q c0 m1 kb = newMax (score1 q kb (broadcast S512x512 c0)) m1 := rfl
theorem far_l1 : k0_pay62 q c0 m1 l1 kb = newSum (score1 q kb (broadcast S512x512 c0)) m1 l1 := rfl
theorem far_m2 : k0_pay64 q c0 m2 kb = newMax (score2 q kb (broadcast S512x512 c0)) m2 := rfl
theorem far_l2 : k0_pay67 q c0 m2 l2 kb = newSum (score2 q kb (broadcast S512x512 c0)) m2 l2 := rfl
theorem far_a1 : k0_pay69 q c0 m1 a1 m2 kb vb
    = newAcc1 (score1 q kb (broadcast S512x512 c0)) (score2 q kb (broadcast S512x512 c0)) m1 m2 a1 vb := rfl
theorem far_a2 : k0_pay70 q c0 m1 m2 a2 kb vb
    = newAcc2 (score1 q kb (broadcast S512x512 c0)) (score2 q kb (broadcast S512x512 c0)) m1 m2 a2 vb := rfl

/-! ## Both maps' triples through a block -/

/-- The running maximum, sum and accumulator of both maps. -/
abbrev Tri : Type := FVec Ideal S512x1 .f32 × FVec Ideal S512x1 .f32 × FVec Ideal S512x128 .f32
  × FVec Ideal S512x1 .f32 × FVec Ideal S512x1 .f32 × FVec Ideal S512x128 .f32

/-- Before the first block. -/
def emptyTri : Tri := (k0_pay23, k0_pay24, k0_pay25, k0_pay23, k0_pay24, k0_pay25)

/-- After one more block. -/
def blockStep (q : FVec Ideal S1024x128 .bf16) (b : FVec Ideal S512x512 .f32) (kb vb : FVec Ideal S512x128 .bf16) (T : Tri) : Tri :=
  (newMax (score1 q kb b) T.1, newSum (score1 q kb b) T.1 T.2.1,
    newAcc1 (score1 q kb b) (score2 q kb b) T.1 T.2.2.2.1 T.2.2.1 vb,
    newMax (score2 q kb b) T.2.2.2.1, newSum (score2 q kb b) T.2.2.2.1 T.2.2.2.2.1,
    newAcc2 (score1 q kb b) (score2 q kb b) T.1 T.2.2.2.1 T.2.2.2.2.2 vb)

/-- Block `k` of the 2048 keys or values. -/
def slab (y : FVec Ideal S2048x128 .bf16) (k : ℕ) : FVec Ideal S512x128 .bf16 := fun j =>
  y (ix2 ⟨(512 * k + (j 0).val) % 2048, Nat.mod_lt _ (by omega)⟩ (j 1))

/-- After the far blocks `0 … n - 1`, whose bias is one number. -/
def farLoop (q : FVec Ideal S1024x128 .bf16) (f : Ideal .f32) (y1 y2 : FVec Ideal S2048x128 .bf16) : ℕ → Tri → Tri
  | 0, T => T
  | n + 1, T => blockStep q (broadcast S512x512 f) (slab y1 n) (slab y2 n) (farLoop q f y1 y2 n T)

/-- What the last lines make of the triples: the two maps' quotients, their difference, its norm. -/
def finish (x4 : FVec Ideal S4x64 .f32) (x5 : FVec Ideal S1x128 .f32) (T : Tri) : FVec Ideal S512x128 .bf16 :=
  k0_pay1 (k0_pay85 T.2.1 T.2.2.1 T.2.2.2.2.1 T.2.2.2.2.2 x4) (k0_pay86 T.2.1 T.2.2.1 T.2.2.2.2.1 T.2.2.2.2.2 x4) x5

/-! ## Read at an index -/

theorem score1_at (i j : Fin 512) :
    score1 q kb b (ix2 i j) = ∑ x : Fin 128, q (ix2 ⟨i.val, by omega⟩ x) * kb (ix2 j x) + b (ix2 i j) := by
  pointwise [score1, bothScores]
theorem score2_at (i j : Fin 512) :
    score2 q kb b (ix2 i j) = ∑ x : Fin 128, q (ix2 ⟨512 + i.val, by omega⟩ x) * kb (ix2 j x) + b (ix2 i j) := by
  pointwise [score2, bothScores]
theorem newMax_at (s : FVec Ideal S512x512 .f32) (i : Fin 512) :
    newMax s m1 (ix2 i 0) = max (m1 (ix2 i 0)) (Finset.univ.fold max (Ideal.ofBits .f32 0xFF800000#32) fun x : Fin 512 => s (ix2 i x)) := by
  pointwise [newMax]
theorem newSum_at (s : FVec Ideal S512x512 .f32) (i : Fin 512) :
    newSum s m1 l1 (ix2 i 0) = Ideal.exp (m1 (ix2 i 0) - newMax s m1 (ix2 i 0)) * l1 (ix2 i 0)
      + ∑ x : Fin 512, Ideal.exp (s (ix2 i x) - newMax s m1 (ix2 i 0)) := by
  pointwise [newSum, rescale, weights]
theorem newAcc1_at (s1 s2 : FVec Ideal S512x512 .f32) (i : Fin 512) (e : Fin 128) :
    newAcc1 s1 s2 m1 m2 a1 vb (ix2 i e) = Ideal.exp (m1 (ix2 i 0) - newMax s1 m1 (ix2 i 0)) * a1 (ix2 i e)
      + ∑ x : Fin 512, Ideal.exp (s1 (ix2 i x) - newMax s1 m1 (ix2 i 0)) * vb (ix2 x e) := by
  pointwise [newAcc1, rescale, weights, bothValues]
theorem newAcc2_at (s1 s2 : FVec Ideal S512x512 .f32) (i : Fin 512) (e : Fin 128) :
    newAcc2 s1 s2 m1 m2 a1 vb (ix2 i e) = Ideal.exp (m2 (ix2 i 0) - newMax s2 m2 (ix2 i 0)) * a1 (ix2 i e)
      + ∑ x : Fin 512, Ideal.exp (s2 (ix2 i x) - newMax s2 m2 (ix2 i 0)) * vb (ix2 x e) := by
  pointwise [newAcc2, rescale, weights, bothValues]
/-- The queries of the two maps, one below the other: each keeps its half of the lanes. -/
theorem queries1_at (x : FVec Ideal S512x128 .f32) (i : Fin 512) (e : Fin 128) :
    k0_pay22 (F := Ideal) x (ix2 ⟨i.val, by omega⟩ e) = if e.val < 64 then x (ix2 i e) else 0 := by
  pointwise [k0_pay22]
  have h : ∀ e : Fin 128, IntOp.cmpi .slt (BitVec.ofNat 32 e.val) 64#32 = if e.val < 64 then 1#1 else 0#1 := by decide +kernel
  rw [h]; split <;> rfl
theorem queries2_at (x : FVec Ideal S512x128 .f32) (i : Fin 512) (e : Fin 128) :
    k0_pay22 (F := Ideal) x (ix2 ⟨512 + i.val, by omega⟩ e) = if e.val < 64 then 0 else x (ix2 i e) := by
  pointwise [k0_pay22]
  have h : ∀ e : Fin 128, IntOp.cmpi .sge (BitVec.ofNat 32 e.val) 64#32 = if e.val < 64 then 0#1 else 1#1 := by decide +kernel
  rw [h]
  split <;> rfl
/-- The mask's value is `⊥`. -/
theorem mask_eq : (Named.named κ "mask" 0xF149F2CA#32 : Ideal .f32) = ⊥ := rfl
theorem empty_m (i : Fin 512) : k0_pay23 (F := Ideal) (ix2 i 0) = ⊥ := by
  pointwise [k0_pay23]
  exact mask_eq
theorem empty_l (i : Fin 512) : k0_pay24 (F := Ideal) (ix2 i 0) = 0 := by
  pointwise [k0_pay24]
theorem empty_a (i : Fin 512) (e : Fin 128) : k0_pay25 (F := Ideal) (ix2 i e) = 0 := by
  pointwise [k0_pay25]
/-- The weight of the second map, from the four vectors. -/
def lam (x4 : FVec Ideal S4x64 .f32) : EReal :=
  Ideal.exp (∑ x : Fin 64, x4 (ix2 0 x) * x4 (ix2 1 x)) - Ideal.exp (∑ x : Fin 64, x4 (ix2 2 x) * x4 (ix2 3 x))
    + Ideal.ofBits .f32 0x3E4CCCCD#32
/-- The output norm of a row `o` with gains `g`, at lane `e`. -/
def normed (o g : Fin 128 → EReal) (e : Fin 128) : EReal :=
  o e * Ideal.rsqrt (Ideal.div (∑ x, o x * o x) (Ideal.ofBits .f32 0x43000000#32) + Ideal.ofBits .f32 0x358637BD#32) * g e
    * Ideal.ofBits .f32 0x3F4CCCCD#32
theorem diff_at (x4 : FVec Ideal S4x64 .f32) (i : Fin 512) (e : Fin 128) :
    k0_pay85 l1 a1 l2 a2 x4 (ix2 i e)
      = a1 (ix2 i e) * Ideal.div 1 (l1 (ix2 i 0)) - lam x4 * (a2 (ix2 i e) * Ideal.div 1 (l2 (ix2 i 0))) := by
  pointwise [k0_pay85, lam]
theorem finish_at (x4 : FVec Ideal S4x64 .f32) (x5 : FVec Ideal S1x128 .f32) (T : Tri) (i : Fin 512) (e : Fin 128) :
    finish x4 x5 T (ix2 i e)
      = normed (fun e => T.2.2.1 (ix2 i e) * Ideal.div 1 (T.2.1 (ix2 i 0)) - lam x4 * (T.2.2.2.2.2 (ix2 i e) * Ideal.div 1 (T.2.2.2.2.1 (ix2 i 0))))
          (fun e => x5 (ix2 0 e)) e := by
  pointwise [finish, k0_pay1, k0_pay86, normed]
  simp only [diff_at]

end Cert.KernelIdeal.Body

end
-- ==== Proof.Tail.lean ====
module

public import proofs.«01_k».proof.Proof.Run
public import proofs.«01_k».proof.Proof.Step
public import Idealize.ShloMosaic.Lib.WholeRead
public import Idealize.ShloMosaic.Lib.Pointwise
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

/-! # One grid point's attention, as the block operations -/

/-! ## Where the loads sit -/

theorem off33 (t : Fin cfg0.N) : k0_off33 (grid0.coords t) = ![31, t.val / 64 % 4] :=
  (by decide +kernel : ∀ t : Fin cfg0.N, k0_off33 (grid0.coords t) = ![31, t.val / 64 % 4]) t
theorem off34 (t : Fin cfg0.N) : k0_off34 (grid0.coords t) = ![512 * (t.val % 4), 0] :=
  (by decide +kernel : ∀ t : Fin cfg0.N, k0_off34 (grid0.coords t) = ![512 * (t.val % 4), 0]) t
theorem off35 (t : Fin cfg0.N) : k0_off35 (grid0.coords t) = ![512 * (t.val % 4 - 1), 0] :=
  (by decide +kernel : ∀ t : Fin cfg0.N, k0_off35 (grid0.coords t) = ![512 * (t.val % 4 - 1), 0]) t
theorem far_trips (t : Fin cfg0.N) : (k0_t1_loop (grid0.coords t)).trips = t.val % 4 - 1 :=
  (by decide +kernel : ∀ t : Fin cfg0.N, (k0_t1_loop (grid0.coords t)).trips = t.val % 4 - 1) t
theorem rest_trips (t : Fin cfg0.N) : (k0_t2_loop (grid0.coords t)).trips = 0 :=
  (by decide +kernel : ∀ t : Fin cfg0.N, (k0_t2_loop (grid0.coords t)).trips = 0) t
theorem off36 (t : Fin cfg0.N) (k : Fin (k0_t1_loop (grid0.coords t)).trips) : k0_off36 (grid0.coords t) k = ![512 * k.val, 0] :=
  (by decide +kernel : ∀ (t : Fin cfg0.N) (k : Fin (k0_t1_loop (grid0.coords t)).trips), k0_off36 (grid0.coords t) k = ![512 * k.val, 0]) t k

/-- A load of 512 rows from row `512 k` on is block `k`. -/
theorem load_slab (M : Memref sig .tc .vmem S2048x128 .bf16) (hM : M.IsWhole) (y : FVec Ideal S2048x128 .bf16) (off : Fin 2 → ℕ) (h) (k : ℕ)
    (e : off = ![512 * k, 0]) :
    View.readAt (Elt Ideal) M.view (Rect.unit (s := S2048x128) off ![512, 128] h).toLoadRect (hM.unread y) = slab y k := by
  subst e
  funext j
  rw [hM.readAt_unread]
  have h0 : 512 * k + 512 ≤ 2048 := h 0
  unfold slab
  refine congrArg y ?_
  funext a
  have hj : (j 0).val < 512 := (j 0).isLt
  fin_cases a
  · apply Fin.ext; show 512 * k + 1 * (j 0).val = (512 * k + (j 0).val) % 2048
    rw [Nat.mod_eq_of_lt (by omega)]; omega
  · apply Fin.ext; show 0 + 1 * (j 1).val = (j 1).val; omega

/-- A load of a whole buffer is the buffer. -/
theorem load_whole {sp : Space} {a b : ℕ} {e : EltTy} (M : Memref sig .tc sp ⟨2, ![a, b]⟩ e) (hM : M.IsWhole) (y : Vec Ideal ⟨2, ![a, b]⟩ e) (h) :
    View.readAt (Elt Ideal) M.view (Rect.unit (s := ⟨2, ![a, b]⟩) ![0, 0] ![a, b] h).toLoadRect (hM.unread y) = y := by
  funext j
  rw [hM.readAt_unread]
  refine congrArg y ?_
  funext x
  fin_cases x
  · apply Fin.ext; show 0 + 1 * (j 0).val = (j 0).val; omega
  · apply Fin.ext; show 0 + 1 * (j 1).val = (j 1).val; omega

/-- The table's last row, at the head. -/
theorem load_far (M : Memref sig .tc .smem S32x4 .f32) (hM : M.IsWhole) (y : FVec Ideal S32x4 .f32) (off : Fin 2 → ℕ) (h) (x) (k : Fin 4)
    (e : off = ![31, k.val]) :
    View.readAt (Elt Ideal) M.view (Rect.unit (s := S32x4) off ![1, 1] h).toLoadRect (hM.unread y) x = y (ix2 31 k) := by
  subst e
  rw [hM.readAt_unread]
  refine congrArg y ?_
  funext a
  have h0 : (x 0).val < 1 := (x 0).isLt
  have h1 : (x 1).val < 1 := (x 1).isLt
  fin_cases a
  · apply Fin.ext; show 31 + 1 * (x 0).val = 31; omega
  · apply Fin.ext; show k.val + 1 * (x 1).val = k.val; omega

/-- The bias tile of the diagonal (`0`) or of the block before it (`1`). -/
def tile (y0 : FVec Ideal S2x512x512 .f32) (a : Fin 2) : FVec Ideal S512x512 .f32 := fun j => y0 (ix3 a (j 0) (j 1))

theorem load_tile0 (M : Memref sig .tc .vmem S2x512x512 .f32) (hM : M.IsWhole) (y : FVec Ideal S2x512x512 .f32) (h) :
    k0_pay26 (F := Ideal) (View.readAt (Elt Ideal) M.view (Rect.unit (s := S2x512x512) ![0, 0, 0] ![1, 512, 512] h).toLoadRect (hM.unread y)) = tile y 0 := by
  funext j; idx_vars j
  pointwise [k0_pay26]
  rw [hM.readAt_unread]
  refine congrArg y ?_
  funext a
  fin_cases a
  · rfl
  · apply Fin.ext; show 0 + 1 * j0.val = j0.val; omega
  · apply Fin.ext; show 0 + 1 * j1.val = j1.val; omega
theorem load_tile1 (M : Memref sig .tc .vmem S2x512x512 .f32) (hM : M.IsWhole) (y : FVec Ideal S2x512x512 .f32) (h) :
    k0_pay41 (F := Ideal) (View.readAt (Elt Ideal) M.view (Rect.unit (s := S2x512x512) ![1, 0, 0] ![1, 512, 512] h).toLoadRect (hM.unread y)) = tile y 1 := by
  funext j; idx_vars j
  pointwise [k0_pay41]
  rw [hM.readAt_unread]
  refine congrArg y ?_
  funext a
  fin_cases a
  · rfl
  · apply Fin.ext; show 0 + 1 * j0.val = j0.val; omega
  · apply Fin.ext; show 0 + 1 * j1.val = j1.val; omega

/-! ## The loop over the far blocks -/

theorem trip_eq (𝒱 : Variants) (c : Dev nD) (bd : Option 𝒱.V) (t : Fin cfg0.N) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) (arg2 : BitVec 32) (v20 : FVec Ideal S1024x128 .bf16) (v22 : Elt Ideal .f32) (v94 : FVec Ideal S512x1 .f32) (v103 : FVec Ideal S512x1 .f32) (v109 : FVec Ideal S512x1 .f32) (v118 : FVec Ideal S512x1 .f32) (v125 : FVec Ideal S512x128 .f32) (v129 : FVec Ideal S512x128 .f32) (c1_i32_36 : BitVec 32) (y1 y2 : FVec Ideal S2048x128 .bf16) (k : Fin (k0_t1_loop (grid0.coords t)).trips) (acc : Tri) :
    tripR_k0_t1 (F := Ideal) 𝒱 c bd (grid0.coords t) arg3 harg3 arg4 harg4 arg5 harg5 arg6 harg6 arg7 harg7 arg8 harg8 arg9 harg9 arg10 harg10 arg11 harg11 arg12 harg12 arg2 v20 v22 v94 v103 v109 v118 v125 v129 c1_i32_36 (harg11.unread y1) (harg12.unread y2) k acc
      = blockStep v20 (broadcast S512x512 v22) (slab y1 k.val) (slab y2 k.val) acc := by
  unfold tripR_k0_t1
  delta trip_k0_t1
  dsimp only
  rw [load_slab arg11 harg11 y1 _ _ k.val (off36 t k), load_slab arg12 harg12 y2 _ _ k.val (off36 t k)]
  rfl

theorem far_eq (𝒱 : Variants) (c : Dev nD) (bd : Option 𝒱.V) (t : Fin cfg0.N) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) (arg2 : BitVec 32) (v20 : FVec Ideal S1024x128 .bf16) (v22 : Elt Ideal .f32) (v94 : FVec Ideal S512x1 .f32) (v103 : FVec Ideal S512x1 .f32) (v109 : FVec Ideal S512x1 .f32) (v118 : FVec Ideal S512x1 .f32) (v125 : FVec Ideal S512x128 .f32) (v129 : FVec Ideal S512x128 .f32) (c1_i32_36 : BitVec 32) (y1 y2 : FVec Ideal S2048x128 .bf16) (init : Tri) (n : ℕ) (hn : n ≤ (k0_t1_loop (grid0.coords t)).trips) :
    st_k0_t1 (F := Ideal) 𝒱 c bd (grid0.coords t) arg3 harg3 arg4 harg4 arg5 harg5 arg6 harg6 arg7 harg7 arg8 harg8 arg9 harg9 arg10 harg10 arg11 harg11 arg12 harg12 arg2 v20 v22 v94 v103 v109 v118 v125 v129 c1_i32_36 (harg11.unread y1) (harg12.unread y2) init n
      = farLoop v20 v22 y1 y2 n init := by
  induction n with
  | zero => rfl
  | succ n ih =>
    rw [st_k0_t1_succ (F := Ideal) 𝒱 c bd (grid0.coords t) arg3 harg3 arg4 harg4 arg5 harg5 arg6 harg6 arg7 harg7 arg8 harg8 arg9 harg9 arg10 harg10 arg11 harg11 arg12 harg12 arg2 v20 v22 v94 v103 v109 v118 v125 v129 c1_i32_36 (harg11.unread y1) (harg12.unread y2) init ⟨n, hn⟩, ih (by omega), trip_eq]
    rfl

/-- The second loop makes no trip. -/
theorem rest_eq (𝒱 : Variants) (c : Dev nD) (bd : Option 𝒱.V) (i : grid0.Coords) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) (arg2 : BitVec 32) (v20 : FVec Ideal S1024x128 .bf16) (v22 : Elt Ideal .f32) (v94 : FVec Ideal S512x1 .f32) (v103 : FVec Ideal S512x1 .f32) (v109 : FVec Ideal S512x1 .f32) (v118 : FVec Ideal S512x1 .f32) (v125 : FVec Ideal S512x128 .f32) (v129 : FVec Ideal S512x128 .f32) (c1_i32_36 : BitVec 32) (X1 X2) (init : Tri) (n : ℕ) (hn : n = 0) :
    st_k0_t2 (F := Ideal) 𝒱 c bd i arg3 harg3 arg4 harg4 arg5 harg5 arg6 harg6 arg7 harg7 arg8 harg8 arg9 harg9 arg10 harg10 arg11 harg11 arg12 harg12 arg2 v20 v22 v94 v103 v109 v118 v125 v129 c1_i32_36 X1 X2 init n = init := by
  subst hn; rfl

/-! ## The whole point -/

/-- What point `t` makes of its query block, the table, the tiles, the keys and the values. -/
def attend (t : Fin cfg0.N) (x0 : FVec Ideal S32x4 .f32) (x1 : FVec Ideal S512x128 .f32) (x4 : FVec Ideal S4x64 .f32) (x5 : FVec Ideal S1x128 .f32)
    (y0 : FVec Ideal S2x512x512 .f32) (y1 y2 : FVec Ideal S2048x128 .bf16) : FVec Ideal S512x128 .bf16 :=
  finish x4 x5 (farLoop (k0_pay22 x1) (x0 (ix2 31 ⟨t.val / 64 % 4, Nat.mod_lt _ (by omega)⟩)) y1 y2 (t.val % 4 - 1)
    (blockStep (k0_pay22 x1)
      (k0_pay42 (tile y0 1) (Scalar.cmpi .eq (BitVec.ofNat 32 (t.val % 4)) 0#32) (Named.named κ "mask" 0xF149F2CA#32) (Scalar.ofBits .f32 0x00000000#32))
      (slab y1 (t.val % 4 - 1)) (slab y2 (t.val % 4 - 1))
      (blockStep (k0_pay22 x1) (tile y0 0) (slab y1 (t.val % 4)) (slab y2 (t.val % 4)) emptyTri)))

theorem tail_eq (c : Dev nD) (t : Fin cfg0.N) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) (x0 x1 x4 x5 y0 y1 y2) :
    View.canon (tailRun (F := Ideal) c (grid0.coords t) arg3 harg3 arg4 harg4 arg5 harg5 arg6 harg6 arg7 harg7 arg8 harg8 arg9 harg9 arg10 harg10 arg11 harg11 arg12 harg12 x0 x1 x4 x5 y0 y1 y2).1 = attend t x0 x1 x4 x5 y0 y1 y2 := by
  unfold tailRun
  dsimp only
  refine (View.canon_cons_unit_lit (S := S512x128) inb_S512x128_S512x128_0_0 _ _ (by decide)).trans ?_
  unfold tailRun.sl.r_14 tailRun.sl.r_15
  unfold tailRun.sl.r_13 tailRun.sl.r_12 tailRun.sl.r_11 tailRun.sl.r_10 tailRun.sl.r_9 tailRun.sl.r_8 tailRun.sl.r_7 tailRun.sl.r_6 tailRun.sl.r_5 tailRun.sl.r_4 tailRun.sl.r_3 tailRun.sl.r_2 tailRun.sl.r_1 tailRun.sl.r
  dsimp only
  rw [load_slab arg11 harg11 y1 _ _ (t.val % 4) (off34 t), load_slab arg12 harg12 y2 _ _ (t.val % 4) (off34 t),
    load_slab arg11 harg11 y1 _ _ (t.val % 4 - 1) (off35 t), load_slab arg12 harg12 y2 _ _ (t.val % 4 - 1) (off35 t)]
  rw [load_whole arg4 harg4 x1, load_whole arg7 harg7 x4, load_whole arg8 harg8 x5,
    load_far arg3 harg3 x0 _ _ _ ⟨t.val / 64 % 4, Nat.mod_lt _ (by omega)⟩ (off33 t), load_tile0 arg10 harg10 y0, load_tile1 arg10 harg10 y0]
  rw [rest_eq (hn := rest_trips t), far_eq (hn := le_of_eq rfl)]
  unfold tailRun.sl.v79 tailRun.sl.cst_25 tailRun.sl.cst_26
  have h2 : (grid0.coords t 2).val = t.val % 4 := co2 t
  unfold attend
  rw [← far_trips t, ← h2]
  simp only [blockStep, emptyTri, finish, diag_m1, diag_l1, diag_m2, diag_l2, diag_a1, diag_a2, near_m1, near_l1, near_m2, near_l2, near_a1, near_a2]

theorem out_eq (c : Dev nD) (t : Fin cfg0.N) (x0 x1 x4 x5 y0 y1 y2) :
    View.canon (tailPieces (F := Ideal) c t x0 x1 x4 x5 y0 y1 y2).1 = attend t x0 x1 x4 x5 y0 y1 y2 := by
  unfold tailPieces
  exact tail_eq c t ..

end Cert.KernelIdeal.Body

end
-- ==== Proof.Softmax.lean ====
module

public import Idealize.ShloMosaic.PureOps
public import Idealize.ShloMosaic.PureOps.Ideal
public import Mathlib.Analysis.SpecialFunctions.Exp

@[expose] public section

noncomputable section

namespace Cert.Attn

open Idealize.ShloMosaic

/-! # The softmax, taken block by block

A row's scores are real numbers or `⊥` where the mask hides a key. The kernel meets the keys a block at a
time and keeps a running maximum `mx`, a running sum `l` and a running combination `a` of the values, the
last two relative to the maximum. -/

/-- A score's weight: its exponential, a hidden key's being zero. -/
def E (x : EReal) : ℝ := (Ideal.exp x).toReal

theorem exp_bot : Ideal.exp ⊥ = 0 := rfl
theorem E_bot : E ⊥ = 0 := by rw [E, exp_bot]; rfl
theorem E_top : E ⊤ = 0 := rfl
theorem E_coe (r : ℝ) : E (r : EReal) = Real.exp r := by
  show (((Real.exp r : ℝ) : EReal)).toReal = _
  simp

theorem E_nonneg (x : EReal) : 0 ≤ E x := by
  induction x with
  | bot => simp [E_bot]
  | coe r => rw [E_coe]; positivity
  | top => simp [E_top]

/-- The exponential of a score less a real number. -/
theorem exp_sub {x : EReal} (hx : x ≠ ⊤) (M : ℝ) :
    Ideal.exp (x - (M : EReal)) = ((E x * Real.exp (-M) : ℝ) : EReal) := by
  induction x with
  | bot => simp [E_bot, exp_bot]
  | coe r =>
    rw [E_coe, ← EReal.coe_sub, ← Real.exp_add, sub_eq_add_neg]
    rfl
  | top => exact absurd rfl hx

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A block's own sum of weights, relative to a maximum, -/
theorem block_sum {ι : Type} [Fintype ι] {s : ι → EReal} (hs : ∀ x, s x ≠ ⊤) (M : ℝ) :
    ∑ x, Ideal.exp (s x - (M : EReal)) = (((∑ x, E (s x)) * Real.exp (-M) : ℝ) : EReal) := by
  rw [Finset.sum_mul, ← coe_sum]
  exact Finset.sum_congr rfl fun x _ => exp_sub (hs x) M

/-- and its combination of the values. -/
theorem block_values {ι : Type} [Fintype ι] {s : ι → EReal} (hs : ∀ x, s x ≠ ⊤) (v : ι → ℝ) (M : ℝ) :
    ∑ x, Ideal.exp (s x - (M : EReal)) * ((v x : ℝ) : EReal)
      = (((∑ x, E (s x) * v x) * Real.exp (-M) : ℝ) : EReal) := by
  rw [Finset.sum_mul, ← coe_sum]
  refine Finset.sum_congr rfl fun x _ => ?_
  rw [exp_sub (hs x) M, ← EReal.coe_mul]
  congr 1; ring

/-- The greatest of finitely many scores is not `⊤`, -/
theorem fold_ne_top {ι : Type} (t : Finset ι) {s : ι → EReal} (hs : ∀ x, s x ≠ ⊤) : t.fold max ⊥ s ≠ ⊤ :=
  ne_of_lt (Finset.fold_max_lt ⊤ |>.mpr ⟨bot_lt_top, fun x _ => lt_top_iff_ne_top.mpr (hs x)⟩)

/-- and a real number where one of them is. -/
theorem fold_real {ι : Type} {t : Finset ι} {s : ι → EReal} (hs : ∀ x, s x ≠ ⊤) {x : ι} (hx : x ∈ t) (hr : s x ≠ ⊥) :
    ∃ M : ℝ, t.fold max ⊥ s = M := by
  have h1 := fold_ne_top t hs
  have h2 : s x ≤ t.fold max ⊥ s := Finset.le_fold_max (s x) |>.mpr (.inr ⟨x, hx, le_rfl⟩)
  have h3 : t.fold max ⊥ s ≠ ⊥ := fun h => hr (le_bot_iff.mp (h ▸ h2))
  exact ⟨_, (EReal.coe_toReal h1 h3).symm⟩

/-- What the running triple holds: the sum of weights `L` and the weighted values `A`, relative to the
    running maximum. -/
def Holds (L A : ℝ) (mx l a : EReal) : Prop :=
  ∃ M : ℝ, mx = M ∧ l = ((L * Real.exp (-M) : ℝ) : EReal) ∧ a = ((A * Real.exp (-M) : ℝ) : EReal)

section
variable {ι : Type} [Fintype ι] {s : ι → EReal} (v : ι → ℝ)

/-- One block taken into a triple that already holds something. -/
theorem Holds.step {L A : ℝ} {mx l a : EReal} (h : Holds L A mx l a) (hs : ∀ x, s x ≠ ⊤) :
    Holds (L + ∑ x, E (s x)) (A + ∑ x, E (s x) * v x)
      (max mx (Finset.univ.fold max ⊥ s))
      (Ideal.exp (mx - max mx (Finset.univ.fold max ⊥ s)) * l + ∑ x, Ideal.exp (s x - max mx (Finset.univ.fold max ⊥ s)))
      (Ideal.exp (mx - max mx (Finset.univ.fold max ⊥ s)) * a
        + ∑ x, Ideal.exp (s x - max mx (Finset.univ.fold max ⊥ s)) * ((v x : ℝ) : EReal)) := by
  obtain ⟨M, rfl, rfl, rfl⟩ := h
  have h1 : max (M : EReal) (Finset.univ.fold max ⊥ s) ≠ ⊤ := by
    intro h
    rcases max_eq_iff.mp h with ⟨h, _⟩ | ⟨h, _⟩
    · exact EReal.coe_ne_top M h
    · exact fold_ne_top _ hs h
  have h2 : max (M : EReal) (Finset.univ.fold max ⊥ s) ≠ ⊥ := fun h =>
    EReal.coe_ne_bot M (le_bot_iff.mp (h ▸ le_max_left _ _))
  obtain ⟨M', hM'⟩ : ∃ M' : ℝ, max (M : EReal) (Finset.univ.fold max ⊥ s) = M' := ⟨_, (EReal.coe_toReal h1 h2).symm⟩
  rw [hM', block_sum hs, block_values hs, exp_sub (EReal.coe_ne_top M), E_coe, ← EReal.coe_mul, ← EReal.coe_mul,
    ← EReal.coe_add, ← EReal.coe_add]
  have e : Real.exp M * Real.exp (-M) = 1 := by rw [← Real.exp_add]; simp
  refine ⟨M', rfl, ?_, ?_⟩
  · congr 1; linear_combination L * Real.exp (-M') * e
  · congr 1; linear_combination A * Real.exp (-M') * e

/-- The first block, taken into the empty triple. -/
theorem Holds.first (hs : ∀ x, s x ≠ ⊤) {x : ι} (hx : s x ≠ ⊥) :
    Holds (∑ x, E (s x)) (∑ x, E (s x) * v x)
      (max ⊥ (Finset.univ.fold max ⊥ s))
      (Ideal.exp (⊥ - max ⊥ (Finset.univ.fold max ⊥ s)) * 0 + ∑ x, Ideal.exp (s x - max ⊥ (Finset.univ.fold max ⊥ s)))
      (Ideal.exp (⊥ - max ⊥ (Finset.univ.fold max ⊥ s)) * 0
        + ∑ x, Ideal.exp (s x - max ⊥ (Finset.univ.fold max ⊥ s)) * ((v x : ℝ) : EReal)) := by
  obtain ⟨M, hM⟩ := fold_real hs (Finset.mem_univ x) hx
  rw [hM, max_eq_right bot_le, mul_zero, zero_add, zero_add, block_sum hs, block_values hs]
  exact ⟨M, rfl, rfl, rfl⟩

end

/-- The quotient the kernel ends with. -/
theorem Holds.quotient {L A : ℝ} {mx l a : EReal} (h : Holds L A mx l a) (hL : 0 < L) :
    a * Ideal.div 1 l = ((A / L : ℝ) : EReal) := by
  obtain ⟨M, rfl, rfl, rfl⟩ := h
  have hl : L * Real.exp (-M) ≠ 0 := by positivity
  rw [Ideal.div, if_neg (by exact_mod_cast hl), one_mul, ← EReal.coe_inv, ← EReal.coe_mul]
  congr 1
  have := Real.exp_ne_zero (-M)
  field_simp

/-- One entry of a row's softmax taken at once, relative to any real number. -/
theorem softmax_entry {ι : Type} [Fintype ι] {s : ι → EReal} (hs : ∀ x, s x ≠ ⊤) (hL : 0 < ∑ x, E (s x)) (M : ℝ) (x : ι) :
    Ideal.div (Ideal.exp (s x - (M : EReal))) (∑ y, Ideal.exp (s y - (M : EReal)))
      = ((E (s x) / ∑ y, E (s y) : ℝ) : EReal) := by
  rw [block_sum hs, exp_sub (hs x)]
  have hl : (∑ y, E (s y)) * Real.exp (-M) ≠ 0 := by positivity
  rw [Ideal.div, if_neg (by exact_mod_cast hl), ← EReal.coe_inv, ← EReal.coe_mul]
  congr 1
  have := Real.exp_ne_zero (-M)
  field_simp

/-- A row with a key in sight has a positive sum of weights. -/
theorem sum_pos {ι : Type} [Fintype ι] {s : ι → EReal} (hs : ∀ x, s x ≠ ⊤) {x : ι} (hx : s x ≠ ⊥) : 0 < ∑ y, E (s y) := by
  refine Finset.sum_pos' (fun y _ => E_nonneg _) ⟨x, Finset.mem_univ x, ?_⟩
  obtain ⟨r, hr⟩ : ∃ r : ℝ, s x = r := ⟨_, (EReal.coe_toReal (hs x) hx).symm⟩
  rw [hr, E_coe]; positivity

/-- The difference of two maps' combinations, each normalised at the end, is the combination by the
    difference of the two maps. -/
theorem differential {ι : Type} [Fintype ι] (w1 w2 v : ι → ℝ) (L1 L2 lam : ℝ) :
    ∑ x, ((v x : ℝ) : EReal) * (((w1 x / L1 : ℝ) : EReal) - ((lam : ℝ) : EReal) * ((w2 x / L2 : ℝ) : EReal))
      = (((∑ x, w1 x * v x) / L1 : ℝ) : EReal) - ((lam : ℝ) : EReal) * (((∑ x, w2 x * v x) / L2 : ℝ) : EReal) := by
  have e : ∀ x, ((v x : ℝ) : EReal) * (((w1 x / L1 : ℝ) : EReal) - ((lam : ℝ) : EReal) * ((w2 x / L2 : ℝ) : EReal))
      = ((v x * (w1 x / L1 - lam * (w2 x / L2)) : ℝ) : EReal) := fun x => by
    rw [← EReal.coe_mul, ← EReal.coe_sub, ← EReal.coe_mul]
  rw [Finset.sum_congr rfl fun x _ => e x, coe_sum, ← EReal.coe_mul, ← EReal.coe_sub]
  congr 1
  rw [Finset.sum_div, Finset.sum_div, Finset.mul_sum, ← Finset.sum_sub_distrib]
  exact Finset.sum_congr rfl fun x _ => by ring

end Cert.Attn

end
-- ==== Proof.Tiles.lean ====
module

public import proofs.«01_k».proof.Proof.Tail
public import proofs.«01_k».proof.Proof.Softmax
public import Idealize.ShloMosaic.Lib.Pointwise
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

/-! # The two bias tiles -/

/-! ## Where the table's loads sit -/

theorem off1 (t : Fin cfg0.N) : k0_off1 (grid0.coords t) = ![31, t.val / 64 % 4] :=
  (by decide +kernel : ∀ t : Fin cfg0.N, k0_off1 (grid0.coords t) = ![31, t.val / 64 % 4]) t
theorem off2 (t : Fin cfg0.N) : k0_off2 (grid0.coords t) = ![30, t.val / 64 % 4] :=
  (by decide +kernel : ∀ t : Fin cfg0.N, k0_off2 (grid0.coords t) = ![30, t.val / 64 % 4]) t
theorem off3 (t : Fin cfg0.N) : k0_off3 (grid0.coords t) = ![29, t.val / 64 % 4] :=
  (by decide +kernel : ∀ t : Fin cfg0.N, k0_off3 (grid0.coords t) = ![29, t.val / 64 % 4]) t
theorem off4 (t : Fin cfg0.N) : k0_off4 (grid0.coords t) = ![28, t.val / 64 % 4] :=
  (by decide +kernel : ∀ t : Fin cfg0.N, k0_off4 (grid0.coords t) = ![28, t.val / 64 % 4]) t
theorem off5 (t : Fin cfg0.N) : k0_off5 (grid0.coords t) = ![27, t.val / 64 % 4] :=
  (by decide +kernel : ∀ t : Fin cfg0.N, k0_off5 (grid0.coords t) = ![27, t.val / 64 % 4]) t
theorem off6 (t : Fin cfg0.N) : k0_off6 (grid0.coords t) = ![26, t.val / 64 % 4] :=
  (by decide +kernel : ∀ t : Fin cfg0.N, k0_off6 (grid0.coords t) = ![26, t.val / 64 % 4]) t
theorem off7 (t : Fin cfg0.N) : k0_off7 (grid0.coords t) = ![25, t.val / 64 % 4] :=
  (by decide +kernel : ∀ t : Fin cfg0.N, k0_off7 (grid0.coords t) = ![25, t.val / 64 % 4]) t
theorem off8 (t : Fin cfg0.N) : k0_off8 (grid0.coords t) = ![24, t.val / 64 % 4] :=
  (by decide +kernel : ∀ t : Fin cfg0.N, k0_off8 (grid0.coords t) = ![24, t.val / 64 % 4]) t
theorem off9 (t : Fin cfg0.N) : k0_off9 (grid0.coords t) = ![23, t.val / 64 % 4] :=
  (by decide +kernel : ∀ t : Fin cfg0.N, k0_off9 (grid0.coords t) = ![23, t.val / 64 % 4]) t
theorem off10 (t : Fin cfg0.N) : k0_off10 (grid0.coords t) = ![22, t.val / 64 % 4] :=
  (by decide +kernel : ∀ t : Fin cfg0.N, k0_off10 (grid0.coords t) = ![22, t.val / 64 % 4]) t
theorem off11 (t : Fin cfg0.N) : k0_off11 (grid0.coords t) = ![21, t.val / 64 % 4] :=
  (by decide +kernel : ∀ t : Fin cfg0.N, k0_off11 (grid0.coords t) = ![21, t.val / 64 % 4]) t
theorem off12 (t : Fin cfg0.N) : k0_off12 (grid0.coords t) = ![20, t.val / 64 % 4] :=
  (by decide +kernel : ∀ t : Fin cfg0.N, k0_off12 (grid0.coords t) = ![20, t.val / 64 % 4]) t
theorem off13 (t : Fin cfg0.N) : k0_off13 (grid0.coords t) = ![19, t.val / 64 % 4] :=
  (by decide +kernel : ∀ t : Fin cfg0.N, k0_off13 (grid0.coords t) = ![19, t.val / 64 % 4]) t
theorem off14 (t : Fin cfg0.N) : k0_off14 (grid0.coords t) = ![18, t.val / 64 % 4] :=
  (by decide +kernel : ∀ t : Fin cfg0.N, k0_off14 (grid0.coords t) = ![18, t.val / 64 % 4]) t
theorem off15 (t : Fin cfg0.N) : k0_off15 (grid0.coords t) = ![17, t.val / 64 % 4] :=
  (by decide +kernel : ∀ t : Fin cfg0.N, k0_off15 (grid0.coords t) = ![17, t.val / 64 % 4]) t
theorem off16 (t : Fin cfg0.N) : k0_off16 (grid0.coords t) = ![16, t.val / 64 % 4] :=
  (by decide +kernel : ∀ t : Fin cfg0.N, k0_off16 (grid0.coords t) = ![16, t.val / 64 % 4]) t
theorem off17 (t : Fin cfg0.N) : k0_off17 (grid0.coords t) = ![15, t.val / 64 % 4] :=
  (by decide +kernel : ∀ t : Fin cfg0.N, k0_off17 (grid0.coords t) = ![15, t.val / 64 % 4]) t
theorem off18 (t : Fin cfg0.N) : k0_off18 (grid0.coords t) = ![14, t.val / 64 % 4] :=
  (by decide +kernel : ∀ t : Fin cfg0.N, k0_off18 (grid0.coords t) = ![14, t.val / 64 % 4]) t
theorem off19 (t : Fin cfg0.N) : k0_off19 (grid0.coords t) = ![13, t.val / 64 % 4] :=
  (by decide +kernel : ∀ t : Fin cfg0.N, k0_off19 (grid0.coords t) = ![13, t.val / 64 % 4]) t
theorem off20 (t : Fin cfg0.N) : k0_off20 (grid0.coords t) = ![12, t.val / 64 % 4] :=
  (by decide +kernel : ∀ t : Fin cfg0.N, k0_off20 (grid0.coords t) = ![12, t.val / 64 % 4]) t
theorem off21 (t : Fin cfg0.N) : k0_off21 (grid0.coords t) = ![11, t.val / 64 % 4] :=
  (by decide +kernel : ∀ t : Fin cfg0.N, k0_off21 (grid0.coords t) = ![11, t.val / 64 % 4]) t
theorem off22 (t : Fin cfg0.N) : k0_off22 (grid0.coords t) = ![10, t.val / 64 % 4] :=
  (by decide +kernel : ∀ t : Fin cfg0.N, k0_off22 (grid0.coords t) = ![10, t.val / 64 % 4]) t
theorem off23 (t : Fin cfg0.N) : k0_off23 (grid0.coords t) = ![9, t.val / 64 % 4] :=
  (by decide +kernel : ∀ t : Fin cfg0.N, k0_off23 (grid0.coords t) = ![9, t.val / 64 % 4]) t
theorem off24 (t : Fin cfg0.N) : k0_off24 (grid0.coords t) = ![8, t.val / 64 % 4] :=
  (by decide +kernel : ∀ t : Fin cfg0.N, k0_off24 (grid0.coords t) = ![8, t.val / 64 % 4]) t
theorem off25 (t : Fin cfg0.N) : k0_off25 (grid0.coords t) = ![7, t.val / 64 % 4] :=
  (by decide +kernel : ∀ t : Fin cfg0.N, k0_off25 (grid0.coords t) = ![7, t.val / 64 % 4]) t
theorem off26 (t : Fin cfg0.N) : k0_off26 (grid0.coords t) = ![6, t.val / 64 % 4] :=
  (by decide +kernel : ∀ t : Fin cfg0.N, k0_off26 (grid0.coords t) = ![6, t.val / 64 % 4]) t
theorem off27 (t : Fin cfg0.N) : k0_off27 (grid0.coords t) = ![5, t.val / 64 % 4] :=
  (by decide +kernel : ∀ t : Fin cfg0.N, k0_off27 (grid0.coords t) = ![5, t.val / 64 % 4]) t
theorem off28 (t : Fin cfg0.N) : k0_off28 (grid0.coords t) = ![4, t.val / 64 % 4] :=
  (by decide +kernel : ∀ t : Fin cfg0.N, k0_off28 (grid0.coords t) = ![4, t.val / 64 % 4]) t
theorem off29 (t : Fin cfg0.N) : k0_off29 (grid0.coords t) = ![3, t.val / 64 % 4] :=
  (by decide +kernel : ∀ t : Fin cfg0.N, k0_off29 (grid0.coords t) = ![3, t.val / 64 % 4]) t
theorem off30 (t : Fin cfg0.N) : k0_off30 (grid0.coords t) = ![2, t.val / 64 % 4] :=
  (by decide +kernel : ∀ t : Fin cfg0.N, k0_off30 (grid0.coords t) = ![2, t.val / 64 % 4]) t
theorem off31 (t : Fin cfg0.N) : k0_off31 (grid0.coords t) = ![1, t.val / 64 % 4] :=
  (by decide +kernel : ∀ t : Fin cfg0.N, k0_off31 (grid0.coords t) = ![1, t.val / 64 % 4]) t
theorem off32 (t : Fin cfg0.N) : k0_off32 (grid0.coords t) = ![0, t.val / 64 % 4] :=
  (by decide +kernel : ∀ t : Fin cfg0.N, k0_off32 (grid0.coords t) = ![0, t.val / 64 % 4]) t

/-- A load of one word of the table. -/
theorem load_entry (M : Memref sig .tc .smem S32x4 .f32) (hM : M.IsWhole) (y : FVec Ideal S32x4 .f32) (off : Fin 2 → ℕ) (h) (x) (b : Fin 32) (k : Fin 4)
    (e : off = ![b.val, k.val]) :
    View.readAt (Elt Ideal) M.view (Rect.unit (s := S32x4) off ![1, 1] h).toLoadRect (hM.unread y) x = y (ix2 b k) := by
  subst e
  rw [hM.readAt_unread]
  refine congrArg y ?_
  funext a
  have h0 : (x 0).val < 1 := (x 0).isLt
  have h1 : (x 1).val < 1 := (x 1).isLt
  fin_cases a
  · apply Fin.ext; show b.val + 1 * (x 0).val = b.val; omega
  · apply Fin.ext; show k.val + 1 * (x 1).val = k.val; omega

/-! ## The chain of choices -/

/-- The thresholds: below the first word of a pair the bucket is at most the second. -/
def steps : List (BitVec 32 × Fin 32) := [(113#32, 30), (99#32, 29), (87#32, 28), (77#32, 27), (67#32, 26), (59#32, 25), (52#32, 24), (46#32, 23), (40#32, 22), (35#32, 21), (31#32, 20), (27#32, 19), (24#32, 18), (21#32, 17), (19#32, 16), (16#32, 15), (15#32, 14), (14#32, 13), (13#32, 12), (12#32, 11), (11#32, 10), (10#32, 9), (9#32, 8), (8#32, 7), (7#32, 6), (6#32, 5), (5#32, 4), (4#32, 3), (3#32, 2), (2#32, 1), (1#32, 0)]

/-- The bucket of a distance, by the chain of choices. -/
def chainIx (d : BitVec 32) : Fin 32 := steps.foldl (fun x p => Scalar.select (IntOp.cmpi .slt d p.1) p.2 x) 31

/-- The chain over the table's words is the table at the chain over the buckets. -/
theorem chain_at (f : Fin 32 → EReal) (d : BitVec 32) (l : List (BitVec 32 × Fin 32)) (x : Fin 32) :
    l.foldl (fun y p => Scalar.select (IntOp.cmpi .slt d p.1) (f p.2) y) (f x)
      = f (l.foldl (fun x p => Scalar.select (IntOp.cmpi .slt d p.1) p.2 x) x) := by
  induction l generalizing x with
  | nil => rfl
  | cons p l ih =>
    simp only [List.foldl_cons]
    rw [← ih]
    congr 1
    unfold Scalar.select
    split <;> rfl

/-- The bias at a distance: the table's bucket, or `-∞` where the key is not yet there. -/
def biasWord (f : Fin 32 → EReal) (d : BitVec 32) : EReal :=
  Scalar.select (IntOp.cmpi .sge d 0#32) (f (chainIx d)) ⊥

/-- The same, choice by choice. -/
theorem biasWord_eq (f : Fin 32 → EReal) (d : BitVec 32) :
    biasWord f d = Scalar.select (IntOp.cmpi .sge d 0#32)
      (Scalar.select (IntOp.cmpi .slt d 1#32) (f 0) (Scalar.select (IntOp.cmpi .slt d 2#32) (f 1) (Scalar.select (IntOp.cmpi .slt d 3#32) (f 2) (Scalar.select (IntOp.cmpi .slt d 4#32) (f 3) (Scalar.select (IntOp.cmpi .slt d 5#32) (f 4) (Scalar.select (IntOp.cmpi .slt d 6#32) (f 5) (Scalar.select (IntOp.cmpi .slt d 7#32) (f 6) (Scalar.select (IntOp.cmpi .slt d 8#32) (f 7) (Scalar.select (IntOp.cmpi .slt d 9#32) (f 8) (Scalar.select (IntOp.cmpi .slt d 10#32) (f 9) (Scalar.select (IntOp.cmpi .slt d 11#32) (f 10) (Scalar.select (IntOp.cmpi .slt d 12#32) (f 11) (Scalar.select (IntOp.cmpi .slt d 13#32) (f 12) (Scalar.select (IntOp.cmpi .slt d 14#32) (f 13) (Scalar.select (IntOp.cmpi .slt d 15#32) (f 14) (Scalar.select (IntOp.cmpi .slt d 16#32) (f 15) (Scalar.select (IntOp.cmpi .slt d 19#32) (f 16) (Scalar.select (IntOp.cmpi .slt d 21#32) (f 17) (Scalar.select (IntOp.cmpi .slt d 24#32) (f 18) (Scalar.select (IntOp.cmpi .slt d 27#32) (f 19) (Scalar.select (IntOp.cmpi .slt d 31#32) (f 20) (Scalar.select (IntOp.cmpi .slt d 35#32) (f 21) (Scalar.select (IntOp.cmpi .slt d 40#32) (f 22) (Scalar.select (IntOp.cmpi .slt d 46#32) (f 23) (Scalar.select (IntOp.cmpi .slt d 52#32) (f 24) (Scalar.select (IntOp.cmpi .slt d 59#32) (f 25) (Scalar.select (IntOp.cmpi .slt d 67#32) (f 26) (Scalar.select (IntOp.cmpi .slt d 77#32) (f 27) (Scalar.select (IntOp.cmpi .slt d 87#32) (f 28) (Scalar.select (IntOp.cmpi .slt d 99#32) (f 29) (Scalar.select (IntOp.cmpi .slt d 113#32) (f 30) (f 31)))))))))))))))))))))))))))))))) ⊥ := by
  unfold biasWord chainIx
  rw [← chain_at f d steps 31]
  rfl

/-- A tile pair stored as its two tiles, read back. -/
theorem two_tiles (inb1 inb0) (w1 w0 : FVec Ideal S1x512x512 .f32) (a : Fin 2) (i j : Fin 512) :
    View.canon (Val := Elt Ideal) (s := S2x512x512) (e := .f32)
      [⟨Rect.unit ![1, 0, 0] ![1, 512, 512] inb1, w1⟩, ⟨Rect.unit ![0, 0, 0] ![1, 512, 512] inb0, w0⟩] (ix3 a i j)
      = if a = 1 then w1 (ix3 0 i j) else w0 (ix3 0 i j) := by
  fin_cases a
  · have e : (Rect.unit (s := S2x512x512) ![0, 0, 0] ![1, 512, 512] inb0).emb (ix3 (0 : Fin 1) i j) = ix3 (0 : Fin 2) i j := by
      funext a; fin_cases a <;> apply Fin.ext
      · rfl
      · show 0 + 1 * i.val = i.val; omega
      · show 0 + 1 * j.val = j.val; omega
    rw [View.canon_cons_of_not_mem]
    · refine Eq.trans ?_ (if_neg (by decide)).symm
      refine (congrArg _ e.symm).trans ?_
      exact View.canon_cons_emb _ _ _ _
    · intro hm
      have := (Rect.mem_set_unit (s := S2x512x512) (off := ![1, 0, 0]) (size := ![1, 512, 512]) (inb := inb1) (i := ix3 (0 : Fin 2) i j)).mp hm 0
      exact absurd this.1 (by show ¬ (1 ≤ 0); decide)
  · have e : (Rect.unit (s := S2x512x512) ![1, 0, 0] ![1, 512, 512] inb1).emb (ix3 (0 : Fin 1) i j) = ix3 (1 : Fin 2) i j := by
      funext a; fin_cases a <;> apply Fin.ext
      · rfl
      · show 0 + 1 * i.val = i.val; omega
      · show 0 + 1 * j.val = j.val; omega
    refine Eq.trans ?_ (if_pos rfl).symm
    refine (congrArg _ e.symm).trans ?_
    exact View.canon_cons_emb _ _ _ _

/-- The tiles the first point of a head pair builds. -/
theorem bias_eq (c : Dev nD) (t : Fin cfg0.N) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) (x0 h) (a : Fin 2) (i j : Fin 512) :
    View.canon (biasRun (F := Ideal) c (grid0.coords t) arg3 harg3 arg4 harg4 arg5 harg5 arg6 harg6 arg7 harg7 arg8 harg8 arg9 harg9 arg10 harg10 arg11 harg11 arg12 harg12 h x0).1 (ix3 a i j)
      = biasWord (fun b => x0 (ix2 b ⟨t.val / 64 % 4, Nat.mod_lt _ (by omega)⟩))
          (BitVec.ofNat 32 i.val - BitVec.ofNat 32 j.val + BitVec.ofNat 32 (512 * a.val)) := by
  unfold biasRun
  dsimp only
  simp only [biasRun.sl.r_1, biasRun.sl.r_2, biasRun.sl.r_3, biasRun.sl.r_4, biasRun.sl.r_5, biasRun.sl.r_6, biasRun.sl.r_7, biasRun.sl.r_8, biasRun.sl.r_9, biasRun.sl.r_10, biasRun.sl.r_11, biasRun.sl.r_12, biasRun.sl.r_13, biasRun.sl.r_14, biasRun.sl.r_15, biasRun.sl.r_16, biasRun.sl.r_17, biasRun.sl.r_18, biasRun.sl.r_19, biasRun.sl.r_20, biasRun.sl.r_21, biasRun.sl.r_22, biasRun.sl.r_23, biasRun.sl.r_24, biasRun.sl.r_25, biasRun.sl.r_26, biasRun.sl.r_27, biasRun.sl.r_28, biasRun.sl.r_29, biasRun.sl.r_30, biasRun.sl.r_31, biasRun.sl.r_32, biasRun.sl.r_33, biasRun.sl.r_34, biasRun.sl.r_35, biasRun.sl.r_36, biasRun.sl.r_37, biasRun.sl.r_38, biasRun.sl.r_39, biasRun.sl.r, biasRun.sl.v185, biasRun.sl.v186]
  rw [load_entry arg3 harg3 x0 _ _ _ 31 ⟨t.val / 64 % 4, Nat.mod_lt _ (by omega)⟩ (off1 t),
    load_entry arg3 harg3 x0 _ _ _ 30 ⟨t.val / 64 % 4, Nat.mod_lt _ (by omega)⟩ (off2 t),
    load_entry arg3 harg3 x0 _ _ _ 29 ⟨t.val / 64 % 4, Nat.mod_lt _ (by omega)⟩ (off3 t),
    load_entry arg3 harg3 x0 _ _ _ 28 ⟨t.val / 64 % 4, Nat.mod_lt _ (by omega)⟩ (off4 t),
    load_entry arg3 harg3 x0 _ _ _ 27 ⟨t.val / 64 % 4, Nat.mod_lt _ (by omega)⟩ (off5 t),
    load_entry arg3 harg3 x0 _ _ _ 26 ⟨t.val / 64 % 4, Nat.mod_lt _ (by omega)⟩ (off6 t),
    load_entry arg3 harg3 x0 _ _ _ 25 ⟨t.val / 64 % 4, Nat.mod_lt _ (by omega)⟩ (off7 t),
    load_entry arg3 harg3 x0 _ _ _ 24 ⟨t.val / 64 % 4, Nat.mod_lt _ (by omega)⟩ (off8 t),
    load_entry arg3 harg3 x0 _ _ _ 23 ⟨t.val / 64 % 4, Nat.mod_lt _ (by omega)⟩ (off9 t),
    load_entry arg3 harg3 x0 _ _ _ 22 ⟨t.val / 64 % 4, Nat.mod_lt _ (by omega)⟩ (off10 t),
    load_entry arg3 harg3 x0 _ _ _ 21 ⟨t.val / 64 % 4, Nat.mod_lt _ (by omega)⟩ (off11 t),
    load_entry arg3 harg3 x0 _ _ _ 20 ⟨t.val / 64 % 4, Nat.mod_lt _ (by omega)⟩ (off12 t),
    load_entry arg3 harg3 x0 _ _ _ 19 ⟨t.val / 64 % 4, Nat.mod_lt _ (by omega)⟩ (off13 t),
    load_entry arg3 harg3 x0 _ _ _ 18 ⟨t.val / 64 % 4, Nat.mod_lt _ (by omega)⟩ (off14 t),
    load_entry arg3 harg3 x0 _ _ _ 17 ⟨t.val / 64 % 4, Nat.mod_lt _ (by omega)⟩ (off15 t),
    load_entry arg3 harg3 x0 _ _ _ 16 ⟨t.val / 64 % 4, Nat.mod_lt _ (by omega)⟩ (off16 t),
    load_entry arg3 harg3 x0 _ _ _ 15 ⟨t.val / 64 % 4, Nat.mod_lt _ (by omega)⟩ (off17 t),
    load_entry arg3 harg3 x0 _ _ _ 14 ⟨t.val / 64 % 4, Nat.mod_lt _ (by omega)⟩ (off18 t),
    load_entry arg3 harg3 x0 _ _ _ 13 ⟨t.val / 64 % 4, Nat.mod_lt _ (by omega)⟩ (off19 t),
    load_entry arg3 harg3 x0 _ _ _ 12 ⟨t.val / 64 % 4, Nat.mod_lt _ (by omega)⟩ (off20 t),
    load_entry arg3 harg3 x0 _ _ _ 11 ⟨t.val / 64 % 4, Nat.mod_lt _ (by omega)⟩ (off21 t),
    load_entry arg3 harg3 x0 _ _ _ 10 ⟨t.val / 64 % 4, Nat.mod_lt _ (by omega)⟩ (off22 t),
    load_entry arg3 harg3 x0 _ _ _ 9 ⟨t.val / 64 % 4, Nat.mod_lt _ (by omega)⟩ (off23 t),
    load_entry arg3 harg3 x0 _ _ _ 8 ⟨t.val / 64 % 4, Nat.mod_lt _ (by omega)⟩ (off24 t),
    load_entry arg3 harg3 x0 _ _ _ 7 ⟨t.val / 64 % 4, Nat.mod_lt _ (by omega)⟩ (off25 t),
    load_entry arg3 harg3 x0 _ _ _ 6 ⟨t.val / 64 % 4, Nat.mod_lt _ (by omega)⟩ (off26 t),
    load_entry arg3 harg3 x0 _ _ _ 5 ⟨t.val / 64 % 4, Nat.mod_lt _ (by omega)⟩ (off27 t),
    load_entry arg3 harg3 x0 _ _ _ 4 ⟨t.val / 64 % 4, Nat.mod_lt _ (by omega)⟩ (off28 t),
    load_entry arg3 harg3 x0 _ _ _ 3 ⟨t.val / 64 % 4, Nat.mod_lt _ (by omega)⟩ (off29 t),
    load_entry arg3 harg3 x0 _ _ _ 2 ⟨t.val / 64 % 4, Nat.mod_lt _ (by omega)⟩ (off30 t),
    load_entry arg3 harg3 x0 _ _ _ 1 ⟨t.val / 64 % 4, Nat.mod_lt _ (by omega)⟩ (off31 t),
    load_entry arg3 harg3 x0 _ _ _ 0 ⟨t.val / 64 % 4, Nat.mod_lt _ (by omega)⟩ (off32 t)]
  refine (two_tiles _ _ _ _ a i j).trans ?_
  rw [biasWord_eq]
  fin_cases a
  · refine (if_neg (by decide)).trans ?_
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
    simp only [mask_eq, IntOp.subi, IntOp.addi]
  · refine (if_pos rfl).trans ?_
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
    simp only [mask_eq, IntOp.subi, IntOp.addi]

/-- The first point of a sequence copies the keys and the values as they are. -/
theorem copy_eq (c : Dev nD) (t : Fin cfg0.N) (arg3 : Memref sig .tc .smem S32x4 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S512x128 .bf16) (harg9 : arg9.IsWhole) (arg10 : Memref sig .tc .vmem S2x512x512 .f32) (harg10 : arg10.IsWhole) (arg11 : Memref sig .tc .vmem S2048x128 .bf16) (harg11 : arg11.IsWhole) (arg12 : Memref sig .tc .vmem S2048x128 .bf16) (harg12 : arg12.IsWhole) (x2 x3) :
    View.canon (copyRun (F := Ideal) c (grid0.coords t) arg3 harg3 arg4 harg4 arg5 harg5 arg6 harg6 arg7 harg7 arg8 harg8 arg9 harg9 arg10 harg10 arg11 harg11 arg12 harg12 x2 x3).1 = x2
      ∧ View.canon (copyRun (F := Ideal) c (grid0.coords t) arg3 harg3 arg4 harg4 arg5 harg5 arg6 harg6 arg7 harg7 arg8 harg8 arg9 harg9 arg10 harg10 arg11 harg11 arg12 harg12 x2 x3).2.1 = x3 := by
  unfold copyRun
  dsimp only
  constructor
  · refine (View.canon_cons_unit_lit (S := S2048x128) inb_S2048x128_S2048x128_0_0 _ _ (by decide)).trans ?_
    rw [load_whole arg5 harg5 x2]
    funext j; idx_vars j; pointwise [k0_pay20]
  · refine (View.canon_cons_unit_lit (S := S2048x128) inb_S2048x128_S2048x128_0_0 _ _ (by decide)).trans ?_
    rw [load_whole arg6 harg6 x3]
    funext j; idx_vars j; pointwise [k0_pay21]

/-! ## The carried contents -/

variable (m : (ℓ : Loc nD τ sig) → Buf (Elt Ideal) ℓ)

theorem pt64_cond (t : Fin cfg0.N) : k0_cond1 (grid0.coords (pt64 t)) = 1#1 :=
  (by decide +kernel : ∀ t : Fin cfg0.N, k0_cond1 (grid0.coords (pt64 t)) = 1#1) t

theorem pt64_head (t : Fin cfg0.N) : (pt64 t).val / 64 % 4 = t.val / 64 % 4 :=
  (by decide +kernel : ∀ t : Fin cfg0.N, (pt64 t).val / 64 % 4 = t.val / 64 % 4) t

/-- The tiles while point `t` runs, by the table its head pair's first point read. -/
theorem biasAt_at (c : Dev nD) (t : Fin cfg0.N) (a : Fin 2) (i j : Fin 512) :
    (biasAt m c t : FVec Ideal S2x512x512 .f32) (ix3 a i j)
      = biasWord (fun b => (iblk m c 0 (pt64 t) : FVec Ideal S32x4 .f32) (ix2 b ⟨t.val / 64 % 4, Nat.mod_lt _ (by omega)⟩))
          (BitVec.ofNat 32 i.val - BitVec.ofNat 32 j.val + BitVec.ofNat 32 (512 * a.val)) := by
  unfold biasAt biasOf
  rw [dif_pos (pt64_cond t)]
  refine (bias_eq c (pt64 t) (st0 (pt64 t)) (hst0 (pt64 t)) (st1 (pt64 t)) (hst1 (pt64 t)) (st2 (pt64 t)) (hst2 (pt64 t)) (st3 (pt64 t)) (hst3 (pt64 t)) (st4 (pt64 t)) (hst4 (pt64 t)) (st5 (pt64 t)) (hst5 (pt64 t)) (st6 (pt64 t)) (hst6 (pt64 t)) sc0 (Memref.isWhole_whole _) sc1 (Memref.isWhole_whole _) sc2 (Memref.isWhole_whole _) _ _ a i j).trans ?_
  have e : (⟨(pt64 t).val / 64 % 4, Nat.mod_lt _ (by omega)⟩ : Fin 4) = ⟨t.val / 64 % 4, Nat.mod_lt _ (by omega)⟩ := Fin.ext (pt64_head t)
  rw [e]

theorem keyAt_eq (c : Dev nD) (t : Fin cfg0.N) : keyAt m c t = iblk m c 2 (pt4 t) :=
  (copy_eq c (pt4 t) (st0 (pt4 t)) (hst0 (pt4 t)) (st1 (pt4 t)) (hst1 (pt4 t)) (st2 (pt4 t)) (hst2 (pt4 t)) (st3 (pt4 t)) (hst3 (pt4 t)) (st4 (pt4 t)) (hst4 (pt4 t)) (st5 (pt4 t)) (hst5 (pt4 t)) (st6 (pt4 t)) (hst6 (pt4 t)) sc0 (Memref.isWhole_whole _) sc1 (Memref.isWhole_whole _) sc2 (Memref.isWhole_whole _) (iblk m c 2 (pt4 t)) (iblk m c 3 (pt4 t))).1

theorem valAt_eq (c : Dev nD) (t : Fin cfg0.N) : valAt m c t = iblk m c 3 (pt4 t) :=
  (copy_eq c (pt4 t) (st0 (pt4 t)) (hst0 (pt4 t)) (st1 (pt4 t)) (hst1 (pt4 t)) (st2 (pt4 t)) (hst2 (pt4 t)) (st3 (pt4 t)) (hst3 (pt4 t)) (st4 (pt4 t)) (hst4 (pt4 t)) (st5 (pt4 t)) (hst5 (pt4 t)) (st6 (pt4 t)) (hst6 (pt4 t)) sc0 (Memref.isWhole_whole _) sc1 (Memref.isWhole_whole _) sc2 (Memref.isWhole_whole _) (iblk m c 2 (pt4 t)) (iblk m c 3 (pt4 t))).2

end Cert.KernelIdeal.Body

end
-- ==== Proof.Blocks.lean ====
module

public import proofs.«01_k».proof.Proof.Tiles
public import Idealize.ShloMosaic.Lib.Claim
public import Idealize.ShloMosaic.Lib.StableHlo.RunRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

/-! # What the blocks hold, in the call's arguments -/

variable (m : (ℓ : Loc nD τ sig) → Buf (Elt Ideal) ℓ)

theorem idx (t : Fin cfg0.N) : win0_0.index t = ![0, 0] ∧ win0_1.index t = ![t.val % 64, t.val / 64 % 4]
    ∧ win0_2.index t = ![t.val / 4 % 16, t.val / 64 % 4] ∧ win0_3.index t = ![t.val / 4 % 16, t.val / 64 % 4]
    ∧ win0_4.index t = ![0, 0] ∧ win0_5.index t = ![0, 0] :=
  (by decide +kernel : ∀ t : Fin cfg0.N, win0_0.index t = ![0, 0] ∧ win0_1.index t = ![t.val % 64, t.val / 64 % 4]
    ∧ win0_2.index t = ![t.val / 4 % 16, t.val / 64 % 4] ∧ win0_3.index t = ![t.val / 4 % 16, t.val / 64 % 4]
    ∧ win0_4.index t = ![0, 0] ∧ win0_5.index t = ![0, 0]) t

/-- The batch, the head pair and the query block of point `t`. -/
def bOf (t : Fin cfg0.N) : Fin 16 := ⟨t.val / 4 % 16, Nat.mod_lt _ (by omega)⟩
def hOf (t : Fin cfg0.N) : Fin 4 := ⟨t.val / 64 % 4, Nat.mod_lt _ (by omega)⟩

/-- The queries. -/
abbrev argQ (c : Dev nD) : FVec Ideal S16x2048x4x2x64 .f32 := m ((c : Thread nD τ).loc main_arg0)

/-- The keys, the values, the table, the four weight vectors, the gains. -/
abbrev argK (c : Dev nD) : FVec Ideal S16x2048x4x2x64 .f32 := m ((c : Thread nD τ).loc main_arg1)
abbrev argV (c : Dev nD) : FVec Ideal S16x2048x4x128 .f32 := m ((c : Thread nD τ).loc main_arg2)
abbrev argT (c : Dev nD) : FVec Ideal S32x4 .f32 := m ((c : Thread nD τ).loc main_arg3)
abbrev argA (c : Dev nD) : FVec Ideal S64 .f32 := m ((c : Thread nD τ).loc main_arg4)
abbrev argB (c : Dev nD) : FVec Ideal S64 .f32 := m ((c : Thread nD τ).loc main_arg5)
abbrev argC (c : Dev nD) : FVec Ideal S64 .f32 := m ((c : Thread nD τ).loc main_arg6)
abbrev argD (c : Dev nD) : FVec Ideal S64 .f32 := m ((c : Thread nD τ).loc main_arg7)
abbrev argG (c : Dev nD) : FVec Ideal S128 .f32 := m ((c : Thread nD τ).loc main_arg8)

theorem table_at (c : Dev nD) (t : Fin cfg0.N) (b : Fin 32) (k : Fin 4) :
    (iblk m c 0 t : FVec Ideal S32x4 .f32) (ix2 b k) = argT m c (ix2 b k) := by
  blk_point [iblk, V, idx t]

/-- A query entry: scaled by the exact eighth. -/
theorem query_at (c : Dev nD) (t : Fin cfg0.N) (i : Fin 512) (e : Fin 128) :
    (iblk m c 1 t : FVec Ideal S512x128 .f32) (ix2 i e)
      = argQ m c (ix5 (bOf t) ⟨512 * (t.val % 4) + i.val, by omega⟩ (hOf t) ⟨e.val / 64, by omega⟩ ⟨e.val % 64, by omega⟩)
        * Ideal.ofBits .f32 0x3E000000#32 := by
  blk_simp [iblk, idx t]
  entry_read
  pointwise
  refine congrArg (· * Ideal.ofBits .f32 0x3E000000#32) ?_
  unfold argQ
  blk_ext [idx t] <;> simp only [bOf, hOf] <;> omega
theorem key_at (c : Dev nD) (t : Fin cfg0.N) (i : Fin 2048) (e : Fin 128) :
    (iblk m c 2 t : FVec Ideal S2048x128 .f32) (ix2 i e)
      = argK m c
          (ix5 (bOf t) i (hOf t) ⟨e.val / 64, by omega⟩ ⟨e.val % 64, by omega⟩) := by
  blk_point [iblk, V, idx t] <;> simp only [bOf, hOf] <;> omega
theorem value_at (c : Dev nD) (t : Fin cfg0.N) (i : Fin 2048) (e : Fin 128) :
    (iblk m c 3 t : FVec Ideal S2048x128 .f32) (ix2 i e)
      = argV m c
          (ix4 (bOf t) i (hOf t) e) := by
  blk_point [iblk, V, idx t] <;> simp only [bOf, hOf] <;> omega
theorem gain_at (c : Dev nD) (t : Fin cfg0.N) (e : Fin 128) :
    (iblk m c 5 t : FVec Ideal S1x128 .f32) (ix2 0 e)
      = argG m c (ix1 e) := by
  blk_point [iblk, V, idx t]

/-- A vector of 64 as a row. -/
abbrev rowOf (x : FVec Ideal S64 .f32) : FVec Ideal S1x64 .f32 := broadcastInDim S1x64 ![1] bcast_S64_S1x64_1 x

/-- Four rows stacked. -/
def stack4 (a b c d : FVec Ideal S1x64 .f32) : FVec Ideal S4x64 .f32 :=
  concatenate S4x64 0 [⟨S1x64, a⟩, ⟨S1x64, b⟩, ⟨S1x64, c⟩, ⟨S1x64, d⟩] concatenates_S1x64_S1x64_S1x64_S1x64_S4x64_d0

theorem stack_eq (c : Dev nD) : (V m c main_v4 : FVec Ideal S4x64 .f32)
    = stack4 (rowOf (argA m c)) (rowOf (argB m c)) (rowOf (argC m c)) (rowOf (argD m c)) := by
  refine (StableHlo.after_last_write (ops := hostOps0) (i := 4) [main_v5, main_cst, main_v6, main_v7, main_v8, main_v9, main_v10] rfl rfl (by decide) _).trans ?_
  rw [StableHlo.nary_result]
  have h0 : StableHlo.upto hostOps0 (fun b => m (c, b)) 4 (Proc.tc.devRef main_v0) = rowOf (m ((c : Thread nD τ).loc main_arg4)) := by
    refine (StableHlo.after_last_write (ops := hostOps0.take 4) (i := 0) [main_v1, main_v2, main_v3] rfl rfl (by decide) _).trans ?_
    rw [StableHlo.unary_result]
    exact congrArg rowOf (StableHlo.after_unwritten (ops := hostOps0.take 0) [] (r := main_arg4) rfl (by decide) _)
  have h1 : StableHlo.upto hostOps0 (fun b => m (c, b)) 4 (Proc.tc.devRef main_v1) = rowOf (m ((c : Thread nD τ).loc main_arg5)) := by
    refine (StableHlo.after_last_write (ops := hostOps0.take 4) (i := 1) [main_v2, main_v3] rfl rfl (by decide) _).trans ?_
    rw [StableHlo.unary_result]
    exact congrArg rowOf (StableHlo.after_unwritten (ops := hostOps0.take 1) [main_v0] (r := main_arg5) rfl (by decide) _)
  have h2 : StableHlo.upto hostOps0 (fun b => m (c, b)) 4 (Proc.tc.devRef main_v2) = rowOf (m ((c : Thread nD τ).loc main_arg6)) := by
    refine (StableHlo.after_last_write (ops := hostOps0.take 4) (i := 2) [main_v3] rfl rfl (by decide) _).trans ?_
    rw [StableHlo.unary_result]
    exact congrArg rowOf (StableHlo.after_unwritten (ops := hostOps0.take 2) [main_v0, main_v1] (r := main_arg6) rfl (by decide) _)
  have h3 : StableHlo.upto hostOps0 (fun b => m (c, b)) 4 (Proc.tc.devRef main_v3) = rowOf (m ((c : Thread nD τ).loc main_arg7)) := by
    refine (StableHlo.after_last_write (ops := hostOps0.take 4) (i := 3) [] rfl rfl (by decide) _).trans ?_
    rw [StableHlo.unary_result]
    exact congrArg rowOf (StableHlo.after_unwritten (ops := hostOps0.take 3) [main_v0, main_v1, main_v2] (r := main_arg7) rfl (by decide) _)
  show stack4 (StableHlo.upto hostOps0 (fun b => m (c, b)) 4 (Proc.tc.devRef main_v0)) (StableHlo.upto hostOps0 (fun b => m (c, b)) 4 (Proc.tc.devRef main_v1)) (StableHlo.upto hostOps0 (fun b => m (c, b)) 4 (Proc.tc.devRef main_v2)) (StableHlo.upto hostOps0 (fun b => m (c, b)) 4 (Proc.tc.devRef main_v3)) = _
  rw [h0, h1, h2, h3]

theorem stack_at (c : Dev nD) (t : Fin cfg0.N) (a : Fin 4) (e : Fin 64) :
    (iblk m c 4 t : FVec Ideal S4x64 .f32) (ix2 a e) = (V m c main_v4 : FVec Ideal S4x64 .f32) (ix2 a e) := by
  blk_point [iblk, idx t]

/-- The weight of the second half. -/
theorem lam_eq (c : Dev nD) (t : Fin cfg0.N) :
    lam (iblk m c 4 t)
      = Ideal.exp (∑ x : Fin 64, argA m c (ix1 x) * argB m c (ix1 x)) - Ideal.exp (∑ x : Fin 64, argC m c (ix1 x) * argD m c (ix1 x))
        + Ideal.ofBits .f32 0x3E4CCCCD#32 := by
  unfold lam
  simp only [stack_at]
  rw [stack_eq]
  pointwise [rowOf, stack4]

end Cert.KernelIdeal.Body

end
-- ==== Proof.Row.lean ====
module

public import proofs.«01_k».proof.Proof.Tail
public import proofs.«01_k».proof.Proof.Softmax
public import Idealize.ShloMosaic.Lib.Pointwise
public import Idealize.ShloMosaic.Lib.Pipeline.ValueKit

@[expose] public section

set_option maxRecDepth 16384

noncomputable section

namespace Cert.KernelIdeal.Body

open Cert.Attn
open Cert.KernelIdeal Cert.KernelIdeal.Gen
open Idealize.ShloMosaic Idealize.ShloMosaic.TcCoe Idealize.ShloMosaic.Tactic

/-! # One row of a grid point's attention -/

theorem neg_inf : Ideal.ofBits .f32 0xFF800000#32 = ⊥ := by simp [Ideal.ofBits, Ideal.ieee]

/-- What the two maps' triples hold at row `i` and lane `e`. -/
def TriHolds (i : Fin 512) (e : Fin 128) (L1 A1 L2 A2 : ℝ) (T : Tri) : Prop :=
  Holds L1 A1 (T.1 (ix2 i 0)) (T.2.1 (ix2 i 0)) (T.2.2.1 (ix2 i e))
    ∧ Holds L2 A2 (T.2.2.2.1 (ix2 i 0)) (T.2.2.2.2.1 (ix2 i 0)) (T.2.2.2.2.2 (ix2 i e))

section
variable {q : FVec Ideal S1024x128 .bf16} {b : FVec Ideal S512x512 .f32} {kb vb : FVec Ideal S512x128 .bf16}
  {i : Fin 512} {e : Fin 128} {s1 s2 : Fin 512 → EReal} {v : Fin 512 → ℝ}

/-- A block taken into triples that hold something, -/
theorem TriHolds.step {L1 A1 L2 A2 : ℝ} {T : Tri} (h : TriHolds i e L1 A1 L2 A2 T)
    (e1 : ∀ x, score1 q kb b (ix2 i x) = s1 x) (e2 : ∀ x, score2 q kb b (ix2 i x) = s2 x)
    (t1 : ∀ x, s1 x ≠ ⊤) (t2 : ∀ x, s2 x ≠ ⊤) (hv : ∀ x, vb (ix2 x e) = ((v x : ℝ) : EReal)) :
    TriHolds i e (L1 + ∑ x, E (s1 x)) (A1 + ∑ x, E (s1 x) * v x) (L2 + ∑ x, E (s2 x)) (A2 + ∑ x, E (s2 x) * v x)
      (blockStep q b kb vb T) := by
  refine ⟨?_, ?_⟩
  · have := h.1.step v t1
    unfold blockStep; dsimp only
    rw [newSum_at, newAcc1_at, newMax_at, neg_inf]
    simp only [e1, hv]
    exact this
  · have := h.2.step v t2
    unfold blockStep; dsimp only
    rw [newSum_at, newAcc2_at, newMax_at, neg_inf]
    simp only [e2, hv]
    exact this

/-- and into the empty ones. -/
theorem TriHolds.first
    (e1 : ∀ x, score1 q kb b (ix2 i x) = s1 x) (e2 : ∀ x, score2 q kb b (ix2 i x) = s2 x)
    (t1 : ∀ x, s1 x ≠ ⊤) (t2 : ∀ x, s2 x ≠ ⊤) {y : Fin 512} (r1 : s1 y ≠ ⊥) (r2 : s2 y ≠ ⊥)
    (hv : ∀ x, vb (ix2 x e) = ((v x : ℝ) : EReal)) :
    TriHolds i e (∑ x, E (s1 x)) (∑ x, E (s1 x) * v x) (∑ x, E (s2 x)) (∑ x, E (s2 x) * v x)
      (blockStep q b kb vb emptyTri) := by
  refine ⟨?_, ?_⟩
  · have := Holds.first v t1 r1
    unfold blockStep emptyTri; dsimp only
    rw [newSum_at, newAcc1_at, newMax_at, neg_inf, empty_m, empty_l, empty_a]
    simp only [e1, hv]
    exact this
  · have := Holds.first v t2 r2
    unfold blockStep emptyTri; dsimp only
    rw [newSum_at, newAcc2_at, newMax_at, neg_inf, empty_m, empty_l, empty_a]
    simp only [e2, hv]
    exact this
end

/-- Key `x` of block `k`. -/
def keyIx (k : ℕ) (x : Fin 512) : Fin 2048 := ⟨(512 * k + x.val) % 2048, Nat.mod_lt _ (by omega)⟩

/-- A sum over the keys, block by block. -/
theorem sum_blocks (f : Fin 2048 → ℝ) : ∑ j, f j = ∑ k ∈ Finset.range 4, ∑ x, f (keyIx k x) := by
  rw [Finset.sum_range, ← Fintype.sum_prod_type' (f := fun (k : Fin 4) (x : Fin 512) => f (keyIx k.val x))]
  refine (Fintype.sum_equiv (finProdFinEquiv (m := 4) (n := 512)) _ _ fun p => ?_).symm
  refine congrArg f (Fin.ext ?_)
  have := p.1.isLt; have := p.2.isLt
  show (512 * p.1.val + p.2.val) % 2048 = p.2.val + 512 * p.1.val
  rw [Nat.mod_eq_of_lt (by omega)]; omega

/-- A sum whose blocks past `c` vanish, in the order in which the kernel takes them: the diagonal block, the
    one before it, the far ones. -/
theorem sum_order (c : ℕ) (hc : c < 4) (f : ℕ → ℝ) (hf : ∀ k, c < k → k < 4 → f k = 0) :
    ∑ k ∈ Finset.range 4, f k = f c + (if c = 0 then 0 else f (c - 1)) + ∑ k ∈ Finset.range (c - 1), f k := by
  have hs : ∑ k ∈ Finset.range 4, f k = ∑ k ∈ Finset.range (c + 1), f k :=
    (Finset.sum_subset (Finset.range_subset_range.mpr (by omega)) fun k h1 h2 => hf k (by simp at h2; omega) (by simpa using h1)).symm
  rw [hs, Finset.sum_range_succ]
  rcases c with _ | c
  · simp
  · rw [Finset.sum_range_succ]; simp; ring

/-- After the far blocks. -/
theorem far_holds {q : FVec Ideal S1024x128 .bf16} {f : Ideal .f32} {y1 y2 : FVec Ideal S2048x128 .bf16} {i : Fin 512} {e : Fin 128}
    {σ1 σ2 : Fin 2048 → EReal} {w : Fin 2048 → ℝ} (t1 : ∀ j, σ1 j ≠ ⊤) (t2 : ∀ j, σ2 j ≠ ⊤) (hw : ∀ j, y2 (ix2 j e) = ((w j : ℝ) : EReal))
    {L1 A1 L2 A2 : ℝ} {T : Tri} (h : TriHolds i e L1 A1 L2 A2 T) (n : ℕ)
    (e1 : ∀ k < n, ∀ x, score1 q (slab y1 k) (broadcast S512x512 f) (ix2 i x) = σ1 (keyIx k x))
    (e2 : ∀ k < n, ∀ x, score2 q (slab y1 k) (broadcast S512x512 f) (ix2 i x) = σ2 (keyIx k x)) :
    TriHolds i e (L1 + ∑ k ∈ Finset.range n, ∑ x, E (σ1 (keyIx k x))) (A1 + ∑ k ∈ Finset.range n, ∑ x, E (σ1 (keyIx k x)) * w (keyIx k x))
      (L2 + ∑ k ∈ Finset.range n, ∑ x, E (σ2 (keyIx k x))) (A2 + ∑ k ∈ Finset.range n, ∑ x, E (σ2 (keyIx k x)) * w (keyIx k x))
      (farLoop q f y1 y2 n T) := by
  induction n with
  | zero => simpa [farLoop] using h
  | succ n ih =>
    simp only [Finset.sum_range_succ, ← add_assoc]
    exact (ih (fun k hk => e1 k (by omega)) (fun k hk => e2 k (by omega))).step (v := fun x => w (keyIx n x))
      (e1 n (by omega)) (e2 n (by omega)) (fun _ => t1 _) (fun _ => t2 _) (fun x => hw (keyIx n x))

/-- The second bias tile, hidden at the first query block. -/
abbrev nearBias (t : Fin cfg0.N) (y0 : FVec Ideal S2x512x512 .f32) : FVec Ideal S512x512 .f32 :=
  k0_pay42 (tile y0 1) (Scalar.cmpi .eq (BitVec.ofNat 32 (t.val % 4)) 0#32) (Named.named κ "mask" 0xF149F2CA#32) (Scalar.ofBits .f32 0x00000000#32)

/-- Row `i` of what point `t` computes: the two maps' softmaxes over all keys, against the values. -/
theorem attend_at (t : Fin cfg0.N) (x0 : FVec Ideal S32x4 .f32) (x1 : FVec Ideal S512x128 .f32) (x4 : FVec Ideal S4x64 .f32) (x5 : FVec Ideal S1x128 .f32)
    (y0 : FVec Ideal S2x512x512 .f32) (y1 y2 : FVec Ideal S2048x128 .bf16) (i : Fin 512)
    (σ1 σ2 : Fin 2048 → EReal) (w : Fin 2048 → Fin 128 → ℝ)
    (t1 : ∀ j, σ1 j ≠ ⊤) (t2 : ∀ j, σ2 j ≠ ⊤) (hw : ∀ j e, y2 (ix2 j e) = ((w j e : ℝ) : EReal))
    (r1 : σ1 (keyIx (t.val % 4) i) ≠ ⊥) (r2 : σ2 (keyIx (t.val % 4) i) ≠ ⊥)
    (h1 : ∀ k, t.val % 4 < k → k < 4 → ∀ x, σ1 (keyIx k x) = ⊥) (h2 : ∀ k, t.val % 4 < k → k < 4 → ∀ x, σ2 (keyIx k x) = ⊥)
    (d1 : ∀ x, score1 (k0_pay22 x1) (slab y1 (t.val % 4)) (tile y0 0) (ix2 i x) = σ1 (keyIx (t.val % 4) x))
    (d2 : ∀ x, score2 (k0_pay22 x1) (slab y1 (t.val % 4)) (tile y0 0) (ix2 i x) = σ2 (keyIx (t.val % 4) x))
    (n1 : ∀ x, score1 (k0_pay22 x1) (slab y1 (t.val % 4 - 1)) (nearBias t y0) (ix2 i x)
      = if t.val % 4 = 0 then ⊥ else σ1 (keyIx (t.val % 4 - 1) x))
    (n2 : ∀ x, score2 (k0_pay22 x1) (slab y1 (t.val % 4 - 1)) (nearBias t y0) (ix2 i x)
      = if t.val % 4 = 0 then ⊥ else σ2 (keyIx (t.val % 4 - 1) x))
    (f1 : ∀ k < t.val % 4 - 1, ∀ x, score1 (k0_pay22 x1) (slab y1 k)
      (broadcast S512x512 (x0 (ix2 31 ⟨t.val / 64 % 4, Nat.mod_lt _ (by omega)⟩))) (ix2 i x) = σ1 (keyIx k x))
    (f2 : ∀ k < t.val % 4 - 1, ∀ x, score2 (k0_pay22 x1) (slab y1 k)
      (broadcast S512x512 (x0 (ix2 31 ⟨t.val / 64 % 4, Nat.mod_lt _ (by omega)⟩))) (ix2 i x) = σ2 (keyIx k x))
    (e : Fin 128) :
    attend t x0 x1 x4 x5 y0 y1 y2 (ix2 i e)
      = normed (fun e => (((∑ j, E (σ1 j) * w j e) / ∑ j, E (σ1 j) : ℝ) : EReal)
          - lam x4 * (((∑ j, E (σ2 j) * w j e) / ∑ j, E (σ2 j) : ℝ) : EReal)) (fun e => x5 (ix2 0 e)) e := by
  have hq : t.val % 4 < 4 := Nat.mod_lt _ (by omega)
  have key : ∀ e, TriHolds i e (∑ j, E (σ1 j)) (∑ j, E (σ1 j) * w j e) (∑ j, E (σ2 j)) (∑ j, E (σ2 j) * w j e)
      (farLoop (k0_pay22 x1) (x0 (ix2 31 ⟨t.val / 64 % 4, Nat.mod_lt _ (by omega)⟩)) y1 y2 (t.val % 4 - 1)
        (blockStep (k0_pay22 x1) (nearBias t y0) (slab y1 (t.val % 4 - 1)) (slab y2 (t.val % 4 - 1))
          (blockStep (k0_pay22 x1) (tile y0 0) (slab y1 (t.val % 4)) (slab y2 (t.val % 4)) emptyTri))) := by
    intro e
    have a := TriHolds.first (v := fun x => w (keyIx (t.val % 4) x) e) (vb := slab y2 (t.val % 4)) d1 d2 (fun _ => t1 _) (fun _ => t2 _) r1 r2
      (fun x => hw (keyIx (t.val % 4) x) e)
    have b := a.step (v := fun x => w (keyIx (t.val % 4 - 1) x) e) (vb := slab y2 (t.val % 4 - 1)) n1 n2
      (fun x => by split; exact bot_ne_top; exact t1 _) (fun x => by split; exact bot_ne_top; exact t2 _)
      (fun x => hw (keyIx (t.val % 4 - 1) x) e)
    have c := far_holds t1 t2 (fun j => hw j e) b (t.val % 4 - 1) f1 f2
    have ord : ∀ (σ : Fin 2048 → EReal) (u : Fin 2048 → ℝ), (∀ k, t.val % 4 < k → k < 4 → ∀ x, σ (keyIx k x) = ⊥) →
        ∑ j, E (σ j) * u j = ∑ x, E (σ (keyIx (t.val % 4) x)) * u (keyIx (t.val % 4) x)
          + ∑ x, E (if t.val % 4 = 0 then ⊥ else σ (keyIx (t.val % 4 - 1) x)) * u (keyIx (t.val % 4 - 1) x)
          + ∑ k ∈ Finset.range (t.val % 4 - 1), ∑ x, E (σ (keyIx k x)) * u (keyIx k x) := by
      intro σ u h
      rw [sum_blocks, sum_order (t.val % 4) hq (fun k => ∑ x, E (σ (keyIx k x)) * u (keyIx k x)) fun k h3 h4 =>
        Finset.sum_eq_zero fun x _ => by rw [h k h3 h4 x, E_bot, zero_mul]]
      congr 2
      split
      · simp [E_bot]
      · rfl
    have o1 := ord σ1 (fun _ => 1) h1; have o2 := ord σ2 (fun _ => 1) h2
    simp only [mul_one] at o1 o2
    rw [o1, o2, ord σ1 (fun j => w j e) h1, ord σ2 (fun j => w j e) h2]
    exact c
  unfold attend
  rw [finish_at]
  unfold normed
  have p1 := sum_pos t1 r1
  have p2 := sum_pos t2 r2
  simp only [fun e => (key e).1.quotient p1, fun e => (key e).2.quotient p2]

end Cert.KernelIdeal.Body

end
-- ==== Proof.Target.lean ====
module

public import proofs.«01_k».proof.Proof.Tiles

@[expose] public section

noncomputable section

namespace Cert.Attn

open Idealize.ShloMosaic
open Cert.KernelIdeal.Body (chainIx normed)

/-! # What both programs compute

The arguments as families of real numbers, and the result row they make. -/

/-- The queries or the keys; the values; the table. -/
abbrev Heads := Fin 16 → Fin 2048 → Fin 4 → Fin 2 → Fin 64 → ℝ
abbrev Values := Fin 16 → Fin 2048 → Fin 4 → Fin 128 → ℝ
abbrev Biases := Fin 32 → Fin 4 → ℝ

/-- A query against a key, scaled. -/
def meet (Q K : Heads) (b : Fin 16) (h : Fin 4) (s : Fin 2) (r j : Fin 2048) : ℝ :=
  (∑ x, Q b r h s x * K b j h s x) * (1 / 8)

/-- The score of a query against a key: hidden where the key comes later. -/
def scoreOf (Q K : Heads) (T : Biases) (b : Fin 16) (h : Fin 4) (s : Fin 2) (r j : Fin 2048) : EReal :=
  if j.val ≤ r.val then ((meet Q K b h s r j + T (chainIx (BitVec.ofNat 32 (r.val - j.val))) h : ℝ) : EReal) else ⊥

section
variable (Q K : Heads) (T : Biases) (b : Fin 16) (h : Fin 4) (s : Fin 2) (r j : Fin 2048)

theorem scoreOf_le (hj : j.val ≤ r.val) :
    scoreOf Q K T b h s r j = ((meet Q K b h s r j : ℝ) : EReal) + ((T (chainIx (BitVec.ofNat 32 (r.val - j.val))) h : ℝ) : EReal) := by
  rw [scoreOf, if_pos hj, EReal.coe_add]
theorem scoreOf_lt (hj : r.val < j.val) : scoreOf Q K T b h s r j = ⊥ := if_neg (not_le.mpr hj)
theorem scoreOf_ne_top : scoreOf Q K T b h s r j ≠ ⊤ := by
  unfold scoreOf; split
  · exact EReal.coe_ne_top _
  · exact bot_ne_top
theorem scoreOf_self : scoreOf Q K T b h s r r ≠ ⊥ := by
  rw [scoreOf, if_pos le_rfl]; exact EReal.coe_ne_bot _
theorem scoreOf_pos : 0 < ∑ x, E (scoreOf Q K T b h s r x) :=
  sum_pos (fun x => scoreOf_ne_top Q K T b h s r x) (scoreOf_self Q K T b h s r)
end

/-- The mean of the values under a row of scores. -/
def meanOf (σ : Fin 2048 → EReal) (v : Fin 2048 → ℝ) : ℝ := (∑ j, E (σ j) * v j) / ∑ j, E (σ j)

/-- A row of the result, at lane `e`. -/
def rowVal (Q K : Heads) (W : Values) (T : Biases) (l : EReal) (G : Fin 128 → EReal) (b : Fin 16) (h : Fin 4) (r : Fin 2048) (e : Fin 128) : EReal :=
  normed (fun e => ((meanOf (scoreOf Q K T b h 0 r) (fun j => W b j h e) : ℝ) : EReal)
    - l * ((meanOf (scoreOf Q K T b h 1 r) (fun j => W b j h e) : ℝ) : EReal)) G e

/-- The words of a query's distance from a later key. -/
theorem word_neg (i j : ℕ) (h : i ≤ j) : BitVec.ofNat 32 i - BitVec.ofNat 32 j = 0#32 - BitVec.ofNat 32 (j - i) := by
  conv_lhs => rw [← Nat.sub_add_cancel h, BitVec.ofNat_add]
  apply BitVec.eq_of_toNat_eq
  simp only [BitVec.toNat_sub, BitVec.toNat_add, BitVec.toNat_ofNat]
  omega

theorem eighth : Ideal.ofBits .f32 0x3E000000#32 = ((1 / 8 : ℝ) : EReal) := by
  simp [Ideal.ofBits, Ideal.ieee, -EReal.coe_mul]
  norm_num

end Cert.Attn

end
-- ==== Proof.RefScore.lean ====
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.Tactic

variable (V : Valuation τ sig (Elt Ideal))

/-! # The reference's scores, read at an index -/

/-- The word distance of a query from a key. -/
theorem v13_at (i j : Fin 2048) : (res_main_v13 V : IVec S2048x2048 32) (ix2 i j) = BitVec.ofNat 32 i.val - BitVec.ofNat 32 j.val := by
  pointwise [res_main_v13, res_main_v0]
  rfl

/-- The bucket of a word distance. -/
def bucket (d : BitVec 32) : BitVec 32 :=
  Scalar.select (IntOp.cmpi .slt d 16#32) d
    (IntOp.minsi (IntOp.addi 16#32 (FloatOps.fptosi (F := Ideal) (φ := .f32) 32
      (Ideal.div (Ideal.log (Ideal.div (FloatOps.sitofp (F := Ideal) .f32 (IntOp.maxsi d 1#32)) (Ideal.ofBits .f32 0x41800000#32)))
        (Ideal.ofBits .f32 0x40051592#32) * Ideal.ofBits .f32 0x41800000#32))) 31#32)

theorem v33_at (i j : Fin 2048) : (res_main_v33 V : IVec S2048x2048 32) (ix2 i j)
    = bucket (IntOp.maxsi (BitVec.ofNat 32 i.val - BitVec.ofNat 32 j.val) 0#32) := by
  have h15 : (res_main_v15 V : IVec S2048x2048 32) (ix2 i j) = IntOp.maxsi (BitVec.ofNat 32 i.val - BitVec.ofNat 32 j.val) 0#32 := by
    rw [← v13_at V i j]
    pointwise [res_main_v15]
  rw [← h15]
  pointwise [res_main_v33]
  rfl

/-- A row of the table, taken at the word read signed and kept within the table. -/
theorem gather_at (x : FVec Ideal S32x4 .f32) (idx : IVec S2048x2048x1 32) (i j : Fin 2048) (h : Fin 4) :
    Host.gather gather_S32x4_S2048x2048x1_S2048x2048x4_2_0_n_n_0_2_14 x idx (ix3 i j h)
      = x (ix2 ⟨min (idx (ix3 i j 0)).toInt.toNat 31, by omega⟩ h) := by
  unfold Host.gather
  congr 1
  funext a
  refine Fin.ext ?_
  show (gather_S32x4_S2048x2048x1_S2048x2048x4_2_0_n_n_0_2_14).start _ idx a + (gather_S32x4_S2048x2048x1_S2048x2048x4_2_0_n_n_0_2_14).batchCoord _ a + (gather_S32x4_S2048x2048x1_S2048x2048x4_2_0_n_n_0_2_14).offCoord _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 2) ∈ (gather_S32x4_S2048x2048x1_S2048x2048x4_2_0_n_n_0_2_14).startIndexMap from List.mem_singleton.mpr rfl)).trans ?_
    have hsi : (gather_S32x4_S2048x2048x1_S2048x2048x4_2_0_n_n_0_2_14).siIdx (ix3 i j h) ⟨List.idxOf (0 : Fin 2) (gather_S32x4_S2048x2048x1_S2048x2048x4_2_0_n_n_0_2_14).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    exact congrArg (fun z => min (idx z).toInt.toNat 31) hsi
  | ⟨1, _⟩ =>
    unfold GatherDims.start
    rw [dif_neg (show (⟨1, by decide⟩ : Fin 2) ∉ (gather_S32x4_S2048x2048x1_S2048x2048x4_2_0_n_n_0_2_14).startIndexMap from by
      show (⟨1, by decide⟩ : Fin 2) ∉ [(0 : Fin 2)]
      decide)]
    simp only [Nat.zero_add, Nat.add_zero]
    rfl

abbrev refQ : FVec Ideal S16x2048x4x2x64 .f32 := V (Proc.devRef .tc main_arg0)
abbrev refK : FVec Ideal S16x2048x4x2x64 .f32 := V (Proc.devRef .tc main_arg1)
abbrev refT : FVec Ideal S32x4 .f32 := V (Proc.devRef .tc main_arg3)

/-- The row of the table a bucket word names. -/
def rowAt (b : BitVec 32) : Fin 32 :=
  ⟨min (Scalar.select (IntOp.cmpi .slt b 0#32) (IntOp.addi b 32#32) b).toInt.toNat 31, by omega⟩

/-- A score of the reference. -/
theorem v50_at (b : Fin 16) (s : Fin 2) (h : Fin 4) (i j : Fin 2048) :
    (res_main_v50 V : FVec Ideal S16x2x4x2048x2048 .f32) (ix5 b s h i j)
      = Scalar.select (IntOp.cmpi .sge (BitVec.ofNat 32 i.val - BitVec.ofNat 32 j.val) 0#32)
          ((∑ x : Fin 64, refQ V (ix5 b i h s x)
              * refK V (ix5 b j h s x)) * Ideal.ofBits .f32 0x3E000000#32
            + refT V
                (ix2 (rowAt (bucket (IntOp.maxsi (BitVec.ofNat 32 i.val - BitVec.ofNat 32 j.val) 0#32))) h))
          (Ideal.ofBits .f32 0xFF800000#32) := by
  rw [← v33_at V i j, ← v13_at V i j]
  pointwise [res_main_v50, gather_at]
  rfl

end Cert.ReferenceIdeal.Body

end
-- ==== Proof.Words.lean ====
module

public import proofs.«01_k».proof.Proof.Tiles
public import proofs.«01_k».proof.Proof.RefScore

@[expose] public section

set_option maxRecDepth 16384

noncomputable section

namespace Cert.Attn

open Idealize.ShloMosaic
open Cert.KernelIdeal.Body (chainIx)
open Cert.ReferenceIdeal.Body (bucket rowAt)

/-! # The words of a distance -/

/-- The first distance of each logarithmic bucket. -/
def first : ℕ → ℕ := fun k => [16, 19, 21, 24, 27, 31, 35, 40, 46, 52, 59, 67, 77, 87, 99, 113].getD k 2049

theorem first_ge : ∀ k, k ≤ 15 → 0 < k → 101 * (16 ^ 16 * 8 ^ k) ≤ 100 * first k ^ 16 := by decide +kernel
theorem first_lt : ∀ k, k ≤ 15 → 0 < k → 102 * (first k - 1) ^ 16 ≤ 100 * (16 ^ 16 * 8 ^ k) := by decide +kernel

/-- The chain's bucket of a distance of sixteen or more. -/
theorem chain_far : ∀ n : Fin 2048, 16 ≤ n.val → ∃ k : Fin 16, chainIx (BitVec.ofNat 32 n.val) = ⟨16 + k.val, by omega⟩
    ∧ first k.val ≤ n.val ∧ (k.val = 15 ∨ n.val < first (k.val + 1)) := by decide +kernel

theorem chain_near : ∀ n : Fin 2048, n.val < 16 → chainIx (BitVec.ofNat 32 n.val) = ⟨n.val % 32, by omega⟩
    ∧ IntOp.cmpi .slt (BitVec.ofNat 32 n.val) 16#32 = 1#1 ∧ rowAt (BitVec.ofNat 32 n.val) = ⟨n.val % 32, by omega⟩ := by decide +kernel

theorem far_word : ∀ n : Fin 2048, 16 ≤ n.val → IntOp.cmpi .slt (BitVec.ofNat 32 n.val) 16#32 = 0#1
    ∧ IntOp.maxsi (BitVec.ofNat 32 n.val) 1#32 = BitVec.ofNat 32 n.val ∧ (BitVec.ofNat 32 n.val).toInt = (n.val : Int) := by decide +kernel

theorem floor_word : ∀ k : Fin 16, ∀ f : Fin 38, k.val ≤ f.val → (k.val = 15 ∨ f.val < k.val + 1) →
    rowAt (IntOp.minsi (IntOp.addi 16#32 (BitVec.ofInt 32 (max (-(2 ^ (32 - 1) : Nat)) (min ((2 ^ (32 - 1) : Nat) - 1) (f.val : Int))))) 31#32)
      = ⟨16 + k.val, by omega⟩ := by decide +kernel

/-- The words of a query's distance from a key that precedes it. -/
theorem word_sub (i j : ℕ) (h : j ≤ i) : BitVec.ofNat 32 i - BitVec.ofNat 32 j = BitVec.ofNat 32 (i - j) := by
  conv_lhs => rw [← Nat.sub_add_cancel h, BitVec.ofNat_add]
  exact BitVec.add_sub_cancel _ _

theorem max_word : ∀ n : Fin 2048, IntOp.maxsi (BitVec.ofNat 32 n.val) 0#32 = BitVec.ofNat 32 n.val
    ∧ IntOp.cmpi .sge (BitVec.ofNat 32 n.val) 0#32 = 1#1 := by decide +kernel

theorem neg_word : ∀ n : Fin 2048, 0 < n.val → IntOp.cmpi .sge (0#32 - BitVec.ofNat 32 n.val) 0#32 = 0#1 := by decide +kernel

/-- A distance past the last threshold has the last bucket. -/
theorem chain_last : ∀ n : Fin 2048, 113 ≤ n.val → chainIx (BitVec.ofNat 32 n.val) = 31 := by decide +kernel

end Cert.Attn

end
-- ==== Proof.KernelRow.lean ====
module

public import proofs.«01_k».proof.Proof.Blocks
public import proofs.«01_k».proof.Proof.Row
public import proofs.«01_k».proof.Proof.Target
public import proofs.«01_k».proof.Proof.Words

@[expose] public section

set_option maxRecDepth 16384

noncomputable section

namespace Cert.KernelIdeal.Body

open Cert.KernelIdeal Cert.KernelIdeal.Gen Cert.Attn
open Idealize.ShloMosaic Idealize.ShloMosaic.TcCoe Idealize.ShloMosaic.Tactic
open Idealize.ShloMosaic.Pipeline (Dat Cfg Window)

/-! # A row of the kernel's result -/

/-- The first half of the lanes, -/
theorem lanes_lo (f g : Fin 2 → Fin 64 → ℝ) :
    ∑ e : Fin 128, (if e.val < 64 then ((f ⟨e.val / 64, by omega⟩ ⟨e.val % 64, by omega⟩ : ℝ) : EReal) * ((1 / 8 : ℝ) : EReal) else 0)
        * ((g ⟨e.val / 64, by omega⟩ ⟨e.val % 64, by omega⟩ : ℝ) : EReal)
      = (((∑ x, f 0 x * g 0 x) * (1 / 8) : ℝ) : EReal) := by
  have e1 : ∀ e : Fin 128, (if e.val < 64 then ((f ⟨e.val / 64, by omega⟩ ⟨e.val % 64, by omega⟩ : ℝ) : EReal) * ((1 / 8 : ℝ) : EReal) else 0)
        * ((g ⟨e.val / 64, by omega⟩ ⟨e.val % 64, by omega⟩ : ℝ) : EReal)
      = (((if e.val < 64 then f ⟨e.val / 64, by omega⟩ ⟨e.val % 64, by omega⟩ * (1 / 8) else 0)
          * g ⟨e.val / 64, by omega⟩ ⟨e.val % 64, by omega⟩ : ℝ) : EReal) := fun e => by
    split
    · rw [← EReal.coe_mul, ← EReal.coe_mul]
    · rw [← EReal.coe_zero, ← EReal.coe_mul]
  rw [Finset.sum_congr rfl fun e _ => e1 e, coe_sum]
  congr 1
  refine (Fin.sum_univ_add (a := 64) (b := 64) _).trans ?_
  rw [Finset.sum_mul]
  refine (congrArg₂ (· + ·) (Finset.sum_congr rfl fun x _ => ?_) (Finset.sum_eq_zero fun x _ => ?_)).trans (add_zero _)
  · have hx := x.isLt
    rw [if_pos (show (Fin.castAdd 64 x).val < 64 from hx)]
    have h0 : (⟨(Fin.castAdd 64 x).val / 64, by have := (Fin.castAdd 64 x).isLt; omega⟩ : Fin 2) = 0 := Fin.ext (Nat.div_eq_of_lt hx)
    have h1 : (⟨(Fin.castAdd 64 x).val % 64, Nat.mod_lt _ (by omega)⟩ : Fin 64) = x := Fin.ext (Nat.mod_eq_of_lt hx)
    rw [h0, h1]; ring
  · have hx : ¬ (Fin.natAdd 64 x).val < 64 := by show ¬ 64 + x.val < 64; omega
    rw [if_neg hx, zero_mul]

/-- and the second. -/
theorem lanes_hi (f g : Fin 2 → Fin 64 → ℝ) :
    ∑ e : Fin 128, (if e.val < 64 then 0 else ((f ⟨e.val / 64, by omega⟩ ⟨e.val % 64, by omega⟩ : ℝ) : EReal) * ((1 / 8 : ℝ) : EReal))
        * ((g ⟨e.val / 64, by omega⟩ ⟨e.val % 64, by omega⟩ : ℝ) : EReal)
      = (((∑ x, f 1 x * g 1 x) * (1 / 8) : ℝ) : EReal) := by
  have e1 : ∀ e : Fin 128, (if e.val < 64 then 0 else ((f ⟨e.val / 64, by omega⟩ ⟨e.val % 64, by omega⟩ : ℝ) : EReal) * ((1 / 8 : ℝ) : EReal))
        * ((g ⟨e.val / 64, by omega⟩ ⟨e.val % 64, by omega⟩ : ℝ) : EReal)
      = (((if e.val < 64 then 0 else f ⟨e.val / 64, by omega⟩ ⟨e.val % 64, by omega⟩ * (1 / 8))
          * g ⟨e.val / 64, by omega⟩ ⟨e.val % 64, by omega⟩ : ℝ) : EReal) := fun e => by
    split
    · rw [← EReal.coe_zero, ← EReal.coe_mul]
    · rw [← EReal.coe_mul, ← EReal.coe_mul]
  rw [Finset.sum_congr rfl fun e _ => e1 e, coe_sum]
  congr 1
  refine (Fin.sum_univ_add (a := 64) (b := 64) _).trans ?_
  rw [Finset.sum_mul]
  refine (congrArg₂ (· + ·) (Finset.sum_eq_zero fun x _ => ?_) (Finset.sum_congr rfl fun x _ => ?_)).trans (zero_add _)
  · rw [if_pos (show (Fin.castAdd 64 x).val < 64 from x.isLt), zero_mul]
  · have hx := x.isLt
    have hv : (Fin.natAdd 64 x).val = 64 + x.val := rfl
    rw [if_neg (show ¬ (Fin.natAdd 64 x).val < 64 by omega)]
    have h0 : (⟨(Fin.natAdd 64 x).val / 64, by omega⟩ : Fin 2) = 1 := Fin.ext (show (64 + x.val) / 64 = 1 by omega)
    have h1 : (⟨(Fin.natAdd 64 x).val % 64, by omega⟩ : Fin 64) = x := Fin.ext (show (64 + x.val) % 64 = x.val by omega)
    rw [h0, h1]; ring

variable (m : (ℓ : Loc nD τ sig) → Buf (Elt Ideal) ℓ)

/-- The arguments are these real numbers. -/
structure Reads (c : Dev nD) (Q K : Heads) (W : Values) (T : Biases) : Prop where
  q : ∀ b r h s x, argQ m c (ix5 b r h s x) = ((Q b r h s x : ℝ) : EReal)
  k : ∀ b r h s x, argK m c (ix5 b r h s x) = ((K b r h s x : ℝ) : EReal)
  v : ∀ b r h e, argV m c (ix4 b r h e) = ((W b r h e : ℝ) : EReal)
  t : ∀ i h, argT m c (ix2 i h) = ((T i h : ℝ) : EReal)

variable {m} {c : Dev nD} {Q K : Heads} {W : Values} {T : Biases} (H : Reads m c Q K W T)

/-- The query's row in the sequence. -/
def rowIx (t : Fin cfg0.N) (i : Fin 512) : Fin 2048 := ⟨512 * (t.val % 4) + i.val, by omega⟩

theorem pt4_b (t : Fin cfg0.N) : bOf (pt4 t) = bOf t := Fin.ext (by show t.val / 4 * 4 / 4 % 16 = t.val / 4 % 16; omega)
theorem pt4_h (t : Fin cfg0.N) : hOf (pt4 t) = hOf t := Fin.ext (by show t.val / 4 * 4 / 64 % 4 = t.val / 64 % 4; omega)

theorem slab_read (y : FVec Ideal S2048x128 .bf16) (k : ℕ) (x : Fin 512) (e : Fin 128) : slab y k (ix2 x e) = y (ix2 (keyIx k x) e) := rfl

include H in
theorem slab_at (t : Fin cfg0.N) (k : ℕ) (x : Fin 512) (e : Fin 128) :
    slab (keyAt m c t) k (ix2 x e) = ((K (bOf t) (keyIx k x) (hOf t) ⟨e.val / 64, by omega⟩ ⟨e.val % 64, by omega⟩ : ℝ) : EReal) := by
  rw [slab_read, keyAt_eq]
  refine (key_at m c (pt4 t) (keyIx k x) e).trans ?_
  rw [H.k, pt4_b, pt4_h]

include H in
theorem score1_real (t : Fin cfg0.N) (k : ℕ) (bias : FVec Ideal S512x512 .f32) (i x : Fin 512) :
    score1 (k0_pay22 (iblk m c 1 t)) (slab (keyAt m c t) k) bias (ix2 i x)
      = ((meet Q K (bOf t) (hOf t) 0 (rowIx t i) (keyIx k x) : ℝ) : EReal) + bias (ix2 i x) := by
  rw [score1_at]
  congr 1
  refine Eq.trans (Finset.sum_congr rfl fun e _ => ?_) (lanes_lo (fun s x => Q (bOf t) (rowIx t i) (hOf t) s x) (fun s y => K (bOf t) (keyIx k x) (hOf t) s y))
  rw [queries1_at, slab_at H, query_at, H.q, eighth]
  rfl

include H in
theorem score2_real (t : Fin cfg0.N) (k : ℕ) (bias : FVec Ideal S512x512 .f32) (i x : Fin 512) :
    score2 (k0_pay22 (iblk m c 1 t)) (slab (keyAt m c t) k) bias (ix2 i x)
      = ((meet Q K (bOf t) (hOf t) 1 (rowIx t i) (keyIx k x) : ℝ) : EReal) + bias (ix2 i x) := by
  rw [score2_at]
  congr 1
  refine Eq.trans (Finset.sum_congr rfl fun e _ => ?_) (lanes_hi (fun s x => Q (bOf t) (rowIx t i) (hOf t) s x) (fun s y => K (bOf t) (keyIx k x) (hOf t) s y))
  rw [queries2_at, slab_at H, query_at, H.q, eighth]
  rfl

/-! ## The bias of a block -/

/-- The bias of a key against a query: the table's entry, or `⊥` where the key comes later. -/
def biasOfPair (T : Biases) (h : Fin 4) (r j : Fin 2048) : EReal :=
  if j.val ≤ r.val then ((T (chainIx (BitVec.ofNat 32 (r.val - j.val))) h : ℝ) : EReal) else ⊥

theorem score_of_bias (b : Fin 16) (h : Fin 4) (s : Fin 2) (r j : Fin 2048) :
    ((meet Q K b h s r j : ℝ) : EReal) + biasOfPair T h r j = scoreOf Q K T b h s r j := by
  unfold biasOfPair scoreOf
  split
  · rw [EReal.coe_add]
  · exact EReal.add_bot _

/-- A word distance between two positions. -/
theorem biasWord_pair (f : Fin 32 → EReal) (h : Fin 4) (hf : ∀ b, f b = ((T b h : ℝ) : EReal)) (r j : Fin 2048) :
    biasWord f (BitVec.ofNat 32 r.val - BitVec.ofNat 32 j.val) = biasOfPair T h r j := by
  unfold biasWord biasOfPair
  rcases Nat.lt_or_ge r.val j.val with hj | hj
  · rw [if_neg (not_le.mpr hj), word_neg _ _ hj.le]
    rw [neg_word ⟨j.val - r.val, by omega⟩ (by show 0 < j.val - r.val; omega)]
    rfl
  · rw [if_pos hj, word_sub _ _ hj, (max_word ⟨r.val - j.val, by omega⟩).2]
    exact hf _

include H in
theorem tile_at (t : Fin cfg0.N) (a : Fin 2) (i j : Fin 512) (r k : Fin 2048)
    (hr : BitVec.ofNat 32 i.val - BitVec.ofNat 32 j.val + BitVec.ofNat 32 (512 * a.val) = BitVec.ofNat 32 r.val - BitVec.ofNat 32 k.val) :
    (biasAt m c t : FVec Ideal S2x512x512 .f32) (ix3 a i j) = biasOfPair T (hOf t) r k := by
  rw [biasAt_at, hr]
  refine biasWord_pair _ (hOf t) (fun b => ?_) r k
  exact (table_at m c (pt64 t) b _).trans (H.t b _)

end Cert.KernelIdeal.Body

end
-- ==== Proof.Finite.lean ====
module

public import proofs.«01_k».proof.Proof.Frames
public import proofs.«01_k».proof.Proof.KernelRow
public import Idealize.ShloMosaic.PureOps.Reduce

@[expose] public section

set_option maxRecDepth 16384

noncomputable section

namespace Cert.Proof

open Idealize.ShloMosaic Cert.Attn

/-! # The precondition, read

An array whose entries' absolute values are all below infinity is an array of real numbers. -/

theorem and_one : ∀ a b : BitVec 1, IntOp.andi a b = 1#1 → a = 1#1 ∧ b = 1#1 := by decide

theorem fold_and {ι : Type} (s : Finset ι) (x : ι → BitVec 1) (a : BitVec 1) (h : s.fold IntOp.andi a x = 1#1) : ∀ i ∈ s, x i = 1#1 := by
  classical
  induction s using Finset.induction_on with
  | empty => intro i hi; exact absurd hi (Finset.notMem_empty i)
  | insert i s hi ih =>
    rw [Finset.fold_insert hi] at h
    obtain ⟨h1, h2⟩ := and_one _ _ h
    intro k hk
    rcases Finset.mem_insert.mp hk with rfl | hk
    · exact h1
    · exact ih h2 k hk

theorem all_one {s u : Shape} {axes : List (Fin s.rank)} (x : IVec s 1) (h : s.ReducesTo axes (⟨0, ![]⟩ : Shape)) (hu : 0 < u.numel) (a : IVec u 1)
    (e : Host.reduce IntOp.andi x a h hu ix0 = 1#1) (i : s.Idx) : x i = 1#1 := by
  rw [Host.reduce_eq_fold] at e
  refine fold_and _ x _ e i (Finset.mem_filter.mpr ⟨Finset.mem_univ i, ?_⟩)
  funext k; exact k.elim0

theorem inf_bits : Ideal.ofBits .f32 0x7F800000#32 = ⊤ := by simp [Ideal.ofBits, Ideal.ieee]

theorem real_of {x : EReal} (h : Ideal.cmp .olt (max x (-x)) ⊤ = 1#1) : ∃ r : ℝ, x = r := by
  have h' : max x (-x) < ⊤ := by
    by_contra hc
    have : Ideal.cmp .olt (max x (-x)) ⊤ = 0#1 := by simp [Ideal.cmp, hc]
    rw [this] at h; exact absurd h (by decide)
  obtain ⟨h1, h2⟩ := max_lt_iff.mp h'
  exact ⟨x.toReal, (EReal.coe_toReal h1.ne (fun e => by rw [e] at h2; simp at h2)).symm⟩

/-- An array's check says each entry is real. -/
theorem check_real {s u : Shape} {axes : List (Fin s.rank)} (x : FVec Ideal s .f32) (bc : (⟨0, ![]⟩ : Shape).BroadcastsInDim s (![] : Fin 0 → Fin s.rank))
    (h : s.ReducesTo axes (⟨0, ![]⟩ : Shape)) (hu : 0 < u.numel) (a : IVec u 1)
    (e : Host.reduce IntOp.andi (cmpf .olt (Host.absf x) (broadcastInDim s ![] bc (constant (⟨0, ![]⟩ : Shape) .f32 0x7F800000#32))) a h hu ix0 = 1#1)
    (i : s.Idx) : ∃ r : ℝ, x i = r := by
  have := all_one _ h hu a e i
  refine real_of ?_
  rw [← inf_bits]
  exact this

open Cert.Pre_finite in
/-- What the precondition says of the arguments. -/
theorem fn_real (a0 a1 : FVec Ideal S16x2048x4x2x64 .f32) (a2 : FVec Ideal S16x2048x4x128 .f32) (a3 : FVec Ideal S32x4 .f32)
    (a4 a5 a6 a7 : FVec Ideal S64 .f32) (a8 : FVec Ideal S128 .f32) (e : fn (F := Ideal) a0 a1 a2 a3 a4 a5 a6 a7 a8 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r) := by
  have e0 := congrFun e ix0
  unfold fn fn_part1 fn_part2 at e0
  dsimp only at e0
  obtain ⟨e0, h7⟩ := and_one _ _ e0
  obtain ⟨e0, h6⟩ := and_one _ _ e0
  obtain ⟨e0, h5⟩ := and_one _ _ e0
  obtain ⟨e0, h4⟩ := and_one _ _ e0
  obtain ⟨e0, h3⟩ := and_one _ _ e0
  obtain ⟨e0, h2⟩ := and_one _ _ e0
  obtain ⟨h0, h1⟩ := and_one _ _ e0
  clear e
  refine ⟨?_, ?_, ?_, ?_, ?_, ?_, ?_, ?_⟩
  · exact check_real a0 Facts.bcast_S_S16x2048x4x2x64 Facts.reducesTo_S16x2048x4x2x64_S_d0_1_2_3_4 Facts.h_S_ _ h0
  · exact check_real a1 Facts.bcast_S_S16x2048x4x2x64 Facts.reducesTo_S16x2048x4x2x64_S_d0_1_2_3_4 Facts.h_S_ _ h1
  · exact check_real a2 Facts.bcast_S_S16x2048x4x128 Facts.reducesTo_S16x2048x4x128_S_d0_1_2_3 Facts.h_S_ _ h2
  · exact check_real a3 Facts.bcast_S_S32x4 Facts.reducesTo_S32x4_S_d0_1 Facts.h_S_ _ h3
  · exact check_real a4 Facts.bcast_S_S64 Facts.reducesTo_S64_S_d0 Facts.h_S_ _ h4
  · exact check_real a5 Facts.bcast_S_S64 Facts.reducesTo_S64_S_d0 Facts.h_S_ _ h5
  · exact check_real a6 Facts.bcast_S_S64 Facts.reducesTo_S64_S_d0 Facts.h_S_ _ h6
  · exact check_real a7 Facts.bcast_S_S64 Facts.reducesTo_S64_S_d0 Facts.h_S_ _ h7

end Cert.Proof

end
-- ==== Proof.KernelOut.lean ====
module

public import proofs.«01_k».proof.Proof.KernelRow

@[expose] public section

set_option maxRecDepth 16384

noncomputable section

namespace Cert.KernelIdeal.Body

open Cert.KernelIdeal Cert.KernelIdeal.Gen Cert.Attn
open Idealize.ShloMosaic Idealize.ShloMosaic.TcCoe Idealize.ShloMosaic.Tactic
open Idealize.ShloMosaic.Pipeline (Dat Cfg Window)

/-! # A block of the kernel's result -/

theorem word_move (i j d r k : ℕ) (hi : i < 2048) (hj : j < 2048) (hd : d < 2048) (hr : r < 2048) (hk : k < 2048) (h : i + d + k = r + j) :
    BitVec.ofNat 32 i - BitVec.ofNat 32 j + BitVec.ofNat 32 d = BitVec.ofNat 32 r - BitVec.ofNat 32 k := by
  apply BitVec.eq_of_toNat_eq
  simp only [BitVec.toNat_sub, BitVec.toNat_add, BitVec.toNat_ofNat]
  omega

theorem nearBias_at (t : Fin cfg0.N) (y0 : FVec Ideal S2x512x512 .f32) (i x : Fin 512) :
    nearBias t y0 (ix2 i x) = y0 (ix3 1 i x) + Scalar.select (Scalar.cmpi .eq (BitVec.ofNat 32 (t.val % 4)) 0#32) ⊥ (Ideal.ofBits .f32 0x00000000#32) := by
  pointwise [nearBias, k0_pay42, tile]
  rfl

theorem first_word : ∀ q : Fin 4, Scalar.cmpi .eq (BitVec.ofNat 32 q.val) 0#32 = if q.val = 0 then 1#1 else 0#1 := by decide +kernel

variable {m : (ℓ : Loc nD τ sig) → Buf (Elt Ideal) ℓ} {c : Dev nD} {Q K : Heads} {W : Values} {T : Biases} (H : Reads m c Q K W T)

theorem keyIx_val (k : ℕ) (hk : k < 4) (x : Fin 512) : (keyIx k x).val = 512 * k + x.val := Nat.mod_eq_of_lt (by omega)

theorem keyIx_self (t : Fin cfg0.N) (i : Fin 512) : keyIx (t.val % 4) i = rowIx t i :=
  Fin.ext (keyIx_val _ (Nat.mod_lt _ (by omega)) i)

include H in
theorem diag_bias (t : Fin cfg0.N) (i x : Fin 512) :
    tile (biasAt m c t) 0 (ix2 i x) = biasOfPair T (hOf t) (rowIx t i) (keyIx (t.val % 4) x) := by
  refine tile_at H t 0 i x _ _ ?_
  have hk := keyIx_val (t.val % 4) (Nat.mod_lt _ (by omega)) x
  exact word_move _ _ _ _ _ (by omega) (by omega) (by decide) (rowIx t i).isLt (keyIx (t.val % 4) x).isLt
    (by rw [hk]; show i.val + 512 * 0 + _ = 512 * (t.val % 4) + i.val + x.val; omega)

include H in
theorem near_bias (t : Fin cfg0.N) (h0 : t.val % 4 ≠ 0) (i x : Fin 512) :
    nearBias t (biasAt m c t) (ix2 i x) = biasOfPair T (hOf t) (rowIx t i) (keyIx (t.val % 4 - 1) x) := by
  have hk := keyIx_val (t.val % 4 - 1) (by omega) x
  rw [nearBias_at, first_word ⟨t.val % 4, Nat.mod_lt _ (by omega)⟩, if_neg h0]
  refine (congrArg₂ (· + ·) (tile_at H t 1 i x (rowIx t i) (keyIx (t.val % 4 - 1) x) ?_) Ideal.ofBits_zero_f32).trans (add_zero _)
  exact word_move _ _ _ _ _ (by omega) (by omega) (by decide) (rowIx t i).isLt (keyIx (t.val % 4 - 1) x).isLt
    (by rw [hk]; show i.val + 512 * 1 + _ = 512 * (t.val % 4) + i.val + x.val; omega)

theorem near_none (t : Fin cfg0.N) (h0 : t.val % 4 = 0) (y0 : FVec Ideal S2x512x512 .f32) (i x : Fin 512) : nearBias t y0 (ix2 i x) = ⊥ := by
  rw [nearBias_at, first_word ⟨t.val % 4, Nat.mod_lt _ (by omega)⟩, if_pos h0]
  exact EReal.add_bot _

include H in
theorem far_bias (t : Fin cfg0.N) (k : ℕ) (hk : k < t.val % 4 - 1) (i x : Fin 512) :
    (broadcast S512x512 ((iblk m c 0 t : FVec Ideal S32x4 .f32) (ix2 31 ⟨t.val / 64 % 4, Nat.mod_lt _ (by omega)⟩)) : FVec Ideal S512x512 .f32) (ix2 i x)
      = biasOfPair T (hOf t) (rowIx t i) (keyIx k x) := by
  have hv := keyIx_val k (by omega) x
  have hr : (rowIx t i).val = 512 * (t.val % 4) + i.val := rfl
  unfold biasOfPair
  rw [if_pos (by omega), chain_last ⟨(rowIx t i).val - (keyIx k x).val, by omega⟩ (by show 113 ≤ (rowIx t i).val - (keyIx k x).val; omega)]
  exact (table_at m c t 31 _).trans (H.t 31 _)

include H in
/-- The block of point `t`, at row `i` and lane `e`. -/
theorem outAt_at (t : Fin cfg0.N) (i : Fin 512) (e : Fin 128) :
    (outAt m c t : FVec Ideal S512x128 .bf16) (ix2 i e)
      = rowVal Q K W T (lam (iblk m c 4 t)) (fun e => argG m c (ix1 e)) (bOf t) (hOf t) (rowIx t i) e := by
  have hq : t.val % 4 < 4 := Nat.mod_lt _ (by omega)
  have hr : (rowIx t i).val = 512 * (t.val % 4) + i.val := rfl
  unfold outAt
  rw [out_eq]
  refine (attend_at t (iblk m c 0 t) (iblk m c 1 t) (iblk m c 4 t) (iblk m c 5 t) (biasAt m c t) (keyAt m c t) (valAt m c t) i
    (scoreOf Q K T (bOf t) (hOf t) 0 (rowIx t i)) (scoreOf Q K T (bOf t) (hOf t) 1 (rowIx t i)) (fun j e => W (bOf t) j (hOf t) e)
    (scoreOf_ne_top _ _ _ _ _ _ _) (scoreOf_ne_top _ _ _ _ _ _ _) (fun j e => ?_) ?_ ?_ (fun k h1 h2 x => ?_) (fun k h1 h2 x => ?_)
    (fun x => ?_) (fun x => ?_) (fun x => ?_) (fun x => ?_) (fun k hk x => ?_) (fun k hk x => ?_) e).trans ?_
  · rw [valAt_eq]
    refine (value_at m c (pt4 t) j e).trans ?_
    rw [H.v, pt4_b, pt4_h]
  · rw [keyIx_self]; exact scoreOf_self _ _ _ _ _ _ _
  · rw [keyIx_self]; exact scoreOf_self _ _ _ _ _ _ _
  · have := keyIx_val k h2 x
    exact scoreOf_lt _ _ _ _ _ _ _ _ (by omega)
  · have := keyIx_val k h2 x
    exact scoreOf_lt _ _ _ _ _ _ _ _ (by omega)
  · rw [score1_real H, diag_bias H]; exact score_of_bias _ _ _ _ _
  · rw [score2_real H, diag_bias H]; exact score_of_bias _ _ _ _ _
  · rw [score1_real H]
    split
    · rename_i h0; rw [near_none t h0]; exact EReal.add_bot _
    · rename_i h0; rw [near_bias H t h0]; exact score_of_bias _ _ _ _ _
  · rw [score2_real H]
    split
    · rename_i h0; rw [near_none t h0]; exact EReal.add_bot _
    · rename_i h0; rw [near_bias H t h0]; exact score_of_bias _ _ _ _ _
  · rw [score1_real H, far_bias H t k hk]; exact score_of_bias _ _ _ _ _
  · rw [score2_real H, far_bias H t k hk]; exact score_of_bias _ _ _ _ _
  · unfold rowVal
    refine congrArg (fun g => normed _ g e) (funext fun e => gain_at m c t e)

end Cert.KernelIdeal.Body

end
-- ==== Proof.Result.lean ====
module

public import proofs.«01_k».proof.Proof.KernelOut

@[expose] public section

set_option maxRecDepth 16384

noncomputable section

namespace Cert.KernelIdeal.Body

open Cert.KernelIdeal Cert.KernelIdeal.Gen Cert.Attn
open Idealize.ShloMosaic Idealize.ShloMosaic.TcCoe Idealize.ShloMosaic.Tactic
open Idealize.ShloMosaic.Pipeline (Dat Cfg Window)

/-! # The kernel's whole result -/

theorem idx6 (t : Fin cfg0.N) : win0_6.index t = ![t.val % 64, t.val / 64 % 4] :=
  (by decide +kernel : ∀ t : Fin cfg0.N, win0_6.index t = ![t.val % 64, t.val / 64 % 4]) t

/-- The result array, entry by entry. -/
def result (Q K : Heads) (W : Values) (T : Biases) (l : EReal) (G : Fin 128 → EReal) : FVec Ideal S32768x512 .bf16 := fun j =>
  rowVal Q K W T l G ⟨(j 0).val / 2048, by have := (j 0).isLt; change (j 0).val < 32768 at this; omega⟩
    ⟨(j 1).val / 128, by have := (j 1).isLt; change (j 1).val < 512 at this; omega⟩
    ⟨(j 0).val % 2048, Nat.mod_lt _ (by omega)⟩ ⟨(j 1).val % 128, Nat.mod_lt _ (by omega)⟩

variable {m : (ℓ : Loc nD τ sig) → Buf (Elt Ideal) ℓ} {c : Dev nD} {Q K : Heads} {W : Values} {T : Biases} (H : Reads m c Q K W T)

/-- Where a block's entry lands in the array. -/
theorem emb6 (t : Fin cfg0.N) (i : Fin 512) (e : Fin 128) :
    ((View.whole main_v11).slice (win0_6.rect t)).emb (ix2 i e)
      = (ix2 ⟨512 * (t.val % 64) + i.val, by omega⟩ ⟨128 * (t.val / 64 % 4) + e.val, by omega⟩ : S32768x512.Idx) := by
  blk_ext [idx6 t]

include H in
theorem arr_eq (l : EReal) (hl : ∀ t, lam (iblk m c 4 t) = l) :
    (dats m 0 c).arrAt 6 cfg0.N = result Q K W T l (fun e => argG m c (ix1 e)) := by
  refine (dats m 0 c).arrAt_eq_of_covers 6 _ (by decide +kernel) fun t hf y => ?_
  blk_simp [idx6 t]
  rw [after_6]
  have key : ∀ y : S512x128.Idx, (outAt m c t : FVec Ideal S512x128 .bf16) y
      = result Q K W T l (fun e => argG m c (ix1 e)) (((View.whole main_v11).slice (win0_6.rect t)).emb y) := by
    intro y
    obtain ⟨i, e, rfl⟩ : ∃ (i : Fin 512) (e : Fin 128), y = ix2 i e := ⟨y 0, y 1, by funext k; match k with | ⟨0, _⟩ => rfl | ⟨1, _⟩ => rfl⟩
    rw [emb6, outAt_at H, hl]
    unfold result
    have ht : t.val < 256 := t.isLt
    have hi := i.isLt
    have he := e.isLt
    have gen : ∀ {b b' : Fin 16} {h h' : Fin 4} {r r' : Fin 2048} {e e' : Fin 128}, b = b' → h = h' → r = r' → e = e' →
        rowVal Q K W T l (fun e => argG m c (ix1 e)) b h r e = rowVal Q K W T l (fun e => argG m c (ix1 e)) b' h' r' e' := by
      rintro _ _ _ _ _ _ _ _ rfl rfl rfl rfl; rfl
    refine gen (Fin.ext ?_) (Fin.ext ?_) (Fin.ext ?_) (Fin.ext ?_)
    · show t.val / 4 % 16 = (512 * (t.val % 64) + i.val) / 2048; omega
    · show t.val / 64 % 4 = (128 * (t.val / 64 % 4) + e.val) / 128; omega
    · show 512 * (t.val % 4) + i.val = (512 * (t.val % 64) + i.val) % 2048; omega
    · show e.val = (128 * (t.val / 64 % 4) + e.val) % 128; omega
  exact key y

end Cert.KernelIdeal.Body

end
-- ==== Proof.Level.lean ====
module

public import Idealize.ShloMosaic.PureOps
public import Idealize.ShloMosaic.PureOps.Ideal
public import Mathlib.Analysis.SpecialFunctions.Log.Basic

@[expose] public section

set_option maxRecDepth 16384

noncomputable section

namespace Cert.Attn

open Idealize.ShloMosaic
/-! # The logarithmic level of a distance -/

/-- The reference's divisor: the logarithm of eight, rounded up a little. -/
def ratio : ℝ := 8721810 / 4194304

theorem ratio_bits : Ideal.ofBits .f32 0x40051592#32 = ((ratio : ℝ) : EReal) := by
  simp [Ideal.ofBits, Ideal.ieee, -EReal.coe_mul]
  unfold ratio
  norm_num

theorem sixteen_bits : Ideal.ofBits .f32 0x41800000#32 = ((16 : ℝ) : EReal) := by
  simp [Ideal.ofBits, Ideal.ieee, -EReal.coe_mul]
  norm_num

/-- The logarithm of two, by its root of order 2048, from below -/
theorem log2_gt : 0.693 < Real.log 2 := by
  have h : ((1 + 33850 / 10 ^ 8 : ℝ)) ^ 2048 ≤ 2 := by
    have : (10 ^ 8 + 33850) ^ 2048 ≤ 2 * (10 ^ 8) ^ 2048 := by decide +kernel
    have h' : (((10 ^ 8 + 33850) ^ 2048 : ℕ) : ℝ) ≤ ((2 * (10 ^ 8) ^ 2048 : ℕ) : ℝ) := Nat.cast_le.mpr this
    rw [Nat.cast_pow, Nat.cast_mul, Nat.cast_pow (10 ^ 8) 2048] at h'
    have e : (1 + 33850 / 10 ^ 8 : ℝ) = ((10 ^ 8 + 33850 : ℕ) : ℝ) / ((10 ^ 8 : ℕ) : ℝ) := by norm_num
    rw [e, div_pow, div_le_iff₀ (by positivity)]
    exact h'
  have hm := Real.log_le_log (by positivity) h
  rw [Real.log_pow] at hm
  have := Real.one_sub_inv_le_log_of_pos (show (0 : ℝ) < 1 + 33850 / 10 ^ 8 by norm_num)
  push_cast at hm
  norm_num at this hm ⊢
  linarith
/-- and from above. -/
theorem log2_lt : Real.log 2 < 0.6933 := by
  have h : 2 ≤ ((1 + 33851 / 10 ^ 8 : ℝ)) ^ 2048 := by
    have : 2 * (10 ^ 8) ^ 2048 ≤ (10 ^ 8 + 33851) ^ 2048 := by decide +kernel
    have h' : ((2 * (10 ^ 8) ^ 2048 : ℕ) : ℝ) ≤ (((10 ^ 8 + 33851) ^ 2048 : ℕ) : ℝ) := Nat.cast_le.mpr this
    rw [Nat.cast_pow (10 ^ 8 + 33851) 2048, Nat.cast_mul, Nat.cast_pow (10 ^ 8) 2048] at h'
    have e : (1 + 33851 / 10 ^ 8 : ℝ) = ((10 ^ 8 + 33851 : ℕ) : ℝ) / ((10 ^ 8 : ℕ) : ℝ) := by norm_num
    rw [e, div_pow, le_div_iff₀ (by positivity)]
    exact h'
  have hm := Real.log_le_log (by positivity) h
  rw [Real.log_pow] at hm
  have := Real.log_le_sub_one_of_pos (show (0 : ℝ) < 1 + 33851 / 10 ^ 8 by norm_num)
  push_cast at hm
  norm_num at this hm ⊢
  linarith

theorem ratio_gt : 3 * Real.log 2 - 5 / 10000 < ratio := by
  have := log2_lt
  unfold ratio; norm_num at *; linarith
theorem ratio_lt : ratio < 3 * Real.log 2 + 5 / 10000 := by
  have := log2_gt
  unfold ratio; norm_num at *; linarith
theorem ratio_pos : 0 < ratio := by unfold ratio; norm_num

/-- The scaled logarithm of a distance. -/
def level (n : ℕ) : ℝ := Real.log ((n : ℝ) / 16) / ratio * 16

theorem log_pow8 (k : ℕ) : Real.log ((8 : ℝ) ^ k) = k * (3 * Real.log 2) := by
  rw [Real.log_pow, show (8 : ℝ) = 2 ^ 3 by norm_num, Real.log_pow]; norm_num

/-- A distance whose sixteenth power is a hundredth above the bucket's is in the bucket or beyond, -/
theorem level_ge (k n : ℕ) (hk : k ≤ 15) (h : 101 * (16 ^ 16 * 8 ^ k) ≤ 100 * n ^ 16) : (k : ℝ) ≤ level n := by
  have hn : (0 : ℝ) < n := by
    rcases Nat.eq_zero_or_pos n with h0 | h0
    · subst h0; simp at h
    · exact_mod_cast h0
  have hx : (101 / 100 : ℝ) ≤ ((n : ℝ) / 16) ^ 16 / 8 ^ k := by
    rw [div_pow, div_div, div_le_div_iff₀ (by norm_num) (by positivity)]
    have : ((101 * (16 ^ 16 * 8 ^ k) : ℕ) : ℝ) ≤ ((100 * n ^ 16 : ℕ) : ℝ) := by exact_mod_cast h
    push_cast at this
    linarith
  have hl : (1 / 101 : ℝ) ≤ Real.log (101 / 100) := le_trans (by norm_num) (Real.one_sub_inv_le_log_of_pos (by norm_num))
  have hm := Real.log_le_log (by norm_num) hx
  rw [Real.log_div (x := ((n : ℝ) / 16) ^ 16) (y := 8 ^ k) (by positivity) (by positivity), log_pow8, Real.log_pow] at hm
  have hk' : (k : ℝ) ≤ 15 := by exact_mod_cast hk
  have h0 : (0 : ℝ) ≤ k := Nat.cast_nonneg k
  have := ratio_lt
  unfold level
  rw [div_mul_eq_mul_div, le_div_iff₀ ratio_pos]
  push_cast at hm
  nlinarith

/-- and one whose sixteenth power is a fiftieth below it is below the bucket. -/
theorem level_lt (k n : ℕ) (hk : 0 < k) (hk' : k ≤ 38) (hn : 0 < n) (h : 102 * n ^ 16 ≤ 100 * (16 ^ 16 * 8 ^ k)) : level n < k := by
  have hn' : (0 : ℝ) < n := by exact_mod_cast hn
  have hx : (102 / 100 : ℝ) ≤ 8 ^ k / ((n : ℝ) / 16) ^ 16 := by
    rw [div_pow, div_div_eq_mul_div, div_le_div_iff₀ (by norm_num) (by positivity)]
    have : ((102 * n ^ 16 : ℕ) : ℝ) ≤ ((100 * (16 ^ 16 * 8 ^ k) : ℕ) : ℝ) := by exact_mod_cast h
    push_cast at this
    linarith
  have hl : (2 / 102 : ℝ) ≤ Real.log (102 / 100) := le_trans (by norm_num) (Real.one_sub_inv_le_log_of_pos (by norm_num))
  have hm := Real.log_le_log (by norm_num) hx
  rw [Real.log_div (x := 8 ^ k) (y := ((n : ℝ) / 16) ^ 16) (by positivity) (by positivity), log_pow8, Real.log_pow] at hm
  have h0 : (0 : ℝ) < k := by exact_mod_cast hk
  have h1 : (k : ℝ) ≤ 38 := by exact_mod_cast hk'
  have := ratio_gt
  unfold level
  rw [div_mul_eq_mul_div, div_lt_iff₀ ratio_pos]
  push_cast at hm
  nlinarith

theorem level_nonneg (n : ℕ) (h : 16 ≤ n) : 0 ≤ level n := by
  have h' : (16 : ℝ) ≤ n := by exact_mod_cast h
  unfold level
  have := Real.log_nonneg (show (1 : ℝ) ≤ (n : ℝ) / 16 by linarith)
  have := ratio_pos
  positivity

end Cert.Attn

end
-- ==== Proof.Bucket.lean ====
module

public import proofs.«01_k».proof.Proof.Level
public import proofs.«01_k».proof.Proof.Words

@[expose] public section

set_option maxRecDepth 16384

noncomputable section

namespace Cert.Attn

open Idealize.ShloMosaic
open Cert.KernelIdeal.Body (chainIx)
open Cert.ReferenceIdeal.Body (bucket rowAt)

/-! # The distance buckets

The reference takes a distance's bucket by a logarithm. The kernel compares the distance with the first
distance of every bucket. The two agree at every distance of the sequence. -/

/-- The reference's bucket of a distance is the chain's. -/
theorem bucket_eq (n : Fin 2048) : rowAt (bucket (BitVec.ofNat 32 n.val)) = chainIx (BitVec.ofNat 32 n.val) := by
  rcases Nat.lt_or_ge n.val 16 with hn | hn
  · obtain ⟨h1, h2, h3⟩ := chain_near n hn
    rw [h1, bucket, h2]
    exact h3
  · obtain ⟨k, h1, h2, h3⟩ := chain_far n hn
    obtain ⟨w1, w2, w3⟩ := far_word n hn
    rw [h1, bucket, w1, w2]
    have hlev : Ideal.div (Ideal.log (Ideal.div (FloatOps.sitofp (F := Ideal) .f32 (BitVec.ofNat 32 n.val)) (Ideal.ofBits .f32 0x41800000#32)))
        (Ideal.ofBits .f32 0x40051592#32) * Ideal.ofBits .f32 0x41800000#32 = ((level n.val : ℝ) : EReal) := by
      have hs : (FloatOps.sitofp (F := Ideal) .f32 (BitVec.ofNat 32 n.val) : EReal) = ((n.val : ℝ) : EReal) := by
        show (((BitVec.ofNat 32 n.val).toInt : ℝ) : EReal) = _
        rw [w3]; norm_cast
      have hp : (0 : ℝ) < (n.val : ℝ) * (1 / 16) := by
        have : (0 : ℝ) < n.val := by exact_mod_cast (by omega : 0 < n.val)
        positivity
      rw [sixteen_bits, ratio_bits]
      refine (congrArg (fun z => Ideal.div (Ideal.log (Ideal.div z _)) _ * _) hs).trans ?_
      rw [Ideal.div_coe (y := 16) (by norm_num), ← EReal.coe_mul]
      rw [show Ideal.log (((n.val : ℝ) * (1 / 16) : ℝ) : EReal) = ((Real.log ((n.val : ℝ) * (1 / 16)) : ℝ) : EReal) from if_neg (not_le.mpr hp)]
      rw [Ideal.div_coe ratio_pos.ne', ← EReal.coe_mul, ← EReal.coe_mul]
      unfold level
      congr 1
      rw [mul_one_div, mul_one_div]
    have hge : (k.val : ℝ) ≤ level n.val := by
      rcases Nat.eq_zero_or_pos k.val with h0 | h0
      · rw [h0]; exact_mod_cast level_nonneg _ hn
      · refine level_ge _ _ (by omega) ((first_ge k.val (by omega) h0).trans ?_)
        exact Nat.mul_le_mul_left _ (Nat.pow_le_pow_left h2 _)
    have hlt38 : level n.val < (38 : ℕ) :=
      level_lt 38 _ (by norm_num) (by norm_num) (by omega)
        ((Nat.mul_le_mul_left _ (Nat.pow_le_pow_left (show n.val ≤ 2048 by omega) 16)).trans (by norm_num))
    have h0 : 0 ≤ level n.val := level_nonneg _ hn
    have hf0 : 0 ≤ ⌊level n.val⌋ := Int.floor_nonneg.mpr h0
    obtain ⟨f, hf⟩ := Int.eq_ofNat_of_zero_le hf0
    have hf38 : f < 38 := by
      have : ⌊level n.val⌋ < 38 := Int.floor_lt.mpr (by exact_mod_cast hlt38)
      omega
    have hkf : k.val ≤ f := by
      have : (k.val : Int) ≤ ⌊level n.val⌋ := Int.le_floor.mpr (by exact_mod_cast hge)
      omega
    have hup : k.val = 15 ∨ f < k.val + 1 := by
      rcases h3 with h3 | h3
      · exact Or.inl h3
      · by_cases hk15 : k.val = 15
        · exact Or.inl hk15
        · right
          have hl := level_lt (k.val + 1) n.val (by omega) (by omega) (by omega)
            ((Nat.mul_le_mul_left _ (Nat.pow_le_pow_left (show n.val ≤ first (k.val + 1) - 1 by omega) 16)).trans (first_lt (k.val + 1) (by omega) (by omega)))
          have : ⌊level n.val⌋ < ((k.val + 1 : ℕ) : Int) := Int.floor_lt.mpr (by exact_mod_cast hl)
          omega
    refine Eq.trans ?_ (floor_word k ⟨f, hf38⟩ hkf hup)
    congr 1
    show IntOp.minsi (IntOp.addi 16#32 (Ideal.fptosi 32 _)) 31#32 = _
    rw [hlev, Ideal.fptosi, Ideal.toIntClamped_coe, if_pos h0, hf]

end Cert.Attn

end
-- ==== Proof.RefMax.lean ====
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.Tactic

variable (V : Valuation τ sig (Elt Ideal))

/-! # The reference's softmax, read at an index -/

/-- The largest score of a row. -/
def rowMax (x : FVec Ideal S16x2x4x2048x2048 .f32) : FVec Ideal S16x2x4x2048 .f32 :=
  Host.reduce FloatOps.maximumf x (constant S_ .f32 0xFF800000#32) reducesTo_S16x2x4x2048x2048_S16x2x4x2048_d4 h_S_

/-- The exponentials of a row of scores against a row maximum. -/
def expOf (x : FVec Ideal S16x2x4x2048x2048 .f32) (r : FVec Ideal S16x2x4x2048 .f32) : FVec Ideal S16x2x4x2048x2048 .f32 :=
  Host.exp (subf x (broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) r))))

theorem v57_eq : (res_main_v57 V : FVec Ideal S16x2x4x2048x2048 .f32) = expOf (res_main_v50 V) (rowMax (res_main_v50 V)) := rfl

theorem expOf_at (x) (r) (b : Fin 16) (s : Fin 2) (h : Fin 4) (i j : Fin 2048) :
    expOf x r (ix5 b s h i j) = Ideal.exp (x (ix5 b s h i j) - max (Ideal.ofBits .f32 0xFF800000#32) (r (ix4 b s h i))) := by
  pointwise [expOf]

theorem drop_at (b : Fin 16) (s : Fin 2) (h : Fin 4) (i j : Fin 2048) :
    reducesTo_S16x2x4x2048x2048_S16x2x4x2048_d4.drop (ix5 b s h i j) = ix4 b s h i := by
  funext a
  match a with
  | ⟨0, _⟩ => rfl
  | ⟨1, _⟩ => rfl
  | ⟨2, _⟩ => rfl
  | ⟨3, _⟩ => rfl

theorem rowMax_ge (x) (b : Fin 16) (s : Fin 2) (h : Fin 4) (i j : Fin 2048) :
    x (ix5 b s h i j) ≤ rowMax x (ix4 b s h i) := by
  unfold rowMax
  rw [Host.reduce_eq_fold]
  refine (Finset.le_fold_max _).mpr (Or.inr ⟨ix5 b s h i j, ?_, le_refl _⟩)
  exact Finset.mem_filter.mpr ⟨Finset.mem_univ _, drop_at b s h i j⟩

theorem rowMax_lt (x) (hx : ∀ y, x y < ⊤) (j) : rowMax x j < ⊤ := by
  unfold rowMax
  rw [Host.reduce_eq_fold]
  refine (Finset.fold_max_lt _).mpr ⟨?_, fun y _ => hx y⟩
  show Ideal.ofBits .f32 0xFF800000#32 < ⊤
  have : Ideal.ofBits .f32 0xFF800000#32 = ⊥ := by simp [Ideal.ofBits, Ideal.ieee]
  rw [this]; exact bot_lt_top

theorem v61_at (b : Fin 16) (s : Fin 2) (h : Fin 4) (i j : Fin 2048) :
    (res_main_v61 V : FVec Ideal S16x2x4x2048x2048 .f32) (ix5 b s h i j)
      = Ideal.div ((res_main_v57 V : FVec Ideal S16x2x4x2048x2048 .f32) (ix5 b s h i j))
          (∑ x : Fin 2048, (res_main_v57 V : FVec Ideal S16x2x4x2048x2048 .f32) (ix5 b s h i x)) := by
  pointwise [res_main_v61]

end Cert.ReferenceIdeal.Body

end
-- ==== Proof.RefOut.lean ====
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.Tactic

variable (V : Valuation τ sig (Elt Ideal))

/-! # The reference's mix and norm, read at an index -/

def half0 (y : FVec Ideal S16x2x4x2048x2048 .f32) : FVec Ideal S16x4x2048x2048 .f32 :=
  shapeCast _ (extractStridedSlice S16x1x4x2048x2048 ![0, 0, 0, 0, 0] y slices_S16x2x4x2048x2048_S16x1x4x2048x2048_0_0_0_0_0) shapeCasts_S16x1x4x2048x2048_S16x4x2048x2048
def half1 (y : FVec Ideal S16x2x4x2048x2048 .f32) : FVec Ideal S16x4x2048x2048 .f32 :=
  shapeCast _ (extractStridedSlice S16x1x4x2048x2048 ![0, 1, 0, 0, 0] y slices_S16x2x4x2048x2048_S16x1x4x2048x2048_0_1_0_0_0) shapeCasts_S16x1x4x2048x2048_S16x4x2048x2048
def lamOf : FVec Ideal S_ .f32 :=
  addf (subf (Host.exp (Host.reduceAdd (mulf (V (Proc.devRef .tc main_arg4)) (V (Proc.devRef .tc main_arg5))) (constant S_ .f32 0x00000000#32) reducesTo_S64_S_d0 h_S_)) (Host.exp (Host.reduceAdd (mulf (V (Proc.devRef .tc main_arg6)) (V (Proc.devRef .tc main_arg7))) (constant S_ .f32 0x00000000#32) reducesTo_S64_S_d0 h_S_))) (constant S_ .f32 0x3E4CCCCD#32)
def mix (v : FVec Ideal S16x2048x4x128 .f32) (w0 w1 : FVec Ideal S16x4x2048x2048 .f32) (l : FVec Ideal S_ .f32) : FVec Ideal S16x2048x4x128 .f32 :=
  transpose S16x2048x4x128 [0, 3, 1, 2] (Host.dotGeneral dot_S16x2048x4x128_S16x4x2048x2048_S16x4x128x2048_1_3_3_2_02_01 none v (subf w0 (mulf (broadcastInDim S16x4x2048x2048 ![] bcast_S_S16x4x2048x2048 l) w1))) transposes_S16x4x128x2048_S16x2048x4x128_0_3_1_2

theorem v70_eq : (res_main_v70 V : FVec Ideal S16x2048x4x128 .f32) = mix (V (Proc.devRef .tc main_arg2)) (half0 (res_main_v61 V)) (half1 (res_main_v61 V)) (lamOf V) := rfl

theorem half0_at (y) (b : Fin 16) (h : Fin 4) (i x : Fin 2048) : half0 y (ix4 b h i x) = y (ix5 b 0 h i x) := by
  pointwise [half0]
theorem half1_at (y) (b : Fin 16) (h : Fin 4) (i x : Fin 2048) : half1 y (ix4 b h i x) = y (ix5 b 1 h i x) := by
  pointwise [half1]
/-- A vector of 64 numbers, as one. -/
abbrev vec (x : FVec Ideal S64 .f32) : FVec Ideal S64 .f32 := x

theorem lamOf_at : lamOf V ix0
    = Ideal.exp (∑ x : Fin 64, vec (V (Proc.devRef .tc main_arg4)) (ix1 x) * vec (V (Proc.devRef .tc main_arg5)) (ix1 x))
      - Ideal.exp (∑ x : Fin 64, vec (V (Proc.devRef .tc main_arg6)) (ix1 x) * vec (V (Proc.devRef .tc main_arg7)) (ix1 x))
      + Ideal.ofBits .f32 0x3E4CCCCD#32 := by
  pointwise [lamOf]
theorem mix_at (v w0 w1 l) (b : Fin 16) (h : Fin 4) (i : Fin 2048) (e : Fin 128) :
    mix v w0 w1 l (ix4 b i h e)
      = ∑ x : Fin 2048, v (ix4 b x h e) * (w0 (ix4 b h i x) - l ix0 * w1 (ix4 b h i x)) := by
  pointwise [mix]

/-- The output row's norm and gains. -/
def outOf (y : FVec Ideal S16x2048x4x128 .f32) (g : FVec Ideal S128 .f32) : FVec Ideal S32768x512 .bf16 :=
 truncf .bf16 (shapeCast _ (mulf (mulf (mulf y (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf y y) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x358637BD#32)))))) (broadcastInDim S16x2048x4x128 ![0, 1, 2, 3] bcast_S1x1x1x128_S16x2048x4x128_0_1_2_3 (broadcastInDim S1x1x1x128 ![3] bcast_S128_S1x1x1x128_3 g))) (broadcastInDim S16x2048x4x128 ![] bcast_S_S16x2048x4x128 (constant S_ .f32 0x3F4CCCCD#32))) shapeCasts_S16x2048x4x128_S32768x512) bitsLt_bf16_f32

theorem outOf_at (y g) (x : Fin 32768) (c : Fin 512) :
    outOf y g (ix2 x c)
      = y (ix4 ⟨x.val / 2048, by omega⟩ ⟨x.val % 2048, by omega⟩ ⟨c.val / 128, by omega⟩ ⟨c.val % 128, by omega⟩)
        * Ideal.rsqrt (Ideal.div (∑ e : Fin 128, y (ix4 ⟨x.val / 2048, by omega⟩ ⟨x.val % 2048, by omega⟩ ⟨c.val / 128, by omega⟩ e)
            * y (ix4 ⟨x.val / 2048, by omega⟩ ⟨x.val % 2048, by omega⟩ ⟨c.val / 128, by omega⟩ e)) (Ideal.ofBits .f32 0x43000000#32) + Ideal.ofBits .f32 0x358637BD#32)
        * g (ix1 ⟨c.val % 128, by omega⟩) * Ideal.ofBits .f32 0x3F4CCCCD#32 := by
  pointwise [outOf]

end Cert.ReferenceIdeal.Body

end
-- ==== Proof.RefRow.lean ====
module

public import proofs.«01_k».proof.Proof.Bucket
public import proofs.«01_k».proof.Proof.Target
public import proofs.«01_k».proof.Proof.RefMax
public import proofs.«01_k».proof.Proof.RefOut
public import proofs.«01_k».proof.Proof.Row

@[expose] public section

set_option maxRecDepth 16384

noncomputable section

namespace Cert.ReferenceIdeal.Body

open Cert.ReferenceIdeal Cert.ReferenceIdeal.Value Cert.Attn
open Idealize.ShloMosaic Idealize.ShloMosaic.TcCoe Idealize.ShloMosaic.Tactic
open Idealize.ShloMosaic.StableHlo
open Cert.KernelIdeal.Body (chainIx normed neg_inf)

/-! # A row of the reference's result -/

variable (V : Valuation τ sig (Elt Ideal))

abbrev refV : FVec Ideal S16x2048x4x128 .f32 := V (Proc.devRef .tc main_arg2)

/-- The scores as an array. -/
abbrev scores : FVec Ideal S16x2x4x2048x2048 .f32 := res_main_v50 V

/-- The arguments are these real numbers. -/
structure Reads (Q K : Heads) (W : Values) (T : Biases) : Prop where
  q : ∀ b r h s x, refQ V (ix5 b r h s x) = ((Q b r h s x : ℝ) : EReal)
  k : ∀ b r h s x, refK V (ix5 b r h s x) = ((K b r h s x : ℝ) : EReal)
  v : ∀ b r h e, refV V (ix4 b r h e) = ((W b r h e : ℝ) : EReal)
  t : ∀ i h, refT V (ix2 i h) = ((T i h : ℝ) : EReal)

variable {V} {Q K : Heads} {W : Values} {T : Biases} (H : Reads V Q K W T)

include H in
/-- The scores, -/
theorem score_eq (b : Fin 16) (s : Fin 2) (h : Fin 4) (i j : Fin 2048) :
    (res_main_v50 V : FVec Ideal S16x2x4x2048x2048 .f32) (ix5 b s h i j) = scoreOf Q K T b h s i j := by
  rw [v50_at]
  rcases Nat.lt_or_ge i.val j.val with hj | hj
  · rw [scoreOf_lt _ _ _ _ _ _ _ _ hj, word_neg _ _ hj.le]
    rw [neg_word ⟨j.val - i.val, by omega⟩ (by show 0 < j.val - i.val; omega)]
    exact neg_inf
  · rw [scoreOf_le _ _ _ _ _ _ _ _ hj, word_sub _ _ hj, (max_word ⟨i.val - j.val, by omega⟩).2, (max_word ⟨i.val - j.val, by omega⟩).1]
    show _ * _ + _ = _
    rw [bucket_eq ⟨i.val - j.val, by omega⟩, H.t, eighth]
    refine congrArg (· + _) ?_
    unfold meet
    rw [EReal.coe_mul, ← coe_sum]
    refine congrArg (· * _) (Finset.sum_congr rfl fun x _ => ?_)
    rw [H.q, H.k, EReal.coe_mul]

include H in
theorem score_ne_top (y : S16x2x4x2048x2048.Idx) : scores V y < ⊤ := by
  idx_vars y
  refine lt_of_eq_of_lt (score_eq H _ _ _ _ _) ?_
  exact lt_top_iff_ne_top.mpr (scoreOf_ne_top _ _ _ _ _ _ _ _)

include H in
/-- their exponentials, -/
theorem exp_eq (b : Fin 16) (s : Fin 2) (h : Fin 4) (i : Fin 2048) : ∃ M : ℝ, ∀ j,
    (res_main_v57 V : FVec Ideal S16x2x4x2048x2048 .f32) (ix5 b s h i j) = Ideal.exp (scoreOf Q K T b h s i j - (M : EReal)) := by
  have h1 := rowMax_lt (res_main_v50 V) (score_ne_top H) (ix4 b s h i)
  have h2 : scoreOf Q K T b h s i i ≤ rowMax (res_main_v50 V) (ix4 b s h i) :=
    le_of_eq_of_le (score_eq H b s h i i).symm (rowMax_ge (res_main_v50 V) b s h i i)
  have h3 : rowMax (res_main_v50 V) (ix4 b s h i) ≠ ⊥ := fun e => scoreOf_self Q K T b h s i (le_bot_iff.mp (e ▸ h2))
  refine ⟨(rowMax (res_main_v50 V) (ix4 b s h i)).toReal, fun j => ?_⟩
  rw [v57_eq, expOf_at, score_eq H, neg_inf, EReal.coe_toReal h1.ne h3]
  rw [max_eq_right bot_le]

include H in
/-- the weights, -/
theorem weight_eq (b : Fin 16) (s : Fin 2) (h : Fin 4) (i j : Fin 2048) :
    (res_main_v61 V : FVec Ideal S16x2x4x2048x2048 .f32) (ix5 b s h i j)
      = ((E (scoreOf Q K T b h s i j) / ∑ x, E (scoreOf Q K T b h s i x) : ℝ) : EReal) := by
  obtain ⟨M, hM⟩ := exp_eq H b s h i
  rw [v61_at, hM]
  refine (congrArg (Ideal.div _) (Finset.sum_congr rfl fun x _ => hM x)).trans ?_
  exact softmax_entry (fun x => scoreOf_ne_top Q K T b h s i x) (scoreOf_pos Q K T b h s i) M j

include H in
/-- the mix, -/
theorem mix_eq (l : ℝ) (hl : lamOf V ix0 = (l : EReal)) (b : Fin 16) (h : Fin 4) (i : Fin 2048) (e : Fin 128) :
    (res_main_v70 V : FVec Ideal S16x2048x4x128 .f32) (ix4 b i h e)
      = ((meanOf (scoreOf Q K T b h 0 i) (fun j => W b j h e) : ℝ) : EReal)
        - (l : EReal) * ((meanOf (scoreOf Q K T b h 1 i) (fun j => W b j h e) : ℝ) : EReal) := by
  rw [v70_eq, mix_at]
  refine Eq.trans (α := EReal) (Finset.sum_congr rfl fun x _ => ?_) (differential (fun j => E (scoreOf Q K T b h 0 i j)) (fun j => E (scoreOf Q K T b h 1 i j))
    (fun j => W b j h e) (∑ x, E (scoreOf Q K T b h 0 i x)) (∑ x, E (scoreOf Q K T b h 1 i x)) l)
  rw [half0_at, half1_at]
  exact congrArg₂ (· * ·) (H.v b x h e) (congrArg₂ (· - ·) (weight_eq H b 0 h i x) (congrArg₂ (· * ·) hl (weight_eq H b 1 h i x)))

include H in
/-- and the row. -/
theorem row_eq (l : ℝ) (hl : lamOf V ix0 = (l : EReal)) (g : FVec Ideal S128 .f32) (x : Fin 32768) (c : Fin 512) :
    outOf (res_main_v70 V) g (ix2 x c)
      = rowVal Q K W T (l : EReal) (fun e => g (ix1 e)) ⟨x.val / 2048, by omega⟩ ⟨c.val / 128, by omega⟩ ⟨x.val % 2048, by omega⟩ ⟨c.val % 128, by omega⟩ := by
  rw [outOf_at]
  unfold rowVal normed
  simp only [mix_eq H l hl]

end Cert.ReferenceIdeal.Body

end
-- ==== Proof.Algebraic.lean ====
module

public import proofs.«01_k».proof.Proof.Finite
public import proofs.«01_k».proof.Proof.Result
public import proofs.«01_k».proof.Proof.RefRow

@[expose] public section

set_option maxRecDepth 16384

noncomputable section

namespace Cert.Proof

open Idealize.ShloMosaic Idealize.ShloMosaic.TcCoe Idealize.SL.Sem Cert.Attn Idealize.ShloMosaic.StableHlo

/-! # The kernel and the reference end alike

On real arguments both results are the same array: one row of `rowVal` for each token and head. -/

/-- A finite sum of products of reals is real. -/
theorem sum_real (a b : FVec Ideal (⟨1, ![64]⟩ : Shape) .f32) (ha : ∀ i, ∃ r : ℝ, a i = r) (hb : ∀ i, ∃ r : ℝ, b i = r) :
    ∃ r : ℝ, (∑ x : Fin 64, a (ix1 x) * b (ix1 x) : EReal) = (r : EReal) := by
  choose f hf using ha
  choose g hg using hb
  refine ⟨∑ x : Fin 64, f (ix1 x) * g (ix1 x), ?_⟩
  rw [← coe_sum]
  exact Finset.sum_congr rfl fun x _ => by rw [hf, hg, EReal.coe_mul]

theorem start_real : ∃ r : ℝ, Ideal.ofBits .f32 0x3E4CCCCD#32 = (r : EReal) := by
  refine ⟨13421773 * (2 ^ 26)⁻¹, ?_⟩
  rw [EReal.coe_mul]
  simp [Ideal.ofBits, Ideal.ieee]

/-- The weight of the second half is real. -/
theorem weight_real (a b c d : FVec Ideal (⟨1, ![64]⟩ : Shape) .f32) (ha : ∀ i, ∃ r : ℝ, a i = r) (hb : ∀ i, ∃ r : ℝ, b i = r)
    (hc : ∀ i, ∃ r : ℝ, c i = r) (hd : ∀ i, ∃ r : ℝ, d i = r) :
    ∃ l : ℝ, Ideal.exp (∑ x : Fin 64, a (ix1 x) * b (ix1 x)) - Ideal.exp (∑ x : Fin 64, c (ix1 x) * d (ix1 x))
      + Ideal.ofBits .f32 0x3E4CCCCD#32 = (l : EReal) := by
  obtain ⟨p, hp⟩ := sum_real a b ha hb
  obtain ⟨q, hq⟩ := sum_real c d hc hd
  obtain ⟨s, hs⟩ := start_real
  refine ⟨Real.exp p - Real.exp q + s, ?_⟩
  rw [hp, hq, hs]
  rfl

theorem weight_congr {a a' b b' c c' d d' : FVec Ideal (⟨1, ![64]⟩ : Shape) .f32} (ha : a = a') (hb : b = b') (hc : c = c') (hd : d = d') :
    Ideal.exp (∑ x : Fin 64, a (ix1 x) * b (ix1 x)) - Ideal.exp (∑ x : Fin 64, c (ix1 x) * d (ix1 x)) + Ideal.ofBits .f32 0x3E4CCCCD#32
      = Ideal.exp (∑ x : Fin 64, a' (ix1 x) * b' (ix1 x)) - Ideal.exp (∑ x : Fin 64, c' (ix1 x) * d' (ix1 x))
        + Ideal.ofBits .f32 0x3E4CCCCD#32 := by
  subst ha hb hc hd; rfl

/-- The state of one device: the arrays read off, and the kernel's and the reference's results. -/
theorem device (m : (ℓ : Loc Cert.KernelIdeal.nD Cert.KernelIdeal.τ Cert.KernelIdeal.sig) → Buf (Elt Ideal) ℓ)
    (hpre : Cert.Pre_KernelIdeal_finite m) (c : Dev Cert.KernelIdeal.nD) :
    ∃ (Q K : Heads) (W : Values) (T : Biases) (l : ℝ), Cert.KernelIdeal.Body.Reads m c Q K W T
      ∧ (∀ t, Cert.KernelIdeal.Body.lam (Cert.KernelIdeal.Gen.iblk m c 4 t) = (l : EReal))
      ∧ Ideal.exp (∑ x : Fin 64, Cert.KernelIdeal.Body.argA m c (ix1 x) * Cert.KernelIdeal.Body.argB m c (ix1 x))
          - Ideal.exp (∑ x : Fin 64, Cert.KernelIdeal.Body.argC m c (ix1 x) * Cert.KernelIdeal.Body.argD m c (ix1 x))
          + Ideal.ofBits .f32 0x3E4CCCCD#32 = (l : EReal) := by
  obtain ⟨h0, h1, h2, h3, h4, h5, h6, h7⟩ := fn_real _ _ _ _ _ _ _ _ _ (hpre c)
  choose q hq using h0
  choose k hk using h1
  choose v hv using h2
  choose t ht using h3
  obtain ⟨l, hl⟩ := weight_real _ _ _ _ h4 h5 h6 h7
  exact ⟨fun b r h s x => q (ix5 b r h s x), fun b r h s x => k (ix5 b r h s x), fun b r h e => v (ix4 b r h e), fun i h => t (ix2 i h), l,
    ⟨fun b r h s x => hq _, fun b r h s x => hk _, fun b r h e => hv _, fun i h => ht _⟩,
    fun t => (Cert.KernelIdeal.Body.lam_eq m c t).trans hl, hl⟩

theorem algebraic : Cert.algebraic_KernelIdeal_ReferenceIdeal_pre_finite := by
  intro m g m' g' hpre hargs
  choose Q K W T l hR hl hl' using device m hpre
  refine ⟨fun c => Cert.KernelIdeal.Body.result (Q c) (K c) (W c) (T c) (l c) (fun e => Cert.KernelIdeal.Body.argG m c (ix1 e)), ?_, ?_⟩
  · have hrun := Cert.KernelIdeal.Body.run_all (F := Ideal) m g
    refine (θ_run Cert.KernelIdeal.defs _ _).mono ?_ (θ_run_and (frame_ideal m g trivial) hrun)
    rintro r ⟨h1, h2⟩ c
    exact ⟨((h2.1 c).1 6).trans (Cert.KernelIdeal.Body.arr_eq (hR c) _ (hl c)), h1.1 c⟩
  · refine (θ_run Cert.ReferenceIdeal.defs _ _).mono ?_ (Cert.ReferenceIdeal.Value.run m' g')
    intro r h c
    refine ⟨(h c).1.trans ?_, (h c).2⟩
    obtain ⟨e0, e1, e2, e3, e4, e5, e6, e7, e8⟩ := hargs c
    have H : Cert.ReferenceIdeal.Body.Reads (launchContents m' c) (Q c) (K c) (W c) (T c) :=
      ⟨fun b r h s x => (congrFun e0 _).trans ((hR c).q b r h s x), fun b r h s x => (congrFun e1 _).trans ((hR c).k b r h s x),
       fun b r h e => (congrFun e2 _).trans ((hR c).v b r h e), fun i h => (congrFun e3 _).trans ((hR c).t i h)⟩
    have hlam : Cert.ReferenceIdeal.Body.lamOf (launchContents m' c) ix0 = (l c : EReal) := by
      exact (Cert.ReferenceIdeal.Body.lamOf_at _).trans ((weight_congr e4 e5 e6 e7).trans (hl' c))
    have hg : ∀ e : Fin 128, (m' ((c.tc : Thread Cert.ReferenceIdeal.nD Cert.ReferenceIdeal.τ).loc Cert.ReferenceIdeal.main_arg8) : FVec Ideal (⟨1, ![128]⟩ : Shape) .f32) (ix1 e)
        = Cert.KernelIdeal.Body.argG m c (ix1 e) := fun e => congrFun e8 _
    have point : ∀ j : (⟨2, ![32768, 512]⟩ : Shape).Idx,
        Cert.ReferenceIdeal.Body.outOf (Cert.ReferenceIdeal.Value.res_main_v70 (launchContents m' c))
            (m' ((c.tc : Thread Cert.ReferenceIdeal.nD Cert.ReferenceIdeal.τ).loc Cert.ReferenceIdeal.main_arg8)) j
          = Cert.KernelIdeal.Body.result (Q c) (K c) (W c) (T c) (l c) (fun e => Cert.KernelIdeal.Body.argG m c (ix1 e)) j := by
      intro j
      obtain ⟨x, y, rfl⟩ : ∃ (x : Fin 32768) (y : Fin 512), j = ix2 x y :=
        ⟨j 0, j 1, by funext k; match k with | ⟨0, _⟩ => rfl | ⟨1, _⟩ => rfl⟩
      rw [Cert.ReferenceIdeal.Body.row_eq H (l c) hlam, funext hg]
      rfl
    exact funext point

end Cert.Proof

end
-- ==== Proof.OutTarget.lean ====
module

public import Idealize.ShloMosaic.Lib.Pointwise
public import Idealize.ShloMosaic.Lib.Pipeline.ValueKit

@[expose] public section

set_option maxRecDepth 16384

noncomputable section

namespace Cert.OutProj

open Idealize.ShloMosaic

/-! # The output projection, one token at a time

A token's row of the stream takes both mixers' outputs through their halves of the weights, is normed for the feed-forward
part, and the normed row's queries are compared with the keys of each head and half. -/

/-- The stream after the mixers: the two halves of the weights one after the other. -/
def mixed (x : Fin 1024 → EReal) (a b : Fin 512 → EReal) (w : Fin 1024 → Fin 1024 → EReal) (c : Fin 1024) : EReal :=
  x c + ((∑ k : Fin 512, a k * w ⟨k.val, by omega⟩ c) + ∑ k : Fin 512, b k * w ⟨512 + k.val, by omega⟩ c)

/-- The row over its root mean square, with the gain. -/
def normed (h g : Fin 1024 → EReal) (c : Fin 1024) : EReal :=
  h c * Ideal.rsqrt (Ideal.div (∑ e : Fin 1024, h e * h e) (Ideal.ofBits .f32 0x44800000#32) + Ideal.ofBits .f32 0x358637BD#32) * g c

/-- The queries of a normed row. -/
def query (n : Fin 1024 → EReal) (p : Fin 1024 → Fin 2048 → EReal) (j : Fin 2048) : EReal := ∑ c : Fin 1024, n c * p c j

/-- A key against the part of the queries that belongs to its head and half. -/
def score (q : Fin 2048 → EReal) (s : Fin 128 → EReal) (y : Fin 16) : EReal :=
  ∑ d : Fin 128, s d * q ⟨128 * y.val + d.val, by omega⟩

/-! ## On the arguments -/

/-- A token's row of an array of 16 texts of 2048 tokens; `x` counts the tokens through. -/
def rowOf {n : ℕ} {f : FTy} (X : FVec Ideal (⟨3, ![16, 2048, n]⟩ : Shape) f) (x : Fin 32768) (c : Fin n) : EReal :=
  X (ix3 ⟨x.val / 2048, by omega⟩ ⟨x.val % 2048, Nat.mod_lt _ (by omega)⟩ c)

/-- The call's arguments: the stream, both mixers' outputs, their weights, the gain, the query weights, the keys. -/
structure Args where
  x : FVec Ideal (⟨3, ![16, 2048, 1024]⟩ : Shape) .f32
  a : FVec Ideal (⟨3, ![16, 2048, 512]⟩ : Shape) .bf16
  b : FVec Ideal (⟨3, ![16, 2048, 512]⟩ : Shape) .bf16
  w : FVec Ideal (⟨2, ![1024, 1024]⟩ : Shape) .f32
  g : FVec Ideal (⟨1, ![1024]⟩ : Shape) .f32
  p : FVec Ideal (⟨2, ![1024, 2048]⟩ : Shape) .f32
  s : FVec Ideal (⟨4, ![8, 2, 128, 128]⟩ : Shape) .f32

variable (A : Args)

/-- A token's row after the mixers, -/
def Args.stream (x : Fin 32768) : Fin 1024 → EReal := mixed (rowOf A.x x) (rowOf A.a x) (rowOf A.b x) fun k c => A.w (ix2 k c)
/-- its normed row, -/
def Args.norm (x : Fin 32768) : Fin 1024 → EReal := normed (A.stream x) fun c => A.g (ix1 c)
/-- and its score with key `i` of head and half `y`. -/
def Args.scoreOf (x : Fin 32768) (y : Fin 16) (i : Fin 128) : EReal :=
  score (query (A.norm x) fun c j => A.p (ix2 c j)) (fun d => A.s (ix4 ⟨y.val / 2, by omega⟩ ⟨y.val % 2, Nat.mod_lt _ (by omega)⟩ i d)) y

/-- The call's three results. -/
def Args.resH : FVec Ideal (⟨2, ![32768, 1024]⟩ : Shape) .f32 := fun j => A.stream (j 0) (j 1)
def Args.resN : FVec Ideal (⟨2, ![1024, 32768]⟩ : Shape) .bf16 := fun j => A.norm (j 1) (j 0)
def Args.resS : FVec Ideal (⟨3, ![16, 128, 32768]⟩ : Shape) .f32 := fun j => A.scoreOf (j 2) (j 0) (j 1)

end Cert.OutProj

end
-- ==== Proof.InTarget.lean ====
module

public import proofs.«01_k».proof.Proof.OutTarget

@[expose] public section

set_option maxRecDepth 16384

noncomputable section

namespace Cert.InProj

open Idealize.ShloMosaic
open Cert.OutProj (normed rowOf)

/-! # The input projection, one token at a time

A token's normed row is multiplied with all the weights at once. The first 1024 columns are the queries and the keys, each
head's half of 64 columns over its own root mean square; the other columns are handed on as they are. -/

/-- A head's half over its root mean square, with the gain. -/
def headNorm (t : Fin 512 → EReal) (g : Fin 64 → EReal) (j : Fin 512) : EReal :=
  t j * Ideal.rsqrt (Ideal.div (∑ d : Fin 64, t ⟨j.val / 64 * 64 + d.val, by omega⟩ * t ⟨j.val / 64 * 64 + d.val, by omega⟩) (Ideal.ofBits .f32 0x42800000#32)
    + Ideal.ofBits .f32 0x358637BD#32) * g ⟨j.val % 64, Nat.mod_lt _ (by omega)⟩

/-- The same with the sum of squares taken through a matrix, in a leading part and what it leaves. -/
def groupNorm (t : Fin 512 → EReal) (G : Fin 512 → Fin 512 → EReal) (g : Fin 512 → EReal) (j : Fin 512) : EReal :=
  t j * Ideal.rsqrt (((∑ k : Fin 512, t k * t k * G k j) + ∑ k : Fin 512, (t k * t k - t k * t k) * G k j) * Ideal.ofBits .f32 0x3C800000#32
    + Ideal.ofBits .f32 0x358637BD#32) * g j

/-- The call's arguments: the stream, the gain, all the weights side by side, the gains of the queries and of the keys. -/
structure Args where
  x : FVec Ideal (⟨3, ![16, 2048, 1024]⟩ : Shape) .f32
  g : FVec Ideal (⟨1, ![1024]⟩ : Shape) .f32
  w : FVec Ideal (⟨2, ![1024, 3592]⟩ : Shape) .f32
  gq : FVec Ideal (⟨1, ![64]⟩ : Shape) .f32
  gk : FVec Ideal (⟨1, ![64]⟩ : Shape) .f32

variable (A : Args)

/-- A token's normed row, -/
def Args.norm (x : Fin 32768) : Fin 1024 → EReal := normed (rowOf A.x x) fun c => A.g (ix1 c)
/-- and its products with the weights' columns. -/
def Args.proj (x : Fin 32768) (j : Fin 3592) : EReal := ∑ c : Fin 1024, A.norm x c * A.w (ix2 c j)

/-- The call's six results: the queries, -/
def Args.resQ : FVec Ideal (⟨2, ![32768, 512]⟩ : Shape) .f32 := fun y =>
  headNorm (fun j => A.proj (y 0) ⟨j.val, by omega⟩) (fun d => A.gq (ix1 d)) (y 1) * Ideal.ofBits .f32 0x3E000000#32
/-- the keys, -/
def Args.resK : FVec Ideal (⟨2, ![32768, 512]⟩ : Shape) .f32 := fun y =>
  headNorm (fun j => A.proj (y 0) ⟨512 + j.val, by omega⟩) (fun d => A.gk (ix1 d)) (y 1)
/-- `n` columns from column `o` on, -/
def Args.cols (o n : ℕ) (h : o + n ≤ 3592) : FVec Ideal (⟨2, ![32768, n]⟩ : Shape) .f32 := fun y =>
  A.proj (y 0) ⟨o + (y 1).val, by have : (y 1).val < n := (y 1).isLt; omega⟩
/-- and the last eight columns, filled up to 128 with zeros. -/
def Args.resBa : FVec Ideal (⟨2, ![32768, 128]⟩ : Shape) .f32 := fun y =>
  if h : (y 1).val < 8 then A.proj (y 0) ⟨3584 + (y 1).val, by omega⟩ else 0

end Cert.InProj

end
-- ==== Proof.InBlock.lean ====
module

public import proofs.«01_k».proof.Proof.Gen.Kernel2Ideal.Value
public import proofs.«01_k».proof.Proof.InTarget

@[expose] public section

set_option maxRecDepth 16384

noncomputable section

namespace Cert.Kernel2Ideal.Body

open Cert.Kernel2Ideal Cert.Kernel2Ideal.Gen Cert.InProj
open Cert.OutProj (normed)
open Idealize.ShloMosaic Idealize.ShloMosaic.TcCoe Idealize.ShloMosaic.Tactic

/-! # One block of the input projection, entry by entry -/

variable (x : FVec Ideal S512x1024 .f32) (g : FVec Ideal S1x1024 .f32) (w : FVec Ideal S1024x1024 .bf16) (G : FVec Ideal S512x512 .bf16)
  (h : FVec Ideal S1x512 .f32) (n : FVec Ideal S512x1024 .bf16)

/-- The normed rows. -/
theorem pay3_at (i : Fin 512) (c : Fin 1024) :
    (k0_pay3 (F := Ideal) x g (ix2 i c) : EReal) = normed (fun c => x (ix2 i c)) (fun c => g (ix2 0 c)) c := by
  unfold normed
  pointwise [k0_pay3]

/-- The products with the queries' and the keys' weights. -/
theorem pay4_at (i : Fin 512) (j : Fin 1024) :
    (k0_pay4 (F := Ideal) x g w (ix2 i j) : EReal) = ∑ c : Fin 1024, (k0_pay3 (F := Ideal) x g (ix2 i c) : EReal) * w (ix2 c j) := by
  generalize hk : k0_pay3 (F := Ideal) x g = n
  unfold k0_pay4
  rw [hk]
  pointwise

/-- The queries, over their root mean squares, -/
theorem pay6_at (i j : Fin 512) :
    (k0_pay6 (F := Ideal) x g w G h (ix2 i j) : EReal)
      = groupNorm (fun j => (k0_pay4 (F := Ideal) x g w (ix2 i ⟨j.val, by omega⟩) : EReal)) (fun k j => G (ix2 k j)) (fun j => h (ix2 0 j)) j := by
  unfold groupNorm
  generalize hk : k0_pay4 (F := Ideal) x g w = t
  unfold k0_pay6 k0_pay5
  rw [hk]
  pointwise

/-- with their scale; -/
theorem pay7_at (q : FVec Ideal S512x512 .f32) (i j : Fin 512) :
    (k0_pay7 (F := Ideal) q (ix2 i j) : EReal) = q (ix2 i j) * Ideal.ofBits .f32 0x3E000000#32 := by
  pointwise [k0_pay7]

/-- the keys, over theirs. -/
theorem pay8_at (t : FVec Ideal S512x1024 .f32) (i j : Fin 512) :
    (k0_pay8 (F := Ideal) t (k0_pay5 (F := Ideal) G) h (ix2 i j) : EReal)
      = groupNorm (fun j => t (ix2 i ⟨512 + j.val, by omega⟩)) (fun k j => G (ix2 k j)) (fun j => h (ix2 0 j)) j := by
  unfold groupNorm
  pointwise [k0_pay8, k0_pay5]

/-- The other columns are plain products. -/
theorem pay9_at (v : FVec Ideal S1024x512 .bf16) (i j : Fin 512) :
    (k0_pay9 (F := Ideal) n v (ix2 i j) : EReal) = ∑ c : Fin 1024, n (ix2 i c) * v (ix2 c j) := by
  pointwise [k0_pay9]
theorem pay10_at (v : FVec Ideal S1024x1536 .bf16) (i : Fin 512) (j : Fin 1536) :
    (k0_pay10 (F := Ideal) n v (ix2 i j) : EReal) = ∑ c : Fin 1024, n (ix2 i c) * v (ix2 c j) := by
  pointwise [k0_pay10]
theorem pay1_at (v : FVec Ideal S1024x512 .bf16) (i j : Fin 512) :
    (k0_pay1 (F := Ideal) n (k0_pay11 (F := Ideal) v) (ix2 i j) : EReal) = ∑ c : Fin 1024, n (ix2 i c) * v (ix2 c j) := by
  pointwise [k0_pay1, k0_pay11]
theorem pay2_at (v : FVec Ideal S1024x128 .bf16) (i : Fin 512) (j : Fin 128) :
    (k0_pay2 (F := Ideal) n v (ix2 i j) : EReal) = ∑ c : Fin 1024, n (ix2 i c) * v (ix2 c j) := by
  pointwise [k0_pay2]

end Cert.Kernel2Ideal.Body

end
-- ==== Proof.InHost.lean ====
module

public import proofs.«01_k».proof.Proof.InBlock
public import Idealize.ShloMosaic.Lib.Claim
public import Idealize.ShloMosaic.Lib.StableHlo.RunRead

@[expose] public section

set_option maxRecDepth 16384

noncomputable section

namespace Cert.Kernel2Ideal.Body

open Cert.Kernel2Ideal Cert.Kernel2Ideal.Gen Cert.InProj
open Idealize.ShloMosaic Idealize.ShloMosaic.TcCoe Idealize.ShloMosaic.Tactic Idealize.ShloMosaic.StableHlo

/-! # The arrays the host lays out for the input projection -/

/-- The last eight weight columns, filled up to 128 with zeros. -/
def padded (w : FVec Ideal S1024x3592 .f32) : FVec Ideal S1024x128 .bf16 :=
  Host.scatter scatter_S1024x128_S1_S1024x8_01_n_1_0 (fun _ b => b) (broadcastInDim S1024x128 ![] bcast_S_S1024x128 (constant S_ .bf16 0x0000#16))
    (broadcastInDim S1 ![] bcast_S_S1 (constantI S_ 32 0#32))
    (extractStridedSlice S1024x8 ![0, 3584] (truncf .bf16 w bitsLt_bf16_f32) slices_S1024x3592_S1024x8_0_3584)

/-- A gain, repeated for the eight heads' halves. -/
def tiled (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)

/-- Which columns belong to the same head's half. -/
def same : FVec Ideal S512x512 .bf16 :=
  truncf .bf16 (select (cmpi .eq (Host.divsi (iotaInDim S512x512 32 0) (broadcastInDim S512x512 ![] bcast_S_S512x512 (constantI S_ 32 64#32)))
      (Host.divsi (iotaInDim S512x512 32 1) (broadcastInDim S512x512 ![] bcast_S_S512x512 (constantI S_ 32 64#32))))
    (broadcastInDim S512x512 ![] bcast_S_S512x512 (constant (F := Ideal) S_ .f32 0x3F800000#32))
    (broadcastInDim S512x512 ![] bcast_S_S512x512 (constant (F := Ideal) S_ .f32 0x00000000#32))) bitsLt_bf16_f32

variable (m : (ℓ : Loc nD τ sig) → Buf (Elt Ideal) ℓ) (c : Dev nD)

theorem V_v4 : V m c main_v4 = padded (m ((c : Thread nD τ).loc main_arg2)) := by
  unfold padded
  simp only [V, hostOps0, hostOps0_1, hostOps0_2, List.flatten_cons, List.flatten_nil, List.append_nil, List.cons_append, List.nil_append]
  after_results_simp
theorem V_v5 : V m c main_v5 = shapeCast S32768x1024 (m ((c : Thread nD τ).loc main_arg0)) shapeCasts_S16x2048x1024_S32768x1024 := by
  simp only [V, hostOps0, hostOps0_1, hostOps0_2, List.flatten_cons, List.flatten_nil, List.append_nil, List.cons_append, List.nil_append]
  after_results_simp
  rfl
theorem V_v6 : V m c main_v6 = broadcastInDim S1x1024 ![1] bcast_S1024_S1x1024_1 (m ((c : Thread nD τ).loc main_arg1)) := by
  simp only [V, hostOps0, hostOps0_1, hostOps0_2, List.flatten_cons, List.flatten_nil, List.append_nil, List.cons_append, List.nil_append]
  after_results_simp
theorem V_v7 : V m c main_v7 = extractStridedSlice S1024x1024 ![0, 0] (truncf (F := Ideal) .bf16 (m ((c : Thread nD τ).loc main_arg2)) bitsLt_bf16_f32) slices_S1024x3592_S1024x1024_0_0 := by
  simp only [V, hostOps0, hostOps0_1, hostOps0_2, List.flatten_cons, List.flatten_nil, List.append_nil, List.cons_append, List.nil_append]
  after_results_simp
theorem V_v8 : V m c main_v8 = extractStridedSlice S1024x512 ![0, 1024] (truncf (F := Ideal) .bf16 (m ((c : Thread nD τ).loc main_arg2)) bitsLt_bf16_f32) slices_S1024x3592_S1024x512_0_1024 := by
  simp only [V, hostOps0, hostOps0_1, hostOps0_2, List.flatten_cons, List.flatten_nil, List.append_nil, List.cons_append, List.nil_append]
  after_results_simp
theorem V_v9 : V m c main_v9 = extractStridedSlice S1024x1536 ![0, 1536] (truncf (F := Ideal) .bf16 (m ((c : Thread nD τ).loc main_arg2)) bitsLt_bf16_f32) slices_S1024x3592_S1024x1536_0_1536 := by
  simp only [V, hostOps0, hostOps0_1, hostOps0_2, List.flatten_cons, List.flatten_nil, List.append_nil, List.cons_append, List.nil_append]
  after_results_simp
theorem V_v10 : V m c main_v10 = extractStridedSlice S1024x512 ![0, 3072] (truncf (F := Ideal) .bf16 (m ((c : Thread nD τ).loc main_arg2)) bitsLt_bf16_f32) slices_S1024x3592_S1024x512_0_3072 := by
  simp only [V, hostOps0, hostOps0_1, hostOps0_2, List.flatten_cons, List.flatten_nil, List.append_nil, List.cons_append, List.nil_append]
  after_results_simp
theorem V_v14 : V m c main_v14 = tiled (m ((c : Thread nD τ).loc main_arg3)) := by
  unfold tiled
  simp only [V, hostOps0, hostOps0_1, hostOps0_2, List.flatten_cons, List.flatten_nil, List.append_nil, List.cons_append, List.nil_append]
  after_results_simp
  rfl
theorem V_v18 : V m c main_v18 = tiled (m ((c : Thread nD τ).loc main_arg4)) := by
  unfold tiled
  simp only [V, hostOps0, hostOps0_1, hostOps0_2, List.flatten_cons, List.flatten_nil, List.append_nil, List.cons_append, List.nil_append]
  after_results_simp
  rfl
theorem V_v27 : V m c main_v27 = same := by
  unfold same
  simp only [V, hostOps0, hostOps0_1, hostOps0_2, List.flatten_cons, List.flatten_nil, List.append_nil, List.cons_append, List.nil_append]
  after_results_simp
  rfl

end Cert.Kernel2Ideal.Body

end
-- ==== Proof.InCols.lean ====
module

public import proofs.«01_k».proof.Proof.InHost
public import Idealize.ShloMosaic.Lib.Routing.OpsOne
public import Idealize.ShloMosaic.Lib.Routing.OpsSet
public import Idealize.ShloMosaic.Lib.Routing.Words

@[expose] public section

set_option maxRecDepth 16384

noncomputable section

namespace Cert.Kernel2Ideal.Body

open Cert.Kernel2Ideal Cert.Kernel2Ideal.Gen Cert.InProj
open Idealize.ShloMosaic Idealize.ShloMosaic.TcCoe Idealize.ShloMosaic.Tactic Idealize.ShloMosaic.Routing

/-! # The host's arrays, entry by entry -/

/-- Where an update of the padded columns lands: in its own row and column. -/
theorem lands (k : Fin 1024) (e : Fin 8) (r : Fin 1024) (j : Fin 128) :
    scatter_S1024x128_S1_S1024x8_01_n_1_0.resultIdx? (ix2 k e) (broadcastInDim S1 ![] bcast_S_S1 (constantI S_ 32 0#32)) = some (ix2 r j)
      ↔ k.val = r.val ∧ e.val = j.val := by
  have hstart0 : scatter_S1024x128_S1_S1024x8_01_n_1_0.start (ix2 k e) (broadcastInDim S1 ![] bcast_S_S1 (constantI S_ 32 0#32)) 0 = 0 := rfl
  have hstart1 : scatter_S1024x128_S1_S1024x8_01_n_1_0.start (ix2 k e) (broadcastInDim S1 ![] bcast_S_S1 (constantI S_ 32 0#32)) 1 = 0 := rfl
  have hwin0 : scatter_S1024x128_S1_S1024x8_01_n_1_0.window (ix2 k e) 0 = k.val := rfl
  have hwin1 : scatter_S1024x128_S1_S1024x8_01_n_1_0.window (ix2 k e) 1 = e.val := rfl
  rw [resultIdx?_eq_some]
  constructor
  · intro h
    have h0 := h 0
    have h1 := h 1
    rw [hstart0, hwin0] at h0
    rw [hstart1, hwin1] at h1
    change (0 : Int) + (k.val : Int) = (r.val : Int) at h0
    change (0 : Int) + (e.val : Int) = (j.val : Int) at h1
    omega
  · rintro ⟨h0, h1⟩ a
    match a with
    | ⟨0, _⟩ =>
      show (0 : Int) + (k.val : Int) = (r.val : Int)
      omega
    | ⟨1, _⟩ =>
      show (0 : Int) + (e.val : Int) = (j.val : Int)
      omega

theorem padded_at (w : FVec Ideal S1024x3592 .f32) (k : Fin 1024) (j : Fin 128) :
    (padded w (ix2 k j) : EReal) = if h : j.val < 8 then w (ix2 k ⟨3584 + j.val, by omega⟩) else (0 : EReal) := by
  unfold padded
  have hl := fun k' e => lands k' e k j
  have split : ∀ u : S1024x8.Idx, ∃ (k' : Fin 1024) (e : Fin 8), u = ix2 k' e := fun u =>
    ⟨u 0, u 1, by funext a; match a with | ⟨0, _⟩ => rfl | ⟨1, _⟩ => rfl⟩
  by_cases h : j.val < 8
  · rw [dif_pos h]
    refine scatter_set_hit _ _ _ _ _ _ (fun u hu => ?_) (ix2 k ⟨j.val, h⟩) ((hl k ⟨j.val, h⟩).2 ⟨rfl, rfl⟩)
    obtain ⟨k', e, rfl⟩ := split u
    obtain ⟨h1, h2⟩ := (hl k' e).1 hu
    obtain rfl : k' = k := Fin.ext h1
    obtain rfl : e = ⟨j.val, h⟩ := Fin.ext h2
    pointwise
  · rw [dif_neg h]
    refine (scatter_set_miss _ _ _ _ _ (fun u hu => ?_)).trans ?_
    · obtain ⟨k', e, rfl⟩ := split u
      have := ((hl k' e).1 hu).2
      omega
    · exact (by simp [Ideal.ofBits, Ideal.ieee] : Ideal.ofBits .bf16 0x0000#16 = 0)

theorem tiled_at (g : FVec Ideal S64 .f32) (j : Fin 512) : tiled g (ix2 0 j) = g (ix1 ⟨j.val % 64, Nat.mod_lt _ (by omega)⟩) := by
  pointwise [tiled]

theorem word_eq (i j : Fin 512) :
    IntOp.cmpi .eq (IntOp.divsi .host (BitVec.ofNat 32 i.val) 64#32) (IntOp.divsi .host (BitVec.ofNat 32 j.val) 64#32) = 1#1
      ↔ i.val / 64 = j.val / 64 := by
  rw [divsi_word .host (a := i.val) (b := 64) (by omega) (by omega) (by omega), divsi_word .host (a := j.val) (b := 64) (by omega) (by omega) (by omega)]
  have h : (BitVec.ofNat 32 (i.val / 64) = BitVec.ofNat 32 (j.val / 64)) ↔ i.val / 64 = j.val / 64 := by
    rw [← BitVec.toNat_inj, BitVec.toNat_ofNat, BitVec.toNat_ofNat]
    omega
  rw [← h]
  have aux : ∀ a b : BitVec 32, IntOp.cmpi .eq a b = 1#1 ↔ a = b := fun a b => by
    show BitVec.ofBool (a == b) = 1#1 ↔ a = b
    rw [← beq_iff_eq (a := a)]
    cases (a == b) <;> decide
  exact aux _ _

theorem same_at (i j : Fin 512) : (same (ix2 i j) : EReal) = if i.val / 64 = j.val / 64 then (1 : EReal) else 0 := by
  refine Eq.trans (b := if IntOp.cmpi .eq (IntOp.divsi .host (BitVec.ofNat 32 i.val) 64#32) (IntOp.divsi .host (BitVec.ofNat 32 j.val) 64#32) = 1#1 then (1 : EReal) else 0) ?_ ?_
  · pointwise [same]
    rfl
  · simp only [word_eq]

end Cert.Kernel2Ideal.Body

end
-- ==== Proof.InArrays.lean ====
module

public import proofs.«01_k».proof.Proof.InCols

@[expose] public section

set_option maxRecDepth 16384

noncomputable section

namespace Cert.Kernel2Ideal.Body

open Cert.Kernel2Ideal Cert.Kernel2Ideal.Gen Cert.InProj
open Cert.OutProj (normed rowOf)
open Idealize.ShloMosaic Idealize.ShloMosaic.TcCoe Idealize.ShloMosaic.Tactic

/-! # The input projection's blocks in the arguments -/

variable (m : (ℓ : Loc nD τ sig) → Buf (Elt Ideal) ℓ) (c : Dev nD)

theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0]) t

theorem idx_out (t : Fin cfg0.N) : win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0]) t

/-- The arguments as launched. -/
def args : Args where
  x := m ((c : Thread nD τ).loc main_arg0)
  g := m ((c : Thread nD τ).loc main_arg1)
  w := m ((c : Thread nD τ).loc main_arg2)
  gq := m ((c : Thread nD τ).loc main_arg3)
  gk := m ((c : Thread nD τ).loc main_arg4)

/-- Row `i` of block `t` is this token. -/
def tok (t : Fin cfg0.N) (i : Fin 512) : Fin 32768 := ⟨512 * t.val + i.val, by have : t.val < 64 := t.isLt; omega⟩

/-- A token's row, the tokens counted through. -/
theorem rows_at (X : FVec Ideal S16x2048x1024 .f32) (x : Fin 32768) (e : Fin 1024) :
    shapeCast S32768x1024 X shapeCasts_S16x2048x1024_S32768x1024 (ix2 x e) = rowOf X x e := by
  unfold rowOf
  pointwise

theorem x_at (t : Fin cfg0.N) (i : Fin 512) (e : Fin 1024) :
    (iblk m c 0 t : FVec Ideal S512x1024 .f32) (ix2 i e) = rowOf (args m c).x (tok t i) e := by
  have he : ((win0_0.blk t).view.emb (ix2 i e)) = (ix2 (tok t i) e : S32768x1024.Idx) := by
    unfold tok
    blk_ext [idx t]
  show V m c main_v5 ((win0_0.blk t).view.emb (ix2 i e)) = _
  rw [he, V_v5]
  exact rows_at _ _ _
theorem g_at (t : Fin cfg0.N) (e : Fin 1024) :
    (iblk m c 1 t : FVec Ideal S1x1024 .f32) (ix2 0 e) = (args m c).g (ix1 e) := by
  have he : ((win0_1.blk t).view.emb (ix2 0 e)) = (ix2 0 e : S1x1024.Idx) := by
    blk_ext [idx t]
  show V m c main_v6 ((win0_1.blk t).view.emb (ix2 0 e)) = _
  rw [he, V_v6]
  unfold args
  pointwise
theorem wqk_at (t : Fin cfg0.N) (k : Fin 1024) (j : Fin 1024) :
    (iblk m c 2 t : FVec Ideal S1024x1024 .bf16) (ix2 k j) = (args m c).w (ix2 k ⟨j.val, by omega⟩) := by
  have he : ((win0_2.blk t).view.emb (ix2 k j)) = (ix2 k j : S1024x1024.Idx) := by
    blk_ext [idx t]
  show V m c main_v7 ((win0_2.blk t).view.emb (ix2 k j)) = _
  rw [he, V_v7]
  unfold args
  pointwise
theorem wv_at (t : Fin cfg0.N) (k : Fin 1024) (j : Fin 512) :
    (iblk m c 3 t : FVec Ideal S1024x512 .bf16) (ix2 k j) = (args m c).w (ix2 k ⟨1024 + j.val, by omega⟩) := by
  have he : ((win0_3.blk t).view.emb (ix2 k j)) = (ix2 k j : S1024x512.Idx) := by
    blk_ext [idx t]
  show V m c main_v8 ((win0_3.blk t).view.emb (ix2 k j)) = _
  rw [he, V_v8]
  unfold args
  pointwise
theorem wg_at (t : Fin cfg0.N) (k : Fin 1024) (j : Fin 1536) :
    (iblk m c 4 t : FVec Ideal S1024x1536 .bf16) (ix2 k j) = (args m c).w (ix2 k ⟨1536 + j.val, by omega⟩) := by
  have he : ((win0_4.blk t).view.emb (ix2 k j)) = (ix2 k j : S1024x1536.Idx) := by
    blk_ext [idx t]
  show V m c main_v9 ((win0_4.blk t).view.emb (ix2 k j)) = _
  rw [he, V_v9]
  unfold args
  pointwise
theorem wz_at (t : Fin cfg0.N) (k : Fin 1024) (j : Fin 512) :
    (iblk m c 5 t : FVec Ideal S1024x512 .bf16) (ix2 k j) = (args m c).w (ix2 k ⟨3072 + j.val, by omega⟩) := by
  have he : ((win0_5.blk t).view.emb (ix2 k j)) = (ix2 k j : S1024x512.Idx) := by
    blk_ext [idx t]
  show V m c main_v10 ((win0_5.blk t).view.emb (ix2 k j)) = _
  rw [he, V_v10]
  unfold args
  pointwise
theorem wba_at (t : Fin cfg0.N) (k : Fin 1024) (j : Fin 128) :
    (iblk m c 6 t : FVec Ideal S1024x128 .bf16) (ix2 k j) = (if h : j.val < 8 then (args m c).w (ix2 k ⟨3584 + j.val, by omega⟩) else 0 : EReal) := by
  have he : ((win0_6.blk t).view.emb (ix2 k j)) = (ix2 k j : S1024x128.Idx) := by
    blk_ext [idx t]
  show V m c main_v4 ((win0_6.blk t).view.emb (ix2 k j)) = _
  rw [he, V_v4]
  exact padded_at _ k j
theorem gq_at (t : Fin cfg0.N) (j : Fin 512) :
    (iblk m c 7 t : FVec Ideal S1x512 .f32) (ix2 0 j) = (args m c).gq (ix1 ⟨j.val % 64, Nat.mod_lt _ (by omega)⟩) := by
  have he : ((win0_7.blk t).view.emb (ix2 0 j)) = (ix2 0 j : S1x512.Idx) := by
    blk_ext [idx t]
  show V m c main_v14 ((win0_7.blk t).view.emb (ix2 0 j)) = _
  rw [he, V_v14]
  exact tiled_at _ j
theorem gk_at (t : Fin cfg0.N) (j : Fin 512) :
    (iblk m c 8 t : FVec Ideal S1x512 .f32) (ix2 0 j) = (args m c).gk (ix1 ⟨j.val % 64, Nat.mod_lt _ (by omega)⟩) := by
  have he : ((win0_8.blk t).view.emb (ix2 0 j)) = (ix2 0 j : S1x512.Idx) := by
    blk_ext [idx t]
  show V m c main_v18 ((win0_8.blk t).view.emb (ix2 0 j)) = _
  rw [he, V_v18]
  exact tiled_at _ j
theorem G_at (t : Fin cfg0.N) (i j : Fin 512) :
    (iblk m c 9 t : FVec Ideal S512x512 .bf16) (ix2 i j) = (if i.val / 64 = j.val / 64 then 1 else 0 : EReal) := by
  have he : ((win0_9.blk t).view.emb (ix2 i j)) = (ix2 i j : S512x512.Idx) := by
    blk_ext [idx t]
  show V m c main_v27 ((win0_9.blk t).view.emb (ix2 i j)) = _
  rw [he, V_v27]
  exact same_at i j

end Cert.Kernel2Ideal.Body

end
-- ==== Proof.InNorm.lean ====
module

public import proofs.«01_k».proof.Proof.InTarget
public import proofs.«01_k».proof.Proof.Softmax

@[expose] public section

set_option maxRecDepth 16384

noncomputable section

namespace Cert.InProj

open Idealize.ShloMosaic
open Cert.OutProj (normed rowOf)

/-! # The root mean square through a matrix is the head's own

On real numbers the part left of a square is zero, and the matrix of ones within each head's half picks the half's squares. -/

theorem sixtyfour_bits : Ideal.ofBits .f32 0x42800000#32 = ((64 : ℝ) : EReal) := by
  simp [Ideal.ofBits, Ideal.ieee, -EReal.coe_mul]
  norm_num
theorem part_bits : Ideal.ofBits .f32 0x3C800000#32 = ((1 / 64 : ℝ) : EReal) := by
  simp [Ideal.ofBits, Ideal.ieee, -EReal.coe_mul]
  norm_num

/-- The sum over the columns of the same half. -/
theorem half_sum (f : Fin 512 → EReal) (j : Fin 512) :
    ∑ k : Fin 512, f k * (if k.val / 64 = j.val / 64 then 1 else 0) = ∑ d : Fin 64, f ⟨j.val / 64 * 64 + d.val, by omega⟩ := by
  symm
  refine Finset.sum_of_injOn (fun d : Fin 64 => (⟨j.val / 64 * 64 + d.val, by omega⟩ : Fin 512)) ?_ ?_ ?_ ?_
  · intro a _ b _ h
    have := congrArg Fin.val h
    exact Fin.ext (by simp only at this; omega)
  · intro a _
    exact Finset.mem_coe.2 (Finset.mem_univ _)
  · intro k _ hk
    rw [if_neg, mul_zero]
    intro h
    refine hk ⟨⟨k.val - j.val / 64 * 64, by omega⟩, Finset.mem_coe.2 (Finset.mem_univ _), Fin.ext ?_⟩
    show j.val / 64 * 64 + (k.val - j.val / 64 * 64) = k.val
    omega
  · intro d _
    rw [if_pos, mul_one]
    show (j.val / 64 * 64 + d.val) / 64 = j.val / 64
    omega

theorem group_eq (t : Fin 512 → EReal) (ht : ∀ k, ∃ r : ℝ, t k = r) (g : Fin 64 → EReal) (j : Fin 512) :
    groupNorm t (fun k j => if k.val / 64 = j.val / 64 then 1 else 0) (fun j => g ⟨j.val % 64, Nat.mod_lt _ (by omega)⟩) j = headNorm t g j := by
  choose r hr using ht
  obtain rfl : t = fun k => (r k : EReal) := funext hr
  have low : ∑ k : Fin 512, ((r k : EReal) * r k - (r k : EReal) * r k) * (if k.val / 64 = j.val / 64 then (1 : EReal) else 0) = 0 := by
    refine Finset.sum_eq_zero fun k _ => ?_
    rw [← EReal.coe_mul, ← EReal.coe_sub, sub_self, EReal.coe_zero, zero_mul]
  unfold groupNorm headNorm
  rw [low, add_zero, half_sum (fun k => (r k : EReal) * r k), sixtyfour_bits, part_bits]
  rw [Ideal.div_coe (by norm_num)]

/-! ## The products are real on real gains and weights -/

theorem kilo_bits : Ideal.ofBits .f32 0x44800000#32 = ((1024 : ℝ) : EReal) := by
  simp [Ideal.ofBits, Ideal.ieee, -EReal.coe_mul]
  norm_num
theorem eps_bits : Ideal.ofBits .f32 0x358637BD#32 = ((8796093 / 2 ^ 43 : ℝ) : EReal) := by
  simp [Ideal.ofBits, Ideal.ieee, -EReal.coe_mul]
  norm_num

theorem square_nonneg (x : EReal) : 0 ≤ x * x := by
  induction x with
  | bot => simp
  | top => simp
  | coe r => rw [← EReal.coe_mul]; exact_mod_cast mul_self_nonneg r

/-- An entry that is no real number makes the sum of squares infinite, so that every entry over its root is zero. -/
theorem normed_zero (x g : Fin 1024 → EReal) (c₀ : Fin 1024) (h : x c₀ * x c₀ = ⊤) (c : Fin 1024) : normed x g c = 0 := by
  have sum : ∑ e : Fin 1024, x e * x e = ⊤ := by
    rw [← Finset.add_sum_erase _ _ (Finset.mem_univ c₀), h]
    exact EReal.top_add_of_ne_bot (ne_of_gt (lt_of_lt_of_le EReal.bot_lt_zero (Finset.sum_nonneg fun e _ => square_nonneg _)))
  unfold normed
  rw [sum, kilo_bits, eps_bits, Ideal.div_coe (by norm_num), EReal.top_mul_coe_of_pos (by norm_num), EReal.top_add_coe, Ideal.rsqrt_top, mul_zero, zero_mul]

theorem normed_real (x g : Fin 1024 → EReal) (hg : ∀ c, ∃ r : ℝ, g c = r) (c : Fin 1024) :
    ∃ r : ℝ, normed x g c = r := by
  by_cases hx : ∀ c, ∃ r : ℝ, x c = r
  swap
  · obtain ⟨c₀, h⟩ := not_forall.mp hx
    refine ⟨0, normed_zero x g c₀ ?_ c⟩
    revert h
    induction x c₀ with
    | bot => intro _; simp
    | top => intro _; simp
    | coe r => intro h; exact absurd ⟨r, rfl⟩ h
  choose y hy using hx
  choose z hz using hg
  obtain rfl : x = fun k => (y k : EReal) := funext hy
  obtain rfl : g = fun k => (z k : EReal) := funext hz
  have sum : ∑ e : Fin 1024, (y e : EReal) * y e = ((∑ e : Fin 1024, y e * y e : ℝ) : EReal) := by
    rw [← Cert.Attn.coe_sum]
    exact Finset.sum_congr rfl fun d _ => (EReal.coe_mul _ _).symm
  have pos : 0 < (∑ e : Fin 1024, y e * y e) * (1 / 1024) + 8796093 / 2 ^ 43 := by
    have : 0 ≤ ∑ e : Fin 1024, y e * y e := Finset.sum_nonneg fun e _ => mul_self_nonneg _
    positivity
  unfold normed
  rw [sum, kilo_bits, eps_bits, Ideal.div_coe (by norm_num), ← EReal.coe_mul, ← EReal.coe_add, Ideal.rsqrt_coe, if_neg pos.le.not_gt, if_neg pos.ne',
    ← EReal.coe_mul, ← EReal.coe_mul]
  exact ⟨_, rfl⟩

theorem proj_real (A : Args) (hg : ∀ i, ∃ r : ℝ, A.g i = r) (hw : ∀ i, ∃ r : ℝ, A.w i = r)
    (x : Fin 32768) (j : Fin 3592) : ∃ r : ℝ, A.proj x j = r := by
  choose n hn using normed_real (rowOf A.x x) (fun c => A.g (ix1 c)) (fun c => hg _)
  choose w hw using hw
  refine ⟨∑ c, n c * w (ix2 c j), ?_⟩
  rw [← Cert.Attn.coe_sum]
  unfold Args.proj
  refine Finset.sum_congr rfl fun c _ => ?_
  rw [EReal.coe_mul, ← hn, ← hw]
  rfl

end Cert.InProj

end
-- ==== Proof.InResult.lean ====
module

public import proofs.«01_k».proof.Proof.InArrays
public import proofs.«01_k».proof.Proof.InNorm

@[expose] public section

set_option maxRecDepth 16384

noncomputable section

namespace Cert.Kernel2Ideal.Body

open Cert.Kernel2Ideal Cert.Kernel2Ideal.Gen Cert.InProj
open Cert.OutProj (normed rowOf)
open Idealize.ShloMosaic Idealize.ShloMosaic.TcCoe Idealize.ShloMosaic.Tactic
open Idealize.ShloMosaic.Pipeline (Dat Cfg Window)

/-! # The input projection's six results, whole -/

variable (m : (ℓ : Loc nD τ sig) → Buf (Elt Ideal) ℓ) (c : Dev nD)

/-- A block of the normed rows, -/
theorem norm_at (t : Fin cfg0.N) (i : Fin 512) (e : Fin 1024) :
    (k0_pay3 (F := Ideal) (iblk m c 0 t) (iblk m c 1 t) (ix2 i e) : EReal) = (args m c).norm (tok t i) e := by
  refine (pay3_at _ _ i e).trans ?_
  simp only [x_at, g_at]
  rfl
/-- as the later products read it, -/
theorem norm_at' (t : Fin cfg0.N) (i : Fin 512) (e : Fin 1024) :
    (k0_pay12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 i e) : EReal)
      = (args m c).norm (tok t i) e := by
  unfold k0_pay12
  simp (disch := decide) only [View.ld_unit_lit']
  exact norm_at m c t i e
/-- and of the queries' and keys' products. -/
theorem proj_at (t : Fin cfg0.N) (i : Fin 512) (j : Fin 1024) :
    (k0_pay4 (F := Ideal) (iblk m c 0 t) (iblk m c 1 t) (iblk m c 2 t) (ix2 i j) : EReal) = (args m c).proj (tok t i) ⟨j.val, by omega⟩ := by
  refine (pay4_at _ _ _ i j).trans ?_
  simp only [norm_at, wqk_at]
  rfl

theorem emb10 (t : Fin cfg0.N) (i : Fin 512) (e : Fin 512) :
    ((View.whole main_v28_0).slice (win0_10.rect t)).emb (ix2 i e) = (ix2 (tok t i) e : S32768x512.Idx) := by
  unfold tok
  blk_ext [idx_out t]
theorem arr10 (hp : ∀ x j, ∃ r : ℝ, (args m c).proj x j = r) : (dats m 0 c).arrAt 10 cfg0.N = (args m c).resQ := by
  refine (dats m 0 c).arrAt_eq_of_covers 10 _ (by decide +kernel) fun t hf y => ?_
  blk_simp [idx_out t]
  rw [after0_10]
  have key : ∀ y : S512x512.Idx, (out0_10 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = (args m c).resQ (((View.whole main_v28_0).slice (win0_10.rect t)).emb y) := by
    intro y
    obtain ⟨i, e, rfl⟩ : ∃ (i : Fin 512) (e : Fin 512), y = ix2 i e := ⟨y 0, y 1, by funext k; match k with | ⟨0, _⟩ => rfl | ⟨1, _⟩ => rfl⟩
    rw [emb10]
    unfold out0_10
    frame_out
    refine (pay7_at _ i e).trans (congrArg (· * Ideal.ofBits .f32 0x3E000000#32) ?_)
    refine (pay6_at _ _ _ _ _ i e).trans ?_
    simp only [proj_at, G_at, gq_at]
    exact group_eq (fun j => (args m c).proj (tok t i) ⟨j.val, by omega⟩) (fun k => hp _ _) (fun d => (args m c).gq (ix1 d)) e
  exact key y

theorem emb11 (t : Fin cfg0.N) (i : Fin 512) (e : Fin 512) :
    ((View.whole main_v28_1).slice (win0_11.rect t)).emb (ix2 i e) = (ix2 (tok t i) e : S32768x512.Idx) := by
  unfold tok
  blk_ext [idx_out t]
theorem arr11 (hp : ∀ x j, ∃ r : ℝ, (args m c).proj x j = r) : (dats m 0 c).arrAt 11 cfg0.N = (args m c).resK := by
  refine (dats m 0 c).arrAt_eq_of_covers 11 _ (by decide +kernel) fun t hf y => ?_
  blk_simp [idx_out t]
  rw [after0_11]
  have key : ∀ y : S512x512.Idx, (out0_11 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = (args m c).resK (((View.whole main_v28_1).slice (win0_11.rect t)).emb y) := by
    intro y
    obtain ⟨i, e, rfl⟩ : ∃ (i : Fin 512) (e : Fin 512), y = ix2 i e := ⟨y 0, y 1, by funext k; match k with | ⟨0, _⟩ => rfl | ⟨1, _⟩ => rfl⟩
    rw [emb11]
    unfold out0_11
    frame_out
    refine (pay8_at _ _ _ i e).trans ?_
    simp only [proj_at, G_at, gk_at]
    exact group_eq (fun j => (args m c).proj (tok t i) ⟨512 + j.val, by omega⟩) (fun k => hp _ _) (fun d => (args m c).gk (ix1 d)) e
  exact key y

theorem emb12 (t : Fin cfg0.N) (i : Fin 512) (e : Fin 512) :
    ((View.whole main_v28_2).slice (win0_12.rect t)).emb (ix2 i e) = (ix2 (tok t i) e : S32768x512.Idx) := by
  unfold tok
  blk_ext [idx_out t]
theorem arr12 : (dats m 0 c).arrAt 12 cfg0.N = ((args m c).cols 1024 512 (by omega)) := by
  refine (dats m 0 c).arrAt_eq_of_covers 12 _ (by decide +kernel) fun t hf y => ?_
  blk_simp [idx_out t]
  rw [after0_12]
  have key : ∀ y : S512x512.Idx, (out0_12 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = ((args m c).cols 1024 512 (by omega)) (((View.whole main_v28_2).slice (win0_12.rect t)).emb y) := by
    intro y
    obtain ⟨i, e, rfl⟩ : ∃ (i : Fin 512) (e : Fin 512), y = ix2 i e := ⟨y 0, y 1, by funext k; match k with | ⟨0, _⟩ => rfl | ⟨1, _⟩ => rfl⟩
    rw [emb12]
    unfold out0_12
    frame_out
    refine (pay9_at _ _ i e).trans ?_
    simp only [norm_at', wv_at]
    rfl
  exact key y

theorem emb13 (t : Fin cfg0.N) (i : Fin 512) (e : Fin 1536) :
    ((View.whole main_v28_3).slice (win0_13.rect t)).emb (ix2 i e) = (ix2 (tok t i) e : S32768x1536.Idx) := by
  unfold tok
  blk_ext [idx_out t]
theorem arr13 : (dats m 0 c).arrAt 13 cfg0.N = ((args m c).cols 1536 1536 (by omega)) := by
  refine (dats m 0 c).arrAt_eq_of_covers 13 _ (by decide +kernel) fun t hf y => ?_
  blk_simp [idx_out t]
  rw [after0_13]
  have key : ∀ y : S512x1536.Idx, (out0_13 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = ((args m c).cols 1536 1536 (by omega)) (((View.whole main_v28_3).slice (win0_13.rect t)).emb y) := by
    intro y
    obtain ⟨i, e, rfl⟩ : ∃ (i : Fin 512) (e : Fin 1536), y = ix2 i e := ⟨y 0, y 1, by funext k; match k with | ⟨0, _⟩ => rfl | ⟨1, _⟩ => rfl⟩
    rw [emb13]
    unfold out0_13
    frame_out
    refine (pay10_at _ _ i e).trans ?_
    simp only [norm_at', wg_at]
    rfl
  exact key y

theorem emb14 (t : Fin cfg0.N) (i : Fin 512) (e : Fin 512) :
    ((View.whole main_v28_4).slice (win0_14.rect t)).emb (ix2 i e) = (ix2 (tok t i) e : S32768x512.Idx) := by
  unfold tok
  blk_ext [idx_out t]
theorem arr14 : (dats m 0 c).arrAt 14 cfg0.N = ((args m c).cols 3072 512 (by omega)) := by
  refine (dats m 0 c).arrAt_eq_of_covers 14 _ (by decide +kernel) fun t hf y => ?_
  blk_simp [idx_out t]
  rw [after0_14]
  have key : ∀ y : S512x512.Idx, (out0_14 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = ((args m c).cols 3072 512 (by omega)) (((View.whole main_v28_4).slice (win0_14.rect t)).emb y) := by
    intro y
    obtain ⟨i, e, rfl⟩ : ∃ (i : Fin 512) (e : Fin 512), y = ix2 i e := ⟨y 0, y 1, by funext k; match k with | ⟨0, _⟩ => rfl | ⟨1, _⟩ => rfl⟩
    rw [emb14]
    unfold out0_14
    frame_out
    refine (pay1_at _ _ i e).trans ?_
    simp only [norm_at', wz_at]
    rfl
  exact key y

theorem emb15 (t : Fin cfg0.N) (i : Fin 512) (e : Fin 128) :
    ((View.whole main_v28_5).slice (win0_15.rect t)).emb (ix2 i e) = (ix2 (tok t i) e : S32768x128.Idx) := by
  unfold tok
  blk_ext [idx_out t]
theorem arr15 : (dats m 0 c).arrAt 15 cfg0.N = (args m c).resBa := by
  refine (dats m 0 c).arrAt_eq_of_covers 15 _ (by decide +kernel) fun t hf y => ?_
  blk_simp [idx_out t]
  rw [after0_15]
  have key : ∀ y : S512x128.Idx, (out0_15 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = (args m c).resBa (((View.whole main_v28_5).slice (win0_15.rect t)).emb y) := by
    intro y
    obtain ⟨i, e, rfl⟩ : ∃ (i : Fin 512) (e : Fin 128), y = ix2 i e := ⟨y 0, y 1, by funext k; match k with | ⟨0, _⟩ => rfl | ⟨1, _⟩ => rfl⟩
    rw [emb15]
    unfold out0_15
    frame_out
    refine (pay2_at _ _ i e).trans ?_
    simp only [norm_at', wba_at]
    show _ = if h : e.val < 8 then (args m c).proj (tok t i) ⟨3584 + e.val, by omega⟩ else (0 : EReal)
    by_cases h : e.val < 8
    · simp only [dif_pos h]
      rfl
    · simp only [dif_neg h, mul_zero, Finset.sum_const_zero]
  exact key y

end Cert.Kernel2Ideal.Body

end
-- ==== Proof.InRef.lean ====
module

public import proofs.«01_k».proof.Proof.Gen.Reference2Ideal.Run
public import proofs.«01_k».proof.Proof.InTarget

@[expose] public section

set_option maxRecDepth 16384

noncomputable section

namespace Cert.Reference2Ideal.Body

open Cert.Reference2Ideal Cert.Reference2Ideal.Gen Cert.InProj
open Cert.OutProj (normed rowOf)
open Idealize.ShloMosaic Idealize.ShloMosaic.TcCoe Idealize.ShloMosaic.Tactic

/-! # The reference's results for the input projection -/

/-- The normed rows. -/
def nOf (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- The products with all the weights. -/
def pOf (n : FVec Ideal S16x2048x1024 .f32) (w : FVec Ideal S1024x3592 .f32) : FVec Ideal S16x2048x3592 .f32 :=
  Host.dotGeneral dot_S16x2048x1024_S1024x3592_S16x2048x3592_2_0_01_1_n_n none n w

theorem n_at (x : FVec Ideal S16x2048x1024 .f32) (g : FVec Ideal S1024 .f32) (i : Fin 16) (r : Fin 2048) (c : Fin 1024) :
    nOf x g (ix3 i r c) = normed (fun c => x (ix3 i r c)) (fun c => g (ix1 c)) c := by
  unfold normed
  pointwise [nOf]

theorem p_at (n : FVec Ideal S16x2048x1024 .f32) (w : FVec Ideal S1024x3592 .f32) (i : Fin 16) (r : Fin 2048) (j : Fin 3592) :
    pOf n w (ix3 i r j) = ∑ c : Fin 1024, n (ix3 i r c) * w (ix2 c j) := by
  pointwise [pOf]

/-- A head's halves over their root mean squares, with the gain. -/
def hOf (t : FVec Ideal S16x2048x4x2x64 .f32) (g : FVec Ideal S64 .f32) : FVec Ideal S16x2048x4x2x64 .f32 :=
  mulf (mulf t (broadcastInDim S16x2048x4x2x64 ![0, 1, 2, 3, 4] bcast_S16x2048x4x2x1_S16x2048x4x2x64_0_1_2_3_4 (Host.rsqrt (addf (Host.divf (broadcastInDim S16x2048x4x2x1 ![0, 1, 2, 3] bcast_S16x2048x4x2_S16x2048x4x2x1_0_1_2_3 (Host.reduceAdd (mulf t t) (constant S_ .f32 0x00000000#32) reducesTo_S16x2048x4x2x64_S16x2048x4x2_d4 h_S_)) (broadcastInDim S16x2048x4x2x1 ![] bcast_S_S16x2048x4x2x1 (constant S_ .f32 0x42800000#32))) (broadcastInDim S16x2048x4x2x1 ![] bcast_S_S16x2048x4x2x1 (constant S_ .f32 0x358637BD#32)))))) (broadcastInDim S16x2048x4x2x64 ![0, 1, 2, 3, 4] bcast_S1x1x1x1x64_S16x2048x4x2x64_0_1_2_3_4 (broadcastInDim S1x1x1x1x64 ![4] bcast_S64_S1x1x1x1x64_4 g))

/-- The queries' columns by head and half, -/
def tq (p : FVec Ideal S16x2048x3592 .f32) : FVec Ideal S16x2048x4x2x64 .f32 :=
  shapeCast _ (extractStridedSlice S16x2048x512 ![0, 0, 0] p slices_S16x2048x3592_S16x2048x512_0_0_0) shapeCasts_S16x2048x512_S16x2048x4x2x64
/-- the keys', -/
def tk (p : FVec Ideal S16x2048x3592 .f32) : FVec Ideal S16x2048x4x2x64 .f32 :=
  shapeCast _ (extractStridedSlice S16x2048x512 ![0, 0, 512] p slices_S16x2048x3592_S16x2048x512_0_0_512) shapeCasts_S16x2048x512_S16x2048x4x2x64
/-- and the last eight, filled up with zeros. -/
def baOf (p : FVec Ideal S16x2048x3592 .f32) : FVec Ideal S16x2048x128 .f32 :=
  concatenate S16x2048x128 2 [⟨S16x2048x4, extractStridedSlice S16x2048x4 ![0, 0, 3584] p slices_S16x2048x3592_S16x2048x4_0_0_3584⟩, ⟨S16x2048x4, extractStridedSlice S16x2048x4 ![0, 0, 3588] p slices_S16x2048x3592_S16x2048x4_0_0_3588⟩, ⟨S16x2048x120, broadcastInDim S16x2048x120 ![] bcast_S_S16x2048x120 (constant S_ .f32 0x00000000#32)⟩] concatenates_S16x2048x4_S16x2048x4_S16x2048x120_S16x2048x128_d2

theorem h_at (t : FVec Ideal S16x2048x4x2x64 .f32) (g : FVec Ideal S64 .f32) (i : Fin 16) (r : Fin 2048) (h : Fin 4) (s : Fin 2) (d : Fin 64) :
    hOf t g (ix5 i r h s d) = t (ix5 i r h s d) * Ideal.rsqrt (Ideal.div (∑ d : Fin 64, t (ix5 i r h s d) * t (ix5 i r h s d)) (Ideal.ofBits .f32 0x42800000#32)
      + Ideal.ofBits .f32 0x358637BD#32) * g (ix1 d) := by
  pointwise [hOf]

theorem tq_at (p : FVec Ideal S16x2048x3592 .f32) (i : Fin 16) (r : Fin 2048) (h : Fin 4) (s : Fin 2) (d : Fin 64) :
    tq p (ix5 i r h s d) = p (ix3 i r ⟨h.val * 128 + s.val * 64 + d.val, by omega⟩) := by
  pointwise [tq]
theorem tk_at (p : FVec Ideal S16x2048x3592 .f32) (i : Fin 16) (r : Fin 2048) (h : Fin 4) (s : Fin 2) (d : Fin 64) :
    tk p (ix5 i r h s d) = p (ix3 i r ⟨512 + (h.val * 128 + s.val * 64 + d.val), by omega⟩) := by
  pointwise [tk]

/-- The halves side by side again. -/
theorem flat_at (y : FVec Ideal S16x2048x4x2x64 .f32) (x : Fin 32768) (j : Fin 512) :
    shapeCast S32768x512 y shapeCasts_S16x2048x4x2x64_S32768x512 (ix2 x j)
      = y (ix5 ⟨x.val / 2048, by omega⟩ ⟨x.val % 2048, Nat.mod_lt _ (by omega)⟩ ⟨j.val / 128, by omega⟩ ⟨j.val / 64 % 2, Nat.mod_lt _ (by omega)⟩ ⟨j.val % 64, Nat.mod_lt _ (by omega)⟩) := by
  pointwise
theorem scaled_at (y : FVec Ideal S16x2048x4x2x64 .f32) (x : Fin 32768) (j : Fin 512) :
    shapeCast S32768x512 (mulf y (broadcastInDim S16x2048x4x2x64 ![] bcast_S_S16x2048x4x2x64 (constant S_ .f32 0x3E000000#32))) shapeCasts_S16x2048x4x2x64_S32768x512 (ix2 x j)
      = y (ix5 ⟨x.val / 2048, by omega⟩ ⟨x.val % 2048, Nat.mod_lt _ (by omega)⟩ ⟨j.val / 128, by omega⟩ ⟨j.val / 64 % 2, Nat.mod_lt _ (by omega)⟩ ⟨j.val % 64, Nat.mod_lt _ (by omega)⟩)
        * Ideal.ofBits .f32 0x3E000000#32 := by
  pointwise

/-- A column of the products, where the same token is read at an equal column. -/
theorem col (p : FVec Ideal S16x2048x3592 .f32) (x : Fin 32768) (a b : Fin 3592) (h : a.val = b.val) :
    p (ix3 ⟨x.val / 2048, by omega⟩ ⟨x.val % 2048, Nat.mod_lt _ (by omega)⟩ a) = rowOf p x b := by
  obtain rfl : a = b := Fin.ext h
  rfl

/-- The head's norm of the queries, -/
theorem hq_at (p : FVec Ideal S16x2048x3592 .f32) (g : FVec Ideal S64 .f32) (x : Fin 32768) (j : Fin 512) :
    hOf (tq p) g (ix5 ⟨x.val / 2048, by omega⟩ ⟨x.val % 2048, Nat.mod_lt _ (by omega)⟩ ⟨j.val / 128, by omega⟩ ⟨j.val / 64 % 2, Nat.mod_lt _ (by omega)⟩ ⟨j.val % 64, Nat.mod_lt _ (by omega)⟩)
      = headNorm (fun j => rowOf p x ⟨j.val, by omega⟩) (fun d => g (ix1 d)) j := by
  have e : ∀ d : Fin 64, p (ix3 ⟨x.val / 2048, by omega⟩ ⟨x.val % 2048, Nat.mod_lt _ (by omega)⟩ ⟨j.val / 128 * 128 + j.val / 64 % 2 * 64 + d.val, by omega⟩)
      = rowOf p x ⟨j.val / 64 * 64 + d.val, by omega⟩ := fun d => col p x _ _ (by show j.val / 128 * 128 + j.val / 64 % 2 * 64 + d.val = j.val / 64 * 64 + d.val; omega)
  have e' : p (ix3 ⟨x.val / 2048, by omega⟩ ⟨x.val % 2048, Nat.mod_lt _ (by omega)⟩ ⟨j.val / 128 * 128 + j.val / 64 % 2 * 64 + j.val % 64, by omega⟩)
      = rowOf p x ⟨j.val, by omega⟩ := col p x _ _ (by show j.val / 128 * 128 + j.val / 64 % 2 * 64 + j.val % 64 = j.val; omega)
  rw [h_at]
  simp only [tq_at, e]
  rw [e']
  rfl
/-- and of the keys. -/
theorem hk_at (p : FVec Ideal S16x2048x3592 .f32) (g : FVec Ideal S64 .f32) (x : Fin 32768) (j : Fin 512) :
    hOf (tk p) g (ix5 ⟨x.val / 2048, by omega⟩ ⟨x.val % 2048, Nat.mod_lt _ (by omega)⟩ ⟨j.val / 128, by omega⟩ ⟨j.val / 64 % 2, Nat.mod_lt _ (by omega)⟩ ⟨j.val % 64, Nat.mod_lt _ (by omega)⟩)
      = headNorm (fun j => rowOf p x ⟨512 + j.val, by omega⟩) (fun d => g (ix1 d)) j := by
  have e : ∀ d : Fin 64, p (ix3 ⟨x.val / 2048, by omega⟩ ⟨x.val % 2048, Nat.mod_lt _ (by omega)⟩ ⟨512 + (j.val / 128 * 128 + j.val / 64 % 2 * 64 + d.val), by omega⟩)
      = rowOf p x ⟨512 + (j.val / 64 * 64 + d.val), by omega⟩ := fun d => col p x _ _ (by show 512 + (j.val / 128 * 128 + j.val / 64 % 2 * 64 + d.val) = 512 + (j.val / 64 * 64 + d.val); omega)
  have e' : p (ix3 ⟨x.val / 2048, by omega⟩ ⟨x.val % 2048, Nat.mod_lt _ (by omega)⟩ ⟨512 + (j.val / 128 * 128 + j.val / 64 % 2 * 64 + j.val % 64), by omega⟩)
      = rowOf p x ⟨512 + j.val, by omega⟩ := col p x _ _ (by show 512 + (j.val / 128 * 128 + j.val / 64 % 2 * 64 + j.val % 64) = 512 + j.val; omega)
  rw [h_at]
  simp only [tk_at, e]
  rw [e']
  rfl

theorem lo_at (p : FVec Ideal S16x2048x3592 .f32) (i : Fin 16) (r : Fin 2048) (j : Fin 4) :
    baOf p (ix3 i r ⟨j.val, by omega⟩) = p (ix3 i r ⟨3584 + j.val, by omega⟩) := by
  pointwise [baOf]
theorem hi_at (p : FVec Ideal S16x2048x3592 .f32) (i : Fin 16) (r : Fin 2048) (j : Fin 4) :
    baOf p (ix3 i r ⟨4 + j.val, by omega⟩) = p (ix3 i r ⟨3588 + j.val, by omega⟩) := by
  pointwise [baOf]
theorem pad_at (p : FVec Ideal S16x2048x3592 .f32) (i : Fin 16) (r : Fin 2048) (j : Fin 120) :
    baOf p (ix3 i r ⟨8 + j.val, by omega⟩) = (0 : EReal) := by
  pointwise [baOf]
  rw [dif_neg (by omega), dif_neg (by omega)]

/-! ## The six results -/

variable (A : Args)

/-- The products on the arguments. -/
def pA : FVec Ideal S16x2048x3592 .f32 := pOf (nOf A.x A.g) A.w

theorem pA_at (x : Fin 32768) (j : Fin 3592) : rowOf (pA A) x j = A.proj x j := by
  unfold rowOf pA
  rw [p_at]
  refine Finset.sum_congr rfl fun c _ => congrArg (· * _) ?_
  exact n_at _ _ _ _ c

theorem resQ_eq : (shapeCast S32768x512 (mulf (hOf (tq (pA A)) A.gq) (broadcastInDim S16x2048x4x2x64 ![] bcast_S_S16x2048x4x2x64 (constant S_ .f32 0x3E000000#32))) shapeCasts_S16x2048x4x2x64_S32768x512
    : FVec Ideal S32768x512 .f32) = A.resQ := by
  funext y
  obtain ⟨x, j, rfl⟩ : ∃ (x : Fin 32768) (j : Fin 512), y = ix2 x j := ⟨y 0, y 1, by funext k; match k with | ⟨0, _⟩ => rfl | ⟨1, _⟩ => rfl⟩
  rw [scaled_at, hq_at]
  simp only [pA_at]
  rfl
theorem resK_eq : (shapeCast S32768x512 (hOf (tk (pA A)) A.gk) shapeCasts_S16x2048x4x2x64_S32768x512 : FVec Ideal S32768x512 .f32) = A.resK := by
  funext y
  obtain ⟨x, j, rfl⟩ : ∃ (x : Fin 32768) (j : Fin 512), y = ix2 x j := ⟨y 0, y 1, by funext k; match k with | ⟨0, _⟩ => rfl | ⟨1, _⟩ => rfl⟩
  rw [flat_at, hk_at]
  simp only [pA_at]
  rfl
theorem resV_eq : (shapeCast S32768x512 (extractStridedSlice S16x2048x512 ![0, 0, 1024] (pA A) slices_S16x2048x3592_S16x2048x512_0_0_1024) shapeCasts_S16x2048x512_S32768x512
    : FVec Ideal S32768x512 .f32) = A.cols 1024 512 (by omega) := by
  funext y
  obtain ⟨x, j, rfl⟩ : ∃ (x : Fin 32768) (j : Fin 512), y = ix2 x j := ⟨y 0, y 1, by funext k; match k with | ⟨0, _⟩ => rfl | ⟨1, _⟩ => rfl⟩
  have h := pA_at A
  generalize pA A = p at h ⊢
  refine Eq.trans (b := p (ix3 ⟨x.val / 2048, by omega⟩ ⟨x.val % 2048, Nat.mod_lt _ (by omega)⟩ ⟨1024 + j.val, by omega⟩)) (by pointwise) ?_
  exact h x _
theorem resG_eq : (shapeCast S32768x1536 (extractStridedSlice S16x2048x1536 ![0, 0, 1536] (pA A) slices_S16x2048x3592_S16x2048x1536_0_0_1536) shapeCasts_S16x2048x1536_S32768x1536
    : FVec Ideal S32768x1536 .f32) = A.cols 1536 1536 (by omega) := by
  funext y
  obtain ⟨x, j, rfl⟩ : ∃ (x : Fin 32768) (j : Fin 1536), y = ix2 x j := ⟨y 0, y 1, by funext k; match k with | ⟨0, _⟩ => rfl | ⟨1, _⟩ => rfl⟩
  have h := pA_at A
  generalize pA A = p at h ⊢
  refine Eq.trans (b := p (ix3 ⟨x.val / 2048, by omega⟩ ⟨x.val % 2048, Nat.mod_lt _ (by omega)⟩ ⟨1536 + j.val, by omega⟩)) (by pointwise) ?_
  exact h x _
theorem resZ_eq : (shapeCast S32768x512 (extractStridedSlice S16x2048x512 ![0, 0, 3072] (pA A) slices_S16x2048x3592_S16x2048x512_0_0_3072) shapeCasts_S16x2048x512_S32768x512
    : FVec Ideal S32768x512 .f32) = A.cols 3072 512 (by omega) := by
  funext y
  obtain ⟨x, j, rfl⟩ : ∃ (x : Fin 32768) (j : Fin 512), y = ix2 x j := ⟨y 0, y 1, by funext k; match k with | ⟨0, _⟩ => rfl | ⟨1, _⟩ => rfl⟩
  have h := pA_at A
  generalize pA A = p at h ⊢
  refine Eq.trans (b := p (ix3 ⟨x.val / 2048, by omega⟩ ⟨x.val % 2048, Nat.mod_lt _ (by omega)⟩ ⟨3072 + j.val, by omega⟩)) (by pointwise) ?_
  exact h x _
theorem resBa_eq : (shapeCast S32768x128 (baOf (pA A)) shapeCasts_S16x2048x128_S32768x128 : FVec Ideal S32768x128 .f32) = A.resBa := by
  funext y
  obtain ⟨x, j, rfl⟩ : ∃ (x : Fin 32768) (j : Fin 128), y = ix2 x j := ⟨y 0, y 1, by funext k; match k with | ⟨0, _⟩ => rfl | ⟨1, _⟩ => rfl⟩
  refine Eq.trans (b := baOf (pA A) (ix3 ⟨x.val / 2048, by omega⟩ ⟨x.val % 2048, Nat.mod_lt _ (by omega)⟩ j)) ?_ ?_
  · generalize baOf (pA A) = q
    pointwise
  show _ = if h : j.val < 8 then A.proj x ⟨3584 + j.val, by omega⟩ else (0 : EReal)
  by_cases h4 : j.val < 4
  · rw [dif_pos (by omega)]
    exact (lo_at (pA A) _ _ ⟨j.val, h4⟩).trans (pA_at A x _)
  · by_cases h8 : j.val < 8
    · rw [dif_pos h8]
      have e : j = ⟨4 + (⟨j.val - 4, by omega⟩ : Fin 4).val, by show 4 + (j.val - 4) < 128; omega⟩ := Fin.ext (by show j.val = 4 + (j.val - 4); omega)
      refine (congrArg (fun j => baOf (pA A) (ix3 _ _ j)) e).trans ?_
      refine (hi_at (pA A) _ _ ⟨j.val - 4, by omega⟩).trans ((pA_at A x _).trans (congrArg (A.proj x) (Fin.ext ?_)))
      show 3588 + (j.val - 4) = 3584 + j.val
      omega
    · rw [dif_neg h8]
      have e : j = ⟨8 + (⟨j.val - 8, by omega⟩ : Fin 120).val, by show 8 + (j.val - 8) < 128; omega⟩ := Fin.ext (by show j.val = 8 + (j.val - 8); omega)
      rw [e]
      exact pad_at (pA A) _ _ _

end Cert.Reference2Ideal.Body

end
-- ==== Proof.InAlgebraic.lean ====
module

public import proofs.«01_k».proof.Proof.InResult
public import proofs.«01_k».proof.Proof.InRef
public import proofs.«01_k».proof.Proof.Finite
public import proofs.«01_k».proof.Defs

@[expose] public section

set_option maxRecDepth 16384

noncomputable section

namespace Cert.Proof

open Idealize.ShloMosaic Idealize.ShloMosaic.TcCoe Idealize.SL.Sem Cert.InProj

/-! # The input projection's kernel and reference end alike

On real gains and weights: what a leading part leaves of a square is then zero. -/

instance facts_in : Cert.Pre_finite2.Facts where
  bcast_S_S1024 := by decide +kernel
  reducesTo_S1024_S_d0 := by decide +kernel
  h_S_ := by decide +kernel
  bcast_S_S1024x3592 := by decide +kernel
  reducesTo_S1024x3592_S_d0_1 := by decide +kernel

open Cert.Pre_finite2 in
/-- What the precondition says of the arguments. -/
theorem fn_real2 (a0 : FVec Ideal S16x2048x1024 .f32) (a1 : FVec Ideal S1024 .f32) (a2 : FVec Ideal S1024x3592 .f32) (a3 a4 : FVec Ideal S64 .f32)
    (e : fn (F := Ideal) a0 a1 a2 a3 a4 = fun _ => 1#1) :
    (∀ i, ∃ r : ℝ, a1 i = r) ∧ (∀ i, ∃ r : ℝ, a2 i = r) := by
  have e0 := congrFun e ix0
  unfold fn at e0
  dsimp only at e0
  obtain ⟨h1, h2⟩ := and_one _ _ e0
  clear e
  refine ⟨?_, ?_⟩
  · exact check_real a1 Facts.bcast_S_S1024 Facts.reducesTo_S1024_S_d0 Facts.h_S_ _ h1
  · exact check_real a2 Facts.bcast_S_S1024x3592 Facts.reducesTo_S1024x3592_S_d0_1 Facts.h_S_ _ h2

theorem algebraic_in : Cert.algebraic_Kernel2Ideal_Reference2Ideal_pre_finite2 := by
  intro m g m' g' hpre hargs
  have hp : ∀ (c : Dev Cert.Kernel2Ideal.nD) (x : Fin 32768) (j : Fin 3592), ∃ r : ℝ, (Cert.Kernel2Ideal.Body.args m c).proj x j = r := fun c x j => by
    obtain ⟨h1, h2⟩ := fn_real2 _ _ _ _ _ (hpre c)
    exact proj_real _ h1 h2 x j
  refine ⟨fun c => (Cert.Kernel2Ideal.Body.args m c).resQ, fun c => (Cert.Kernel2Ideal.Body.args m c).resK, fun c => (Cert.Kernel2Ideal.Body.args m c).cols 1024 512 (by omega), fun c => (Cert.Kernel2Ideal.Body.args m c).cols 1536 1536 (by omega), fun c => (Cert.Kernel2Ideal.Body.args m c).cols 3072 512 (by omega), fun c => (Cert.Kernel2Ideal.Body.args m c).resBa, ?_, ?_⟩
  · refine (θ_run Cert.Kernel2Ideal.defs _ _).mono ?_ (Cert.Kernel2Ideal.Value.run_blocks (F := Ideal) m g)
    intro r h c
    obtain ⟨h10, h11, h12, h13, h14, h15, hrest⟩ := h c
    exact ⟨h10.trans (Cert.Kernel2Ideal.Body.arr10 m c (hp c)), h11.trans (Cert.Kernel2Ideal.Body.arr11 m c (hp c)),
      h12.trans (Cert.Kernel2Ideal.Body.arr12 m c), h13.trans (Cert.Kernel2Ideal.Body.arr13 m c), h14.trans (Cert.Kernel2Ideal.Body.arr14 m c),
      h15.trans (Cert.Kernel2Ideal.Body.arr15 m c), hrest⟩
  · refine (θ_run Cert.Reference2Ideal.defs _ _).mono ?_ (Cert.Reference2Ideal.Value.run (F := Ideal) m' g')
    intro r h c
    obtain ⟨h10, h11, h12, h13, h14, h15, hrest⟩ := h c
    obtain ⟨e0, e1, e2, e3, e4⟩ := hargs c
    have ha : (⟨m' ((c.tc : Thread Cert.Reference2Ideal.nD Cert.Reference2Ideal.τ).loc Cert.Reference2Ideal.main_arg0),
        m' ((c.tc : Thread Cert.Reference2Ideal.nD Cert.Reference2Ideal.τ).loc Cert.Reference2Ideal.main_arg1),
        m' ((c.tc : Thread Cert.Reference2Ideal.nD Cert.Reference2Ideal.τ).loc Cert.Reference2Ideal.main_arg2),
        m' ((c.tc : Thread Cert.Reference2Ideal.nD Cert.Reference2Ideal.τ).loc Cert.Reference2Ideal.main_arg3),
        m' ((c.tc : Thread Cert.Reference2Ideal.nD Cert.Reference2Ideal.τ).loc Cert.Reference2Ideal.main_arg4)⟩ : Args)
        = Cert.Kernel2Ideal.Body.args m c := by
      rw [e0, e1, e2, e3, e4]
      rfl
    exact ⟨(h10.trans (Cert.Reference2Ideal.Body.resQ_eq ⟨_, _, _, _, _⟩)).trans (congrArg Args.resQ ha),
      (h11.trans (Cert.Reference2Ideal.Body.resK_eq ⟨_, _, _, _, _⟩)).trans (congrArg Args.resK ha),
      (h12.trans (Cert.Reference2Ideal.Body.resV_eq ⟨_, _, _, _, _⟩)).trans (congrArg (fun A => Args.cols A 1024 512 (by omega)) ha),
      (h13.trans (Cert.Reference2Ideal.Body.resG_eq ⟨_, _, _, _, _⟩)).trans (congrArg (fun A => Args.cols A 1536 1536 (by omega)) ha),
      (h14.trans (Cert.Reference2Ideal.Body.resZ_eq ⟨_, _, _, _, _⟩)).trans (congrArg (fun A => Args.cols A 3072 512 (by omega)) ha),
      (h15.trans (Cert.Reference2Ideal.Body.resBa_eq ⟨_, _, _, _, _⟩)).trans (congrArg Args.resBa ha), hrest⟩

end Cert.Proof

end
-- ==== Proof.OutBlock.lean ====
module

public import proofs.«01_k».proof.Proof.Gen.Kernel3Ideal.Value
public import proofs.«01_k».proof.Proof.OutTarget

@[expose] public section

set_option maxRecDepth 16384

noncomputable section

namespace Cert.Kernel3Ideal.Body

open Cert.Kernel3Ideal Cert.Kernel3Ideal.Gen Cert.OutProj
open Idealize.ShloMosaic Idealize.ShloMosaic.TcCoe Idealize.ShloMosaic.Tactic

/-! # One block of the output projection, entry by entry -/

variable (x : FVec Ideal S512x1024 .f32) (a b : FVec Ideal S512x512 .bf16) (u v : FVec Ideal S512x1024 .bf16) (g : FVec Ideal S1x1024 .f32)
  (p : FVec Ideal S1024x2048 .bf16) (s : FVec Ideal S16x128x128 .bf16)

/-- The stream. -/
theorem pay2_at (i : Fin 512) (c : Fin 1024) :
    k0_pay2 (F := Ideal) x a u b v (ix2 i c) = x (ix2 i c) + ((∑ k : Fin 512, a (ix2 i k) * u (ix2 k c)) + ∑ k : Fin 512, b (ix2 i k) * v (ix2 k c)) := by
  rw [← add_assoc]
  pointwise [k0_pay2]

/-- The normed stream. -/
theorem pay3_at (i : Fin 512) (c : Fin 1024) :
    k0_pay3 (F := Ideal) x a u b v g (ix2 i c) = normed (fun c => k0_pay2 (F := Ideal) x a u b v (ix2 i c)) (fun c => g (ix2 0 c)) c := by
  unfold normed
  generalize hk : k0_pay2 (F := Ideal) x a u b v = h
  unfold k0_pay3
  rw [hk]
  pointwise

theorem pay4_at (i : Fin 512) (c : Fin 1024) : k0_pay4 (F := Ideal) x a u b v g (ix2 c i) = (k0_pay3 (F := Ideal) x a u b v g (ix2 i c) : EReal) := by
  pointwise [k0_pay4]

theorem pay5_at (i : Fin 512) (c : Fin 1024) : k0_pay5 (F := Ideal) x a u b v g (ix2 i c) = (k0_pay3 (F := Ideal) x a u b v g (ix2 i c) : EReal) := by
  pointwise [k0_pay5]

/-- The queries. -/
theorem pay6_at (n : FVec Ideal S512x1024 .bf16) (i : Fin 512) (j : Fin 2048) :
    k0_pay6 (F := Ideal) n p (ix2 i j) = query (fun c => n (ix2 i c)) (fun c j => p (ix2 c j)) j := by
  unfold query
  pointwise [k0_pay6]

/-- The scores of all heads and halves, at an index. -/
def scores (q : FVec Ideal S512x2048 .bf16) (s : FVec Ideal S16x128x128 .bf16) : FVec Ideal S16x128x512 .f32 := fun y =>
  score (fun j => q (ix2 (y 2) j)) (fun d => s (ix3 (y 0) (y 1) d)) (y 0)

/-- What the body leaves of the scores: sixteen pieces, one for each head and half. -/
theorem out10_at (x1 x2 : FVec Ideal S512x512 .bf16) (x3 x4 : FVec Ideal S512x1024 .bf16) :
    (out0_10 (F := Ideal) x x1 x2 x3 x4 g p s : FVec Ideal S16x128x512 .f32) = scores (k0_pay27 (F := Ideal) x x1 x2 x3 x4 g p s) s := by
  funext y
  unfold out0_10
  have hq : k0_pay27 (F := Ideal) x x1 x2 x3 x4 g p s = k0_pay6 (F := Ideal) (k0_pay26 x x1 x2 x3 x4 g p s) p := by
    unfold k0_pay27
    simp (disch := decide) only [View.ld_unit_lit']
  generalize k0_pay27 (F := Ideal) x x1 x2 x3 x4 g p s = q at hq ⊢
  generalize k0_pay26 (F := Ideal) x x1 x2 x3 x4 g p s = n at hq ⊢
  refine View.canon_apply_of_pieces (Val := Elt Ideal) (e := .f32) (scores q s) _ ?_ y (cover0_10 _ _ _ _ _ _ _ _ _ _ _ _ _ _ _ _ y)
  intro pc hpc
  iterate 16
    rcases List.mem_cons.mp hpc with rfl | hpc
    · intro z
      obtain ⟨i, j, rfl⟩ : ∃ (i : Fin 128) (j : Fin 512), z = ix3 0 i j :=
        ⟨z 1, z 2, by funext k; match k with | ⟨0, _⟩ => exact Fin.ext (by have := (z 0).isLt; change (z 0).val < 1 at this; show (z 0).val = 0; omega) | ⟨1, _⟩ => rfl | ⟨2, _⟩ => rfl⟩
      simp (disch := decide) only [View.ld_unit_lit']
      clear hpc
      try unfold k0_pay7
      try unfold k0_pay8
      try unfold k0_pay9
      try unfold k0_pay10
      try rw [← hq]
      pointwise [scores, score, k0_pay1, k0_pay11, k0_pay12, k0_pay13, k0_pay14, k0_pay15, k0_pay16, k0_pay17, k0_pay18, k0_pay19, k0_pay20, k0_pay21, k0_pay22, k0_pay23, k0_pay24, k0_pay25]
      refine Finset.sum_congr rfl fun d _ => congrArg₂ (· * ·) (congrArg s ?_) (congrArg q ?_) <;> blk_ext
  exact absurd hpc (List.not_mem_nil)

end Cert.Kernel3Ideal.Body

end
-- ==== Proof.OutArrays.lean ====
module

public import proofs.«01_k».proof.Proof.OutBlock
public import Idealize.ShloMosaic.Lib.Claim
public import Idealize.ShloMosaic.Lib.StableHlo.RunRead

@[expose] public section

set_option maxRecDepth 16384

noncomputable section

namespace Cert.Kernel3Ideal.Body

open Cert.Kernel3Ideal Cert.Kernel3Ideal.Gen Cert.OutProj
open Idealize.ShloMosaic Idealize.ShloMosaic.TcCoe Idealize.ShloMosaic.Tactic

/-! # The output projection's blocks in the arguments, and its whole results -/

variable (m : (ℓ : Loc nD τ sig) → Buf (Elt Ideal) ℓ) (c : Dev nD)

theorem idx (t : Fin cfg0.N) : win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0, 0] :=
  (by decide +kernel : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0, 0]) t

theorem idx_out (t : Fin cfg0.N) : win0_8.index t = ![t.val, 0] ∧ win0_9.index t = ![0, t.val] ∧ win0_10.index t = ![0, 0, t.val] :=
  (by decide +kernel : ∀ t : Fin cfg0.N, win0_8.index t = ![t.val, 0] ∧ win0_9.index t = ![0, t.val] ∧ win0_10.index t = ![0, 0, t.val]) t

/-- The arguments as launched. -/
def args : Args where
  x := m ((c : Thread nD τ).loc main_arg0)
  a := m ((c : Thread nD τ).loc main_arg1)
  b := m ((c : Thread nD τ).loc main_arg2)
  w := m ((c : Thread nD τ).loc main_arg3)
  g := m ((c : Thread nD τ).loc main_arg4)
  p := m ((c : Thread nD τ).loc main_arg5)
  s := m ((c : Thread nD τ).loc main_arg6)

/-- Row `i` of block `t` is this token. -/
def tok (t : Fin cfg0.N) (i : Fin 512) : Fin 32768 := ⟨512 * t.val + i.val, by have : t.val < 64 := t.isLt; omega⟩

theorem x_at (t : Fin cfg0.N) (i : Fin 512) (e : Fin 1024) :
    (iblk m c 0 t : FVec Ideal S512x1024 .f32) (ix2 i e) = rowOf (args m c).x (tok t i) e := by
  unfold rowOf args tok
  blk_point [iblk, V, idx t]
theorem a_at (t : Fin cfg0.N) (i : Fin 512) (e : Fin 512) :
    (iblk m c 1 t : FVec Ideal S512x512 .bf16) (ix2 i e) = rowOf (args m c).a (tok t i) e := by
  unfold rowOf args tok
  blk_point [iblk, V, idx t]
theorem b_at (t : Fin cfg0.N) (i : Fin 512) (e : Fin 512) :
    (iblk m c 2 t : FVec Ideal S512x512 .bf16) (ix2 i e) = rowOf (args m c).b (tok t i) e := by
  unfold rowOf args tok
  blk_point [iblk, V, idx t]
theorem u_at (t : Fin cfg0.N) (i : Fin 512) (e : Fin 1024) :
    (iblk m c 3 t : FVec Ideal S512x1024 .bf16) (ix2 i e) = (args m c).w (ix2 ⟨i.val, by omega⟩ e) := by
  unfold args
  blk_point [iblk, V, idx t]
theorem v_at (t : Fin cfg0.N) (i : Fin 512) (e : Fin 1024) :
    (iblk m c 4 t : FVec Ideal S512x1024 .bf16) (ix2 i e) = (args m c).w (ix2 ⟨512 + i.val, by omega⟩ e) := by
  unfold args
  blk_point [iblk, V, idx t]
theorem g_at (t : Fin cfg0.N) (e : Fin 1024) :
    (iblk m c 5 t : FVec Ideal S1x1024 .f32) (ix2 0 e) = (args m c).g (ix1 e) := by
  unfold args
  blk_point [iblk, V, idx t]
theorem p_at (t : Fin cfg0.N) (i : Fin 1024) (j : Fin 2048) :
    (iblk m c 6 t : FVec Ideal S1024x2048 .bf16) (ix2 i j) = (args m c).p (ix2 i j) := by
  unfold args
  blk_point [iblk, V, idx t]
theorem s_at (t : Fin cfg0.N) (y : Fin 16) (i d : Fin 128) :
    (iblk m c 7 t : FVec Ideal S16x128x128 .bf16) (ix3 y i d)
      = (args m c).s (ix4 ⟨y.val / 2, by omega⟩ ⟨y.val % 2, Nat.mod_lt _ (by omega)⟩ i d) := by
  unfold args
  blk_point [iblk, V, idx t]

end Cert.Kernel3Ideal.Body

end
-- ==== Proof.OutResult.lean ====
module

public import proofs.«01_k».proof.Proof.OutArrays

@[expose] public section

set_option maxRecDepth 16384

noncomputable section

namespace Cert.Kernel3Ideal.Body

open Cert.Kernel3Ideal Cert.Kernel3Ideal.Gen Cert.OutProj
open Idealize.ShloMosaic Idealize.ShloMosaic.TcCoe Idealize.ShloMosaic.Tactic
open Idealize.ShloMosaic.Pipeline (Dat Cfg Window)

/-! # The output projection's three results, whole -/

variable (m : (ℓ : Loc nD τ sig) → Buf (Elt Ideal) ℓ) (c : Dev nD)

/-- A block of the stream, -/
theorem stream_at (t : Fin cfg0.N) (i : Fin 512) (e : Fin 1024) :
    (k0_pay2 (F := Ideal) (iblk m c 0 t) (iblk m c 1 t) (iblk m c 3 t) (iblk m c 2 t) (iblk m c 4 t) (ix2 i e) : EReal) = (args m c).stream (tok t i) e := by
  refine (pay2_at _ _ _ _ _ i e).trans ?_
  simp only [x_at, a_at, b_at, u_at, v_at]
  rfl
/-- of the normed rows, -/
theorem norm_at (t : Fin cfg0.N) (i : Fin 512) (e : Fin 1024) :
    (k0_pay3 (F := Ideal) (iblk m c 0 t) (iblk m c 1 t) (iblk m c 3 t) (iblk m c 2 t) (iblk m c 4 t) (iblk m c 5 t) (ix2 i e) : EReal)
      = (args m c).norm (tok t i) e := by
  refine (pay3_at _ _ _ _ _ _ i e).trans ?_
  simp only [stream_at, g_at]
  rfl
/-- and of the queries. -/
theorem query_at (t : Fin cfg0.N) (i : Fin 512) (j : Fin 2048) :
    (k0_pay27 (F := Ideal) (iblk m c 0 t) (iblk m c 1 t) (iblk m c 2 t) (iblk m c 3 t) (iblk m c 4 t) (iblk m c 5 t) (iblk m c 6 t) (iblk m c 7 t) (ix2 i j) : EReal)
      = query ((args m c).norm (tok t i)) (fun k j => (args m c).p (ix2 k j)) j := by
  unfold k0_pay27 k0_pay26
  simp (disch := decide) only [View.ld_unit_lit']
  refine (pay6_at _ _ i j).trans ?_
  simp only [p_at]
  refine congrArg (fun n => query n _ j) (funext fun e => ?_)
  exact (pay5_at _ _ _ _ _ _ i e).trans (norm_at m c t i e)

theorem emb8 (t : Fin cfg0.N) (i : Fin 512) (e : Fin 1024) :
    ((View.whole main_v10_0).slice (win0_8.rect t)).emb (ix2 i e) = (ix2 (tok t i) e : S32768x1024.Idx) := by
  unfold tok
  blk_ext [idx_out t]
theorem emb9 (t : Fin cfg0.N) (e : Fin 1024) (i : Fin 512) :
    ((View.whole main_v10_1).slice (win0_9.rect t)).emb (ix2 e i) = (ix2 e (tok t i) : S1024x32768.Idx) := by
  unfold tok
  blk_ext [idx_out t]
theorem emb10 (t : Fin cfg0.N) (y : Fin 16) (k : Fin 128) (i : Fin 512) :
    ((View.whole main_v10_2).slice (win0_10.rect t)).emb (ix3 y k i) = (ix3 y k (tok t i) : S16x128x32768.Idx) := by
  unfold tok
  blk_ext [idx_out t]

theorem arr8 : (dats m 0 c).arrAt 8 cfg0.N = (args m c).resH := by
  refine (dats m 0 c).arrAt_eq_of_covers 8 _ (by decide +kernel) fun t hf y => ?_
  blk_simp [idx_out t]
  rw [after0_8]
  have key : ∀ y : S512x1024.Idx, (out0_8 (F := Ideal) (iblk m c 0 t) (iblk m c 1 t) (iblk m c 2 t) (iblk m c 3 t) (iblk m c 4 t) (iblk m c 5 t) (iblk m c 6 t) (iblk m c 7 t) y : EReal)
      = (args m c).resH (((View.whole main_v10_0).slice (win0_8.rect t)).emb y) := by
    intro y
    obtain ⟨i, e, rfl⟩ : ∃ (i : Fin 512) (e : Fin 1024), y = ix2 i e := ⟨y 0, y 1, by funext k; match k with | ⟨0, _⟩ => rfl | ⟨1, _⟩ => rfl⟩
    rw [emb8]
    unfold out0_8
    frame_out
    exact stream_at m c t i e
  exact key y

theorem arr9 : (dats m 0 c).arrAt 9 cfg0.N = (args m c).resN := by
  refine (dats m 0 c).arrAt_eq_of_covers 9 _ (by decide +kernel) fun t hf y => ?_
  blk_simp [idx_out t]
  rw [after0_9]
  have key : ∀ y : S1024x512.Idx, (out0_9 (F := Ideal) (iblk m c 0 t) (iblk m c 1 t) (iblk m c 2 t) (iblk m c 3 t) (iblk m c 4 t) (iblk m c 5 t) (iblk m c 6 t) (iblk m c 7 t) y : EReal)
      = (args m c).resN (((View.whole main_v10_1).slice (win0_9.rect t)).emb y) := by
    intro y
    obtain ⟨e, i, rfl⟩ : ∃ (e : Fin 1024) (i : Fin 512), y = ix2 e i := ⟨y 0, y 1, by funext k; match k with | ⟨0, _⟩ => rfl | ⟨1, _⟩ => rfl⟩
    rw [emb9]
    unfold out0_9
    frame_out
    exact (pay4_at _ _ _ _ _ _ i e).trans (norm_at m c t i e)
  exact key y

theorem arr10 : (dats m 0 c).arrAt 10 cfg0.N = (args m c).resS := by
  refine (dats m 0 c).arrAt_eq_of_covers 10 _ (by decide +kernel) fun t hf y => ?_
  blk_simp [idx_out t]
  rw [after0_10]
  have key : ∀ y : S16x128x512.Idx, (out0_10 (F := Ideal) (iblk m c 0 t) (iblk m c 1 t) (iblk m c 2 t) (iblk m c 3 t) (iblk m c 4 t) (iblk m c 5 t) (iblk m c 6 t) (iblk m c 7 t) y : EReal)
      = (args m c).resS (((View.whole main_v10_2).slice (win0_10.rect t)).emb y) := by
    intro y
    obtain ⟨h, k, i, rfl⟩ : ∃ (h : Fin 16) (k : Fin 128) (i : Fin 512), y = ix3 h k i :=
      ⟨y 0, y 1, y 2, by funext k; match k with | ⟨0, _⟩ => rfl | ⟨1, _⟩ => rfl | ⟨2, _⟩ => rfl⟩
    rw [emb10]
    refine (congrFun (out10_at _ _ _ _ _ _ _ _) (ix3 h k i)).trans ?_
    show score (fun j => (k0_pay27 (F := Ideal) (iblk m c 0 t) (iblk m c 1 t) (iblk m c 2 t) (iblk m c 3 t) (iblk m c 4 t) (iblk m c 5 t) (iblk m c 6 t) (iblk m c 7 t) (ix2 i j) : EReal))
      (fun d => (iblk m c 7 t : FVec Ideal S16x128x128 .bf16) (ix3 h k d)) h = (args m c).scoreOf (tok t i) h k
    simp only [query_at, s_at]
    rfl
  exact key y

end Cert.Kernel3Ideal.Body

end
-- ==== Proof.OutRef.lean ====
module

public import proofs.«01_k».proof.Proof.Gen.Reference3Ideal.Run
public import proofs.«01_k».proof.Proof.OutTarget

@[expose] public section

set_option maxRecDepth 16384

noncomputable section

namespace Cert.Reference3Ideal.Body

open Cert.Reference3Ideal Cert.Reference3Ideal.Gen Cert.OutProj
open Idealize.ShloMosaic Idealize.ShloMosaic.TcCoe Idealize.ShloMosaic.Tactic

/-! # The reference's results for the output projection -/

/-- The stream: the product with both mixers' outputs side by side. -/
def hOf (x : FVec Ideal S16x2048x1024 .f32) (a b : FVec Ideal S16x2048x512 .bf16) (w : FVec Ideal S1024x1024 .f32) : FVec Ideal S16x2048x1024 .f32 :=
  addf x (Host.dotGeneral dot_S16x2048x1024_S1024x1024_S16x2048x1024_2_0_01_1_n_n none (extf .f32 (concatenate S16x2048x1024 2 [⟨S16x2048x512, a⟩, ⟨S16x2048x512, b⟩] concatenates_S16x2048x512_S16x2048x512_S16x2048x1024_d2) bitsLt_bf16_f32) w)

/-- The normed rows. -/
def nOf (h : FVec Ideal S16x2048x1024 .f32) (g : FVec Ideal S1024 .f32) : FVec Ideal S32768x1024 .f32 :=
  shapeCast _ (mulf (mulf h (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf h h) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) shapeCasts_S16x2048x1024_S32768x1024

/-- The queries, by head and half. -/
def qOf (n : FVec Ideal S32768x1024 .f32) (p : FVec Ideal S1024x2048 .f32) : FVec Ideal S32768x8x2x128 .f32 :=
  shapeCast _ (Host.dotGeneral dot_S32768x1024_S1024x2048_S32768x2048_1_0_0_1_n_n none n p) shapeCasts_S32768x2048_S32768x8x2x128

/-- The scores, the tokens last. -/
def sOf (q : FVec Ideal S32768x8x2x128 .f32) (s : FVec Ideal S8x2x128x128 .f32) : FVec Ideal S16x128x32768 .f32 :=
  shapeCast _ (transpose S8x2x128x32768 [1, 2, 3, 0] (transpose S32768x8x2x128 [3, 0, 1, 2] (Host.dotGeneral dot_S8x2x128x128_S32768x8x2x128_S8x2x128x32768_3_3_2_0_01_12 none s q) transposes_S8x2x128x32768_S32768x8x2x128_3_0_1_2) transposes_S32768x8x2x128_S8x2x128x32768_1_2_3_0) shapeCasts_S8x2x128x32768_S16x128x32768

/-- A sum over 1024 in halves. -/
theorem halves (f : Fin 1024 → EReal) : ∑ k, f k = (∑ k : Fin 512, f ⟨k.val, by omega⟩) + ∑ k : Fin 512, f ⟨512 + k.val, by omega⟩ :=
  Fin.sum_univ_add (a := 512) (b := 512) f

theorem side_lo (a b : FVec Ideal S16x2048x512 .bf16) (i : Fin 16) (r : Fin 2048) (k : Fin 512) :
    (concatenate S16x2048x1024 2 [⟨S16x2048x512, a⟩, ⟨S16x2048x512, b⟩] concatenates_S16x2048x512_S16x2048x512_S16x2048x1024_d2 : FVec Ideal S16x2048x1024 .bf16)
      (ix3 i r ⟨k.val, by omega⟩) = a (ix3 i r k) := by
  pointwise
theorem side_hi (a b : FVec Ideal S16x2048x512 .bf16) (i : Fin 16) (r : Fin 2048) (k : Fin 512) :
    (concatenate S16x2048x1024 2 [⟨S16x2048x512, a⟩, ⟨S16x2048x512, b⟩] concatenates_S16x2048x512_S16x2048x512_S16x2048x1024_d2 : FVec Ideal S16x2048x1024 .bf16)
      (ix3 i r ⟨512 + k.val, by omega⟩) = b (ix3 i r k) := by
  pointwise

theorem h_at (x : FVec Ideal S16x2048x1024 .f32) (a b : FVec Ideal S16x2048x512 .bf16) (w : FVec Ideal S1024x1024 .f32) (i : Fin 16) (r : Fin 2048) (c : Fin 1024) :
    hOf x a b w (ix3 i r c) = mixed (fun c => x (ix3 i r c)) (fun c => a (ix3 i r c)) (fun c => b (ix3 i r c)) (fun k c => w (ix2 k c)) c := by
  unfold mixed hOf
  generalize hs : (concatenate S16x2048x1024 2 [⟨S16x2048x512, a⟩, ⟨S16x2048x512, b⟩] concatenates_S16x2048x512_S16x2048x512_S16x2048x1024_d2 : FVec Ideal S16x2048x1024 .bf16) = s
  refine Eq.trans (b := x (ix3 i r c) + ∑ k : Fin 1024, s (ix3 i r k) * w (ix2 k c)) (by pointwise) ?_
  rw [halves, ← hs]
  simp only [side_lo, side_hi]

theorem n_at (h : FVec Ideal S16x2048x1024 .f32) (g : FVec Ideal S1024 .f32) (x : Fin 32768) (c : Fin 1024) :
    nOf h g (ix2 x c) = normed (rowOf h x) (fun c => g (ix1 c)) c := by
  unfold normed rowOf
  pointwise [nOf]

theorem q_at (n : FVec Ideal S32768x1024 .f32) (p : FVec Ideal S1024x2048 .f32) (x : Fin 32768) (y : Fin 8) (z : Fin 2) (d : Fin 128) :
    qOf n p (ix4 x y z d) = query (fun c => n (ix2 x c)) (fun c j => p (ix2 c j)) ⟨y.val * 256 + z.val * 128 + d.val, by omega⟩ := by
  unfold query
  pointwise [qOf]

theorem s_at (q : FVec Ideal S32768x8x2x128 .f32) (s : FVec Ideal S8x2x128x128 .f32) (y : Fin 16) (k : Fin 128) (x : Fin 32768) :
    sOf q s (ix3 y k x) = ∑ d : Fin 128, s (ix4 ⟨y.val / 2, by omega⟩ ⟨y.val % 2, Nat.mod_lt _ (by omega)⟩ k d)
      * q (ix4 x ⟨y.val / 2, by omega⟩ ⟨y.val % 2, Nat.mod_lt _ (by omega)⟩ d) := by
  pointwise [sOf]

/-! ## The three results -/

variable (A : Args)

theorem resH_eq : (shapeCast S32768x1024 (hOf A.x A.a A.b A.w) shapeCasts_S16x2048x1024_S32768x1024 : FVec Ideal S32768x1024 .f32) = A.resH := by
  funext j
  obtain ⟨x, e, rfl⟩ : ∃ (x : Fin 32768) (e : Fin 1024), j = ix2 x e := ⟨j 0, j 1, by funext k; match k with | ⟨0, _⟩ => rfl | ⟨1, _⟩ => rfl⟩
  have h := h_at A.x A.a A.b A.w
  generalize hOf A.x A.a A.b A.w = y at h ⊢
  refine Eq.trans (b := y (ix3 ⟨x.val / 2048, by omega⟩ ⟨x.val % 2048, Nat.mod_lt _ (by omega)⟩ e)) (by pointwise) ?_
  rw [h]
  rfl

theorem norm_at (x : Fin 32768) (e : Fin 1024) : nOf (hOf A.x A.a A.b A.w) A.g (ix2 x e) = A.norm x e := by
  rw [n_at]
  refine congrArg (fun h => normed h _ e) (funext fun c => ?_)
  exact h_at A.x A.a A.b A.w _ _ c

theorem resN_eq : (truncf .bf16 (transpose S1024x32768 [1, 0] (nOf (hOf A.x A.a A.b A.w) A.g) transposes_S32768x1024_S1024x32768_1_0) bitsLt_bf16_f32
    : FVec Ideal S1024x32768 .bf16) = A.resN := by
  funext j
  obtain ⟨e, x, rfl⟩ : ∃ (e : Fin 1024) (x : Fin 32768), j = ix2 e x := ⟨j 0, j 1, by funext k; match k with | ⟨0, _⟩ => rfl | ⟨1, _⟩ => rfl⟩
  have h := norm_at A x e
  generalize nOf (hOf A.x A.a A.b A.w) A.g = y at h ⊢
  refine Eq.trans (b := y (ix2 x e)) (by pointwise) ?_
  rw [h]
  rfl

theorem resS_eq : sOf (qOf (nOf (hOf A.x A.a A.b A.w) A.g) A.p) A.s = A.resS := by
  funext j
  obtain ⟨y, k, x, rfl⟩ : ∃ (y : Fin 16) (k : Fin 128) (x : Fin 32768), j = ix3 y k x :=
    ⟨j 0, j 1, j 2, by funext k; match k with | ⟨0, _⟩ => rfl | ⟨1, _⟩ => rfl | ⟨2, _⟩ => rfl⟩
  rw [s_at]
  show _ = A.scoreOf x y k
  unfold Args.scoreOf score
  refine Finset.sum_congr rfl fun d _ => congrArg (_ * ·) ?_
  rw [q_at]
  simp only [norm_at]
  refine congrArg (query _ _) (Fin.ext ?_)
  show y.val / 2 * 256 + y.val % 2 * 128 + d.val = 128 * y.val + d.val
  omega

end Cert.Reference3Ideal.Body

end
-- ==== Proof.OutAlgebraic.lean ====
module

public import proofs.«01_k».proof.Proof.OutResult
public import proofs.«01_k».proof.Proof.OutRef
public import proofs.«01_k».proof.Defs

@[expose] public section

set_option maxRecDepth 16384

noncomputable section

namespace Cert.Proof

open Idealize.ShloMosaic Idealize.ShloMosaic.TcCoe Idealize.SL.Sem Cert.OutProj

/-! # The output projection's kernel and reference end alike

On every extended real: both sides add and multiply the same entries, in sums only grouped differently. -/

theorem algebraic_out : Cert.algebraic_Kernel3Ideal_Reference3Ideal := by
  intro m g m' g' hpre hargs
  refine ⟨fun c => (Cert.Kernel3Ideal.Body.args m c).resH, fun c => (Cert.Kernel3Ideal.Body.args m c).resN,
    fun c => (Cert.Kernel3Ideal.Body.args m c).resS, ?_, ?_⟩
  · refine (θ_run Cert.Kernel3Ideal.defs _ _).mono ?_ (Cert.Kernel3Ideal.Value.run_blocks (F := Ideal) m g)
    intro r h c
    obtain ⟨h8, h9, h10, hrest⟩ := h c
    exact ⟨h8.trans (Cert.Kernel3Ideal.Body.arr8 m c), h9.trans (Cert.Kernel3Ideal.Body.arr9 m c),
      h10.trans (Cert.Kernel3Ideal.Body.arr10 m c), hrest⟩
  · refine (θ_run Cert.Reference3Ideal.defs _ _).mono ?_ (Cert.Reference3Ideal.Value.run (F := Ideal) m' g')
    intro r h c
    obtain ⟨h8, h9, h10, hrest⟩ := h c
    obtain ⟨e0, e1, e2, e3, e4, e5, e6⟩ := hargs c
    have ha : (⟨m' ((c.tc : Thread Cert.Reference3Ideal.nD Cert.Reference3Ideal.τ).loc Cert.Reference3Ideal.main_arg0),
        m' ((c.tc : Thread Cert.Reference3Ideal.nD Cert.Reference3Ideal.τ).loc Cert.Reference3Ideal.main_arg1),
        m' ((c.tc : Thread Cert.Reference3Ideal.nD Cert.Reference3Ideal.τ).loc Cert.Reference3Ideal.main_arg2),
        m' ((c.tc : Thread Cert.Reference3Ideal.nD Cert.Reference3Ideal.τ).loc Cert.Reference3Ideal.main_arg3),
        m' ((c.tc : Thread Cert.Reference3Ideal.nD Cert.Reference3Ideal.τ).loc Cert.Reference3Ideal.main_arg4),
        m' ((c.tc : Thread Cert.Reference3Ideal.nD Cert.Reference3Ideal.τ).loc Cert.Reference3Ideal.main_arg5),
        m' ((c.tc : Thread Cert.Reference3Ideal.nD Cert.Reference3Ideal.τ).loc Cert.Reference3Ideal.main_arg6)⟩ : Args)
        = Cert.Kernel3Ideal.Body.args m c := by
      rw [e0, e1, e2, e3, e4, e5, e6]
      rfl
    exact ⟨(h8.trans (Cert.Reference3Ideal.Body.resH_eq ⟨_, _, _, _, _, _, _⟩)).trans (congrArg Args.resH ha),
      (h9.trans (Cert.Reference3Ideal.Body.resN_eq ⟨_, _, _, _, _, _, _⟩)).trans (congrArg Args.resN ha),
      (h10.trans (Cert.Reference3Ideal.Body.resS_eq ⟨_, _, _, _, _, _, _⟩)).trans (congrArg Args.resS ha), hrest⟩

end Cert.Proof

end
-- ==== Proof.SampleTarget.lean ====
module

public import proofs.«01_k».proof.Proof.InNorm

@[expose] public section

set_option maxRecDepth 16384

noncomputable section

namespace Cert.InSample

open Idealize.ShloMosaic
open Cert.InProj (headNorm groupNorm normed_real)
open Cert.OutProj (normed)

/-! # The input projection of the sample's batch, one token at a time

The same as the prompt's, of 32 texts of 4 tokens, in one block. -/

/-- A token's row of an array of 32 texts of 4 tokens; `x` counts the tokens through. -/
def rowOf {n : ℕ} {f : FTy} (X : FVec Ideal (⟨3, ![32, 4, n]⟩ : Shape) f) (x : Fin 128) (c : Fin n) : EReal :=
  X (ix3 ⟨x.val / 4, by omega⟩ ⟨x.val % 4, Nat.mod_lt _ (by omega)⟩ c)

/-- The call's arguments: the stream, the gain, all the weights side by side, the gains of the queries and of the keys. -/
structure Args where
  x : FVec Ideal (⟨3, ![32, 4, 1024]⟩ : Shape) .f32
  g : FVec Ideal (⟨1, ![1024]⟩ : Shape) .f32
  w : FVec Ideal (⟨2, ![1024, 3592]⟩ : Shape) .f32
  gq : FVec Ideal (⟨1, ![64]⟩ : Shape) .f32
  gk : FVec Ideal (⟨1, ![64]⟩ : Shape) .f32

variable (A : Args)

/-- A token's normed row, -/
def Args.norm (x : Fin 128) : Fin 1024 → EReal := normed (rowOf A.x x) fun c => A.g (ix1 c)
/-- and its products with the weights' columns. -/
def Args.proj (x : Fin 128) (j : Fin 3592) : EReal := ∑ c : Fin 1024, A.norm x c * A.w (ix2 c j)

/-- The call's six results: the queries, -/
def Args.resQ : FVec Ideal (⟨2, ![128, 512]⟩ : Shape) .f32 := fun y =>
  headNorm (fun j => A.proj (y 0) ⟨j.val, by omega⟩) (fun d => A.gq (ix1 d)) (y 1) * Ideal.ofBits .f32 0x3E000000#32
/-- the keys, -/
def Args.resK : FVec Ideal (⟨2, ![128, 512]⟩ : Shape) .f32 := fun y =>
  headNorm (fun j => A.proj (y 0) ⟨512 + j.val, by omega⟩) (fun d => A.gk (ix1 d)) (y 1)
/-- `n` columns from column `o` on, -/
def Args.cols (o n : ℕ) (h : o + n ≤ 3592) : FVec Ideal (⟨2, ![128, n]⟩ : Shape) .f32 := fun y =>
  A.proj (y 0) ⟨o + (y 1).val, by have : (y 1).val < n := (y 1).isLt; omega⟩
/-- and the last eight columns, filled up to 128 with zeros. -/
def Args.resBa : FVec Ideal (⟨2, ![128, 128]⟩ : Shape) .f32 := fun y =>
  if h : (y 1).val < 8 then A.proj (y 0) ⟨3584 + (y 1).val, by omega⟩ else 0

theorem proj_real (A : Args) (hg : ∀ i, ∃ r : ℝ, A.g i = r) (hw : ∀ i, ∃ r : ℝ, A.w i = r)
    (x : Fin 128) (j : Fin 3592) : ∃ r : ℝ, A.proj x j = r := by
  choose n hn using normed_real (rowOf A.x x) (fun c => A.g (ix1 c)) (fun c => hg _)
  choose w hw using hw
  refine ⟨∑ c, n c * w (ix2 c j), ?_⟩
  rw [← Cert.Attn.coe_sum]
  unfold Args.proj
  refine Finset.sum_congr rfl fun c _ => ?_
  rw [EReal.coe_mul, ← hn, ← hw]
  rfl

end Cert.InSample

end
-- ==== Proof.SampleBlock.lean ====
module

public import proofs.«01_k».proof.Proof.Gen.Kernel4Ideal.Value
public import proofs.«01_k».proof.Proof.SampleTarget

@[expose] public section

set_option maxRecDepth 16384

noncomputable section

namespace Cert.Kernel4Ideal.Body

open Cert.Kernel4Ideal Cert.Kernel4Ideal.Gen Cert.InSample
open Cert.OutProj (normed)
open Cert.InProj (groupNorm)
open Idealize.ShloMosaic Idealize.ShloMosaic.TcCoe Idealize.ShloMosaic.Tactic

/-! # One block of the input projection, entry by entry -/

variable (x : FVec Ideal S128x1024 .f32) (g : FVec Ideal S1x1024 .f32) (w : FVec Ideal S1024x1024 .bf16) (G : FVec Ideal S512x512 .bf16)
  (h : FVec Ideal S1x512 .f32) (n : FVec Ideal S128x1024 .bf16)

/-- The normed rows. -/
theorem pay3_at (i : Fin 128) (c : Fin 1024) :
    (k0_pay3 (F := Ideal) x g (ix2 i c) : EReal) = normed (fun c => x (ix2 i c)) (fun c => g (ix2 0 c)) c := by
  unfold normed
  pointwise [k0_pay3]

/-- The products with the queries' and the keys' weights. -/
theorem pay4_at (i : Fin 128) (j : Fin 1024) :
    (k0_pay4 (F := Ideal) x g w (ix2 i j) : EReal) = ∑ c : Fin 1024, (k0_pay3 (F := Ideal) x g (ix2 i c) : EReal) * w (ix2 c j) := by
  generalize hk : k0_pay3 (F := Ideal) x g = n
  unfold k0_pay4
  rw [hk]
  pointwise

/-- The queries, over their root mean squares, -/
theorem pay6_at (i : Fin 128) (j : Fin 512) :
    (k0_pay6 (F := Ideal) x g w G h (ix2 i j) : EReal)
      = groupNorm (fun j => (k0_pay4 (F := Ideal) x g w (ix2 i ⟨j.val, by omega⟩) : EReal)) (fun k j => G (ix2 k j)) (fun j => h (ix2 0 j)) j := by
  unfold groupNorm
  generalize hk : k0_pay4 (F := Ideal) x g w = t
  unfold k0_pay6 k0_pay5
  rw [hk]
  pointwise

/-- with their scale; -/
theorem pay7_at (q : FVec Ideal S128x512 .f32) (i : Fin 128) (j : Fin 512) :
    (k0_pay7 (F := Ideal) q (ix2 i j) : EReal) = q (ix2 i j) * Ideal.ofBits .f32 0x3E000000#32 := by
  pointwise [k0_pay7]

/-- the keys, over theirs. -/
theorem pay8_at (t : FVec Ideal S128x1024 .f32) (i : Fin 128) (j : Fin 512) :
    (k0_pay8 (F := Ideal) t (k0_pay5 (F := Ideal) G) h (ix2 i j) : EReal)
      = groupNorm (fun j => t (ix2 i ⟨512 + j.val, by omega⟩)) (fun k j => G (ix2 k j)) (fun j => h (ix2 0 j)) j := by
  unfold groupNorm
  pointwise [k0_pay8, k0_pay5]

/-- The other columns are plain products. -/
theorem pay9_at (v : FVec Ideal S1024x512 .bf16) (i : Fin 128) (j : Fin 512) :
    (k0_pay9 (F := Ideal) n v (ix2 i j) : EReal) = ∑ c : Fin 1024, n (ix2 i c) * v (ix2 c j) := by
  pointwise [k0_pay9]
theorem pay10_at (v : FVec Ideal S1024x1536 .bf16) (i : Fin 128) (j : Fin 1536) :
    (k0_pay10 (F := Ideal) n v (ix2 i j) : EReal) = ∑ c : Fin 1024, n (ix2 i c) * v (ix2 c j) := by
  pointwise [k0_pay10]
theorem pay1_at (v : FVec Ideal S1024x512 .bf16) (i : Fin 128) (j : Fin 512) :
    (k0_pay1 (F := Ideal) n (k0_pay11 (F := Ideal) v) (ix2 i j) : EReal) = ∑ c : Fin 1024, n (ix2 i c) * v (ix2 c j) := by
  pointwise [k0_pay1, k0_pay11]
theorem pay2_at (v : FVec Ideal S1024x128 .bf16) (i : Fin 128) (j : Fin 128) :
    (k0_pay2 (F := Ideal) n v (ix2 i j) : EReal) = ∑ c : Fin 1024, n (ix2 i c) * v (ix2 c j) := by
  pointwise [k0_pay2]

end Cert.Kernel4Ideal.Body

end
-- ==== Proof.SampleHost.lean ====
module

public import proofs.«01_k».proof.Proof.SampleBlock
public import Idealize.ShloMosaic.Lib.Claim
public import Idealize.ShloMosaic.Lib.StableHlo.RunRead

@[expose] public section

set_option maxRecDepth 16384

noncomputable section

namespace Cert.Kernel4Ideal.Body

open Cert.Kernel4Ideal Cert.Kernel4Ideal.Gen Cert.InSample
open Idealize.ShloMosaic Idealize.ShloMosaic.TcCoe Idealize.ShloMosaic.Tactic Idealize.ShloMosaic.StableHlo

/-! # The arrays the host lays out for the input projection -/

/-- The last eight weight columns, filled up to 128 with zeros. -/
def padded (w : FVec Ideal S1024x3592 .f32) : FVec Ideal S1024x128 .bf16 :=
  Host.scatter scatter_S1024x128_S1_S1024x8_01_n_1_0 (fun _ b => b) (broadcastInDim S1024x128 ![] bcast_S_S1024x128 (constant S_ .bf16 0x0000#16))
    (broadcastInDim S1 ![] bcast_S_S1 (constantI S_ 32 0#32))
    (extractStridedSlice S1024x8 ![0, 3584] (truncf .bf16 w bitsLt_bf16_f32) slices_S1024x3592_S1024x8_0_3584)

/-- A gain, repeated for the eight heads' halves. -/
def tiled (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)

/-- Which columns belong to the same head's half. -/
def same : FVec Ideal S512x512 .bf16 :=
  truncf .bf16 (select (cmpi .eq (Host.divsi (iotaInDim S512x512 32 0) (broadcastInDim S512x512 ![] bcast_S_S512x512 (constantI S_ 32 64#32)))
      (Host.divsi (iotaInDim S512x512 32 1) (broadcastInDim S512x512 ![] bcast_S_S512x512 (constantI S_ 32 64#32))))
    (broadcastInDim S512x512 ![] bcast_S_S512x512 (constant (F := Ideal) S_ .f32 0x3F800000#32))
    (broadcastInDim S512x512 ![] bcast_S_S512x512 (constant (F := Ideal) S_ .f32 0x00000000#32))) bitsLt_bf16_f32

variable (m : (ℓ : Loc nD τ sig) → Buf (Elt Ideal) ℓ) (c : Dev nD)

theorem V_v4 : V m c main_v4 = padded (m ((c : Thread nD τ).loc main_arg2)) := by
  unfold padded
  simp only [V, hostOps0, hostOps0_1, hostOps0_2, List.flatten_cons, List.flatten_nil, List.append_nil, List.cons_append, List.nil_append]
  after_results_simp
theorem V_v5 : V m c main_v5 = shapeCast S128x1024 (m ((c : Thread nD τ).loc main_arg0)) shapeCasts_S32x4x1024_S128x1024 := by
  simp only [V, hostOps0, hostOps0_1, hostOps0_2, List.flatten_cons, List.flatten_nil, List.append_nil, List.cons_append, List.nil_append]
  after_results_simp
  rfl
theorem V_v6 : V m c main_v6 = broadcastInDim S1x1024 ![1] bcast_S1024_S1x1024_1 (m ((c : Thread nD τ).loc main_arg1)) := by
  simp only [V, hostOps0, hostOps0_1, hostOps0_2, List.flatten_cons, List.flatten_nil, List.append_nil, List.cons_append, List.nil_append]
  after_results_simp
theorem V_v7 : V m c main_v7 = extractStridedSlice S1024x1024 ![0, 0] (truncf (F := Ideal) .bf16 (m ((c : Thread nD τ).loc main_arg2)) bitsLt_bf16_f32) slices_S1024x3592_S1024x1024_0_0 := by
  simp only [V, hostOps0, hostOps0_1, hostOps0_2, List.flatten_cons, List.flatten_nil, List.append_nil, List.cons_append, List.nil_append]
  after_results_simp
theorem V_v8 : V m c main_v8 = extractStridedSlice S1024x512 ![0, 1024] (truncf (F := Ideal) .bf16 (m ((c : Thread nD τ).loc main_arg2)) bitsLt_bf16_f32) slices_S1024x3592_S1024x512_0_1024 := by
  simp only [V, hostOps0, hostOps0_1, hostOps0_2, List.flatten_cons, List.flatten_nil, List.append_nil, List.cons_append, List.nil_append]
  after_results_simp
theorem V_v9 : V m c main_v9 = extractStridedSlice S1024x1536 ![0, 1536] (truncf (F := Ideal) .bf16 (m ((c : Thread nD τ).loc main_arg2)) bitsLt_bf16_f32) slices_S1024x3592_S1024x1536_0_1536 := by
  simp only [V, hostOps0, hostOps0_1, hostOps0_2, List.flatten_cons, List.flatten_nil, List.append_nil, List.cons_append, List.nil_append]
  after_results_simp
theorem V_v10 : V m c main_v10 = extractStridedSlice S1024x512 ![0, 3072] (truncf (F := Ideal) .bf16 (m ((c : Thread nD τ).loc main_arg2)) bitsLt_bf16_f32) slices_S1024x3592_S1024x512_0_3072 := by
  simp only [V, hostOps0, hostOps0_1, hostOps0_2, List.flatten_cons, List.flatten_nil, List.append_nil, List.cons_append, List.nil_append]
  after_results_simp
theorem V_v14 : V m c main_v14 = tiled (m ((c : Thread nD τ).loc main_arg3)) := by
  unfold tiled
  simp only [V, hostOps0, hostOps0_1, hostOps0_2, List.flatten_cons, List.flatten_nil, List.append_nil, List.cons_append, List.nil_append]
  after_results_simp
  rfl
theorem V_v18 : V m c main_v18 = tiled (m ((c : Thread nD τ).loc main_arg4)) := by
  unfold tiled
  simp only [V, hostOps0, hostOps0_1, hostOps0_2, List.flatten_cons, List.flatten_nil, List.append_nil, List.cons_append, List.nil_append]
  after_results_simp
  rfl
theorem V_v27 : V m c main_v27 = same := by
  unfold same
  simp only [V, hostOps0, hostOps0_1, hostOps0_2, List.flatten_cons, List.flatten_nil, List.append_nil, List.cons_append, List.nil_append]
  after_results_simp
  rfl

end Cert.Kernel4Ideal.Body

end
-- ==== Proof.SampleCols.lean ====
module

public import proofs.«01_k».proof.Proof.SampleHost
public import Idealize.ShloMosaic.Lib.Routing.OpsOne
public import Idealize.ShloMosaic.Lib.Routing.OpsSet
public import Idealize.ShloMosaic.Lib.Routing.Words

@[expose] public section

set_option maxRecDepth 16384

noncomputable section

namespace Cert.Kernel4Ideal.Body

open Cert.Kernel4Ideal Cert.Kernel4Ideal.Gen Cert.InSample
open Idealize.ShloMosaic Idealize.ShloMosaic.TcCoe Idealize.ShloMosaic.Tactic Idealize.ShloMosaic.Routing

/-! # The host's arrays, entry by entry -/

/-- Where an update of the padded columns lands: in its own row and column. -/
theorem lands (k : Fin 1024) (e : Fin 8) (r : Fin 1024) (j : Fin 128) :
    scatter_S1024x128_S1_S1024x8_01_n_1_0.resultIdx? (ix2 k e) (broadcastInDim S1 ![] bcast_S_S1 (constantI S_ 32 0#32)) = some (ix2 r j)
      ↔ k.val = r.val ∧ e.val = j.val := by
  have hstart0 : scatter_S1024x128_S1_S1024x8_01_n_1_0.start (ix2 k e) (broadcastInDim S1 ![] bcast_S_S1 (constantI S_ 32 0#32)) 0 = 0 := rfl
  have hstart1 : scatter_S1024x128_S1_S1024x8_01_n_1_0.start (ix2 k e) (broadcastInDim S1 ![] bcast_S_S1 (constantI S_ 32 0#32)) 1 = 0 := rfl
  have hwin0 : scatter_S1024x128_S1_S1024x8_01_n_1_0.window (ix2 k e) 0 = k.val := rfl
  have hwin1 : scatter_S1024x128_S1_S1024x8_01_n_1_0.window (ix2 k e) 1 = e.val := rfl
  rw [resultIdx?_eq_some]
  constructor
  · intro h
    have h0 := h 0
    have h1 := h 1
    rw [hstart0, hwin0] at h0
    rw [hstart1, hwin1] at h1
    change (0 : Int) + (k.val : Int) = (r.val : Int) at h0
    change (0 : Int) + (e.val : Int) = (j.val : Int) at h1
    omega
  · rintro ⟨h0, h1⟩ a
    match a with
    | ⟨0, _⟩ =>
      show (0 : Int) + (k.val : Int) = (r.val : Int)
      omega
    | ⟨1, _⟩ =>
      show (0 : Int) + (e.val : Int) = (j.val : Int)
      omega

theorem padded_at (w : FVec Ideal S1024x3592 .f32) (k : Fin 1024) (j : Fin 128) :
    (padded w (ix2 k j) : EReal) = if h : j.val < 8 then w (ix2 k ⟨3584 + j.val, by omega⟩) else (0 : EReal) := by
  unfold padded
  have hl := fun k' e => lands k' e k j
  have split : ∀ u : S1024x8.Idx, ∃ (k' : Fin 1024) (e : Fin 8), u = ix2 k' e := fun u =>
    ⟨u 0, u 1, by funext a; match a with | ⟨0, _⟩ => rfl | ⟨1, _⟩ => rfl⟩
  by_cases h : j.val < 8
  · rw [dif_pos h]
    refine scatter_set_hit _ _ _ _ _ _ (fun u hu => ?_) (ix2 k ⟨j.val, h⟩) ((hl k ⟨j.val, h⟩).2 ⟨rfl, rfl⟩)
    obtain ⟨k', e, rfl⟩ := split u
    obtain ⟨h1, h2⟩ := (hl k' e).1 hu
    obtain rfl : k' = k := Fin.ext h1
    obtain rfl : e = ⟨j.val, h⟩ := Fin.ext h2
    pointwise
  · rw [dif_neg h]
    refine (scatter_set_miss _ _ _ _ _ (fun u hu => ?_)).trans ?_
    · obtain ⟨k', e, rfl⟩ := split u
      have := ((hl k' e).1 hu).2
      omega
    · exact (by simp [Ideal.ofBits, Ideal.ieee] : Ideal.ofBits .bf16 0x0000#16 = 0)

theorem tiled_at (g : FVec Ideal S64 .f32) (j : Fin 512) : tiled g (ix2 0 j) = g (ix1 ⟨j.val % 64, Nat.mod_lt _ (by omega)⟩) := by
  pointwise [tiled]

theorem word_eq (i j : Fin 512) :
    IntOp.cmpi .eq (IntOp.divsi .host (BitVec.ofNat 32 i.val) 64#32) (IntOp.divsi .host (BitVec.ofNat 32 j.val) 64#32) = 1#1
      ↔ i.val / 64 = j.val / 64 := by
  rw [divsi_word .host (a := i.val) (b := 64) (by omega) (by omega) (by omega), divsi_word .host (a := j.val) (b := 64) (by omega) (by omega) (by omega)]
  have h : (BitVec.ofNat 32 (i.val / 64) = BitVec.ofNat 32 (j.val / 64)) ↔ i.val / 64 = j.val / 64 := by
    rw [← BitVec.toNat_inj, BitVec.toNat_ofNat, BitVec.toNat_ofNat]
    omega
  rw [← h]
  have aux : ∀ a b : BitVec 32, IntOp.cmpi .eq a b = 1#1 ↔ a = b := fun a b => by
    show BitVec.ofBool (a == b) = 1#1 ↔ a = b
    rw [← beq_iff_eq (a := a)]
    cases (a == b) <;> decide
  exact aux _ _

theorem same_at (i j : Fin 512) : (same (ix2 i j) : EReal) = if i.val / 64 = j.val / 64 then (1 : EReal) else 0 := by
  refine Eq.trans (b := if IntOp.cmpi .eq (IntOp.divsi .host (BitVec.ofNat 32 i.val) 64#32) (IntOp.divsi .host (BitVec.ofNat 32 j.val) 64#32) = 1#1 then (1 : EReal) else 0) ?_ ?_
  · pointwise [same]
    rfl
  · simp only [word_eq]

end Cert.Kernel4Ideal.Body

end
-- ==== Proof.SampleArrays.lean ====
module

public import proofs.«01_k».proof.Proof.SampleCols

@[expose] public section

set_option maxRecDepth 16384

noncomputable section

namespace Cert.Kernel4Ideal.Body

open Cert.Kernel4Ideal Cert.Kernel4Ideal.Gen Cert.InSample
open Cert.OutProj (normed)
open Idealize.ShloMosaic Idealize.ShloMosaic.TcCoe Idealize.ShloMosaic.Tactic

/-! # The input projection's blocks in the arguments -/

variable (m : (ℓ : Loc nD τ sig) → Buf (Elt Ideal) ℓ) (c : Dev nD)

theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0]) t

theorem idx_out (t : Fin cfg0.N) : win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0]) t

/-- The arguments as launched. -/
def args : Args where
  x := m ((c : Thread nD τ).loc main_arg0)
  g := m ((c : Thread nD τ).loc main_arg1)
  w := m ((c : Thread nD τ).loc main_arg2)
  gq := m ((c : Thread nD τ).loc main_arg3)
  gk := m ((c : Thread nD τ).loc main_arg4)

/-- Row `i` of block `t` is this token. -/
def tok (t : Fin cfg0.N) (i : Fin 128) : Fin 128 := ⟨128 * t.val + i.val, by have : t.val < 1 := t.isLt; omega⟩

/-- A token's row, the tokens counted through. -/
theorem rows_at (X : FVec Ideal S32x4x1024 .f32) (x : Fin 128) (e : Fin 1024) :
    shapeCast S128x1024 X shapeCasts_S32x4x1024_S128x1024 (ix2 x e) = rowOf X x e := by
  unfold rowOf
  pointwise

theorem x_at (t : Fin cfg0.N) (i : Fin 128) (e : Fin 1024) :
    (iblk m c 0 t : FVec Ideal S128x1024 .f32) (ix2 i e) = rowOf (args m c).x (tok t i) e := by
  have he : ((win0_0.blk t).view.emb (ix2 i e)) = (ix2 (tok t i) e : S128x1024.Idx) := by
    unfold tok
    blk_ext [idx t]
  show V m c main_v5 ((win0_0.blk t).view.emb (ix2 i e)) = _
  rw [he, V_v5]
  exact rows_at _ _ _
theorem g_at (t : Fin cfg0.N) (e : Fin 1024) :
    (iblk m c 1 t : FVec Ideal S1x1024 .f32) (ix2 0 e) = (args m c).g (ix1 e) := by
  have he : ((win0_1.blk t).view.emb (ix2 0 e)) = (ix2 0 e : S1x1024.Idx) := by
    blk_ext [idx t]
  show V m c main_v6 ((win0_1.blk t).view.emb (ix2 0 e)) = _
  rw [he, V_v6]
  unfold args
  pointwise
theorem wqk_at (t : Fin cfg0.N) (k : Fin 1024) (j : Fin 1024) :
    (iblk m c 2 t : FVec Ideal S1024x1024 .bf16) (ix2 k j) = (args m c).w (ix2 k ⟨j.val, by omega⟩) := by
  have he : ((win0_2.blk t).view.emb (ix2 k j)) = (ix2 k j : S1024x1024.Idx) := by
    blk_ext [idx t]
  show V m c main_v7 ((win0_2.blk t).view.emb (ix2 k j)) = _
  rw [he, V_v7]
  unfold args
  pointwise
theorem wv_at (t : Fin cfg0.N) (k : Fin 1024) (j : Fin 512) :
    (iblk m c 3 t : FVec Ideal S1024x512 .bf16) (ix2 k j) = (args m c).w (ix2 k ⟨1024 + j.val, by omega⟩) := by
  have he : ((win0_3.blk t).view.emb (ix2 k j)) = (ix2 k j : S1024x512.Idx) := by
    blk_ext [idx t]
  show V m c main_v8 ((win0_3.blk t).view.emb (ix2 k j)) = _
  rw [he, V_v8]
  unfold args
  pointwise
theorem wg_at (t : Fin cfg0.N) (k : Fin 1024) (j : Fin 1536) :
    (iblk m c 4 t : FVec Ideal S1024x1536 .bf16) (ix2 k j) = (args m c).w (ix2 k ⟨1536 + j.val, by omega⟩) := by
  have he : ((win0_4.blk t).view.emb (ix2 k j)) = (ix2 k j : S1024x1536.Idx) := by
    blk_ext [idx t]
  show V m c main_v9 ((win0_4.blk t).view.emb (ix2 k j)) = _
  rw [he, V_v9]
  unfold args
  pointwise
theorem wz_at (t : Fin cfg0.N) (k : Fin 1024) (j : Fin 512) :
    (iblk m c 5 t : FVec Ideal S1024x512 .bf16) (ix2 k j) = (args m c).w (ix2 k ⟨3072 + j.val, by omega⟩) := by
  have he : ((win0_5.blk t).view.emb (ix2 k j)) = (ix2 k j : S1024x512.Idx) := by
    blk_ext [idx t]
  show V m c main_v10 ((win0_5.blk t).view.emb (ix2 k j)) = _
  rw [he, V_v10]
  unfold args
  pointwise
theorem wba_at (t : Fin cfg0.N) (k : Fin 1024) (j : Fin 128) :
    (iblk m c 6 t : FVec Ideal S1024x128 .bf16) (ix2 k j) = (if h : j.val < 8 then (args m c).w (ix2 k ⟨3584 + j.val, by omega⟩) else 0 : EReal) := by
  have he : ((win0_6.blk t).view.emb (ix2 k j)) = (ix2 k j : S1024x128.Idx) := by
    blk_ext [idx t]
  show V m c main_v4 ((win0_6.blk t).view.emb (ix2 k j)) = _
  rw [he, V_v4]
  exact padded_at _ k j
theorem gq_at (t : Fin cfg0.N) (j : Fin 512) :
    (iblk m c 7 t : FVec Ideal S1x512 .f32) (ix2 0 j) = (args m c).gq (ix1 ⟨j.val % 64, Nat.mod_lt _ (by omega)⟩) := by
  have he : ((win0_7.blk t).view.emb (ix2 0 j)) = (ix2 0 j : S1x512.Idx) := by
    blk_ext [idx t]
  show V m c main_v14 ((win0_7.blk t).view.emb (ix2 0 j)) = _
  rw [he, V_v14]
  exact tiled_at _ j
theorem gk_at (t : Fin cfg0.N) (j : Fin 512) :
    (iblk m c 8 t : FVec Ideal S1x512 .f32) (ix2 0 j) = (args m c).gk (ix1 ⟨j.val % 64, Nat.mod_lt _ (by omega)⟩) := by
  have he : ((win0_8.blk t).view.emb (ix2 0 j)) = (ix2 0 j : S1x512.Idx) := by
    blk_ext [idx t]
  show V m c main_v18 ((win0_8.blk t).view.emb (ix2 0 j)) = _
  rw [he, V_v18]
  exact tiled_at _ j
theorem G_at (t : Fin cfg0.N) (i j : Fin 512) :
    (iblk m c 9 t : FVec Ideal S512x512 .bf16) (ix2 i j) = (if i.val / 64 = j.val / 64 then 1 else 0 : EReal) := by
  have he : ((win0_9.blk t).view.emb (ix2 i j)) = (ix2 i j : S512x512.Idx) := by
    blk_ext [idx t]
  show V m c main_v27 ((win0_9.blk t).view.emb (ix2 i j)) = _
  rw [he, V_v27]
  exact same_at i j

end Cert.Kernel4Ideal.Body

end
-- ==== Proof.SampleResult.lean ====
module

public import proofs.«01_k».proof.Proof.SampleArrays

@[expose] public section

set_option maxRecDepth 16384

noncomputable section

namespace Cert.Kernel4Ideal.Body

open Cert.Kernel4Ideal Cert.Kernel4Ideal.Gen Cert.InSample
open Cert.OutProj (normed)
open Cert.InProj (group_eq)
open Idealize.ShloMosaic Idealize.ShloMosaic.TcCoe Idealize.ShloMosaic.Tactic
open Idealize.ShloMosaic.Pipeline (Dat Cfg Window)

/-! # The input projection's six results, whole -/

variable (m : (ℓ : Loc nD τ sig) → Buf (Elt Ideal) ℓ) (c : Dev nD)

/-- A block of the normed rows, -/
theorem norm_at (t : Fin cfg0.N) (i : Fin 128) (e : Fin 1024) :
    (k0_pay3 (F := Ideal) (iblk m c 0 t) (iblk m c 1 t) (ix2 i e) : EReal) = (args m c).norm (tok t i) e := by
  refine (pay3_at _ _ i e).trans ?_
  simp only [x_at, g_at]
  rfl
/-- as the later products read it, -/
theorem norm_at' (t : Fin cfg0.N) (i : Fin 128) (e : Fin 1024) :
    (k0_pay12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 i e) : EReal)
      = (args m c).norm (tok t i) e := by
  unfold k0_pay12
  simp (disch := decide) only [View.ld_unit_lit']
  exact norm_at m c t i e
/-- and of the queries' and keys' products. -/
theorem proj_at (t : Fin cfg0.N) (i : Fin 128) (j : Fin 1024) :
    (k0_pay4 (F := Ideal) (iblk m c 0 t) (iblk m c 1 t) (iblk m c 2 t) (ix2 i j) : EReal) = (args m c).proj (tok t i) ⟨j.val, by omega⟩ := by
  refine (pay4_at _ _ _ i j).trans ?_
  simp only [norm_at, wqk_at]
  rfl

theorem emb10 (t : Fin cfg0.N) (i : Fin 128) (e : Fin 512) :
    ((View.whole main_v28_0).slice (win0_10.rect t)).emb (ix2 i e) = (ix2 (tok t i) e : S128x512.Idx) := by
  unfold tok
  blk_ext [idx_out t]
theorem arr10 (hp : ∀ x j, ∃ r : ℝ, (args m c).proj x j = r) : (dats m 0 c).arrAt 10 cfg0.N = (args m c).resQ := by
  refine (dats m 0 c).arrAt_eq_of_covers 10 _ (by decide +kernel) fun t hf y => ?_
  blk_simp [idx_out t]
  rw [after0_10]
  have key : ∀ y : S128x512.Idx, (out0_10 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = (args m c).resQ (((View.whole main_v28_0).slice (win0_10.rect t)).emb y) := by
    intro y
    obtain ⟨i, e, rfl⟩ : ∃ (i : Fin 128) (e : Fin 512), y = ix2 i e := ⟨y 0, y 1, by funext k; match k with | ⟨0, _⟩ => rfl | ⟨1, _⟩ => rfl⟩
    rw [emb10]
    unfold out0_10
    frame_out
    refine (pay7_at _ i e).trans (congrArg (· * Ideal.ofBits .f32 0x3E000000#32) ?_)
    refine (pay6_at _ _ _ _ _ i e).trans ?_
    simp only [proj_at, G_at, gq_at]
    exact group_eq (fun j => (args m c).proj (tok t i) ⟨j.val, by omega⟩) (fun k => hp _ _) (fun d => (args m c).gq (ix1 d)) e
  exact key y

theorem emb11 (t : Fin cfg0.N) (i : Fin 128) (e : Fin 512) :
    ((View.whole main_v28_1).slice (win0_11.rect t)).emb (ix2 i e) = (ix2 (tok t i) e : S128x512.Idx) := by
  unfold tok
  blk_ext [idx_out t]
theorem arr11 (hp : ∀ x j, ∃ r : ℝ, (args m c).proj x j = r) : (dats m 0 c).arrAt 11 cfg0.N = (args m c).resK := by
  refine (dats m 0 c).arrAt_eq_of_covers 11 _ (by decide +kernel) fun t hf y => ?_
  blk_simp [idx_out t]
  rw [after0_11]
  have key : ∀ y : S128x512.Idx, (out0_11 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = (args m c).resK (((View.whole main_v28_1).slice (win0_11.rect t)).emb y) := by
    intro y
    obtain ⟨i, e, rfl⟩ : ∃ (i : Fin 128) (e : Fin 512), y = ix2 i e := ⟨y 0, y 1, by funext k; match k with | ⟨0, _⟩ => rfl | ⟨1, _⟩ => rfl⟩
    rw [emb11]
    unfold out0_11
    frame_out
    refine (pay8_at _ _ _ i e).trans ?_
    simp only [proj_at, G_at, gk_at]
    exact group_eq (fun j => (args m c).proj (tok t i) ⟨512 + j.val, by omega⟩) (fun k => hp _ _) (fun d => (args m c).gk (ix1 d)) e
  exact key y

theorem emb12 (t : Fin cfg0.N) (i : Fin 128) (e : Fin 512) :
    ((View.whole main_v28_2).slice (win0_12.rect t)).emb (ix2 i e) = (ix2 (tok t i) e : S128x512.Idx) := by
  unfold tok
  blk_ext [idx_out t]
theorem arr12 : (dats m 0 c).arrAt 12 cfg0.N = ((args m c).cols 1024 512 (by omega)) := by
  refine (dats m 0 c).arrAt_eq_of_covers 12 _ (by decide +kernel) fun t hf y => ?_
  blk_simp [idx_out t]
  rw [after0_12]
  have key : ∀ y : S128x512.Idx, (out0_12 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = ((args m c).cols 1024 512 (by omega)) (((View.whole main_v28_2).slice (win0_12.rect t)).emb y) := by
    intro y
    obtain ⟨i, e, rfl⟩ : ∃ (i : Fin 128) (e : Fin 512), y = ix2 i e := ⟨y 0, y 1, by funext k; match k with | ⟨0, _⟩ => rfl | ⟨1, _⟩ => rfl⟩
    rw [emb12]
    unfold out0_12
    frame_out
    refine (pay9_at _ _ i e).trans ?_
    simp only [norm_at', wv_at]
    rfl
  exact key y

theorem emb13 (t : Fin cfg0.N) (i : Fin 128) (e : Fin 1536) :
    ((View.whole main_v28_3).slice (win0_13.rect t)).emb (ix2 i e) = (ix2 (tok t i) e : S128x1536.Idx) := by
  unfold tok
  blk_ext [idx_out t]
theorem arr13 : (dats m 0 c).arrAt 13 cfg0.N = ((args m c).cols 1536 1536 (by omega)) := by
  refine (dats m 0 c).arrAt_eq_of_covers 13 _ (by decide +kernel) fun t hf y => ?_
  blk_simp [idx_out t]
  rw [after0_13]
  have key : ∀ y : S128x1536.Idx, (out0_13 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = ((args m c).cols 1536 1536 (by omega)) (((View.whole main_v28_3).slice (win0_13.rect t)).emb y) := by
    intro y
    obtain ⟨i, e, rfl⟩ : ∃ (i : Fin 128) (e : Fin 1536), y = ix2 i e := ⟨y 0, y 1, by funext k; match k with | ⟨0, _⟩ => rfl | ⟨1, _⟩ => rfl⟩
    rw [emb13]
    unfold out0_13
    frame_out
    refine (pay10_at _ _ i e).trans ?_
    simp only [norm_at', wg_at]
    rfl
  exact key y

theorem emb14 (t : Fin cfg0.N) (i : Fin 128) (e : Fin 512) :
    ((View.whole main_v28_4).slice (win0_14.rect t)).emb (ix2 i e) = (ix2 (tok t i) e : S128x512.Idx) := by
  unfold tok
  blk_ext [idx_out t]
theorem arr14 : (dats m 0 c).arrAt 14 cfg0.N = ((args m c).cols 3072 512 (by omega)) := by
  refine (dats m 0 c).arrAt_eq_of_covers 14 _ (by decide +kernel) fun t hf y => ?_
  blk_simp [idx_out t]
  rw [after0_14]
  have key : ∀ y : S128x512.Idx, (out0_14 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = ((args m c).cols 3072 512 (by omega)) (((View.whole main_v28_4).slice (win0_14.rect t)).emb y) := by
    intro y
    obtain ⟨i, e, rfl⟩ : ∃ (i : Fin 128) (e : Fin 512), y = ix2 i e := ⟨y 0, y 1, by funext k; match k with | ⟨0, _⟩ => rfl | ⟨1, _⟩ => rfl⟩
    rw [emb14]
    unfold out0_14
    frame_out
    refine (pay1_at _ _ i e).trans ?_
    simp only [norm_at', wz_at]
    rfl
  exact key y

theorem emb15 (t : Fin cfg0.N) (i : Fin 128) (e : Fin 128) :
    ((View.whole main_v28_5).slice (win0_15.rect t)).emb (ix2 i e) = (ix2 (tok t i) e : S128x128.Idx) := by
  unfold tok
  blk_ext [idx_out t]
theorem arr15 : (dats m 0 c).arrAt 15 cfg0.N = (args m c).resBa := by
  refine (dats m 0 c).arrAt_eq_of_covers 15 _ (by decide +kernel) fun t hf y => ?_
  blk_simp [idx_out t]
  rw [after0_15]
  have key : ∀ y : S128x128.Idx, (out0_15 (F := Ideal) (iblk m c 0 t) (iblk m c 1 t) (iblk m c 2 t) (iblk m c 3 t) (iblk m c 4 t) (iblk m c 5 t) (iblk m c 6 t) (iblk m c 7 t) (iblk m c 8 t) (iblk m c 9 t) y : EReal)
      = (args m c).resBa (((View.whole main_v28_5).slice (win0_15.rect t)).emb y) := by
    intro y
    obtain ⟨i, e, rfl⟩ : ∃ (i : Fin 128) (e : Fin 128), y = ix2 i e := ⟨y 0, y 1, by funext k; match k with | ⟨0, _⟩ => rfl | ⟨1, _⟩ => rfl⟩
    rw [emb15]
    unfold out0_15
    frame_out
    refine (pay2_at _ _ i e).trans ?_
    simp only [norm_at', wba_at]
    show _ = if h : e.val < 8 then (args m c).proj (tok t i) ⟨3584 + e.val, by omega⟩ else (0 : EReal)
    by_cases h : e.val < 8
    · simp only [dif_pos h]
      rfl
    · simp only [dif_neg h, mul_zero, Finset.sum_const_zero]
  exact key y

end Cert.Kernel4Ideal.Body

end
-- ==== Proof.SampleRef.lean ====
module

public import proofs.«01_k».proof.Proof.Gen.Reference4Ideal.Run
public import proofs.«01_k».proof.Proof.SampleTarget

@[expose] public section

set_option maxRecDepth 16384

noncomputable section

namespace Cert.Reference4Ideal.Body

open Cert.Reference4Ideal Cert.Reference4Ideal.Gen Cert.InSample
open Cert.OutProj (normed)
open Cert.InProj (headNorm)
open Idealize.ShloMosaic Idealize.ShloMosaic.TcCoe Idealize.ShloMosaic.Tactic

/-! # The reference's results for the input projection -/

/-- The normed rows. -/
def nOf (x : FVec Ideal S32x4x1024 .f32) (g : FVec Ideal S1024 .f32) : FVec Ideal S32x4x1024 .f32 :=
  mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))

/-- The products with all the weights. -/
def pOf (n : FVec Ideal S32x4x1024 .f32) (w : FVec Ideal S1024x3592 .f32) : FVec Ideal S32x4x3592 .f32 :=
  Host.dotGeneral dot_S32x4x1024_S1024x3592_S32x4x3592_2_0_01_1_n_n none n w

theorem n_at (x : FVec Ideal S32x4x1024 .f32) (g : FVec Ideal S1024 .f32) (i : Fin 32) (r : Fin 4) (c : Fin 1024) :
    nOf x g (ix3 i r c) = normed (fun c => x (ix3 i r c)) (fun c => g (ix1 c)) c := by
  unfold normed
  pointwise [nOf]

theorem p_at (n : FVec Ideal S32x4x1024 .f32) (w : FVec Ideal S1024x3592 .f32) (i : Fin 32) (r : Fin 4) (j : Fin 3592) :
    pOf n w (ix3 i r j) = ∑ c : Fin 1024, n (ix3 i r c) * w (ix2 c j) := by
  pointwise [pOf]

/-- A head's halves over their root mean squares, with the gain. -/
def hOf (t : FVec Ideal S32x4x4x2x64 .f32) (g : FVec Ideal S64 .f32) : FVec Ideal S32x4x4x2x64 .f32 :=
  mulf (mulf t (broadcastInDim S32x4x4x2x64 ![0, 1, 2, 3, 4] bcast_S32x4x4x2x1_S32x4x4x2x64_0_1_2_3_4 (Host.rsqrt (addf (Host.divf (broadcastInDim S32x4x4x2x1 ![0, 1, 2, 3] bcast_S32x4x4x2_S32x4x4x2x1_0_1_2_3 (Host.reduceAdd (mulf t t) (constant S_ .f32 0x00000000#32) reducesTo_S32x4x4x2x64_S32x4x4x2_d4 h_S_)) (broadcastInDim S32x4x4x2x1 ![] bcast_S_S32x4x4x2x1 (constant S_ .f32 0x42800000#32))) (broadcastInDim S32x4x4x2x1 ![] bcast_S_S32x4x4x2x1 (constant S_ .f32 0x358637BD#32)))))) (broadcastInDim S32x4x4x2x64 ![0, 1, 2, 3, 4] bcast_S1x1x1x1x64_S32x4x4x2x64_0_1_2_3_4 (broadcastInDim S1x1x1x1x64 ![4] bcast_S64_S1x1x1x1x64_4 g))

/-- The queries' columns by head and half, -/
def tq (p : FVec Ideal S32x4x3592 .f32) : FVec Ideal S32x4x4x2x64 .f32 :=
  shapeCast _ (extractStridedSlice S32x4x512 ![0, 0, 0] p slices_S32x4x3592_S32x4x512_0_0_0) shapeCasts_S32x4x512_S32x4x4x2x64
/-- the keys', -/
def tk (p : FVec Ideal S32x4x3592 .f32) : FVec Ideal S32x4x4x2x64 .f32 :=
  shapeCast _ (extractStridedSlice S32x4x512 ![0, 0, 512] p slices_S32x4x3592_S32x4x512_0_0_512) shapeCasts_S32x4x512_S32x4x4x2x64
/-- and the last eight, filled up with zeros. -/
def baOf (p : FVec Ideal S32x4x3592 .f32) : FVec Ideal S32x4x128 .f32 :=
  concatenate S32x4x128 2 [⟨S32x4x4, extractStridedSlice S32x4x4 ![0, 0, 3584] p slices_S32x4x3592_S32x4x4_0_0_3584⟩, ⟨S32x4x4, extractStridedSlice S32x4x4 ![0, 0, 3588] p slices_S32x4x3592_S32x4x4_0_0_3588⟩, ⟨S32x4x120, broadcastInDim S32x4x120 ![] bcast_S_S32x4x120 (constant S_ .f32 0x00000000#32)⟩] concatenates_S32x4x4_S32x4x4_S32x4x120_S32x4x128_d2

theorem h_at (t : FVec Ideal S32x4x4x2x64 .f32) (g : FVec Ideal S64 .f32) (i : Fin 32) (r : Fin 4) (h : Fin 4) (s : Fin 2) (d : Fin 64) :
    hOf t g (ix5 i r h s d) = t (ix5 i r h s d) * Ideal.rsqrt (Ideal.div (∑ d : Fin 64, t (ix5 i r h s d) * t (ix5 i r h s d)) (Ideal.ofBits .f32 0x42800000#32)
      + Ideal.ofBits .f32 0x358637BD#32) * g (ix1 d) := by
  pointwise [hOf]

theorem tq_at (p : FVec Ideal S32x4x3592 .f32) (i : Fin 32) (r : Fin 4) (h : Fin 4) (s : Fin 2) (d : Fin 64) :
    tq p (ix5 i r h s d) = p (ix3 i r ⟨h.val * 128 + s.val * 64 + d.val, by omega⟩) := by
  pointwise [tq]
theorem tk_at (p : FVec Ideal S32x4x3592 .f32) (i : Fin 32) (r : Fin 4) (h : Fin 4) (s : Fin 2) (d : Fin 64) :
    tk p (ix5 i r h s d) = p (ix3 i r ⟨512 + (h.val * 128 + s.val * 64 + d.val), by omega⟩) := by
  pointwise [tk]

/-- The halves side by side again. -/
theorem flat_at (y : FVec Ideal S32x4x4x2x64 .f32) (x : Fin 128) (j : Fin 512) :
    shapeCast S128x512 y shapeCasts_S32x4x4x2x64_S128x512 (ix2 x j)
      = y (ix5 ⟨x.val / 4, by omega⟩ ⟨x.val % 4, Nat.mod_lt _ (by omega)⟩ ⟨j.val / 128, by omega⟩ ⟨j.val / 64 % 2, Nat.mod_lt _ (by omega)⟩ ⟨j.val % 64, Nat.mod_lt _ (by omega)⟩) := by
  pointwise
theorem scaled_at (y : FVec Ideal S32x4x4x2x64 .f32) (x : Fin 128) (j : Fin 512) :
    shapeCast S128x512 (mulf y (broadcastInDim S32x4x4x2x64 ![] bcast_S_S32x4x4x2x64 (constant S_ .f32 0x3E000000#32))) shapeCasts_S32x4x4x2x64_S128x512 (ix2 x j)
      = y (ix5 ⟨x.val / 4, by omega⟩ ⟨x.val % 4, Nat.mod_lt _ (by omega)⟩ ⟨j.val / 128, by omega⟩ ⟨j.val / 64 % 2, Nat.mod_lt _ (by omega)⟩ ⟨j.val % 64, Nat.mod_lt _ (by omega)⟩)
        * Ideal.ofBits .f32 0x3E000000#32 := by
  pointwise

/-- A column of the products, where the same token is read at an equal column. -/
theorem col (p : FVec Ideal S32x4x3592 .f32) (x : Fin 128) (a b : Fin 3592) (h : a.val = b.val) :
    p (ix3 ⟨x.val / 4, by omega⟩ ⟨x.val % 4, Nat.mod_lt _ (by omega)⟩ a) = rowOf p x b := by
  obtain rfl : a = b := Fin.ext h
  rfl

/-- The head's norm of the queries, -/
theorem hq_at (p : FVec Ideal S32x4x3592 .f32) (g : FVec Ideal S64 .f32) (x : Fin 128) (j : Fin 512) :
    hOf (tq p) g (ix5 ⟨x.val / 4, by omega⟩ ⟨x.val % 4, Nat.mod_lt _ (by omega)⟩ ⟨j.val / 128, by omega⟩ ⟨j.val / 64 % 2, Nat.mod_lt _ (by omega)⟩ ⟨j.val % 64, Nat.mod_lt _ (by omega)⟩)
      = headNorm (fun j => rowOf p x ⟨j.val, by omega⟩) (fun d => g (ix1 d)) j := by
  have e : ∀ d : Fin 64, p (ix3 ⟨x.val / 4, by omega⟩ ⟨x.val % 4, Nat.mod_lt _ (by omega)⟩ ⟨j.val / 128 * 128 + j.val / 64 % 2 * 64 + d.val, by omega⟩)
      = rowOf p x ⟨j.val / 64 * 64 + d.val, by omega⟩ := fun d => col p x _ _ (by show j.val / 128 * 128 + j.val / 64 % 2 * 64 + d.val = j.val / 64 * 64 + d.val; omega)
  have e' : p (ix3 ⟨x.val / 4, by omega⟩ ⟨x.val % 4, Nat.mod_lt _ (by omega)⟩ ⟨j.val / 128 * 128 + j.val / 64 % 2 * 64 + j.val % 64, by omega⟩)
      = rowOf p x ⟨j.val, by omega⟩ := col p x _ _ (by show j.val / 128 * 128 + j.val / 64 % 2 * 64 + j.val % 64 = j.val; omega)
  rw [h_at]
  simp only [tq_at, e]
  rw [e']
  rfl
/-- and of the keys. -/
theorem hk_at (p : FVec Ideal S32x4x3592 .f32) (g : FVec Ideal S64 .f32) (x : Fin 128) (j : Fin 512) :
    hOf (tk p) g (ix5 ⟨x.val / 4, by omega⟩ ⟨x.val % 4, Nat.mod_lt _ (by omega)⟩ ⟨j.val / 128, by omega⟩ ⟨j.val / 64 % 2, Nat.mod_lt _ (by omega)⟩ ⟨j.val % 64, Nat.mod_lt _ (by omega)⟩)
      = headNorm (fun j => rowOf p x ⟨512 + j.val, by omega⟩) (fun d => g (ix1 d)) j := by
  have e : ∀ d : Fin 64, p (ix3 ⟨x.val / 4, by omega⟩ ⟨x.val % 4, Nat.mod_lt _ (by omega)⟩ ⟨512 + (j.val / 128 * 128 + j.val / 64 % 2 * 64 + d.val), by omega⟩)
      = rowOf p x ⟨512 + (j.val / 64 * 64 + d.val), by omega⟩ := fun d => col p x _ _ (by show 512 + (j.val / 128 * 128 + j.val / 64 % 2 * 64 + d.val) = 512 + (j.val / 64 * 64 + d.val); omega)
  have e' : p (ix3 ⟨x.val / 4, by omega⟩ ⟨x.val % 4, Nat.mod_lt _ (by omega)⟩ ⟨512 + (j.val / 128 * 128 + j.val / 64 % 2 * 64 + j.val % 64), by omega⟩)
      = rowOf p x ⟨512 + j.val, by omega⟩ := col p x _ _ (by show 512 + (j.val / 128 * 128 + j.val / 64 % 2 * 64 + j.val % 64) = 512 + j.val; omega)
  rw [h_at]
  simp only [tk_at, e]
  rw [e']
  rfl

theorem lo_at (p : FVec Ideal S32x4x3592 .f32) (i : Fin 32) (r : Fin 4) (j : Fin 4) :
    baOf p (ix3 i r ⟨j.val, by omega⟩) = p (ix3 i r ⟨3584 + j.val, by omega⟩) := by
  pointwise [baOf]
theorem hi_at (p : FVec Ideal S32x4x3592 .f32) (i : Fin 32) (r : Fin 4) (j : Fin 4) :
    baOf p (ix3 i r ⟨4 + j.val, by omega⟩) = p (ix3 i r ⟨3588 + j.val, by omega⟩) := by
  pointwise [baOf]
theorem pad_at (p : FVec Ideal S32x4x3592 .f32) (i : Fin 32) (r : Fin 4) (j : Fin 120) :
    baOf p (ix3 i r ⟨8 + j.val, by omega⟩) = (0 : EReal) := by
  pointwise [baOf]
  rw [dif_neg (by omega), dif_neg (by omega)]

/-! ## The six results -/

variable (A : Args)

/-- The products on the arguments. -/
def pA : FVec Ideal S32x4x3592 .f32 := pOf (nOf A.x A.g) A.w

theorem pA_at (x : Fin 128) (j : Fin 3592) : rowOf (pA A) x j = A.proj x j := by
  unfold rowOf pA
  rw [p_at]
  refine Finset.sum_congr rfl fun c _ => congrArg (· * _) ?_
  exact n_at _ _ _ _ c

theorem resQ_eq : (shapeCast S128x512 (mulf (hOf (tq (pA A)) A.gq) (broadcastInDim S32x4x4x2x64 ![] bcast_S_S32x4x4x2x64 (constant S_ .f32 0x3E000000#32))) shapeCasts_S32x4x4x2x64_S128x512
    : FVec Ideal S128x512 .f32) = A.resQ := by
  funext y
  obtain ⟨x, j, rfl⟩ : ∃ (x : Fin 128) (j : Fin 512), y = ix2 x j := ⟨y 0, y 1, by funext k; match k with | ⟨0, _⟩ => rfl | ⟨1, _⟩ => rfl⟩
  rw [scaled_at, hq_at]
  simp only [pA_at]
  rfl
theorem resK_eq : (shapeCast S128x512 (hOf (tk (pA A)) A.gk) shapeCasts_S32x4x4x2x64_S128x512 : FVec Ideal S128x512 .f32) = A.resK := by
  funext y
  obtain ⟨x, j, rfl⟩ : ∃ (x : Fin 128) (j : Fin 512), y = ix2 x j := ⟨y 0, y 1, by funext k; match k with | ⟨0, _⟩ => rfl | ⟨1, _⟩ => rfl⟩
  rw [flat_at, hk_at]
  simp only [pA_at]
  rfl
theorem resV_eq : (shapeCast S128x512 (extractStridedSlice S32x4x512 ![0, 0, 1024] (pA A) slices_S32x4x3592_S32x4x512_0_0_1024) shapeCasts_S32x4x512_S128x512
    : FVec Ideal S128x512 .f32) = A.cols 1024 512 (by omega) := by
  funext y
  obtain ⟨x, j, rfl⟩ : ∃ (x : Fin 128) (j : Fin 512), y = ix2 x j := ⟨y 0, y 1, by funext k; match k with | ⟨0, _⟩ => rfl | ⟨1, _⟩ => rfl⟩
  have h := pA_at A
  generalize pA A = p at h ⊢
  refine Eq.trans (b := p (ix3 ⟨x.val / 4, by omega⟩ ⟨x.val % 4, Nat.mod_lt _ (by omega)⟩ ⟨1024 + j.val, by omega⟩)) (by pointwise) ?_
  exact h x _
theorem resG_eq : (shapeCast S128x1536 (extractStridedSlice S32x4x1536 ![0, 0, 1536] (pA A) slices_S32x4x3592_S32x4x1536_0_0_1536) shapeCasts_S32x4x1536_S128x1536
    : FVec Ideal S128x1536 .f32) = A.cols 1536 1536 (by omega) := by
  funext y
  obtain ⟨x, j, rfl⟩ : ∃ (x : Fin 128) (j : Fin 1536), y = ix2 x j := ⟨y 0, y 1, by funext k; match k with | ⟨0, _⟩ => rfl | ⟨1, _⟩ => rfl⟩
  have h := pA_at A
  generalize pA A = p at h ⊢
  refine Eq.trans (b := p (ix3 ⟨x.val / 4, by omega⟩ ⟨x.val % 4, Nat.mod_lt _ (by omega)⟩ ⟨1536 + j.val, by omega⟩)) (by pointwise) ?_
  exact h x _
theorem resZ_eq : (shapeCast S128x512 (extractStridedSlice S32x4x512 ![0, 0, 3072] (pA A) slices_S32x4x3592_S32x4x512_0_0_3072) shapeCasts_S32x4x512_S128x512
    : FVec Ideal S128x512 .f32) = A.cols 3072 512 (by omega) := by
  funext y
  obtain ⟨x, j, rfl⟩ : ∃ (x : Fin 128) (j : Fin 512), y = ix2 x j := ⟨y 0, y 1, by funext k; match k with | ⟨0, _⟩ => rfl | ⟨1, _⟩ => rfl⟩
  have h := pA_at A
  generalize pA A = p at h ⊢
  refine Eq.trans (b := p (ix3 ⟨x.val / 4, by omega⟩ ⟨x.val % 4, Nat.mod_lt _ (by omega)⟩ ⟨3072 + j.val, by omega⟩)) (by pointwise) ?_
  exact h x _
theorem resBa_eq : (shapeCast S128x128 (baOf (pA A)) shapeCasts_S32x4x128_S128x128 : FVec Ideal S128x128 .f32) = A.resBa := by
  funext y
  obtain ⟨x, j, rfl⟩ : ∃ (x : Fin 128) (j : Fin 128), y = ix2 x j := ⟨y 0, y 1, by funext k; match k with | ⟨0, _⟩ => rfl | ⟨1, _⟩ => rfl⟩
  refine Eq.trans (b := baOf (pA A) (ix3 ⟨x.val / 4, by omega⟩ ⟨x.val % 4, Nat.mod_lt _ (by omega)⟩ j)) ?_ ?_
  · generalize baOf (pA A) = q
    pointwise
  show _ = if h : j.val < 8 then A.proj x ⟨3584 + j.val, by omega⟩ else (0 : EReal)
  by_cases h4 : j.val < 4
  · rw [dif_pos (by omega)]
    exact (lo_at (pA A) _ _ ⟨j.val, h4⟩).trans (pA_at A x _)
  · by_cases h8 : j.val < 8
    · rw [dif_pos h8]
      have e : j = ⟨4 + (⟨j.val - 4, by omega⟩ : Fin 4).val, by show 4 + (j.val - 4) < 128; omega⟩ := Fin.ext (by show j.val = 4 + (j.val - 4); omega)
      refine (congrArg (fun j => baOf (pA A) (ix3 _ _ j)) e).trans ?_
      refine (hi_at (pA A) _ _ ⟨j.val - 4, by omega⟩).trans ((pA_at A x _).trans (congrArg (A.proj x) (Fin.ext ?_)))
      show 3588 + (j.val - 4) = 3584 + j.val
      omega
    · rw [dif_neg h8]
      have e : j = ⟨8 + (⟨j.val - 8, by omega⟩ : Fin 120).val, by show 8 + (j.val - 8) < 128; omega⟩ := Fin.ext (by show j.val = 8 + (j.val - 8); omega)
      rw [e]
      exact pad_at (pA A) _ _ _

end Cert.Reference4Ideal.Body

end
-- ==== Proof.SampleAlgebraic.lean ====
module

public import proofs.«01_k».proof.Proof.SampleResult
public import proofs.«01_k».proof.Proof.SampleRef
public import proofs.«01_k».proof.Proof.Finite
public import proofs.«01_k».proof.Defs

@[expose] public section

set_option maxRecDepth 16384

noncomputable section

namespace Cert.Proof

open Idealize.ShloMosaic Idealize.ShloMosaic.TcCoe Idealize.SL.Sem Cert.InSample

/-! # The input projection's kernel on the sample's batch and reference end alike

On real gains and weights: what a leading part leaves of a square is then zero. -/

instance facts_sample : Cert.Pre_finite4.Facts where
  bcast_S_S1024 := by decide +kernel
  reducesTo_S1024_S_d0 := by decide +kernel
  h_S_ := by decide +kernel
  bcast_S_S1024x3592 := by decide +kernel
  reducesTo_S1024x3592_S_d0_1 := by decide +kernel

open Cert.Pre_finite4 in
/-- What the precondition says of the arguments. -/
theorem fn_real4 (a0 : FVec Ideal S32x4x1024 .f32) (a1 : FVec Ideal S1024 .f32) (a2 : FVec Ideal S1024x3592 .f32) (a3 a4 : FVec Ideal S64 .f32)
    (e : fn (F := Ideal) a0 a1 a2 a3 a4 = fun _ => 1#1) :
    (∀ i, ∃ r : ℝ, a1 i = r) ∧ (∀ i, ∃ r : ℝ, a2 i = r) := by
  have e0 := congrFun e ix0
  unfold fn at e0
  dsimp only at e0
  obtain ⟨h1, h2⟩ := and_one _ _ e0
  clear e
  refine ⟨?_, ?_⟩
  · exact check_real a1 Facts.bcast_S_S1024 Facts.reducesTo_S1024_S_d0 Facts.h_S_ _ h1
  · exact check_real a2 Facts.bcast_S_S1024x3592 Facts.reducesTo_S1024x3592_S_d0_1 Facts.h_S_ _ h2

theorem algebraic_sample : Cert.algebraic_Kernel4Ideal_Reference4Ideal_pre_finite4 := by
  intro m g m' g' hpre hargs
  have hp : ∀ (c : Dev Cert.Kernel4Ideal.nD) (x : Fin 128) (j : Fin 3592), ∃ r : ℝ, (Cert.Kernel4Ideal.Body.args m c).proj x j = r := fun c x j => by
    obtain ⟨h1, h2⟩ := fn_real4 _ _ _ _ _ (hpre c)
    exact proj_real _ h1 h2 x j
  refine ⟨fun c => (Cert.Kernel4Ideal.Body.args m c).resQ, fun c => (Cert.Kernel4Ideal.Body.args m c).resK, fun c => (Cert.Kernel4Ideal.Body.args m c).cols 1024 512 (by omega), fun c => (Cert.Kernel4Ideal.Body.args m c).cols 1536 1536 (by omega), fun c => (Cert.Kernel4Ideal.Body.args m c).cols 3072 512 (by omega), fun c => (Cert.Kernel4Ideal.Body.args m c).resBa, ?_, ?_⟩
  · refine (θ_run Cert.Kernel4Ideal.defs _ _).mono ?_ (Cert.Kernel4Ideal.Value.run_blocks (F := Ideal) m g)
    intro r h c
    obtain ⟨h10, h11, h12, h13, h14, h15, hrest⟩ := h c
    exact ⟨h10.trans (Cert.Kernel4Ideal.Body.arr10 m c (hp c)), h11.trans (Cert.Kernel4Ideal.Body.arr11 m c (hp c)),
      h12.trans (Cert.Kernel4Ideal.Body.arr12 m c), h13.trans (Cert.Kernel4Ideal.Body.arr13 m c), h14.trans (Cert.Kernel4Ideal.Body.arr14 m c),
      h15.trans (Cert.Kernel4Ideal.Body.arr15 m c), hrest⟩
  · refine (θ_run Cert.Reference4Ideal.defs _ _).mono ?_ (Cert.Reference4Ideal.Value.run (F := Ideal) m' g')
    intro r h c
    obtain ⟨h10, h11, h12, h13, h14, h15, hrest⟩ := h c
    obtain ⟨e0, e1, e2, e3, e4⟩ := hargs c
    have ha : (⟨m' ((c.tc : Thread Cert.Reference4Ideal.nD Cert.Reference4Ideal.τ).loc Cert.Reference4Ideal.main_arg0),
        m' ((c.tc : Thread Cert.Reference4Ideal.nD Cert.Reference4Ideal.τ).loc Cert.Reference4Ideal.main_arg1),
        m' ((c.tc : Thread Cert.Reference4Ideal.nD Cert.Reference4Ideal.τ).loc Cert.Reference4Ideal.main_arg2),
        m' ((c.tc : Thread Cert.Reference4Ideal.nD Cert.Reference4Ideal.τ).loc Cert.Reference4Ideal.main_arg3),
        m' ((c.tc : Thread Cert.Reference4Ideal.nD Cert.Reference4Ideal.τ).loc Cert.Reference4Ideal.main_arg4)⟩ : Args)
        = Cert.Kernel4Ideal.Body.args m c := by
      rw [e0, e1, e2, e3, e4]
      rfl
    exact ⟨(h10.trans (Cert.Reference4Ideal.Body.resQ_eq ⟨_, _, _, _, _⟩)).trans (congrArg Args.resQ ha),
      (h11.trans (Cert.Reference4Ideal.Body.resK_eq ⟨_, _, _, _, _⟩)).trans (congrArg Args.resK ha),
      (h12.trans (Cert.Reference4Ideal.Body.resV_eq ⟨_, _, _, _, _⟩)).trans (congrArg (fun A => Args.cols A 1024 512 (by omega)) ha),
      (h13.trans (Cert.Reference4Ideal.Body.resG_eq ⟨_, _, _, _, _⟩)).trans (congrArg (fun A => Args.cols A 1536 1536 (by omega)) ha),
      (h14.trans (Cert.Reference4Ideal.Body.resZ_eq ⟨_, _, _, _, _⟩)).trans (congrArg (fun A => Args.cols A 3072 512 (by omega)) ha),
      (h15.trans (Cert.Reference4Ideal.Body.resBa_eq ⟨_, _, _, _, _⟩)).trans (congrArg Args.resBa ha), hrest⟩

end Cert.Proof

end
-- ==== Proof.SampleOutTarget.lean ====
module

public import proofs.«01_k».proof.Proof.OutTarget

@[expose] public section

set_option maxRecDepth 16384

noncomputable section

namespace Cert.OutSample

open Idealize.ShloMosaic
open Cert.OutProj (mixed normed query score)

/-! # The output projection of the sample's batch, one token at a time

The same as the prompt's, of 32 texts of 4 tokens, in one block. -/

/-- A token's row of an array of 32 texts of 4 tokens; `x` counts the tokens through. -/
def rowOf {n : ℕ} {f : FTy} (X : FVec Ideal (⟨3, ![32, 4, n]⟩ : Shape) f) (x : Fin 128) (c : Fin n) : EReal :=
  X (ix3 ⟨x.val / 4, by omega⟩ ⟨x.val % 4, Nat.mod_lt _ (by omega)⟩ c)

/-- The call's arguments: the stream, both mixers' outputs, their weights, the gain, the query weights, the keys. -/
structure Args where
  x : FVec Ideal (⟨3, ![32, 4, 1024]⟩ : Shape) .f32
  a : FVec Ideal (⟨3, ![32, 4, 512]⟩ : Shape) .f32
  b : FVec Ideal (⟨3, ![32, 4, 512]⟩ : Shape) .bf16
  w : FVec Ideal (⟨2, ![1024, 1024]⟩ : Shape) .f32
  g : FVec Ideal (⟨1, ![1024]⟩ : Shape) .f32
  p : FVec Ideal (⟨2, ![1024, 2048]⟩ : Shape) .f32
  s : FVec Ideal (⟨4, ![8, 2, 128, 128]⟩ : Shape) .f32

variable (A : Args)

/-- A token's row after the mixers, -/
def Args.stream (x : Fin 128) : Fin 1024 → EReal := mixed (rowOf A.x x) (rowOf A.a x) (rowOf A.b x) fun k c => A.w (ix2 k c)
/-- its normed row, -/
def Args.norm (x : Fin 128) : Fin 1024 → EReal := normed (A.stream x) fun c => A.g (ix1 c)
/-- and its score with key `i` of head and half `y`. -/
def Args.scoreOf (x : Fin 128) (y : Fin 16) (i : Fin 128) : EReal :=
  score (query (A.norm x) fun c j => A.p (ix2 c j)) (fun d => A.s (ix4 ⟨y.val / 2, by omega⟩ ⟨y.val % 2, Nat.mod_lt _ (by omega)⟩ i d)) y

/-- The call's three results. -/
def Args.resH : FVec Ideal (⟨2, ![128, 1024]⟩ : Shape) .f32 := fun j => A.stream (j 0) (j 1)
def Args.resN : FVec Ideal (⟨2, ![1024, 128]⟩ : Shape) .bf16 := fun j => A.norm (j 1) (j 0)
def Args.resS : FVec Ideal (⟨3, ![16, 128, 128]⟩ : Shape) .f32 := fun j => A.scoreOf (j 2) (j 0) (j 1)

end Cert.OutSample

end
-- ==== Proof.SampleOutBlock.lean ====
module

public import proofs.«01_k».proof.Proof.Gen.Kernel6Ideal.Value
public import proofs.«01_k».proof.Proof.SampleOutTarget

@[expose] public section

set_option maxRecDepth 16384

noncomputable section

namespace Cert.Kernel6Ideal.Body

open Cert.Kernel6Ideal Cert.Kernel6Ideal.Gen Cert.OutSample
open Cert.OutProj (mixed normed query score)
open Idealize.ShloMosaic Idealize.ShloMosaic.TcCoe Idealize.ShloMosaic.Tactic

/-! # One block of the output projection on the sample's batch, entry by entry -/

variable (x : FVec Ideal S128x1024 .f32) (a : FVec Ideal S128x512 .f32) (b : FVec Ideal S128x512 .bf16) (u v : FVec Ideal S512x1024 .bf16) (g : FVec Ideal S1x1024 .f32)
  (p : FVec Ideal S1024x2048 .bf16) (s : FVec Ideal S16x128x128 .bf16)

/-- The stream. -/
theorem pay2_at (i : Fin 128) (c : Fin 1024) :
    k0_pay2 (F := Ideal) x a u b v (ix2 i c) = x (ix2 i c) + ((∑ k : Fin 512, a (ix2 i k) * u (ix2 k c)) + ∑ k : Fin 512, b (ix2 i k) * v (ix2 k c)) := by
  rw [← add_assoc]
  pointwise [k0_pay2]

/-- The normed stream. -/
theorem pay3_at (i : Fin 128) (c : Fin 1024) :
    k0_pay3 (F := Ideal) x a u b v g (ix2 i c) = normed (fun c => k0_pay2 (F := Ideal) x a u b v (ix2 i c)) (fun c => g (ix2 0 c)) c := by
  unfold normed
  generalize hk : k0_pay2 (F := Ideal) x a u b v = h
  unfold k0_pay3
  rw [hk]
  pointwise

theorem pay4_at (i : Fin 128) (c : Fin 1024) : k0_pay4 (F := Ideal) x a u b v g (ix2 c i) = (k0_pay3 (F := Ideal) x a u b v g (ix2 i c) : EReal) := by
  pointwise [k0_pay4]

theorem pay5_at (i : Fin 128) (c : Fin 1024) : k0_pay5 (F := Ideal) x a u b v g (ix2 i c) = (k0_pay3 (F := Ideal) x a u b v g (ix2 i c) : EReal) := by
  pointwise [k0_pay5]

/-- The queries. -/
theorem pay6_at (n : FVec Ideal S128x1024 .bf16) (i : Fin 128) (j : Fin 2048) :
    k0_pay6 (F := Ideal) n p (ix2 i j) = query (fun c => n (ix2 i c)) (fun c j => p (ix2 c j)) j := by
  unfold query
  pointwise [k0_pay6]

/-- The scores of all heads and halves, at an index. -/
def scores (q : FVec Ideal S128x2048 .bf16) (s : FVec Ideal S16x128x128 .bf16) : FVec Ideal S16x128x128 .f32 := fun y =>
  score (fun j => q (ix2 (y 2) j)) (fun d => s (ix3 (y 0) (y 1) d)) (y 0)

/-- What the body leaves of the scores: sixteen pieces, one for each head and half. -/
theorem out10_at (x1 : FVec Ideal S128x512 .f32) (x2 : FVec Ideal S128x512 .bf16) (x3 x4 : FVec Ideal S512x1024 .bf16) :
    (out0_10 (F := Ideal) x x1 x2 x3 x4 g p s : FVec Ideal S16x128x128 .f32) = scores (k0_pay27 (F := Ideal) x x1 x2 x3 x4 g p s) s := by
  funext y
  unfold out0_10
  have hq : k0_pay27 (F := Ideal) x x1 x2 x3 x4 g p s = k0_pay6 (F := Ideal) (k0_pay26 x x1 x2 x3 x4 g p s) p := by
    unfold k0_pay27
    simp (disch := decide) only [View.ld_unit_lit']
  generalize k0_pay27 (F := Ideal) x x1 x2 x3 x4 g p s = q at hq ⊢
  generalize k0_pay26 (F := Ideal) x x1 x2 x3 x4 g p s = n at hq ⊢
  refine View.canon_apply_of_pieces (Val := Elt Ideal) (e := .f32) (scores q s) _ ?_ y (cover0_10 _ _ _ _ _ _ _ _ _ _ _ _ _ _ _ _ y)
  intro pc hpc
  iterate 16
    rcases List.mem_cons.mp hpc with rfl | hpc
    · intro z
      obtain ⟨i, j, rfl⟩ : ∃ (i : Fin 128) (j : Fin 128), z = ix3 0 i j :=
        ⟨z 1, z 2, by funext k; match k with | ⟨0, _⟩ => exact Fin.ext (by have := (z 0).isLt; change (z 0).val < 1 at this; show (z 0).val = 0; omega) | ⟨1, _⟩ => rfl | ⟨2, _⟩ => rfl⟩
      simp (disch := decide) only [View.ld_unit_lit']
      clear hpc
      try unfold k0_pay7
      try unfold k0_pay8
      try unfold k0_pay9
      try unfold k0_pay10
      try rw [← hq]
      pointwise [scores, score, k0_pay1, k0_pay11, k0_pay12, k0_pay13, k0_pay14, k0_pay15, k0_pay16, k0_pay17, k0_pay18, k0_pay19, k0_pay20, k0_pay21, k0_pay22, k0_pay23, k0_pay24, k0_pay25]
      refine Finset.sum_congr rfl fun d _ => congrArg₂ (· * ·) (congrArg s ?_) (congrArg q ?_) <;> blk_ext
  exact absurd hpc (List.not_mem_nil)

end Cert.Kernel6Ideal.Body

end
-- ==== Proof.SampleOutArrays.lean ====
module

public import proofs.«01_k».proof.Proof.SampleOutBlock
public import Idealize.ShloMosaic.Lib.Claim
public import Idealize.ShloMosaic.Lib.StableHlo.RunRead

@[expose] public section

set_option maxRecDepth 16384

noncomputable section

namespace Cert.Kernel6Ideal.Body

open Cert.Kernel6Ideal Cert.Kernel6Ideal.Gen Cert.OutSample
open Cert.OutProj (mixed normed query score)
open Idealize.ShloMosaic Idealize.ShloMosaic.TcCoe Idealize.ShloMosaic.Tactic

/-! # The output projection's blocks on the sample's batch, in the arguments, and its whole results -/

variable (m : (ℓ : Loc nD τ sig) → Buf (Elt Ideal) ℓ) (c : Dev nD)

theorem idx (t : Fin cfg0.N) : win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0, 0] :=
  (by decide +kernel : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0, 0]) t

theorem idx_out (t : Fin cfg0.N) : win0_8.index t = ![t.val, 0] ∧ win0_9.index t = ![0, t.val] ∧ win0_10.index t = ![0, 0, t.val] :=
  (by decide +kernel : ∀ t : Fin cfg0.N, win0_8.index t = ![t.val, 0] ∧ win0_9.index t = ![0, t.val] ∧ win0_10.index t = ![0, 0, t.val]) t

/-- The arguments as launched. -/
def args : Args where
  x := m ((c : Thread nD τ).loc main_arg0)
  a := m ((c : Thread nD τ).loc main_arg1)
  b := m ((c : Thread nD τ).loc main_arg2)
  w := m ((c : Thread nD τ).loc main_arg3)
  g := m ((c : Thread nD τ).loc main_arg4)
  p := m ((c : Thread nD τ).loc main_arg5)
  s := m ((c : Thread nD τ).loc main_arg6)

/-- Row `i` of block `t` is this token. -/
def tok (t : Fin cfg0.N) (i : Fin 128) : Fin 128 := ⟨128 * t.val + i.val, by have : t.val < 1 := t.isLt; omega⟩

theorem x_at (t : Fin cfg0.N) (i : Fin 128) (e : Fin 1024) :
    (iblk m c 0 t : FVec Ideal S128x1024 .f32) (ix2 i e) = rowOf (args m c).x (tok t i) e := by
  unfold rowOf args tok
  blk_point [iblk, V, idx t]
theorem a_at (t : Fin cfg0.N) (i : Fin 128) (e : Fin 512) :
    (iblk m c 1 t : FVec Ideal S128x512 .f32) (ix2 i e) = rowOf (args m c).a (tok t i) e := by
  unfold rowOf args tok
  blk_point [iblk, V, idx t]
theorem b_at (t : Fin cfg0.N) (i : Fin 128) (e : Fin 512) :
    (iblk m c 2 t : FVec Ideal S128x512 .bf16) (ix2 i e) = rowOf (args m c).b (tok t i) e := by
  unfold rowOf args tok
  blk_point [iblk, V, idx t]
theorem u_at (t : Fin cfg0.N) (i : Fin 512) (e : Fin 1024) :
    (iblk m c 3 t : FVec Ideal S512x1024 .bf16) (ix2 i e) = (args m c).w (ix2 ⟨i.val, by omega⟩ e) := by
  unfold args
  blk_point [iblk, V, idx t]
theorem v_at (t : Fin cfg0.N) (i : Fin 512) (e : Fin 1024) :
    (iblk m c 4 t : FVec Ideal S512x1024 .bf16) (ix2 i e) = (args m c).w (ix2 ⟨512 + i.val, by omega⟩ e) := by
  unfold args
  blk_point [iblk, V, idx t]
theorem g_at (t : Fin cfg0.N) (e : Fin 1024) :
    (iblk m c 5 t : FVec Ideal S1x1024 .f32) (ix2 0 e) = (args m c).g (ix1 e) := by
  unfold args
  blk_point [iblk, V, idx t]
theorem p_at (t : Fin cfg0.N) (i : Fin 1024) (j : Fin 2048) :
    (iblk m c 6 t : FVec Ideal S1024x2048 .bf16) (ix2 i j) = (args m c).p (ix2 i j) := by
  unfold args
  blk_point [iblk, V, idx t]
theorem s_at (t : Fin cfg0.N) (y : Fin 16) (i d : Fin 128) :
    (iblk m c 7 t : FVec Ideal S16x128x128 .bf16) (ix3 y i d)
      = (args m c).s (ix4 ⟨y.val / 2, by omega⟩ ⟨y.val % 2, Nat.mod_lt _ (by omega)⟩ i d) := by
  unfold args
  blk_point [iblk, V, idx t]

end Cert.Kernel6Ideal.Body

end
-- ==== Proof.SampleOutResult.lean ====
module

public import proofs.«01_k».proof.Proof.SampleOutArrays

@[expose] public section

set_option maxRecDepth 16384

noncomputable section

namespace Cert.Kernel6Ideal.Body

open Cert.Kernel6Ideal Cert.Kernel6Ideal.Gen Cert.OutSample
open Cert.OutProj (mixed normed query score)
open Idealize.ShloMosaic Idealize.ShloMosaic.TcCoe Idealize.ShloMosaic.Tactic
open Idealize.ShloMosaic.Pipeline (Dat Cfg Window)

/-! # The output projection's three results on the sample's batch, whole -/

variable (m : (ℓ : Loc nD τ sig) → Buf (Elt Ideal) ℓ) (c : Dev nD)

/-- A block of the stream, -/
theorem stream_at (t : Fin cfg0.N) (i : Fin 128) (e : Fin 1024) :
    (k0_pay2 (F := Ideal) (iblk m c 0 t) (iblk m c 1 t) (iblk m c 3 t) (iblk m c 2 t) (iblk m c 4 t) (ix2 i e) : EReal) = (args m c).stream (tok t i) e := by
  refine (pay2_at _ _ _ _ _ i e).trans ?_
  simp only [x_at, a_at, b_at, u_at, v_at]
  rfl
/-- of the normed rows, -/
theorem norm_at (t : Fin cfg0.N) (i : Fin 128) (e : Fin 1024) :
    (k0_pay3 (F := Ideal) (iblk m c 0 t) (iblk m c 1 t) (iblk m c 3 t) (iblk m c 2 t) (iblk m c 4 t) (iblk m c 5 t) (ix2 i e) : EReal)
      = (args m c).norm (tok t i) e := by
  refine (pay3_at _ _ _ _ _ _ i e).trans ?_
  simp only [stream_at, g_at]
  rfl
/-- and of the queries. -/
theorem query_at (t : Fin cfg0.N) (i : Fin 128) (j : Fin 2048) :
    (k0_pay27 (F := Ideal) (iblk m c 0 t) (iblk m c 1 t) (iblk m c 2 t) (iblk m c 3 t) (iblk m c 4 t) (iblk m c 5 t) (iblk m c 6 t) (iblk m c 7 t) (ix2 i j) : EReal)
      = query ((args m c).norm (tok t i)) (fun k j => (args m c).p (ix2 k j)) j := by
  unfold k0_pay27 k0_pay26
  simp (disch := decide) only [View.ld_unit_lit']
  refine (pay6_at _ _ i j).trans ?_
  simp only [p_at]
  refine congrArg (fun n => query n _ j) (funext fun e => ?_)
  exact (pay5_at _ _ _ _ _ _ i e).trans (norm_at m c t i e)

theorem emb8 (t : Fin cfg0.N) (i : Fin 128) (e : Fin 1024) :
    ((View.whole main_v10_0).slice (win0_8.rect t)).emb (ix2 i e) = (ix2 (tok t i) e : S128x1024.Idx) := by
  unfold tok
  blk_ext [idx_out t]
theorem emb9 (t : Fin cfg0.N) (e : Fin 1024) (i : Fin 128) :
    ((View.whole main_v10_1).slice (win0_9.rect t)).emb (ix2 e i) = (ix2 e (tok t i) : S1024x128.Idx) := by
  unfold tok
  blk_ext [idx_out t]
theorem emb10 (t : Fin cfg0.N) (y : Fin 16) (k : Fin 128) (i : Fin 128) :
    ((View.whole main_v10_2).slice (win0_10.rect t)).emb (ix3 y k i) = (ix3 y k (tok t i) : S16x128x128.Idx) := by
  unfold tok
  blk_ext [idx_out t]

theorem arr8 : (dats m 0 c).arrAt 8 cfg0.N = (args m c).resH := by
  refine (dats m 0 c).arrAt_eq_of_covers 8 _ (by decide +kernel) fun t hf y => ?_
  blk_simp [idx_out t]
  rw [after0_8]
  have key : ∀ y : S128x1024.Idx, (out0_8 (F := Ideal) (iblk m c 0 t) (iblk m c 1 t) (iblk m c 2 t) (iblk m c 3 t) (iblk m c 4 t) (iblk m c 5 t) (iblk m c 6 t) (iblk m c 7 t) y : EReal)
      = (args m c).resH (((View.whole main_v10_0).slice (win0_8.rect t)).emb y) := by
    intro y
    obtain ⟨i, e, rfl⟩ : ∃ (i : Fin 128) (e : Fin 1024), y = ix2 i e := ⟨y 0, y 1, by funext k; match k with | ⟨0, _⟩ => rfl | ⟨1, _⟩ => rfl⟩
    rw [emb8]
    unfold out0_8
    frame_out
    exact stream_at m c t i e
  exact key y

theorem arr9 : (dats m 0 c).arrAt 9 cfg0.N = (args m c).resN := by
  refine (dats m 0 c).arrAt_eq_of_covers 9 _ (by decide +kernel) fun t hf y => ?_
  blk_simp [idx_out t]
  rw [after0_9]
  have key : ∀ y : S1024x128.Idx, (out0_9 (F := Ideal) (iblk m c 0 t) (iblk m c 1 t) (iblk m c 2 t) (iblk m c 3 t) (iblk m c 4 t) (iblk m c 5 t) (iblk m c 6 t) (iblk m c 7 t) y : EReal)
      = (args m c).resN (((View.whole main_v10_1).slice (win0_9.rect t)).emb y) := by
    intro y
    obtain ⟨e, i, rfl⟩ : ∃ (e : Fin 1024) (i : Fin 128), y = ix2 e i := ⟨y 0, y 1, by funext k; match k with | ⟨0, _⟩ => rfl | ⟨1, _⟩ => rfl⟩
    rw [emb9]
    unfold out0_9
    frame_out
    exact (pay4_at _ _ _ _ _ _ i e).trans (norm_at m c t i e)
  exact key y

theorem arr10 : (dats m 0 c).arrAt 10 cfg0.N = (args m c).resS := by
  refine (dats m 0 c).arrAt_eq_of_covers 10 _ (by decide +kernel) fun t hf y => ?_
  blk_simp [idx_out t]
  rw [after0_10]
  have key : ∀ y : S16x128x128.Idx, (out0_10 (F := Ideal) (iblk m c 0 t) (iblk m c 1 t) (iblk m c 2 t) (iblk m c 3 t) (iblk m c 4 t) (iblk m c 5 t) (iblk m c 6 t) (iblk m c 7 t) y : EReal)
      = (args m c).resS (((View.whole main_v10_2).slice (win0_10.rect t)).emb y) := by
    intro y
    obtain ⟨h, k, i, rfl⟩ : ∃ (h : Fin 16) (k : Fin 128) (i : Fin 128), y = ix3 h k i :=
      ⟨y 0, y 1, y 2, by funext k; match k with | ⟨0, _⟩ => rfl | ⟨1, _⟩ => rfl | ⟨2, _⟩ => rfl⟩
    rw [emb10]
    refine (congrFun (out10_at _ _ _ _ _ _ _ _) (ix3 h k i)).trans ?_
    show score (fun j => (k0_pay27 (F := Ideal) (iblk m c 0 t) (iblk m c 1 t) (iblk m c 2 t) (iblk m c 3 t) (iblk m c 4 t) (iblk m c 5 t) (iblk m c 6 t) (iblk m c 7 t) (ix2 i j) : EReal))
      (fun d => (iblk m c 7 t : FVec Ideal S16x128x128 .bf16) (ix3 h k d)) h = (args m c).scoreOf (tok t i) h k
    simp only [query_at, s_at]
    rfl
  exact key y

end Cert.Kernel6Ideal.Body

end
-- ==== Proof.SampleOutRef.lean ====
module

public import proofs.«01_k».proof.Proof.Gen.Reference6Ideal.Run
public import proofs.«01_k».proof.Proof.SampleOutTarget

@[expose] public section

set_option maxRecDepth 16384

noncomputable section

namespace Cert.Reference6Ideal.Body

open Cert.Reference6Ideal Cert.Reference6Ideal.Gen Cert.OutSample
open Cert.OutProj (mixed normed query score)
open Idealize.ShloMosaic Idealize.ShloMosaic.TcCoe Idealize.ShloMosaic.Tactic

/-! # The reference's results for the output projection on the sample's batch -/

/-- The stream: the product with both mixers' outputs side by side. -/
def hOf (x : FVec Ideal S32x4x1024 .f32) (a : FVec Ideal S32x4x512 .f32) (b : FVec Ideal S32x4x512 .bf16) (w : FVec Ideal S1024x1024 .f32) : FVec Ideal S32x4x1024 .f32 :=
  addf x (Host.dotGeneral dot_S32x4x1024_S1024x1024_S32x4x1024_2_0_01_1_n_n none (concatenate S32x4x1024 2 [⟨S32x4x512, a⟩, ⟨S32x4x512, extf .f32 b bitsLt_bf16_f32⟩] concatenates_S32x4x512_S32x4x512_S32x4x1024_d2) w)

/-- The normed rows. -/
def nOf (h : FVec Ideal S32x4x1024 .f32) (g : FVec Ideal S1024 .f32) : FVec Ideal S128x1024 .f32 :=
  shapeCast _ (mulf (mulf h (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf h h) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))) shapeCasts_S32x4x1024_S128x1024

/-- The queries, by head and half. -/
def qOf (n : FVec Ideal S128x1024 .f32) (p : FVec Ideal S1024x2048 .f32) : FVec Ideal S128x8x2x128 .f32 :=
  shapeCast _ (Host.dotGeneral dot_S128x1024_S1024x2048_S128x2048_1_0_0_1_n_n none n p) shapeCasts_S128x2048_S128x8x2x128

/-- The scores, the tokens last. -/
def sOf (q : FVec Ideal S128x8x2x128 .f32) (s : FVec Ideal S8x2x128x128 .f32) : FVec Ideal S16x128x128 .f32 :=
  shapeCast _ (transpose S8x2x128x128 [1, 2, 3, 0] (transpose S128x8x2x128 [3, 0, 1, 2] (Host.dotGeneral dot_S8x2x128x128_S128x8x2x128_S8x2x128x128_3_3_2_0_01_12 none s q) transposes_S8x2x128x128_S128x8x2x128_3_0_1_2) transposes_S128x8x2x128_S8x2x128x128_1_2_3_0) shapeCasts_S8x2x128x128_S16x128x128

/-- A sum over 1024 in halves. -/
theorem halves (f : Fin 1024 → EReal) : ∑ k, f k = (∑ k : Fin 512, f ⟨k.val, by omega⟩) + ∑ k : Fin 512, f ⟨512 + k.val, by omega⟩ :=
  Fin.sum_univ_add (a := 512) (b := 512) f

theorem side_lo (a b : FVec Ideal S32x4x512 .f32) (i : Fin 32) (r : Fin 4) (k : Fin 512) :
    (concatenate S32x4x1024 2 [⟨S32x4x512, a⟩, ⟨S32x4x512, b⟩] concatenates_S32x4x512_S32x4x512_S32x4x1024_d2 : FVec Ideal S32x4x1024 .f32)
      (ix3 i r ⟨k.val, by omega⟩) = a (ix3 i r k) := by
  pointwise
theorem side_hi (a b : FVec Ideal S32x4x512 .f32) (i : Fin 32) (r : Fin 4) (k : Fin 512) :
    (concatenate S32x4x1024 2 [⟨S32x4x512, a⟩, ⟨S32x4x512, b⟩] concatenates_S32x4x512_S32x4x512_S32x4x1024_d2 : FVec Ideal S32x4x1024 .f32)
      (ix3 i r ⟨512 + k.val, by omega⟩) = b (ix3 i r k) := by
  pointwise

theorem h_at (x : FVec Ideal S32x4x1024 .f32) (a : FVec Ideal S32x4x512 .f32) (b : FVec Ideal S32x4x512 .bf16) (w : FVec Ideal S1024x1024 .f32) (i : Fin 32) (r : Fin 4) (c : Fin 1024) :
    hOf x a b w (ix3 i r c) = mixed (fun c => x (ix3 i r c)) (fun c => a (ix3 i r c)) (fun c => b (ix3 i r c)) (fun k c => w (ix2 k c)) c := by
  unfold mixed hOf
  generalize hs : (concatenate S32x4x1024 2 [⟨S32x4x512, a⟩, ⟨S32x4x512, extf .f32 b bitsLt_bf16_f32⟩] concatenates_S32x4x512_S32x4x512_S32x4x1024_d2 : FVec Ideal S32x4x1024 .f32) = s
  refine Eq.trans (b := x (ix3 i r c) + ∑ k : Fin 1024, s (ix3 i r k) * w (ix2 k c)) (by pointwise) ?_
  rw [halves, ← hs]
  simp only [side_lo, side_hi]
  rfl

theorem n_at (h : FVec Ideal S32x4x1024 .f32) (g : FVec Ideal S1024 .f32) (x : Fin 128) (c : Fin 1024) :
    nOf h g (ix2 x c) = normed (rowOf h x) (fun c => g (ix1 c)) c := by
  unfold normed rowOf
  pointwise [nOf]

theorem q_at (n : FVec Ideal S128x1024 .f32) (p : FVec Ideal S1024x2048 .f32) (x : Fin 128) (y : Fin 8) (z : Fin 2) (d : Fin 128) :
    qOf n p (ix4 x y z d) = query (fun c => n (ix2 x c)) (fun c j => p (ix2 c j)) ⟨y.val * 256 + z.val * 128 + d.val, by omega⟩ := by
  unfold query
  pointwise [qOf]

theorem s_at (q : FVec Ideal S128x8x2x128 .f32) (s : FVec Ideal S8x2x128x128 .f32) (y : Fin 16) (k : Fin 128) (x : Fin 128) :
    sOf q s (ix3 y k x) = ∑ d : Fin 128, s (ix4 ⟨y.val / 2, by omega⟩ ⟨y.val % 2, Nat.mod_lt _ (by omega)⟩ k d)
      * q (ix4 x ⟨y.val / 2, by omega⟩ ⟨y.val % 2, Nat.mod_lt _ (by omega)⟩ d) := by
  pointwise [sOf]

/-! ## The three results -/

variable (A : Args)

theorem resH_eq : (shapeCast S128x1024 (hOf A.x A.a A.b A.w) shapeCasts_S32x4x1024_S128x1024 : FVec Ideal S128x1024 .f32) = A.resH := by
  funext j
  obtain ⟨x, e, rfl⟩ : ∃ (x : Fin 128) (e : Fin 1024), j = ix2 x e := ⟨j 0, j 1, by funext k; match k with | ⟨0, _⟩ => rfl | ⟨1, _⟩ => rfl⟩
  have h := h_at A.x A.a A.b A.w
  generalize hOf A.x A.a A.b A.w = y at h ⊢
  refine Eq.trans (b := y (ix3 ⟨x.val / 4, by omega⟩ ⟨x.val % 4, Nat.mod_lt _ (by omega)⟩ e)) (by pointwise) ?_
  rw [h]
  rfl

theorem norm_at (x : Fin 128) (e : Fin 1024) : nOf (hOf A.x A.a A.b A.w) A.g (ix2 x e) = A.norm x e := by
  rw [n_at]
  refine congrArg (fun h => normed h _ e) (funext fun c => ?_)
  exact h_at A.x A.a A.b A.w _ _ c

theorem resN_eq : (truncf .bf16 (transpose S1024x128 [1, 0] (nOf (hOf A.x A.a A.b A.w) A.g) transposes_S128x1024_S1024x128_1_0) bitsLt_bf16_f32
    : FVec Ideal S1024x128 .bf16) = A.resN := by
  funext j
  obtain ⟨e, x, rfl⟩ : ∃ (e : Fin 1024) (x : Fin 128), j = ix2 e x := ⟨j 0, j 1, by funext k; match k with | ⟨0, _⟩ => rfl | ⟨1, _⟩ => rfl⟩
  have h := norm_at A x e
  generalize nOf (hOf A.x A.a A.b A.w) A.g = y at h ⊢
  refine Eq.trans (b := y (ix2 x e)) (by pointwise) ?_
  rw [h]
  rfl

theorem resS_eq : sOf (qOf (nOf (hOf A.x A.a A.b A.w) A.g) A.p) A.s = A.resS := by
  funext j
  obtain ⟨y, k, x, rfl⟩ : ∃ (y : Fin 16) (k : Fin 128) (x : Fin 128), j = ix3 y k x :=
    ⟨j 0, j 1, j 2, by funext k; match k with | ⟨0, _⟩ => rfl | ⟨1, _⟩ => rfl | ⟨2, _⟩ => rfl⟩
  rw [s_at]
  show _ = A.scoreOf x y k
  unfold Args.scoreOf score
  refine Finset.sum_congr rfl fun d _ => congrArg (_ * ·) ?_
  rw [q_at]
  simp only [norm_at]
  refine congrArg (query _ _) (Fin.ext ?_)
  show y.val / 2 * 256 + y.val % 2 * 128 + d.val = 128 * y.val + d.val
  omega

end Cert.Reference6Ideal.Body

end
-- ==== Proof.SampleOutAlgebraic.lean ====
module

public import proofs.«01_k».proof.Proof.SampleOutResult
public import proofs.«01_k».proof.Proof.SampleOutRef
public import proofs.«01_k».proof.Defs

@[expose] public section

set_option maxRecDepth 16384

noncomputable section

namespace Cert.Proof

open Idealize.ShloMosaic Idealize.ShloMosaic.TcCoe Idealize.SL.Sem Cert.OutSample

/-! # The output projection's kernel and reference end alike on the sample's batch

On every extended real: both sides add and multiply the same entries, in sums only grouped differently. -/

theorem algebraic_sample_out : Cert.algebraic_Kernel6Ideal_Reference6Ideal := by
  intro m g m' g' hpre hargs
  refine ⟨fun c => (Cert.Kernel6Ideal.Body.args m c).resH, fun c => (Cert.Kernel6Ideal.Body.args m c).resN,
    fun c => (Cert.Kernel6Ideal.Body.args m c).resS, ?_, ?_⟩
  · refine (θ_run Cert.Kernel6Ideal.defs _ _).mono ?_ (Cert.Kernel6Ideal.Value.run_blocks (F := Ideal) m g)
    intro r h c
    obtain ⟨h8, h9, h10, hrest⟩ := h c
    exact ⟨h8.trans (Cert.Kernel6Ideal.Body.arr8 m c), h9.trans (Cert.Kernel6Ideal.Body.arr9 m c),
      h10.trans (Cert.Kernel6Ideal.Body.arr10 m c), hrest⟩
  · refine (θ_run Cert.Reference6Ideal.defs _ _).mono ?_ (Cert.Reference6Ideal.Value.run (F := Ideal) m' g')
    intro r h c
    obtain ⟨h8, h9, h10, hrest⟩ := h c
    obtain ⟨e0, e1, e2, e3, e4, e5, e6⟩ := hargs c
    have ha : (⟨m' ((c.tc : Thread Cert.Reference6Ideal.nD Cert.Reference6Ideal.τ).loc Cert.Reference6Ideal.main_arg0),
        m' ((c.tc : Thread Cert.Reference6Ideal.nD Cert.Reference6Ideal.τ).loc Cert.Reference6Ideal.main_arg1),
        m' ((c.tc : Thread Cert.Reference6Ideal.nD Cert.Reference6Ideal.τ).loc Cert.Reference6Ideal.main_arg2),
        m' ((c.tc : Thread Cert.Reference6Ideal.nD Cert.Reference6Ideal.τ).loc Cert.Reference6Ideal.main_arg3),
        m' ((c.tc : Thread Cert.Reference6Ideal.nD Cert.Reference6Ideal.τ).loc Cert.Reference6Ideal.main_arg4),
        m' ((c.tc : Thread Cert.Reference6Ideal.nD Cert.Reference6Ideal.τ).loc Cert.Reference6Ideal.main_arg5),
        m' ((c.tc : Thread Cert.Reference6Ideal.nD Cert.Reference6Ideal.τ).loc Cert.Reference6Ideal.main_arg6)⟩ : Args)
        = Cert.Kernel6Ideal.Body.args m c := by
      rw [e0, e1, e2, e3, e4, e5, e6]
      rfl
    exact ⟨(h8.trans (Cert.Reference6Ideal.Body.resH_eq ⟨_, _, _, _, _, _, _⟩)).trans (congrArg Args.resH ha),
      (h9.trans (Cert.Reference6Ideal.Body.resN_eq ⟨_, _, _, _, _, _, _⟩)).trans (congrArg Args.resN ha),
      (h10.trans (Cert.Reference6Ideal.Body.resS_eq ⟨_, _, _, _, _, _, _⟩)).trans (congrArg Args.resS ha), hrest⟩

end Cert.Proof

end
-- ==== Proof.DenseTarget.lean ====
module

public import Idealize.ShloMosaic.Lib.Pointwise
public import Idealize.ShloMosaic.Lib.Pipeline.ValueKit

@[expose] public section

set_option maxRecDepth 16384

noncomputable section

namespace Cert.Dense

open Idealize.ShloMosaic

/-! # The experts' feed-forward part, one token at a time

Every expert's hidden number passes the gelu, is weighted by the gate that the token gives the expert, and its output row is
added to the stream. An expert's number is a row of 128 and a column of 128; a word holds two columns. -/

/-- The half `p` of a word. -/
def part (w : BitVec 32) (p : ℕ) : EReal := Ideal.ofBits .bf16 (w.extractLsb' (p * 16) 16)

/-- One head's weight: the two factors' product where the column's rank lies under the row's count. -/
def pick (a c b r : EReal) : EReal := if r < c then a * b else 0

/-- The gelu's slope at zero and the cube's factor. -/
def root : ℝ := 6693141 / 8388608
def cube : ℝ := 12003091 / 268435456

/-- The gelu, as the reference has it. -/
def gelu (x : EReal) : EReal := x * (Ideal.ofBits .f32 0x3F000000#32 * (1 + Ideal.tanh ((root : EReal) * (x + (cube : EReal) * (x * x * x)))))

theorem root_eq : Ideal.ofBits .f32 0x3F4C422A#32 = ((root : ℝ) : EReal) := by
  unfold root
  simp [Ideal.ofBits, Ideal.ieee]
  rw [← EReal.coe_mul]; norm_num

theorem cube_eq : Ideal.ofBits .f32 0x3D372713#32 = ((cube : ℝ) : EReal) := by
  unfold cube
  simp [Ideal.ofBits, Ideal.ieee]
  rw [← EReal.coe_mul]; norm_num

theorem half_eq : Ideal.ofBits .bf16 0x3F00#16 = Ideal.ofBits .f32 0x3F000000#32 := by
  simp [Ideal.ofBits, Ideal.ieee]
  rw [← EReal.coe_mul, ← EReal.coe_mul]; norm_num

/-- The argument of the tangent with its factor drawn out, on every extended real. -/
theorem arg_eq (x : EReal) : x * ((root : EReal) + ((80338380498831 / 2251799813685248 : ℝ) : EReal) * (x * x))
    = (root : EReal) * (x + (cube : EReal) * (x * x * x)) := by
  have hr : (0 : ℝ) < root := by unfold root; norm_num
  have hc : (0 : ℝ) < cube := by unfold cube; norm_num
  have hk : (0 : ℝ) < 80338380498831 / 2251799813685248 := by norm_num
  induction x using EReal.rec with
  | bot =>
    rw [EReal.bot_mul_bot, EReal.coe_mul_top_of_pos hk, EReal.coe_add_top, EReal.bot_mul_top, EReal.top_mul_bot, EReal.coe_mul_bot_of_pos hc,
      EReal.bot_add, EReal.coe_mul_bot_of_pos hr]
  | top =>
    rw [EReal.top_mul_top, EReal.coe_mul_top_of_pos hk, EReal.coe_add_top, EReal.top_mul_top, EReal.coe_mul_top_of_pos hc,
      EReal.top_add_top, EReal.coe_mul_top_of_pos hr]
  | coe x =>
    have e : (80338380498831 / 2251799813685248 : ℝ) = root * cube := by unfold root cube; norm_num
    rw [e]
    norm_cast
    ring

/-- The gelu as the kernel has it. -/
theorem gelu_eq (x : EReal) : Ideal.ofBits .bf16 0x3F00#16 * x
      * (1 + Ideal.tanh (x * ((root : EReal) + ((80338380498831 / 2251799813685248 : ℝ) : EReal) * (x * x)))) = gelu x := by
  unfold gelu
  rw [half_eq, arg_eq, mul_comm (Ideal.ofBits .f32 0x3F000000#32) x, mul_assoc]

/-- The call's arguments: the normed rows, the row factors, counts, column factors and ranks in pairs of halves, the experts'
    input and output rows, and the stream. -/
structure Args where
  x : FVec Ideal (⟨2, ![1024, 128]⟩ : Shape) .bf16
  a : IVec (⟨3, ![8, 128, 128]⟩ : Shape) 32
  c : IVec (⟨3, ![8, 128, 128]⟩ : Shape) 32
  b : IVec (⟨3, ![8, 64, 128]⟩ : Shape) 32
  r : IVec (⟨3, ![8, 64, 128]⟩ : Shape) 32
  u : FVec Ideal (⟨2, ![16384, 1024]⟩ : Shape) .f32
  v : FVec Ideal (⟨2, ![16384, 1024]⟩ : Shape) .f32
  h : FVec Ideal (⟨2, ![128, 1024]⟩ : Shape) .f32

variable (A : Args)

/-- The gate of the expert in row `i` and column `2 w + p` for the token `t`. -/
def Args.gate (i : Fin 128) (w : Fin 64) (p : ℕ) (t : Fin 128) : EReal :=
  ∑ y : Fin 8, pick (part (A.a (ix3 y i t)) p) (part (A.c (ix3 y i t)) p) (part (A.b (ix3 y w t)) p) (part (A.r (ix3 y w t)) p)
/-- The expert's hidden number. -/
def Args.hid (e : Fin 16384) (t : Fin 128) : EReal := ∑ k : Fin 1024, A.u (ix2 e k) * A.x (ix2 k t)
/-- The expert's weight. -/
def Args.wt (e : Fin 16384) (t : Fin 128) : EReal :=
  A.gate ⟨e.val / 128, by omega⟩ ⟨e.val % 128 / 2, by omega⟩ (e.val % 2) t * gelu (A.hid e t)
/-- The result. -/
def Args.res : FVec Ideal (⟨2, ![128, 1024]⟩ : Shape) .f32 := fun j => A.h j + ∑ e : Fin 16384, A.v (ix2 e (j 1)) * A.wt e (j 0)

end Cert.Dense

end
-- ==== Proof.DenseTiles.lean ====
module

public import proofs.«01_k».proof.Proof.Gen.Kernel5Ideal.Value
public import proofs.«01_k».proof.Proof.DenseTarget
public import Idealize.ShloMosaic.Lib.BitcastPair

@[expose] public section

set_option maxRecDepth 16384

noncomputable section

namespace Cert.Kernel5Ideal.Body

open Cert.Kernel5Ideal Cert.Kernel5Ideal.Gen Cert.Dense
open Idealize.ShloMosaic Idealize.ShloMosaic.TcCoe Idealize.ShloMosaic.Tactic

/-! # The experts' weights, tile by tile

The body stores the weights of its 1024 experts in 64 tiles of sixteen, eight for each row of experts. -/

section
variable {F : FTy → Type} [FloatOps F] [Named F]

/-- A row of words under sixteen columns, -/
def rowF (v : Vec F S1x1x128 .i32) : FVec F S16x128 .bf16 :=
  bitcastToFloat .bf16 (bitcast S16x128 16 (broadcastTo S8x128 (shapeCast S1x128 (shapeCast S1x128 v shapeCasts_S1x1x128_S1x128) shapeCasts_S1x128_S1x128) broadcasts_S1x128_S8x128) bitcasts_S8x128_w32_S16x128_w16)
/-- eight words of columns as sixteen, -/
def colF (v : Vec F S1x8x128 .i32) : FVec F S16x128 .bf16 :=
  bitcastToFloat .bf16 (bitcast S16x128 16 (shapeCast S8x128 v shapeCasts_S1x8x128_S8x128) bitcasts_S8x128_w32_S16x128_w16)
def zeroF : FVec F S16x128 .bf16 := broadcast S16x128 (Scalar.ofBits .bf16 0x0000#16)
/-- one head's weights, -/
def termF (a c : Vec F S1x1x128 .i32) (b r : Vec F S1x8x128 .i32) : FVec F S16x128 .bf16 :=
  select (cmpf .olt (colF r) (rowF c)) (mulf (rowF a) (colF b)) zeroF
/-- the gelu. -/
def geluF (h : Vec F S16x128 .f32) : FVec F S16x128 .bf16 :=
  mulf (mulf (broadcast S16x128 (Scalar.ofBits .bf16 0x3F00#16)) (truncf .bf16 h bitsLt_bf16_f32))
    (addf (broadcast S16x128 (Scalar.ofBits .bf16 0x3F80#16)) (tanh (mulf (truncf .bf16 h bitsLt_bf16_f32)
      (addf (broadcast S16x128 (Named.named κ "root" 0x3F4C#16)) (mulf (broadcast S16x128 (Named.named κ "rootcube" 0x3D12#16)) (mulf (truncf .bf16 h bitsLt_bf16_f32) (truncf .bf16 h bitsLt_bf16_f32)))))))

variable (arg3 : Memref sig .tc .vmem S8x8x128 .i32) (harg3 : arg3.IsWhole) (arg4 : Memref sig .tc .vmem S8x8x128 .i32) (harg4 : arg4.IsWhole)
  (arg5 : Memref sig .tc .vmem S8x64x128 .i32) (harg5 : arg5.IsWhole) (arg6 : Memref sig .tc .vmem S8x64x128 .i32) (harg6 : arg6.IsWhole)
  (arg12 : Memref sig .tc .vmem S1024x128 .f32)
  (x1 : Vec F S8x8x128 .i32) (x2 : Vec F S8x8x128 .i32) (x3 : Vec F S8x64x128 .i32) (x4 : Vec F S8x64x128 .i32) (L : List (View.Piece (Elt F) S1024x128 .f32))

theorem inb_row (h i : ℕ) (hh : h < 8) (hi : i < 8) : ∀ a : Fin S8x8x128.rank, (![h, i, 0] : Fin 3 → ℕ) a + S1x1x128.size a ≤ S8x8x128.size a := by
  intro a; match a with | ⟨0, _⟩ => show h + 1 ≤ 8; omega | ⟨1, _⟩ => show i + 1 ≤ 8; omega | ⟨2, _⟩ => show 0 + 128 ≤ 128; omega
theorem inb_col (h j : ℕ) (hh : h < 8) (hj : j < 8) : ∀ a : Fin S8x64x128.rank, (![h, 8 * j, 0] : Fin 3 → ℕ) a + S1x8x128.size a ≤ S8x64x128.size a := by
  intro a; match a with | ⟨0, _⟩ => show h + 1 ≤ 8; omega | ⟨1, _⟩ => show 8 * j + 8 ≤ 64; omega | ⟨2, _⟩ => show 0 + 128 ≤ 128; omega
theorem inb_tile (k : ℕ) (hk : k < 64) : ∀ a : Fin S1024x128.rank, (![16 * k, 0] : Fin 2 → ℕ) a + S16x128.size a ≤ S1024x128.size a := by
  intro a; match a with | ⟨0, _⟩ => show 16 * k + 16 ≤ 1024; omega | ⟨1, _⟩ => show 0 + 128 ≤ 128; omega

/-- A row's words of head `h`, -/
def ldRow (m : Memref sig .tc .vmem S8x8x128 .i32) (hm : m.IsWhole) (x : Vec F S8x8x128 .i32) (h : ℕ) (hh : h < 8) (i : ℕ) (hi : i < 8) : Vec F S1x1x128 .i32 :=
  View.readAt (Elt F) m.view (Rect.unit (s := S8x8x128) ![h, i, 0] S1x1x128.size (inb_row h i hh hi)).toLoadRect (hm.unread x)
/-- eight columns' words of head `h`. -/
def ldCol (m : Memref sig .tc .vmem S8x64x128 .i32) (hm : m.IsWhole) (x : Vec F S8x64x128 .i32) (h : ℕ) (hh : h < 8) (j : ℕ) (hj : j < 8) : Vec F S1x8x128 .i32 :=
  View.readAt (Elt F) m.view (Rect.unit (s := S8x64x128) ![h, 8 * j, 0] S1x8x128.size (inb_col h j hh hj)).toLoadRect (hm.unread x)

/-- One head's part of the tile of row `i` and columns `16 j` on, -/
def headF (i j : ℕ) (hi : i < 8) (hj : j < 8) (h : ℕ) (hh : h < 8) : FVec F S16x128 .bf16 :=
  termF (ldRow arg3 harg3 x1 h hh i hi) (ldRow arg4 harg4 x2 h hh i hi) (ldCol arg5 harg5 x3 h hh j hj) (ldCol arg6 harg6 x4 h hh j hj)

/-- the tile, -/
def tileF (i j : ℕ) (hi : i < 8) (hj : j < 8) : FVec F S16x128 .bf16 :=
  shapeCast S16x128 (mulf (addf (addf (addf (addf (addf (addf (addf (addf zeroF (headF arg3 harg3 arg4 harg4 arg5 harg5 arg6 harg6 x1 x2 x3 x4 i j hi hj 0 (by omega)))
    (headF arg3 harg3 arg4 harg4 arg5 harg5 arg6 harg6 x1 x2 x3 x4 i j hi hj 1 (by omega))) (headF arg3 harg3 arg4 harg4 arg5 harg5 arg6 harg6 x1 x2 x3 x4 i j hi hj 2 (by omega)))
    (headF arg3 harg3 arg4 harg4 arg5 harg5 arg6 harg6 x1 x2 x3 x4 i j hi hj 3 (by omega))) (headF arg3 harg3 arg4 harg4 arg5 harg5 arg6 harg6 x1 x2 x3 x4 i j hi hj 4 (by omega)))
    (headF arg3 harg3 arg4 harg4 arg5 harg5 arg6 harg6 x1 x2 x3 x4 i j hi hj 5 (by omega))) (headF arg3 harg3 arg4 harg4 arg5 harg5 arg6 harg6 x1 x2 x3 x4 i j hi hj 6 (by omega)))
    (headF arg3 harg3 arg4 harg4 arg5 harg5 arg6 harg6 x1 x2 x3 x4 i j hi hj 7 (by omega)))
    (geluF (arg12.view.readCov L (Rect.unit (s := S1024x128) ![16 * (8 * i + j), 0] S16x128.size (inb_tile (8 * i + j) (by omega))).toLoadRect))) shapeCasts_S16x128_S16x128

/-- and as a stored piece. -/
def pieceF (i j : ℕ) (hi : i < 8) (hj : j < 8) : View.Piece (Elt F) S1024x128 .bf16 :=
  ⟨Rect.unit (s := S1024x128) ![16 * (8 * i + j), 0] S16x128.size (inb_tile (8 * i + j) (by omega)), tileF arg3 harg3 arg4 harg4 arg5 harg5 arg6 harg6 arg12 x1 x2 x3 x4 L i j hi hj⟩

end

/-! ## At an index -/

theorem rowF_at (v : Vec Ideal S1x1x128 .i32) (r : Fin 16) (t : Fin 128) : rowF (F := Ideal) v (ix2 r t) = part (v (ix3 0 0 t)) (r.val % 2) := by
  unfold part rowF
  show Ideal.ofBits .bf16 (bitcast S16x128 16 _ _ (ix2 r t)) = _
  rw [bitcast_32_16, mul_comm]
  refine congrArg (fun z => Ideal.ofBits .bf16 (BitVec.extractLsb' _ 16 z)) ?_
  refine Eq.trans (b := broadcastTo S8x128 (shapeCast S1x128 (shapeCast S1x128 v shapeCasts_S1x1x128_S1x128) shapeCasts_S1x128_S1x128) broadcasts_S1x128_S8x128 (ix2 ⟨r.val / 2, by omega⟩ t)) (congrArg _ ?_) (by pointwise)
  funext k
  match k with | ⟨0, _⟩ => rfl | ⟨1, _⟩ => rfl

theorem colF_at (v : Vec Ideal S1x8x128 .i32) (r : Fin 16) (t : Fin 128) : colF (F := Ideal) v (ix2 r t) = part (v (ix3 0 ⟨r.val / 2, by omega⟩ t)) (r.val % 2) := by
  unfold part colF
  show Ideal.ofBits .bf16 (bitcast S16x128 16 _ _ (ix2 r t)) = _
  rw [bitcast_32_16, mul_comm]
  refine congrArg (fun z => Ideal.ofBits .bf16 (BitVec.extractLsb' _ 16 z)) ?_
  refine Eq.trans (b := shapeCast S8x128 v shapeCasts_S1x8x128_S8x128 (ix2 ⟨r.val / 2, by omega⟩ t)) (congrArg _ ?_) (by pointwise)
  funext k
  match k with | ⟨0, _⟩ => rfl | ⟨1, _⟩ => rfl

theorem termF_at (a c : Vec Ideal S1x1x128 .i32) (b r : Vec Ideal S1x8x128 .i32) (i : Fin 16) (t : Fin 128) :
    termF (F := Ideal) a c b r (ix2 i t) = pick (part (a (ix3 0 0 t)) (i.val % 2)) (part (c (ix3 0 0 t)) (i.val % 2))
      (part (b (ix3 0 ⟨i.val / 2, by omega⟩ t)) (i.val % 2)) (part (r (ix3 0 ⟨i.val / 2, by omega⟩ t)) (i.val % 2)) := by
  rw [← rowF_at, ← rowF_at, ← colF_at, ← colF_at]
  unfold termF pick zeroF
  pointwise

theorem geluF_at (h : Vec Ideal S16x128 .f32) (i : Fin 16) (t : Fin 128) : geluF (F := Ideal) h (ix2 i t) = gelu (h (ix2 i t)) := by
  rw [← gelu_eq]
  unfold geluF
  pointwise
  rfl

theorem ldRow_at (m : Memref sig .tc .vmem S8x8x128 .i32) (hm : m.IsWhole) (x : Vec Ideal S8x8x128 .i32) (h : ℕ) (hh : h < 8) (i : ℕ) (hi : i < 8) (t : Fin 128) :
    ldRow (F := Ideal) m hm x h hh i hi (ix3 0 0 t) = x (ix3 ⟨h, hh⟩ ⟨i, hi⟩ t) := by
  unfold ldRow
  rw [View.readAt_eq_ld, Memref.IsWhole.read_unread]
  refine congrArg x (funext fun k => Fin.ext ?_)
  match k with
  | ⟨0, _⟩ => show h + 1 * 0 = h; omega
  | ⟨1, _⟩ => show i + 1 * 0 = i; omega
  | ⟨2, _⟩ => show 0 + 1 * t.val = t.val; omega
theorem ldCol_at (m : Memref sig .tc .vmem S8x64x128 .i32) (hm : m.IsWhole) (x : Vec Ideal S8x64x128 .i32) (h : ℕ) (hh : h < 8) (j : ℕ) (hj : j < 8) (w : Fin 8) (t : Fin 128) :
    ldCol (F := Ideal) m hm x h hh j hj (ix3 0 w t) = x (ix3 ⟨h, hh⟩ ⟨8 * j + w.val, by omega⟩ t) := by
  unfold ldCol
  rw [View.readAt_eq_ld, Memref.IsWhole.read_unread]
  refine congrArg x (funext fun k => Fin.ext ?_)
  match k with
  | ⟨0, _⟩ => show h + 1 * 0 = h; omega
  | ⟨1, _⟩ => show 8 * j + 1 * w.val = 8 * j + w.val; omega
  | ⟨2, _⟩ => show 0 + 1 * t.val = t.val; omega

/-- The weight that the body gives its expert `e`. -/
def wtOf (x1 x2 : Vec Ideal S8x8x128 .i32) (x3 x4 : Vec Ideal S8x64x128 .i32) (hid : Vec Ideal S1024x128 .f32) (e : Fin 1024) (t : Fin 128) : EReal :=
  (∑ y : Fin 8, pick (part (x1 (ix3 y ⟨e.val / 128, by omega⟩ t)) (e.val % 2)) (part (x2 (ix3 y ⟨e.val / 128, by omega⟩ t)) (e.val % 2))
    (part (x3 (ix3 y ⟨e.val % 128 / 2, by omega⟩ t)) (e.val % 2)) (part (x4 (ix3 y ⟨e.val % 128 / 2, by omega⟩ t)) (e.val % 2))) * gelu (hid (ix2 e t))

theorem tileF_at (arg3 : Memref sig .tc .vmem S8x8x128 .i32) (harg3 : arg3.IsWhole) (arg4 : Memref sig .tc .vmem S8x8x128 .i32) (harg4 : arg4.IsWhole)
    (arg5 : Memref sig .tc .vmem S8x64x128 .i32) (harg5 : arg5.IsWhole) (arg6 : Memref sig .tc .vmem S8x64x128 .i32) (harg6 : arg6.IsWhole)
    (arg12 : Memref sig .tc .vmem S1024x128 .f32) (x1 x2 : Vec Ideal S8x8x128 .i32) (x3 x4 : Vec Ideal S8x64x128 .i32) (hid : Vec Ideal S1024x128 .f32)
    (hin : ∀ a : Fin S1024x128.rank, (![0, 0] : Fin 2 → ℕ) a + S1024x128.size a ≤ S1024x128.size a) (i j : ℕ) (hi : i < 8) (hj : j < 8) (r : Fin 16) (t : Fin 128) :
    tileF (F := Ideal) arg3 harg3 arg4 harg4 arg5 harg5 arg6 harg6 arg12 x1 x2 x3 x4 [⟨Rect.unit ![0, 0] S1024x128.size hin, hid⟩] i j hi hj (ix2 r t)
      = wtOf x1 x2 x3 x4 hid ⟨128 * i + 16 * j + r.val, by omega⟩ t := by
  have hg : ∀ a : FVec Ideal S16x128 .bf16, shapeCast S16x128 a shapeCasts_S16x128_S16x128 (ix2 r t) = a (ix2 r t) := fun a => by pointwise
  unfold tileF
  rw [hg]
  show (((((((((zeroF (F := Ideal) (ix2 r t) : EReal) + headF _ _ _ _ _ _ _ _ x1 x2 x3 x4 i j hi hj 0 _ (ix2 r t)) + headF _ _ _ _ _ _ _ _ x1 x2 x3 x4 i j hi hj 1 _ (ix2 r t))
    + headF _ _ _ _ _ _ _ _ x1 x2 x3 x4 i j hi hj 2 _ (ix2 r t)) + headF _ _ _ _ _ _ _ _ x1 x2 x3 x4 i j hi hj 3 _ (ix2 r t)) + headF _ _ _ _ _ _ _ _ x1 x2 x3 x4 i j hi hj 4 _ (ix2 r t))
    + headF _ _ _ _ _ _ _ _ x1 x2 x3 x4 i j hi hj 5 _ (ix2 r t)) + headF _ _ _ _ _ _ _ _ x1 x2 x3 x4 i j hi hj 6 _ (ix2 r t)) + headF _ _ _ _ _ _ _ _ x1 x2 x3 x4 i j hi hj 7 _ (ix2 r t))
    * geluF (F := Ideal) _ (ix2 r t) = _
  rw [geluF_at, View.readCov_eq_canon', View.canon_cons_unit_lit' _ _ _ (by decide)]
  unfold wtOf
  simp only [Fin.sum_univ_eight, headF, termF_at, ldRow_at, ldCol_at]
  have e1 : (128 * i + 16 * j + r.val) / 128 = i := by omega
  have e2 : (128 * i + 16 * j + r.val) % 128 / 2 = 8 * j + r.val / 2 := by omega
  have e3 : (128 * i + 16 * j + r.val) % 2 = r.val % 2 := by omega
  simp only [e1, e2, e3]
  rw [show (zeroF (F := Ideal) (ix2 r t) : EReal) = 0 from Ideal.ofBits_zero_bf16, zero_add]
  refine congrArg₂ (· * ·) rfl (congrArg (fun z => gelu (hid z)) (funext fun k => Fin.ext ?_))
  match k with
  | ⟨0, _⟩ => show 16 * (8 * i + j) + 1 * r.val = 128 * i + 16 * j + r.val; omega
  | ⟨1, _⟩ => show 0 + 1 * t.val = t.val; omega

/-- The order of storing, the last first. -/
def order : List (Fin 64) :=
  [63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

/-- The tiles in the order of storing, the last first. -/
def tilesF {F : FTy → Type} [FloatOps F] [Named F] (arg3 : Memref sig .tc .vmem S8x8x128 .i32) (harg3 : arg3.IsWhole) (arg4 : Memref sig .tc .vmem S8x8x128 .i32) (harg4 : arg4.IsWhole)
    (arg5 : Memref sig .tc .vmem S8x64x128 .i32) (harg5 : arg5.IsWhole) (arg6 : Memref sig .tc .vmem S8x64x128 .i32) (harg6 : arg6.IsWhole)
    (arg12 : Memref sig .tc .vmem S1024x128 .f32) (x1 x2 : Vec F S8x8x128 .i32) (x3 x4 : Vec F S8x64x128 .i32) (L : List (View.Piece (Elt F) S1024x128 .f32)) :
    List (View.Piece (Elt F) S1024x128 .bf16) :=
  order.map fun k => pieceF arg3 harg3 arg4 harg4 arg5 harg5 arg6 harg6 arg12 x1 x2 x3 x4 L (k.val / 8) (k.val % 8) (by omega) (by omega)

/-- the weights as an array. -/
def wtV (x1 x2 : Vec Ideal S8x8x128 .i32) (x3 x4 : Vec Ideal S8x64x128 .i32) (hid : Vec Ideal S1024x128 .f32) : S1024x128.Idx → Elt Ideal .bf16 :=
  fun y => wtOf x1 x2 x3 x4 hid (y 0) (y 1)

/-- The tiles are the weights. -/
theorem tilesF_at (arg3 : Memref sig .tc .vmem S8x8x128 .i32) (harg3 : arg3.IsWhole) (arg4 : Memref sig .tc .vmem S8x8x128 .i32) (harg4 : arg4.IsWhole)
    (arg5 : Memref sig .tc .vmem S8x64x128 .i32) (harg5 : arg5.IsWhole) (arg6 : Memref sig .tc .vmem S8x64x128 .i32) (harg6 : arg6.IsWhole)
    (arg12 : Memref sig .tc .vmem S1024x128 .f32) (x1 x2 : Vec Ideal S8x8x128 .i32) (x3 x4 : Vec Ideal S8x64x128 .i32) (hid : Vec Ideal S1024x128 .f32)
    (hin : ∀ a : Fin S1024x128.rank, (![0, 0] : Fin 2 → ℕ) a + S1024x128.size a ≤ S1024x128.size a) (y : S1024x128.Idx) :
    View.canon (tilesF (F := Ideal) arg3 harg3 arg4 harg4 arg5 harg5 arg6 harg6 arg12 x1 x2 x3 x4 [⟨Rect.unit (s := S1024x128) ![0, 0] S1024x128.size hin, hid⟩]) y
      = wtV x1 x2 x3 x4 hid y := by
  have hp : ∀ pc ∈ tilesF (F := Ideal) arg3 harg3 arg4 harg4 arg5 harg5 arg6 harg6 arg12 x1 x2 x3 x4 [⟨Rect.unit (s := S1024x128) ![0, 0] S1024x128.size hin, hid⟩],
      ∃ i j hi hj, pc = pieceF (F := Ideal) arg3 harg3 arg4 harg4 arg5 harg5 arg6 harg6 arg12 x1 x2 x3 x4 [⟨Rect.unit (s := S1024x128) ![0, 0] S1024x128.size hin, hid⟩] i j hi hj := by
    intro pc hpc
    obtain ⟨k, -, rfl⟩ := List.mem_map.mp hpc
    exact ⟨_, _, _, _, rfl⟩
  refine View.canon_apply_of_pieces (Val := Elt Ideal) (e := .bf16) (wtV x1 x2 x3 x4 hid) _ ?_ y ?_
  · intro pc hpc z
    obtain ⟨i, j, hi, hj, rfl⟩ := hp pc hpc
    obtain ⟨r, t, rfl⟩ : ∃ (r : Fin 16) (t : Fin 128), z = ix2 r t := ⟨z 0, z 1, by funext k; match k with | ⟨0, _⟩ => rfl | ⟨1, _⟩ => rfl⟩
    refine (tileF_at arg3 harg3 arg4 harg4 arg5 harg5 arg6 harg6 arg12 x1 x2 x3 x4 hid hin i j hi hj r t).trans ?_
    refine congrArg₂ (wtOf x1 x2 x3 x4 hid) (Fin.ext ?_) (Fin.ext ?_)
    · show 128 * i + 16 * j + r.val = 16 * (8 * i + j) + 1 * r.val; omega
    · show t.val = 0 + 1 * t.val; omega
  · exact View.cover_of_tiledL _ ![16, 128] (by sl_kernel_rfl) _

end Cert.Kernel5Ideal.Body

end
-- ==== Proof.DensePiecesA.lean ====
module

public import proofs.«01_k».proof.Proof.DenseTiles

@[expose] public section

set_option maxRecDepth 16384

noncomputable section

namespace Cert.Kernel5Ideal.Body

open Cert.Kernel5Ideal Cert.Kernel5Ideal.Gen Cert.Dense
open Idealize.ShloMosaic Idealize.ShloMosaic.TcCoe Idealize.ShloMosaic.Tactic

/-- What the body stores of the weights, in case A. -/
theorem pieces_A {F : FTy → Type} [FloatOps F] [Named F] (c : Dev nD) (arg2 : Memref sig .tc .vmem S1024x128 .bf16) (harg2 : arg2.IsWhole) (arg3 : Memref sig .tc .vmem S8x8x128 .i32) (harg3 : arg3.IsWhole) (arg4 : Memref sig .tc .vmem S8x8x128 .i32) (harg4 : arg4.IsWhole)
    (arg5 : Memref sig .tc .vmem S8x64x128 .i32) (harg5 : arg5.IsWhole) (arg6 : Memref sig .tc .vmem S8x64x128 .i32) (harg6 : arg6.IsWhole) (arg7 : Memref sig .tc .vmem S1024x1024 .bf16) (harg7 : arg7.IsWhole)
    (arg12 : Memref sig .tc .vmem S1024x128 .f32) (x0 : Vec F S1024x128 .bf16) (x1 x2 : Vec F S8x8x128 .i32) (x3 x4 : Vec F S8x64x128 .i32) (x5 : Vec F S1024x1024 .bf16) :
    kernelRun0_A.sl.HS2_64 c arg2 harg2 arg3 harg3 arg4 harg4 arg5 harg5 arg6 harg6 arg7 harg7 arg12 x0 x1 x2 x3 x4 x5
      = tilesF arg3 harg3 arg4 harg4 arg5 harg5 arg6 harg6 arg12 x1 x2 x3 x4 (kernelRun0_A.sl.HS1_1 c arg2 harg2 arg7 harg7 x0 x5) := by
  sl_kernel_rfl

end Cert.Kernel5Ideal.Body

end
-- ==== Proof.DensePiecesB.lean ====
module

public import proofs.«01_k».proof.Proof.DenseTiles

@[expose] public section

set_option maxRecDepth 16384

noncomputable section

namespace Cert.Kernel5Ideal.Body

open Cert.Kernel5Ideal Cert.Kernel5Ideal.Gen Cert.Dense
open Idealize.ShloMosaic Idealize.ShloMosaic.TcCoe Idealize.ShloMosaic.Tactic

/-- What the body stores of the weights, in case B. -/
theorem pieces_B {F : FTy → Type} [FloatOps F] [Named F] (c : Dev nD) (arg2 : Memref sig .tc .vmem S1024x128 .bf16) (harg2 : arg2.IsWhole) (arg3 : Memref sig .tc .vmem S8x8x128 .i32) (harg3 : arg3.IsWhole) (arg4 : Memref sig .tc .vmem S8x8x128 .i32) (harg4 : arg4.IsWhole)
    (arg5 : Memref sig .tc .vmem S8x64x128 .i32) (harg5 : arg5.IsWhole) (arg6 : Memref sig .tc .vmem S8x64x128 .i32) (harg6 : arg6.IsWhole) (arg7 : Memref sig .tc .vmem S1024x1024 .bf16) (harg7 : arg7.IsWhole)
    (arg12 : Memref sig .tc .vmem S1024x128 .f32) (x0 : Vec F S1024x128 .bf16) (x1 x2 : Vec F S8x8x128 .i32) (x3 x4 : Vec F S8x64x128 .i32) (x5 : Vec F S1024x1024 .bf16) :
    kernelRun0_B.sl.HS2_64 c arg2 harg2 arg3 harg3 arg4 harg4 arg5 harg5 arg6 harg6 arg7 harg7 arg12 x0 x1 x2 x3 x4 x5
      = tilesF arg3 harg3 arg4 harg4 arg5 harg5 arg6 harg6 arg12 x1 x2 x3 x4 (kernelRun0_B.sl.HS1_1 c arg2 harg2 arg7 harg7 x0 x5) := by
  sl_kernel_rfl

end Cert.Kernel5Ideal.Body

end
-- ==== Proof.DensePiecesC.lean ====
module

public import proofs.«01_k».proof.Proof.DenseTiles

@[expose] public section

set_option maxRecDepth 16384

noncomputable section

namespace Cert.Kernel5Ideal.Body

open Cert.Kernel5Ideal Cert.Kernel5Ideal.Gen Cert.Dense
open Idealize.ShloMosaic Idealize.ShloMosaic.TcCoe Idealize.ShloMosaic.Tactic

/-- What the body stores of the weights, in case C. -/
theorem pieces_C {F : FTy → Type} [FloatOps F] [Named F] (c : Dev nD) (arg2 : Memref sig .tc .vmem S1024x128 .bf16) (harg2 : arg2.IsWhole) (arg3 : Memref sig .tc .vmem S8x8x128 .i32) (harg3 : arg3.IsWhole) (arg4 : Memref sig .tc .vmem S8x8x128 .i32) (harg4 : arg4.IsWhole)
    (arg5 : Memref sig .tc .vmem S8x64x128 .i32) (harg5 : arg5.IsWhole) (arg6 : Memref sig .tc .vmem S8x64x128 .i32) (harg6 : arg6.IsWhole) (arg7 : Memref sig .tc .vmem S1024x1024 .bf16) (harg7 : arg7.IsWhole)
    (arg12 : Memref sig .tc .vmem S1024x128 .f32) (x0 : Vec F S1024x128 .bf16) (x1 x2 : Vec F S8x8x128 .i32) (x3 x4 : Vec F S8x64x128 .i32) (x5 : Vec F S1024x1024 .bf16) :
    kernelRun0_C.sl.HS2_64 c arg2 harg2 arg3 harg3 arg4 harg4 arg5 harg5 arg6 harg6 arg7 harg7 arg12 x0 x1 x2 x3 x4 x5
      = tilesF arg3 harg3 arg4 harg4 arg5 harg5 arg6 harg6 arg12 x1 x2 x3 x4 (kernelRun0_C.sl.HS1_1 c arg2 harg2 arg7 harg7 x0 x5) := by
  sl_kernel_rfl

end Cert.Kernel5Ideal.Body

end
-- ==== Proof.DenseBlock.lean ====
module

public import proofs.«01_k».proof.Proof.DensePiecesA
public import proofs.«01_k».proof.Proof.DensePiecesB
public import proofs.«01_k».proof.Proof.DensePiecesC

@[expose] public section

set_option maxRecDepth 16384

noncomputable section

namespace Cert.Kernel5Ideal.Body

open Cert.Kernel5Ideal Cert.Kernel5Ideal.Gen Cert.Dense
open Idealize.ShloMosaic Idealize.ShloMosaic.TcCoe Idealize.ShloMosaic.Tactic

/-! # One chunk of experts, entry by entry -/

theorem pay4_at (d : Fin 1024) (t : Fin 128) : (k0_pay4 (F := Ideal) (ix2 d t) : EReal) = 0 := by
  have : (k0_pay4 (F := Ideal) (ix2 d t) : EReal) = Ideal.ofBits .f32 0x00000000#32 := by pointwise [k0_pay4]
  rw [this]; exact Ideal.ofBits_zero_f32
theorem pay5_at (u : FVec Ideal S1024x1024 .bf16) (x : FVec Ideal S1024x128 .bf16) (e : Fin 1024) (t : Fin 128) :
    (k0_pay5 (F := Ideal) u x (ix2 e t) : EReal) = ∑ k : Fin 1024, u (ix2 e k) * x (ix2 k t) := by
  pointwise [k0_pay5]
theorem pay2_at (a : FVec Ideal S1024x128 .f32) (v : FVec Ideal S1024x1024 .bf16) (w : FVec Ideal S1024x128 .bf16) (d : Fin 1024) (t : Fin 128) :
    (k0_pay2 (F := Ideal) a v w (ix2 d t) : EReal) = a (ix2 d t) + ∑ k : Fin 1024, v (ix2 d k) * w (ix2 k t) := by
  pointwise [k0_pay2]
theorem pay3_at (h : FVec Ideal S128x1024 .f32) (a : FVec Ideal S1024x128 .f32) (t : Fin 128) (d : Fin 1024) :
    (k0_pay3 (F := Ideal) h a (ix2 t d) : EReal) = h (ix2 t d) + a (ix2 d t) := by
  pointwise [k0_pay3]

theorem whole_val (n : ℕ) : 0 + 1 * n = n := by omega

/-- The sum with a chunk added. -/
def stepOf (acc : FVec Ideal S1024x128 .f32) (x0 : FVec Ideal S1024x128 .bf16) (x1 x2 : Vec Ideal S8x8x128 .i32) (x3 x4 : Vec Ideal S8x64x128 .i32)
    (x5 x6 : FVec Ideal S1024x1024 .bf16) : FVec Ideal S1024x128 .f32 :=
  k0_pay2 (F := Ideal) acc x6 (wtV x1 x2 x3 x4 (k0_pay5 (F := Ideal) x5 x0))

/-- A first chunk's sum, -/
theorem sout_A (c : Dev nD) (i : grid0.Coords) (arg2 : Memref sig .tc .vmem S1024x128 .bf16) (harg2 : arg2.IsWhole) (arg3 : Memref sig .tc .vmem S8x8x128 .i32) (harg3 : arg3.IsWhole) (arg4 : Memref sig .tc .vmem S8x8x128 .i32) (harg4 : arg4.IsWhole) (arg5 : Memref sig .tc .vmem S8x64x128 .i32) (harg5 : arg5.IsWhole) (arg6 : Memref sig .tc .vmem S8x64x128 .i32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .bf16) (harg13 : arg13.IsWhole) (hc0 : cond0_0 i) (hc1 : ¬cond0_1 i)
    (x0 : Vec Ideal S1024x128 .bf16) (x1 x2 : Vec Ideal S8x8x128 .i32) (x3 x4 : Vec Ideal S8x64x128 .i32) (x5 x6 : Vec Ideal S1024x1024 .bf16) (x7 : Vec Ideal S128x1024 .f32) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = stepOf (k0_pay4 (F := Ideal)) x0 x1 x2 x3 x4 x5 x6 := by
  have hw : ∀ y : S1024x128.Idx, View.canon (tilesF (F := Ideal) arg3 harg3 arg4 harg4 arg5 harg5 arg6 harg6 arg12 x1 x2 x3 x4 [⟨Rect.unit (s := S1024x128) ![0, 0] S1024x128.size inb_S1024x128_S1024x128_0_0, k0_pay5 (F := Ideal) x5 x0⟩]) y
      = wtV x1 x2 x3 x4 (k0_pay5 (F := Ideal) x5 x0) y := fun y =>
    tilesF_at arg3 harg3 arg4 harg4 arg5 harg5 arg6 harg6 arg12 x1 x2 x3 x4 _ inb_S1024x128_S1024x128_0_0 y
  unfold sout0_A_0 kernelRun0_A
  dsimp only
  unfold kernelRun0_A.sl.v7442 kernelRun0_A.sl.HS0_1
  unfold kernelRun0_A.sl.v7445
  rw [pieces_A]
  unfold kernelRun0_A.sl.HS1_1 kernelRun0_A.sl.v9
  frame_out
  try simp (disch := decide) only [View.readCov_eq_canon', View.ld_unit_lit', View.canon_cons_unit_lit', View.readAt_eq_ld, Memref.IsWhole.read_unread]
  refine (congrArg (k0_pay2 (F := Ideal) _ x6) (funext fun y => Eq.trans ?_ (hw y)))
  exact congrArg (View.canon (tilesF (F := Ideal) arg3 harg3 arg4 harg4 arg5 harg5 arg6 harg6 arg12 x1 x2 x3 x4 [⟨Rect.unit (s := S1024x128) ![0, 0] S1024x128.size inb_S1024x128_S1024x128_0_0, k0_pay5 (F := Ideal) x5 x0⟩]))
    (funext fun k => Fin.ext (by match k with | ⟨0, _⟩ => exact whole_val _ | ⟨1, _⟩ => exact whole_val _))
/-- a middle chunk's, -/
theorem sout_B (c : Dev nD) (i : grid0.Coords) (arg2 : Memref sig .tc .vmem S1024x128 .bf16) (harg2 : arg2.IsWhole) (arg3 : Memref sig .tc .vmem S8x8x128 .i32) (harg3 : arg3.IsWhole) (arg4 : Memref sig .tc .vmem S8x8x128 .i32) (harg4 : arg4.IsWhole) (arg5 : Memref sig .tc .vmem S8x64x128 .i32) (harg5 : arg5.IsWhole) (arg6 : Memref sig .tc .vmem S8x64x128 .i32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .bf16) (harg13 : arg13.IsWhole) (hc0 : ¬cond0_0 i) (hc1 : ¬cond0_1 i)
    (x0 : Vec Ideal S1024x128 .bf16) (x1 x2 : Vec Ideal S8x8x128 .i32) (x3 x4 : Vec Ideal S8x64x128 .i32) (x5 x6 : Vec Ideal S1024x1024 .bf16) (x7 : Vec Ideal S128x1024 .f32) (xs0 : Vec Ideal S1024x128 .f32) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = stepOf xs0 x0 x1 x2 x3 x4 x5 x6 := by
  have hw : ∀ y : S1024x128.Idx, View.canon (tilesF (F := Ideal) arg3 harg3 arg4 harg4 arg5 harg5 arg6 harg6 arg12 x1 x2 x3 x4 [⟨Rect.unit (s := S1024x128) ![0, 0] S1024x128.size inb_S1024x128_S1024x128_0_0, k0_pay5 (F := Ideal) x5 x0⟩]) y
      = wtV x1 x2 x3 x4 (k0_pay5 (F := Ideal) x5 x0) y := fun y =>
    tilesF_at arg3 harg3 arg4 harg4 arg5 harg5 arg6 harg6 arg12 x1 x2 x3 x4 _ inb_S1024x128_S1024x128_0_0 y
  unfold sout0_B_0 kernelRun0_B
  dsimp only
  skip
  unfold kernelRun0_B.sl.v7445
  rw [pieces_B]
  unfold kernelRun0_B.sl.HS1_1 kernelRun0_B.sl.v9
  frame_out
  try simp (disch := decide) only [View.readCov_eq_canon', View.ld_unit_lit', View.canon_cons_unit_lit', View.readAt_eq_ld, Memref.IsWhole.read_unread]
  refine (congrArg (k0_pay2 (F := Ideal) _ x6) (funext fun y => Eq.trans ?_ (hw y)))
  exact congrArg (View.canon (tilesF (F := Ideal) arg3 harg3 arg4 harg4 arg5 harg5 arg6 harg6 arg12 x1 x2 x3 x4 [⟨Rect.unit (s := S1024x128) ![0, 0] S1024x128.size inb_S1024x128_S1024x128_0_0, k0_pay5 (F := Ideal) x5 x0⟩]))
    (funext fun k => Fin.ext (by match k with | ⟨0, _⟩ => exact whole_val _ | ⟨1, _⟩ => exact whole_val _))
/-- and the last one's result. -/
theorem out_C (c : Dev nD) (i : grid0.Coords) (arg2 : Memref sig .tc .vmem S1024x128 .bf16) (harg2 : arg2.IsWhole) (arg3 : Memref sig .tc .vmem S8x8x128 .i32) (harg3 : arg3.IsWhole) (arg4 : Memref sig .tc .vmem S8x8x128 .i32) (harg4 : arg4.IsWhole) (arg5 : Memref sig .tc .vmem S8x64x128 .i32) (harg5 : arg5.IsWhole) (arg6 : Memref sig .tc .vmem S8x64x128 .i32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .bf16) (harg13 : arg13.IsWhole) (hc0 : ¬cond0_0 i) (hc1 : cond0_1 i)
    (x0 : Vec Ideal S1024x128 .bf16) (x1 x2 : Vec Ideal S8x8x128 .i32) (x3 x4 : Vec Ideal S8x64x128 .i32) (x5 x6 : Vec Ideal S1024x1024 .bf16) (x7 : Vec Ideal S128x1024 .f32) (xs0 : Vec Ideal S1024x128 .f32) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = k0_pay3 (F := Ideal) x7 (stepOf xs0 x0 x1 x2 x3 x4 x5 x6) := by
  have hw : ∀ y : S1024x128.Idx, View.canon (tilesF (F := Ideal) arg3 harg3 arg4 harg4 arg5 harg5 arg6 harg6 arg12 x1 x2 x3 x4 [⟨Rect.unit (s := S1024x128) ![0, 0] S1024x128.size inb_S1024x128_S1024x128_0_0, k0_pay5 (F := Ideal) x5 x0⟩]) y
      = wtV x1 x2 x3 x4 (k0_pay5 (F := Ideal) x5 x0) y := fun y =>
    tilesF_at arg3 harg3 arg4 harg4 arg5 harg5 arg6 harg6 arg12 x1 x2 x3 x4 _ inb_S1024x128_S1024x128_0_0 y
  unfold out0_C_8 kernelRun0_C
  dsimp only
  unfold kernelRun0_C.sl.v7455 kernelRun0_C.sl.HS0_1
  unfold kernelRun0_C.sl.v7445
  rw [pieces_C]
  unfold kernelRun0_C.sl.HS1_1 kernelRun0_C.sl.v9
  frame_out
  try simp (disch := decide) only [View.readCov_eq_canon', View.ld_unit_lit', View.canon_cons_unit_lit', View.readAt_eq_ld, Memref.IsWhole.read_unread]
  refine congrArg (k0_pay3 (F := Ideal) x7) (congrArg (k0_pay2 (F := Ideal) _ x6) (funext fun y => Eq.trans ?_ (hw y)))
  exact congrArg (View.canon (tilesF (F := Ideal) arg3 harg3 arg4 harg4 arg5 harg5 arg6 harg6 arg12 x1 x2 x3 x4 [⟨Rect.unit (s := S1024x128) ![0, 0] S1024x128.size inb_S1024x128_S1024x128_0_0, k0_pay5 (F := Ideal) x5 x0⟩]))
    (funext fun k => Fin.ext (by match k with | ⟨0, _⟩ => exact whole_val _ | ⟨1, _⟩ => exact whole_val _))

end Cert.Kernel5Ideal.Body

end
-- ==== Proof.DenseArrays.lean ====
module

public import proofs.«01_k».proof.Proof.DenseBlock
public import Idealize.ShloMosaic.Lib.Claim
public import Idealize.ShloMosaic.Lib.StableHlo.RunRead

@[expose] public section

set_option maxRecDepth 16384

noncomputable section

namespace Cert.Kernel5Ideal.Body

open Cert.Kernel5Ideal Cert.Kernel5Ideal.Gen Cert.Dense
open Idealize.ShloMosaic Idealize.ShloMosaic.TcCoe Idealize.ShloMosaic.Tactic

/-! # The experts' blocks in the arguments -/

variable (m : (ℓ : Loc nD τ sig) → Buf (Elt Ideal) ℓ) (c : Dev nD)

theorem idx (t : Fin cfg0.N) : win0_0.index t = ![0, 0] ∧ win0_1.index t = ![0, t.val, 0] ∧ win0_2.index t = ![0, t.val, 0] ∧ win0_3.index t = ![0, 0, 0]
    ∧ win0_4.index t = ![0, 0, 0] ∧ win0_5.index t = ![t.val, 0] ∧ win0_6.index t = ![0, t.val] ∧ win0_7.index t = ![0, 0] :=
  (by decide +kernel : ∀ t : Fin cfg0.N, win0_0.index t = ![0, 0] ∧ win0_1.index t = ![0, t.val, 0] ∧ win0_2.index t = ![0, t.val, 0] ∧ win0_3.index t = ![0, 0, 0]
    ∧ win0_4.index t = ![0, 0, 0] ∧ win0_5.index t = ![t.val, 0] ∧ win0_6.index t = ![0, t.val] ∧ win0_7.index t = ![0, 0]) t

/-- The arguments as launched. -/
def args : Args where
  x := m ((c : Thread nD τ).loc main_arg0)
  a := m ((c : Thread nD τ).loc main_arg1)
  c := m ((c : Thread nD τ).loc main_arg2)
  b := m ((c : Thread nD τ).loc main_arg3)
  r := m ((c : Thread nD τ).loc main_arg4)
  u := m ((c : Thread nD τ).loc main_arg5)
  v := m ((c : Thread nD τ).loc main_arg6)
  h := m ((c : Thread nD τ).loc main_arg7)

/-- Expert `i` of chunk `t`. -/
def expert (t : Fin cfg0.N) (i : Fin 1024) : Fin 16384 := ⟨1024 * t.val + i.val, by have : t.val < 16 := t.isLt; omega⟩
/-- Row `i` of chunk `t`. -/
def line (t : Fin cfg0.N) (i : Fin 8) : Fin 128 := ⟨8 * t.val + i.val, by have : t.val < 16 := t.isLt; omega⟩

theorem x_at (t : Fin cfg0.N) (k : Fin 1024) (l : Fin 128) :
    (iblk m c 0 t : FVec Ideal S1024x128 .bf16) (ix2 k l) = (args m c).x (ix2 k l) := by
  unfold args
  blk_point [iblk, V, idx t]
theorem a_at (t : Fin cfg0.N) (y i : Fin 8) (l : Fin 128) :
    (iblk m c 1 t : Vec Ideal S8x8x128 .i32) (ix3 y i l) = (args m c).a (ix3 y (line t i) l) := by
  unfold args line
  blk_point [iblk, V, idx t]
theorem c_at (t : Fin cfg0.N) (y i : Fin 8) (l : Fin 128) :
    (iblk m c 2 t : Vec Ideal S8x8x128 .i32) (ix3 y i l) = (args m c).c (ix3 y (line t i) l) := by
  unfold args line
  blk_point [iblk, V, idx t]
theorem b_at (t : Fin cfg0.N) (y : Fin 8) (w : Fin 64) (l : Fin 128) :
    (iblk m c 3 t : Vec Ideal S8x64x128 .i32) (ix3 y w l) = (args m c).b (ix3 y w l) := by
  unfold args
  blk_point [iblk, V, idx t]
theorem r_at (t : Fin cfg0.N) (y : Fin 8) (w : Fin 64) (l : Fin 128) :
    (iblk m c 4 t : Vec Ideal S8x64x128 .i32) (ix3 y w l) = (args m c).r (ix3 y w l) := by
  unfold args
  blk_point [iblk, V, idx t]
theorem u_at (t : Fin cfg0.N) (i k : Fin 1024) :
    (iblk m c 5 t : FVec Ideal S1024x1024 .bf16) (ix2 i k) = (args m c).u (ix2 (expert t i) k) := by
  unfold args expert
  blk_point [iblk, V, idx t]
theorem v_at (t : Fin cfg0.N) (d i : Fin 1024) :
    (iblk m c 6 t : FVec Ideal S1024x1024 .bf16) (ix2 d i) = (args m c).v (ix2 (expert t i) d) := by
  unfold args expert
  blk_point [iblk, V, idx t]
theorem h_at (t : Fin cfg0.N) (l : Fin 128) (d : Fin 1024) :
    (iblk m c 7 t : FVec Ideal S128x1024 .f32) (ix2 l d) = (args m c).h (ix2 l d) := by
  unfold args
  blk_point [iblk, V, idx t]

/-- The weights of a chunk. -/
theorem wt_at (t : Fin cfg0.N) (i : Fin 1024) (l : Fin 128) :
    wtOf (iblk m c 1 t) (iblk m c 2 t) (iblk m c 3 t) (iblk m c 4 t) (k0_pay5 (F := Ideal) (iblk m c 5 t) (iblk m c 0 t)) i l
      = (args m c).wt (expert t i) l := by
  have ht : t.val < 16 := t.isLt
  have e0 : line t ⟨i.val / 128, by omega⟩ = (⟨(expert t i).val / 128, by have := (expert t i).isLt; omega⟩ : Fin 128) :=
    Fin.ext (by show 8 * t.val + i.val / 128 = (1024 * t.val + i.val) / 128; omega)
  have e1 : (⟨i.val % 128 / 2, by omega⟩ : Fin 64) = ⟨(expert t i).val % 128 / 2, by omega⟩ :=
    Fin.ext (by show i.val % 128 / 2 = (1024 * t.val + i.val) % 128 / 2; omega)
  have e2 : i.val % 2 = (expert t i).val % 2 := by show i.val % 2 = (1024 * t.val + i.val) % 2; omega
  unfold wtOf Args.wt Args.gate Args.hid
  refine congrArg₂ (· * ·) (Finset.sum_congr rfl fun y _ => ?_) (congrArg gelu ?_)
  · rw [a_at, c_at, b_at, r_at, e0, e1, e2]
  · refine (pay5_at _ _ i l).trans (Finset.sum_congr rfl fun k _ => ?_)
    rw [u_at, x_at]

/-- What a chunk adds. -/
theorem step_at (acc : FVec Ideal S1024x128 .f32) (t : Fin cfg0.N) (d : Fin 1024) (l : Fin 128) :
    (stepOf acc (iblk m c 0 t) (iblk m c 1 t) (iblk m c 2 t) (iblk m c 3 t) (iblk m c 4 t) (iblk m c 5 t) (iblk m c 6 t) (ix2 d l) : EReal)
      = acc (ix2 d l) + ∑ i : Fin 1024, (args m c).v (ix2 (expert t i) d) * (args m c).wt (expert t i) l := by
  refine (pay2_at _ _ _ d l).trans (congrArg (acc (ix2 d l) + ·) (Finset.sum_congr rfl fun i _ => ?_))
  rw [v_at]
  exact congrArg (_ * ·) (wt_at m c t i l)

end Cert.Kernel5Ideal.Body

end
-- ==== Proof.DenseResult.lean ====
module

public import proofs.«01_k».proof.Proof.DenseArrays
public import Idealize.ShloMosaic.Lib.Claim
public import Idealize.ShloMosaic.Lib.StableHlo.RunRead

@[expose] public section

set_option maxRecDepth 16384

noncomputable section

namespace Cert.Kernel5Ideal.Body

open Cert.Kernel5Ideal Cert.Kernel5Ideal.Gen Cert.Dense
open Idealize.ShloMosaic Idealize.ShloMosaic.TcCoe Idealize.ShloMosaic.Tactic

/-! # The experts' result, whole -/

variable (m : (ℓ : Loc nD τ sig) → Buf (Elt Ideal) ℓ) (c : Dev nD)

/-- What chunk `n` adds to the sum of the token `l` at the column `d`. -/
def chunk (d : Fin 1024) (l : Fin 128) (n : ℕ) : EReal :=
  if h : n < cfg0.N then ∑ i : Fin 1024, (args m c).v (ix2 (expert ⟨n, h⟩ i) d) * (args m c).wt (expert ⟨n, h⟩ i) l else 0

theorem step_chunk (acc : FVec Ideal S1024x128 .f32) (t : Fin cfg0.N) (d : Fin 1024) (l : Fin 128) :
    (stepOf acc (iblk m c 0 t) (iblk m c 1 t) (iblk m c 2 t) (iblk m c 3 t) (iblk m c 4 t) (iblk m c 5 t) (iblk m c 6 t) (ix2 d l) : EReal)
      = acc (ix2 d l) + chunk m c d l t.val := by
  refine (step_at m c acc t d l).trans (congrArg (acc (ix2 d l) + ·) ?_)
  unfold chunk
  rw [dif_pos t.isLt]

/-- The sum carried after point `n`. -/
theorem sum_at (d : Fin 1024) (l : Fin 128) : ∀ (n : ℕ) (hn : n < cfg0.N), n < 15 →
    ((outsAt0 (F := Ideal) m c n hn).2 (ix2 d l) : EReal) = ∑ q ∈ Finset.range (n + 1), chunk m c d l q
  | 0, hn, _ => by
    rw [Value.outsAt0_zero, Value.stAt0_A m c ⟨0, hn⟩ _ (Nat.zero_mod _) (fun h => by (try dsimp only at h); omega)]
    dsimp only
    rw [sout_A]
    refine (step_chunk m c _ ⟨0, hn⟩ d l).trans ?_
    rw [pay4_at, zero_add, Finset.sum_range_one]
  | n + 1, hn, h => by
    rw [Value.outsAt0_succ, Value.stAt0_B m c ⟨n + 1, hn⟩ _ (by dsimp only; omega) (by dsimp only; omega)]
    dsimp only
    rw [sout_B]
    refine (step_chunk m c _ ⟨n + 1, hn⟩ d l).trans ?_
    rw [sum_at d l n (Nat.lt_of_succ_lt hn) (by omega), Finset.sum_range_succ _ (n + 1)]

/-- All chunks are all experts. -/
theorem sum_chunks (d : Fin 1024) (l : Fin 128) :
    ∑ q ∈ Finset.range 16, chunk m c d l q = ∑ e : Fin 16384, (args m c).v (ix2 e d) * (args m c).wt e l := by
  rw [Finset.sum_range]
  refine Eq.trans ?_ ((finProdFinEquiv (m := 16) (n := 1024)).sum_comp (fun e : Fin 16384 => (args m c).v (ix2 e d) * (args m c).wt e l))
  rw [Fintype.sum_prod_type]
  refine Finset.sum_congr rfl fun q _ => ?_
  unfold chunk
  rw [dif_pos (show q.val < cfg0.N from q.isLt)]
  refine Finset.sum_congr rfl fun i _ => ?_
  have e : expert ⟨q.val, q.isLt⟩ i = (finProdFinEquiv (m := 16) (n := 1024) (q, i) : Fin 16384) :=
    Fin.ext (by show 1024 * q.val + i.val = i.val + 1024 * q.val; omega)
  rw [← e]

/-- The call's result. -/
theorem arr8 : (dats m 0 c).arrAt 8 cfg0.N = (args m c).res := by
  have h14 : 14 + 1 < cfg0.N := by decide
  refine (Value.final8 (F := Ideal) m c).trans ((Value.G8_last (F := Ideal) m c).trans ?_)
  rw [← Value.outsAt0_sweep m c 15 h14, Value.outsAt0_succ m c 14 h14, Value.stAt0_C m c ⟨14 + 1, h14⟩ _ (by dsimp only; omega) (by dsimp only)]
  dsimp only
  rw [out_C]
  have key : ∀ y : S128x1024.Idx, (k0_pay3 (F := Ideal) (iblk m c 7 ⟨14 + 1, h14⟩) (stepOf (outsAt0 (F := Ideal) m c 14 (Nat.lt_of_succ_lt h14)).2 (iblk m c 0 ⟨14 + 1, h14⟩) (iblk m c 1 ⟨14 + 1, h14⟩) (iblk m c 2 ⟨14 + 1, h14⟩)
      (iblk m c 3 ⟨14 + 1, h14⟩) (iblk m c 4 ⟨14 + 1, h14⟩) (iblk m c 5 ⟨14 + 1, h14⟩) (iblk m c 6 ⟨14 + 1, h14⟩)) y : EReal) = (args m c).res y := by
    intro y
    obtain ⟨l, d, rfl⟩ : ∃ (l : Fin 128) (d : Fin 1024), y = ix2 l d := ⟨y 0, y 1, by funext k; match k with | ⟨0, _⟩ => rfl | ⟨1, _⟩ => rfl⟩
    refine (pay3_at _ _ l d).trans ?_
    rw [h_at, step_chunk, sum_at m c d l 14 _ (by omega)]
    refine congrArg ((args m c).h (ix2 l d) + ·) ?_
    exact (Finset.sum_range_succ (chunk m c d l) 15).symm.trans (sum_chunks m c d l)
  exact funext key

end Cert.Kernel5Ideal.Body

end
-- ==== Proof.DenseRef.lean ====
module

public import proofs.«01_k».proof.Proof.Gen.Reference5Ideal.Run
public import proofs.«01_k».proof.Proof.DenseTarget
public import Idealize.ShloMosaic.Lib.BitcastConvert

@[expose] public section

set_option maxRecDepth 16384

noncomputable section

namespace Cert.Reference5Ideal.Body

open Cert.Reference5Ideal Cert.Reference5Ideal.Gen Cert.Dense
open Idealize.ShloMosaic Idealize.ShloMosaic.TcCoe Idealize.ShloMosaic.Tactic

/-! # The reference's result for the experts -/

/-- The halves of the words of a row table, -/
def rowsOf (x : IVec S8x128x128 32) : FVec Ideal S8x128x128x2 .f32 :=
  extf .f32 (bitcastToFloat (F := Ideal) .bf16 (Host.bitcastConvertNarrow S8x128x128x2 16 x splits_S8x128x128_w32_S8x128x128x2_w16)) bitsLt_bf16_f32
/-- and of a column table. -/
def colsOf (x : IVec S8x64x128 32) : FVec Ideal S8x64x128x2 .f32 :=
  extf .f32 (bitcastToFloat (F := Ideal) .bf16 (Host.bitcastConvertNarrow S8x64x128x2 16 x splits_S8x64x128_w32_S8x64x128x2_w16)) bitsLt_bf16_f32

/-- The heads' weights, -/
def pickOf (a c : FVec Ideal S8x128x128x2 .f32) (b r : FVec Ideal S8x64x128x2 .f32) : FVec Ideal S8x128x64x128x2 .f32 :=
  select (cmpf .olt (broadcastInDim S8x128x64x128x2 ![0, 1, 2, 3, 4] bcast_S8x1x64x128x2_S8x128x64x128x2_0_1_2_3_4 (broadcastInDim S8x1x64x128x2 ![0, 2, 3, 4] bcast_S8x64x128x2_S8x1x64x128x2_0_2_3_4 r)) (broadcastInDim S8x128x64x128x2 ![0, 1, 2, 3, 4] bcast_S8x128x1x128x2_S8x128x64x128x2_0_1_2_3_4 (broadcastInDim S8x128x1x128x2 ![0, 1, 3, 4] bcast_S8x128x128x2_S8x128x1x128x2_0_1_3_4 c)))
    (mulf (broadcastInDim S8x128x64x128x2 ![0, 1, 2, 3, 4] bcast_S8x128x1x128x2_S8x128x64x128x2_0_1_2_3_4 (broadcastInDim S8x128x1x128x2 ![0, 1, 3, 4] bcast_S8x128x128x2_S8x128x1x128x2_0_1_3_4 a)) (broadcastInDim S8x128x64x128x2 ![0, 1, 2, 3, 4] bcast_S8x1x64x128x2_S8x128x64x128x2_0_1_2_3_4 (broadcastInDim S8x1x64x128x2 ![0, 2, 3, 4] bcast_S8x64x128x2_S8x1x64x128x2_0_2_3_4 b)))
    (broadcastInDim S8x128x64x128x2 ![] bcast_S_S8x128x64x128x2 (id (constant (F := Ideal) S_ .f32 0x00000000#32)))

/-- and their sum. -/
def gateOf (x : FVec Ideal S8x128x64x128x2 .f32) : FVec Ideal S128x16384 .f32 :=
  shapeCast _ (transpose S128x128x64x2 [2, 0, 1, 3] (Host.reduceAdd x (constant (F := Ideal) S_ .f32 0x00000000#32) reducesTo_S8x128x64x128x2_S128x64x128x2_d0 h_S_) transposes_S128x64x128x2_S128x128x64x2_2_0_1_3) shapeCasts_S128x128x64x2_S128x16384

/-- The hidden numbers -/
def hidOf (x : FVec Ideal S1024x128 .bf16) (u : FVec Ideal S16384x1024 .f32) : FVec Ideal S128x16384 .f32 :=
  Host.dotGeneral dot_S128x1024_S1024x16384_S128x16384_1_0_0_1_n_n none (extf .f32 (transpose S128x1024 [1, 0] x transposes_S1024x128_S128x1024_1_0) bitsLt_bf16_f32) (transpose S1024x16384 [1, 0] u transposes_S16384x1024_S1024x16384_1_0)
/-- and their gelu. -/
def geluOf (y : FVec Ideal S128x16384 .f32) : FVec Ideal S128x16384 .f32 :=
  mulf y (mulf (broadcastInDim S128x16384 ![] bcast_S_S128x16384 (constant (F := Ideal) S_ .f32 0x3F000000#32)) (addf (broadcastInDim S128x16384 ![] bcast_S_S128x16384 (constant (F := Ideal) S_ .f32 0x3F800000#32)) (Host.tanh (mulf (broadcastInDim S128x16384 ![] bcast_S_S128x16384 (constant (F := Ideal) S_ .f32 0x3F4C422A#32)) (addf y (mulf (broadcastInDim S128x16384 ![] bcast_S_S128x16384 (constant (F := Ideal) S_ .f32 0x3D372713#32)) (mulf (mulf y y) y)))))))

/-- The result. -/
def resOf (h : FVec Ideal S128x1024 .f32) (g y : FVec Ideal S128x16384 .f32) (v : FVec Ideal S16384x1024 .f32) : FVec Ideal S128x1024 .f32 :=
  addf h (Host.dotGeneral dot_S128x16384_S16384x1024_S128x1024_1_0_0_1_n_n none (mulf g y) v)

theorem rows_at (x : IVec S8x128x128 32) (y : Fin 8) (i t : Fin 128) (p : Fin 2) : rowsOf x (ix4 y i t p) = part (x (ix3 y i t)) p.val := by
  unfold part
  show Ideal.ofBits .bf16 (Host.bitcastConvertNarrow _ 16 x _ (ix4 y i t p)) = _
  rw [Host.bitcastConvertNarrow_apply]
  refine congrArg (fun z => Ideal.ofBits .bf16 (BitVec.extractLsb' (p.val * 16) 16 (x z))) ?_
  funext k
  match k with | ⟨0, _⟩ => rfl | ⟨1, _⟩ => rfl | ⟨2, _⟩ => rfl
theorem cols_at (x : IVec S8x64x128 32) (y : Fin 8) (i : Fin 64) (t : Fin 128) (p : Fin 2) : colsOf x (ix4 y i t p) = part (x (ix3 y i t)) p.val := by
  unfold part
  show Ideal.ofBits .bf16 (Host.bitcastConvertNarrow _ 16 x _ (ix4 y i t p)) = _
  rw [Host.bitcastConvertNarrow_apply]
  refine congrArg (fun z => Ideal.ofBits .bf16 (BitVec.extractLsb' (p.val * 16) 16 (x z))) ?_
  funext k
  match k with | ⟨0, _⟩ => rfl | ⟨1, _⟩ => rfl | ⟨2, _⟩ => rfl

theorem pick_at (a c : FVec Ideal S8x128x128x2 .f32) (b r : FVec Ideal S8x64x128x2 .f32) (y : Fin 8) (i : Fin 128) (w : Fin 64) (t : Fin 128) (p : Fin 2) :
    pickOf a c b r (ix5 y i w t p) = pick (a (ix4 y i t p)) (c (ix4 y i t p)) (b (ix4 y w t p)) (r (ix4 y w t p)) := by
  unfold pick
  pointwise [pickOf]
  rw [show id (constant (F := Ideal) S_ .f32 0#32) ix0 = 0 from Ideal.ofBits_zero_f32]

theorem gate_at (x : FVec Ideal S8x128x64x128x2 .f32) (t : Fin 128) (e : Fin 16384) :
    gateOf x (ix2 t e) = ∑ y : Fin 8, x (ix5 y ⟨e.val / 128, by omega⟩ ⟨e.val % 128 / 2, by omega⟩ t ⟨e.val % 2, by omega⟩) := by
  pointwise [gateOf]
  refine Finset.sum_congr rfl fun y _ => congrArg (fun w => x (ix5 y _ w t _)) (Fin.ext ?_)
  show e.val / 2 % 64 = e.val % 128 / 2
  omega

theorem hid_at (x : FVec Ideal S1024x128 .bf16) (u : FVec Ideal S16384x1024 .f32) (t : Fin 128) (e : Fin 16384) :
    hidOf x u (ix2 t e) = ∑ k : Fin 1024, x (ix2 k t) * u (ix2 e k) := by
  pointwise [hidOf]

theorem gelu_at (y : FVec Ideal S128x16384 .f32) (t : Fin 128) (e : Fin 16384) : geluOf y (ix2 t e) = gelu (y (ix2 t e)) := by
  unfold gelu
  rw [← root_eq, ← cube_eq]
  pointwise [geluOf]

theorem res_at (h : FVec Ideal S128x1024 .f32) (g y : FVec Ideal S128x16384 .f32) (v : FVec Ideal S16384x1024 .f32) (t : Fin 128) (d : Fin 1024) :
    resOf h g y v (ix2 t d) = h (ix2 t d) + ∑ e : Fin 16384, g (ix2 t e) * y (ix2 t e) * v (ix2 e d) := by
  pointwise [resOf]

variable (A : Args)

theorem res_eq : resOf A.h (gateOf (pickOf (rowsOf A.a) (rowsOf A.c) (colsOf A.b) (colsOf A.r))) (geluOf (hidOf A.x A.u)) A.v = A.res := by
  funext j
  obtain ⟨t, d, rfl⟩ : ∃ (t : Fin 128) (d : Fin 1024), j = ix2 t d := ⟨j 0, j 1, by funext k; match k with | ⟨0, _⟩ => rfl | ⟨1, _⟩ => rfl⟩
  rw [res_at]
  show _ = A.h (ix2 t d) + ∑ e : Fin 16384, A.v (ix2 e d) * A.wt e t
  refine congrArg (_ + ·) (Finset.sum_congr rfl fun e _ => ?_)
  rw [gate_at, gelu_at, hid_at, mul_comm]
  unfold Args.wt Args.gate Args.hid
  simp only [pick_at, rows_at, cols_at]
  refine congrArg (fun z => _ * (_ * gelu z)) (Finset.sum_congr rfl fun k _ => mul_comm _ _)

end Cert.Reference5Ideal.Body

end
-- ==== Proof.DenseAlgebraic.lean ====
module

public import proofs.«01_k».proof.Proof.DenseResult
public import proofs.«01_k».proof.Proof.DenseRef
public import proofs.«01_k».proof.Defs

@[expose] public section

set_option maxRecDepth 16384

noncomputable section

namespace Cert.Proof

open Idealize.ShloMosaic Idealize.ShloMosaic.TcCoe Idealize.SL.Sem Cert.Dense

/-! # The experts' kernel and reference end alike

On every extended real: both sides weigh the same hidden numbers by the same gates, in a sum that the kernel takes chunk by
chunk. -/

theorem algebraic_dense : Cert.algebraic_Kernel5Ideal_Reference5Ideal := by
  intro m g m' g' hpre hargs
  refine ⟨fun c => (Cert.Kernel5Ideal.Body.args m c).res, ?_, ?_⟩
  · refine (θ_run Cert.Kernel5Ideal.defs _ _).mono ?_ (Cert.Kernel5Ideal.Value.run_blocks (F := Ideal) m g)
    intro r h c
    obtain ⟨h8, hrest⟩ := h c
    exact ⟨h8.trans (Cert.Kernel5Ideal.Body.arr8 m c), hrest⟩
  · refine (θ_run Cert.Reference5Ideal.defs _ _).mono ?_ (Cert.Reference5Ideal.Value.run (F := Ideal) m' g')
    intro r h c
    obtain ⟨h8, hrest⟩ := h c
    obtain ⟨e0, e1, e2, e3, e4, e5, e6, e7⟩ := hargs c
    have ha : (⟨m' ((c.tc : Thread Cert.Reference5Ideal.nD Cert.Reference5Ideal.τ).loc Cert.Reference5Ideal.main_arg0),
        m' ((c.tc : Thread Cert.Reference5Ideal.nD Cert.Reference5Ideal.τ).loc Cert.Reference5Ideal.main_arg1),
        m' ((c.tc : Thread Cert.Reference5Ideal.nD Cert.Reference5Ideal.τ).loc Cert.Reference5Ideal.main_arg2),
        m' ((c.tc : Thread Cert.Reference5Ideal.nD Cert.Reference5Ideal.τ).loc Cert.Reference5Ideal.main_arg3),
        m' ((c.tc : Thread Cert.Reference5Ideal.nD Cert.Reference5Ideal.τ).loc Cert.Reference5Ideal.main_arg4),
        m' ((c.tc : Thread Cert.Reference5Ideal.nD Cert.Reference5Ideal.τ).loc Cert.Reference5Ideal.main_arg5),
        m' ((c.tc : Thread Cert.Reference5Ideal.nD Cert.Reference5Ideal.τ).loc Cert.Reference5Ideal.main_arg6),
        m' ((c.tc : Thread Cert.Reference5Ideal.nD Cert.Reference5Ideal.τ).loc Cert.Reference5Ideal.main_arg7)⟩ : Args)
        = Cert.Kernel5Ideal.Body.args m c := by
      rw [e0, e1, e2, e3, e4, e5, e6, e7]
      rfl
    exact ⟨(h8.trans (Cert.Reference5Ideal.Body.res_eq ⟨_, _, _, _, _, _, _, _⟩)).trans (congrArg Args.res ha), hrest⟩

end Cert.Proof

end
-- ==== Proof.lean ====
module

public import proofs.«01_k».proof.Defs
public import proofs.«01_k».proof.Proof.FloatFrame
public import proofs.«01_k».proof.Proof.Frames
public import proofs.«01_k».proof.Proof.Algebraic
public import proofs.«01_k».proof.Proof.InAlgebraic
public import proofs.«01_k».proof.Proof.OutAlgebraic
public import proofs.«01_k».proof.Proof.SampleAlgebraic
public import proofs.«01_k».proof.Proof.SampleOutAlgebraic
public import proofs.«01_k».proof.Proof.DenseAlgebraic
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run

@[expose] public section

noncomputable section

namespace Cert.Proof

open Idealize.ShloMosaic Idealize.SL.Sem

/-- The input projection's reference runs, its arguments as at the start; it has no counter. -/
theorem frame_reference_in : Cert.quiescent_Reference2Ideal := fun m ρ _ =>
  (θ_run Cert.Reference2Ideal.defs _ _).mono
    (fun r h => ⟨fun c => (h c).2.2.2.2.2.2, sem_eq_zero_of_no_sems (by decide) r.2⟩)
    (Cert.Reference2Ideal.Value.run m ρ)

/-- The output projection's reference runs, its arguments as at the start; it has no counter. -/
theorem frame_reference_out : Cert.quiescent_Reference3Ideal := fun m ρ _ =>
  (θ_run Cert.Reference3Ideal.defs _ _).mono
    (fun r h => ⟨fun c => (h c).2.2.2, sem_eq_zero_of_no_sems (by decide) r.2⟩)
    (Cert.Reference3Ideal.Value.run m ρ)

/-- The same of the sample's batch. -/
theorem frame_reference_sample : Cert.quiescent_Reference4Ideal := fun m ρ _ =>
  (θ_run Cert.Reference4Ideal.defs _ _).mono
    (fun r h => ⟨fun c => (h c).2.2.2.2.2.2, sem_eq_zero_of_no_sems (by decide) r.2⟩)
    (Cert.Reference4Ideal.Value.run m ρ)

/-- The output projection's of the sample's batch. -/
theorem frame_reference_sample_out : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run m ρ)

/-- The experts' reference runs, its arguments as at the start; it has no counter. -/
theorem frame_reference_dense : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

/-- The experts' named constants: the gelu's two factors. -/
theorem preserves_dense : Cert.preserves_Kernel5_Kernel5Ideal :=
  ⟨IdealRules.named_const.statement Cert.Kernel5Ideal.κ "rootcube" .bf16 0x3D12#16 ((80338380498831 / 2251799813685248 : ℝ) : EReal) rfl,
    IdealRules.named_const.statement Cert.Kernel5Ideal.κ "root" .bf16 0x3F4C#16 ((6693141 / 8388608 : ℝ) : EReal) rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, inferInstance, inferInstance, inferInstance,
    frame_kernel, frame_ideal, fun m g _ => frame_ideal m g trivial, frame_reference, fun m g _ => frame_reference m g trivial,
    fun m ρ _ => Cert.Kernel2.Gen.frame m ρ, fun m ρ _ => Cert.Kernel2Ideal.Gen.frame m ρ,
    fun m ρ _ => Cert.Kernel2Ideal.Gen.frame m ρ, frame_reference_in, fun m g _ => frame_reference_in m g trivial,
    fun m ρ _ => Cert.Kernel3.Gen.frame m ρ, fun m ρ _ => Cert.Kernel3Ideal.Gen.frame m ρ, frame_reference_out,
    fun m ρ _ => Cert.Kernel4.Gen.frame m ρ, fun m ρ _ => Cert.Kernel4Ideal.Gen.frame m ρ,
    fun m ρ _ => Cert.Kernel4Ideal.Gen.frame m ρ, frame_reference_sample, fun m g _ => frame_reference_sample m g trivial,
    fun m ρ _ => Cert.Kernel5.Gen.frame m ρ, fun m ρ _ => Cert.Kernel5Ideal.Gen.frame m ρ, frame_reference_dense,
    fun m ρ _ => Cert.Kernel6.Gen.frame m ρ, fun m ρ _ => Cert.Kernel6Ideal.Gen.frame m ρ, frame_reference_sample_out,
    preserves, algebraic, trivial, algebraic_in, trivial, algebraic_out, trivial, algebraic_sample,
    preserves_dense, algebraic_dense, trivial, algebraic_sample_out⟩

end Cert.Proof

end
